-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2 = (fun _ => 1#1)

def Pre_RefInIdeal (m : (ℓ : Loc Cert.RefInIdeal.nD Cert.RefInIdeal.τ Cert.RefInIdeal.sig) → Buf (Elt Ideal) ℓ) : Prop :=
  True

def Pre_RefInIdeal_in_finite [hPre_in_finite : Cert.Pre_in_finite.Facts] (m : (ℓ : Loc Cert.RefInIdeal.nD Cert.RefInIdeal.τ Cert.RefInIdeal.sig) → Buf (Elt Ideal) ℓ) : Prop :=
  ∀ c : Dev Cert.RefInIdeal.nD,
    (Cert.Pre_in_finite.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5))).1 = (fun _ => 1#1)
    ∧ (Cert.Pre_in_finite.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5))).2.1 = (fun _ => 1#1)
    ∧ (Cert.Pre_in_finite.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5))).2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RefRopeIdeal (m : (ℓ : Loc Cert.RefRopeIdeal.nD Cert.RefRopeIdeal.τ Cert.RefRopeIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_gla_in_range [hPre_gla_in_range : Cert.Pre_gla_in_range.Facts] (m : (ℓ : Loc Cert.GlaIdeal.nD Cert.GlaIdeal.τ Cert.GlaIdeal.sig) → Buf (Elt Ideal) ℓ) : Prop :=
  ∀ c : Dev Cert.GlaIdeal.nD,
    (Cert.Pre_gla_in_range.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5))).1 = (fun _ => 1#1)
    ∧ (Cert.Pre_gla_in_range.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5))).2.1 = (fun _ => 1#1)
    ∧ (Cert.Pre_gla_in_range.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5))).2.2.1 = (fun _ => 1#1)
    ∧ (Cert.Pre_gla_in_range.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5))).2.2.2 = (fun _ => 1#1)

def Pre_RefGlaIdeal (m : (ℓ : Loc Cert.RefGlaIdeal.nD Cert.RefGlaIdeal.τ Cert.RefGlaIdeal.sig) → Buf (Elt Ideal) ℓ) : Prop :=
  True

def Pre_RefGlaIdeal_gla_in_range [hPre_gla_in_range : Cert.Pre_gla_in_range.Facts] (m : (ℓ : Loc Cert.RefGlaIdeal.nD Cert.RefGlaIdeal.τ Cert.RefGlaIdeal.sig) → Buf (Elt Ideal) ℓ) : Prop :=
  ∀ c : Dev Cert.RefGlaIdeal.nD,
    (Cert.Pre_gla_in_range.fn (F := Ideal) (m ((c.tc : Thread Cert.RefGlaIdeal.nD Cert.RefGlaIdeal.τ).loc Cert.RefGlaIdeal.main_arg0)) (m ((c.tc : Thread Cert.RefGlaIdeal.nD Cert.RefGlaIdeal.τ).loc Cert.RefGlaIdeal.main_arg1)) (m ((c.tc : Thread Cert.RefGlaIdeal.nD Cert.RefGlaIdeal.τ).loc Cert.RefGlaIdeal.main_arg2)) (m ((c.tc : Thread Cert.RefGlaIdeal.nD Cert.RefGlaIdeal.τ).loc Cert.RefGlaIdeal.main_arg3)) (m ((c.tc : Thread Cert.RefGlaIdeal.nD Cert.RefGlaIdeal.τ).loc Cert.RefGlaIdeal.main_arg4)) (m ((c.tc : Thread Cert.RefGlaIdeal.nD Cert.RefGlaIdeal.τ).loc Cert.RefGlaIdeal.main_arg5))).1 = (fun _ => 1#1)
    ∧ (Cert.Pre_gla_in_range.fn (F := Ideal) (m ((c.tc : Thread Cert.RefGlaIdeal.nD Cert.RefGlaIdeal.τ).loc Cert.RefGlaIdeal.main_arg0)) (m ((c.tc : Thread Cert.RefGlaIdeal.nD Cert.RefGlaIdeal.τ).loc Cert.RefGlaIdeal.main_arg1)) (m ((c.tc : Thread Cert.RefGlaIdeal.nD Cert.RefGlaIdeal.τ).loc Cert.RefGlaIdeal.main_arg2)) (m ((c.tc : Thread Cert.RefGlaIdeal.nD Cert.RefGlaIdeal.τ).loc Cert.RefGlaIdeal.main_arg3)) (m ((c.tc : Thread Cert.RefGlaIdeal.nD Cert.RefGlaIdeal.τ).loc Cert.RefGlaIdeal.main_arg4)) (m ((c.tc : Thread Cert.RefGlaIdeal.nD Cert.RefGlaIdeal.τ).loc Cert.RefGlaIdeal.main_arg5))).2.1 = (fun _ => 1#1)
    ∧ (Cert.Pre_gla_in_range.fn (F := Ideal) (m ((c.tc : Thread Cert.RefGlaIdeal.nD Cert.RefGlaIdeal.τ).loc Cert.RefGlaIdeal.main_arg0)) (m ((c.tc : Thread Cert.RefGlaIdeal.nD Cert.RefGlaIdeal.τ).loc Cert.RefGlaIdeal.main_arg1)) (m ((c.tc : Thread Cert.RefGlaIdeal.nD Cert.RefGlaIdeal.τ).loc Cert.RefGlaIdeal.main_arg2)) (m ((c.tc : Thread Cert.RefGlaIdeal.nD Cert.RefGlaIdeal.τ).loc Cert.RefGlaIdeal.main_arg3)) (m ((c.tc : Thread Cert.RefGlaIdeal.nD Cert.RefGlaIdeal.τ).loc Cert.RefGlaIdeal.main_arg4)) (m ((c.tc : Thread Cert.RefGlaIdeal.nD Cert.RefGlaIdeal.τ).loc Cert.RefGlaIdeal.main_arg5))).2.2.1 = (fun _ => 1#1)
    ∧ (Cert.Pre_gla_in_range.fn (F := Ideal) (m ((c.tc : Thread Cert.RefGlaIdeal.nD Cert.RefGlaIdeal.τ).loc Cert.RefGlaIdeal.main_arg0)) (m ((c.tc : Thread Cert.RefGlaIdeal.nD Cert.RefGlaIdeal.τ).loc Cert.RefGlaIdeal.main_arg1)) (m ((c.tc : Thread Cert.RefGlaIdeal.nD Cert.RefGlaIdeal.τ).loc Cert.RefGlaIdeal.main_arg2)) (m ((c.tc : Thread Cert.RefGlaIdeal.nD Cert.RefGlaIdeal.τ).loc Cert.RefGlaIdeal.main_arg3)) (m ((c.tc : Thread Cert.RefGlaIdeal.nD Cert.RefGlaIdeal.τ).loc Cert.RefGlaIdeal.main_arg4)) (m ((c.tc : Thread Cert.RefGlaIdeal.nD Cert.RefGlaIdeal.τ).loc Cert.RefGlaIdeal.main_arg5))).2.2.2 = (fun _ => 1#1)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5))
      ∧ r.2.sem = fun _ => 0)

def quiescent_RefInIdeal_pre_in_finite [hRefInIdeal : Cert.RefInIdeal.Facts] [hPre_in_finite : Cert.Pre_in_finite.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_in_finite m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5)
      ∧ r.2.mem ((c.tc : Thread Cert.RefConvIdeal.nD Cert.RefConvIdeal.τ).loc Cert.RefConvIdeal.main_arg6) = m ((c.tc : Thread Cert.RefConvIdeal.nD Cert.RefConvIdeal.τ).loc Cert.RefConvIdeal.main_arg6)
      ∧ r.2.mem ((c.tc : Thread Cert.RefConvIdeal.nD Cert.RefConvIdeal.τ).loc Cert.RefConvIdeal.main_arg7) = m ((c.tc : Thread Cert.RefConvIdeal.nD Cert.RefConvIdeal.τ).loc Cert.RefConvIdeal.main_arg7))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RefRopeIdeal [hRefRopeIdeal : Cert.RefRopeIdeal.Facts] : Prop :=
  ∀ (m : (ℓ : Loc Cert.RefRopeIdeal.nD Cert.RefRopeIdeal.τ Cert.RefRopeIdeal.sig) → Buf (Elt Ideal) ℓ) (g : Dev Cert.RefRopeIdeal.nD → PrngReg), Pre_RefRopeIdeal m →
    θ_run (Cert.RefRopeIdeal.defs (F := Ideal)) (onTc (τ := Cert.RefRopeIdeal.τ) (Cert.RefRopeIdeal.main (F := Ideal))) ⟨m, fun _ => 0, g⟩ (fun r => (∀ c : Dev Cert.RefRopeIdeal.nD,
      r.2.mem ((c.tc : Thread Cert.RefRopeIdeal.nD Cert.RefRopeIdeal.τ).loc Cert.RefRopeIdeal.main_arg0) = m ((c.tc : Thread Cert.RefRopeIdeal.nD Cert.RefRopeIdeal.τ).loc Cert.RefRopeIdeal.main_arg0))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaIdeal_pre_gla_in_range [hGlaIdeal : Cert.GlaIdeal.Facts] [hPre_gla_in_range : Cert.Pre_gla_in_range.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_gla_in_range m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_RefGlaIdeal [hRefGlaIdeal : Cert.RefGlaIdeal.Facts] : Prop :=
  ∀ (m : (ℓ : Loc Cert.RefGlaIdeal.nD Cert.RefGlaIdeal.τ Cert.RefGlaIdeal.sig) → Buf (Elt Ideal) ℓ) (g : Dev Cert.RefGlaIdeal.nD → PrngReg), Pre_RefGlaIdeal m →
    θ_run (Cert.RefGlaIdeal.defs (F := Ideal)) (onTc (τ := Cert.RefGlaIdeal.τ) (Cert.RefGlaIdeal.main (F := Ideal))) ⟨m, fun _ => 0, g⟩ (fun r => (∀ c : Dev Cert.RefGlaIdeal.nD,
      r.2.mem ((c.tc : Thread Cert.RefGlaIdeal.nD Cert.RefGlaIdeal.τ).loc Cert.RefGlaIdeal.main_arg0) = m ((c.tc : Thread Cert.RefGlaIdeal.nD Cert.RefGlaIdeal.τ).loc Cert.RefGlaIdeal.main_arg0)
      ∧ r.2.mem ((c.tc : Thread Cert.RefGlaIdeal.nD Cert.RefGlaIdeal.τ).loc Cert.RefGlaIdeal.main_arg1) = m ((c.tc : Thread Cert.RefGlaIdeal.nD Cert.RefGlaIdeal.τ).loc Cert.RefGlaIdeal.main_arg1)
      ∧ r.2.mem ((c.tc : Thread Cert.RefGlaIdeal.nD Cert.RefGlaIdeal.τ).loc Cert.RefGlaIdeal.main_arg2) = m ((c.tc : Thread Cert.RefGlaIdeal.nD Cert.RefGlaIdeal.τ).loc Cert.RefGlaIdeal.main_arg2)
      ∧ r.2.mem ((c.tc : Thread Cert.RefGlaIdeal.nD Cert.RefGlaIdeal.τ).loc Cert.RefGlaIdeal.main_arg3) = m ((c.tc : Thread Cert.RefGlaIdeal.nD Cert.RefGlaIdeal.τ).loc Cert.RefGlaIdeal.main_arg3)
      ∧ r.2.mem ((c.tc : Thread Cert.RefGlaIdeal.nD Cert.RefGlaIdeal.τ).loc Cert.RefGlaIdeal.main_arg4) = m ((c.tc : Thread Cert.RefGlaIdeal.nD Cert.RefGlaIdeal.τ).loc Cert.RefGlaIdeal.main_arg4)
      ∧ r.2.mem ((c.tc : Thread Cert.RefGlaIdeal.nD Cert.RefGlaIdeal.τ).loc Cert.RefGlaIdeal.main_arg5) = m ((c.tc : Thread Cert.RefGlaIdeal.nD Cert.RefGlaIdeal.τ).loc Cert.RefGlaIdeal.main_arg5))
      ∧ r.2.sem = fun _ => 0)

def quiescent_RefGlaIdeal_pre_gla_in_range [hRefGlaIdeal : Cert.RefGlaIdeal.Facts] [hPre_gla_in_range : Cert.Pre_gla_in_range.Facts] : Prop :=
  ∀ (m : (ℓ : Loc Cert.RefGlaIdeal.nD Cert.RefGlaIdeal.τ Cert.RefGlaIdeal.sig) → Buf (Elt Ideal) ℓ) (g : Dev Cert.RefGlaIdeal.nD → PrngReg), Pre_RefGlaIdeal_gla_in_range m →
    θ_run (Cert.RefGlaIdeal.defs (F := Ideal)) (onTc (τ := Cert.RefGlaIdeal.τ) (Cert.RefGlaIdeal.main (F := Ideal))) ⟨m, fun _ => 0, g⟩ (fun r => (∀ c : Dev Cert.RefGlaIdeal.nD,
      r.2.mem ((c.tc : Thread Cert.RefGlaIdeal.nD Cert.RefGlaIdeal.τ).loc Cert.RefGlaIdeal.main_arg0) = m ((c.tc : Thread Cert.RefGlaIdeal.nD Cert.RefGlaIdeal.τ).loc Cert.RefGlaIdeal.main_arg0)
      ∧ r.2.mem ((c.tc : Thread Cert.RefGlaIdeal.nD Cert.RefGlaIdeal.τ).loc Cert.RefGlaIdeal.main_arg1) = m ((c.tc : Thread Cert.RefGlaIdeal.nD Cert.RefGlaIdeal.τ).loc Cert.RefGlaIdeal.main_arg1)
      ∧ r.2.mem ((c.tc : Thread Cert.RefGlaIdeal.nD Cert.RefGlaIdeal.τ).loc Cert.RefGlaIdeal.main_arg2) = m ((c.tc : Thread Cert.RefGlaIdeal.nD Cert.RefGlaIdeal.τ).loc Cert.RefGlaIdeal.main_arg2)
      ∧ r.2.mem ((c.tc : Thread Cert.RefGlaIdeal.nD Cert.RefGlaIdeal.τ).loc Cert.RefGlaIdeal.main_arg3) = m ((c.tc : Thread Cert.RefGlaIdeal.nD Cert.RefGlaIdeal.τ).loc Cert.RefGlaIdeal.main_arg3)
      ∧ r.2.mem ((c.tc : Thread Cert.RefGlaIdeal.nD Cert.RefGlaIdeal.τ).loc Cert.RefGlaIdeal.main_arg4) = m ((c.tc : Thread Cert.RefGlaIdeal.nD Cert.RefGlaIdeal.τ).loc Cert.RefGlaIdeal.main_arg4)
      ∧ r.2.mem ((c.tc : Thread Cert.RefGlaIdeal.nD Cert.RefGlaIdeal.τ).loc Cert.RefGlaIdeal.main_arg5) = m ((c.tc : Thread Cert.RefGlaIdeal.nD Cert.RefGlaIdeal.τ).loc Cert.RefGlaIdeal.main_arg5))
      ∧ r.2.sem = fun _ => 0)

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)
      ∧ m' ((c.tc : Thread Cert.RefOutIdeal.nD Cert.RefOutIdeal.τ).loc Cert.RefOutIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v31) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6))

def preserves_In_InIdeal : Prop :=
  True

def algebraic_InIdeal_RefInIdeal_pre_in_finite [hInIdeal : Cert.InIdeal.Facts] [hRefInIdeal : Cert.RefInIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal_in_finite m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)
      ∧ m' ((c.tc : Thread Cert.RefInIdeal.nD Cert.RefInIdeal.τ).loc Cert.RefInIdeal.main_arg4) = m ((c.tc : Thread Cert.InIdeal.nD Cert.InIdeal.τ).loc Cert.InIdeal.main_arg4)
      ∧ m' ((c.tc : Thread Cert.RefInIdeal.nD Cert.RefInIdeal.τ).loc Cert.RefInIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v38_0)) (v1 : (c : Dev Cert.InIdeal.nD) → Buf (Elt Ideal) ((c.tc : Thread Cert.InIdeal.nD Cert.InIdeal.τ).loc Cert.InIdeal.main_v38_1)) (v2 : (c : Dev Cert.InIdeal.nD) → Buf (Elt Ideal) ((c.tc : Thread Cert.InIdeal.nD Cert.InIdeal.τ).loc Cert.InIdeal.main_v38_2)) (v3 : (c : Dev Cert.InIdeal.nD) → Buf (Elt Ideal) ((c.tc : Thread Cert.InIdeal.nD Cert.InIdeal.τ).loc Cert.InIdeal.main_v38_3)) (v4 : (c : Dev Cert.InIdeal.nD) → Buf (Elt Ideal) ((c.tc : Thread Cert.InIdeal.nD Cert.InIdeal.τ).loc Cert.InIdeal.main_v38_4)) (v5 : (c : Dev Cert.InIdeal.nD) → Buf (Elt Ideal) ((c.tc : Thread Cert.InIdeal.nD Cert.InIdeal.τ).loc Cert.InIdeal.main_v38_5)) (v6 : (c : Dev Cert.InIdeal.nD) → Buf (Elt Ideal) ((c.tc : Thread Cert.InIdeal.nD Cert.InIdeal.τ).loc Cert.InIdeal.main_v38_6)) (v7 : (c : Dev Cert.InIdeal.nD) → Buf (Elt Ideal) ((c.tc : Thread Cert.InIdeal.nD Cert.InIdeal.τ).loc Cert.InIdeal.main_v38_7)) (v8 : (c : Dev Cert.InIdeal.nD) → Buf (Elt Ideal) ((c.tc : Thread Cert.InIdeal.nD Cert.InIdeal.τ).loc Cert.InIdeal.main_v38_8)) (v9 : (c : Dev Cert.InIdeal.nD) → Buf (Elt Ideal) ((c.tc : Thread Cert.InIdeal.nD Cert.InIdeal.τ).loc Cert.InIdeal.main_v38_9)) (v10 : (c : Dev Cert.InIdeal.nD) → Buf (Elt Ideal) ((c.tc : Thread Cert.InIdeal.nD Cert.InIdeal.τ).loc Cert.InIdeal.main_v38_10)) (v11 : (c : Dev Cert.InIdeal.nD) → Buf (Elt Ideal) ((c.tc : Thread Cert.InIdeal.nD Cert.InIdeal.τ).loc Cert.InIdeal.main_v38_11)) (v12 : (c : Dev Cert.InIdeal.nD) → Buf (Elt Ideal) ((c.tc : Thread Cert.InIdeal.nD Cert.InIdeal.τ).loc Cert.InIdeal.main_v38_12)) (v13 : (c : Dev Cert.InIdeal.nD) → Buf (Elt Ideal) ((c.tc : Thread Cert.InIdeal.nD Cert.InIdeal.τ).loc Cert.InIdeal.main_v38_13)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v38_0) = v0 c
          ∧ r.2.mem ((c.tc : Thread Cert.InIdeal.nD Cert.InIdeal.τ).loc Cert.InIdeal.main_v38_1) = v1 c
          ∧ r.2.mem ((c.tc : Thread Cert.InIdeal.nD Cert.InIdeal.τ).loc Cert.InIdeal.main_v38_2) = v2 c
          ∧ r.2.mem ((c.tc : Thread Cert.InIdeal.nD Cert.InIdeal.τ).loc Cert.InIdeal.main_v38_3) = v3 c
          ∧ r.2.mem ((c.tc : Thread Cert.InIdeal.nD Cert.InIdeal.τ).loc Cert.InIdeal.main_v38_4) = v4 c
          ∧ r.2.mem ((c.tc : Thread Cert.InIdeal.nD Cert.InIdeal.τ).loc Cert.InIdeal.main_v38_5) = v5 c
          ∧ r.2.mem ((c.tc : Thread Cert.InIdeal.nD Cert.InIdeal.τ).loc Cert.InIdeal.main_v38_6) = v6 c
          ∧ r.2.mem ((c.tc : Thread Cert.InIdeal.nD Cert.InIdeal.τ).loc Cert.InIdeal.main_v38_7) = v7 c
          ∧ r.2.mem ((c.tc : Thread Cert.InIdeal.nD Cert.InIdeal.τ).loc Cert.InIdeal.main_v38_8) = v8 c
          ∧ r.2.mem ((c.tc : Thread Cert.InIdeal.nD Cert.InIdeal.τ).loc Cert.InIdeal.main_v38_9) = v9 c
          ∧ r.2.mem ((c.tc : Thread Cert.InIdeal.nD Cert.InIdeal.τ).loc Cert.InIdeal.main_v38_10) = v10 c
          ∧ r.2.mem ((c.tc : Thread Cert.InIdeal.nD Cert.InIdeal.τ).loc Cert.InIdeal.main_v38_11) = v11 c
          ∧ r.2.mem ((c.tc : Thread Cert.InIdeal.nD Cert.InIdeal.τ).loc Cert.InIdeal.main_v38_12) = v12 c
          ∧ r.2.mem ((c.tc : Thread Cert.InIdeal.nD Cert.InIdeal.τ).loc Cert.InIdeal.main_v38_13) = v13 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v91) = v0 c
          ∧ r.2.mem ((c.tc : Thread Cert.RefInIdeal.nD Cert.RefInIdeal.τ).loc Cert.RefInIdeal.main_v94) = v1 c
          ∧ r.2.mem ((c.tc : Thread Cert.RefInIdeal.nD Cert.RefInIdeal.τ).loc Cert.RefInIdeal.main_v96) = v2 c
          ∧ r.2.mem ((c.tc : Thread Cert.RefInIdeal.nD Cert.RefInIdeal.τ).loc Cert.RefInIdeal.main_v97) = v3 c
          ∧ r.2.mem ((c.tc : Thread Cert.RefInIdeal.nD Cert.RefInIdeal.τ).loc Cert.RefInIdeal.main_v99) = v4 c
          ∧ r.2.mem ((c.tc : Thread Cert.RefInIdeal.nD Cert.RefInIdeal.τ).loc Cert.RefInIdeal.main_v100) = v5 c
          ∧ r.2.mem ((c.tc : Thread Cert.RefInIdeal.nD Cert.RefInIdeal.τ).loc Cert.RefInIdeal.main_v102) = v6 c
          ∧ r.2.mem ((c.tc : Thread Cert.RefInIdeal.nD Cert.RefInIdeal.τ).loc Cert.RefInIdeal.main_v109) = v7 c
          ∧ r.2.mem ((c.tc : Thread Cert.RefInIdeal.nD Cert.RefInIdeal.τ).loc Cert.RefInIdeal.main_v111) = v8 c
          ∧ r.2.mem ((c.tc : Thread Cert.RefInIdeal.nD Cert.RefInIdeal.τ).loc Cert.RefInIdeal.main_v113) = v9 c
          ∧ r.2.mem ((c.tc : Thread Cert.RefInIdeal.nD Cert.RefInIdeal.τ).loc Cert.RefInIdeal.main_v11) = v10 c
          ∧ r.2.mem ((c.tc : Thread Cert.RefInIdeal.nD Cert.RefInIdeal.τ).loc Cert.RefInIdeal.main_v12) = v11 c
          ∧ r.2.mem ((c.tc : Thread Cert.RefInIdeal.nD Cert.RefInIdeal.τ).loc Cert.RefInIdeal.main_v115) = v12 c
          ∧ r.2.mem ((c.tc : Thread Cert.RefInIdeal.nD Cert.RefInIdeal.τ).loc Cert.RefInIdeal.main_v88) = v13 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)
      ∧ m' ((c.tc : Thread Cert.RefConvIdeal.nD Cert.RefConvIdeal.τ).loc Cert.RefConvIdeal.main_arg5) = m ((c.tc : Thread Cert.ConvIdeal.nD Cert.ConvIdeal.τ).loc Cert.ConvIdeal.main_arg5)
      ∧ m' ((c.tc : Thread Cert.RefConvIdeal.nD Cert.RefConvIdeal.τ).loc Cert.RefConvIdeal.main_arg6) = m ((c.tc : Thread Cert.ConvIdeal.nD Cert.ConvIdeal.τ).loc Cert.ConvIdeal.main_arg6)
      ∧ m' ((c.tc : Thread Cert.RefConvIdeal.nD Cert.RefConvIdeal.τ).loc Cert.RefConvIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v255) = v0 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5)
          ∧ r.2.mem ((c.tc : Thread Cert.RefConvIdeal.nD Cert.RefConvIdeal.τ).loc Cert.RefConvIdeal.main_arg6) = m' ((c.tc : Thread Cert.RefConvIdeal.nD Cert.RefConvIdeal.τ).loc Cert.RefConvIdeal.main_arg6)
          ∧ r.2.mem ((c.tc : Thread Cert.RefConvIdeal.nD Cert.RefConvIdeal.τ).loc Cert.RefConvIdeal.main_arg7) = m' ((c.tc : Thread Cert.RefConvIdeal.nD Cert.RefConvIdeal.τ).loc Cert.RefConvIdeal.main_arg7))

def preserves_Rope_RopeIdeal : Prop :=
  True

def algebraic_RopeIdeal_RefRopeIdeal [hRopeIdeal : Cert.RopeIdeal.Facts] [hRefRopeIdeal : Cert.RefRopeIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RefRopeIdeal.nD Cert.RefRopeIdeal.τ Cert.RefRopeIdeal.sig) → Buf (Elt Ideal) ℓ) (g' : Dev Cert.RefRopeIdeal.nD → PrngReg), Pre_RopeIdeal m →
    (∀ c : Dev Cert.RopeIdeal.nD,
      m' ((c.tc : Thread Cert.RefRopeIdeal.nD Cert.RefRopeIdeal.τ).loc Cert.RefRopeIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v20_0)) (v1 : (c : Dev Cert.RopeIdeal.nD) → Buf (Elt Ideal) ((c.tc : Thread Cert.RopeIdeal.nD Cert.RopeIdeal.τ).loc Cert.RopeIdeal.main_v20_1)) (v2 : (c : Dev Cert.RopeIdeal.nD) → Buf (Elt Ideal) ((c.tc : Thread Cert.RopeIdeal.nD Cert.RopeIdeal.τ).loc Cert.RopeIdeal.main_v20_2)) (v3 : (c : Dev Cert.RopeIdeal.nD) → Buf (Elt Ideal) ((c.tc : Thread Cert.RopeIdeal.nD Cert.RopeIdeal.τ).loc Cert.RopeIdeal.main_v20_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v20_0) = v0 c
          ∧ r.2.mem ((c.tc : Thread Cert.RopeIdeal.nD Cert.RopeIdeal.τ).loc Cert.RopeIdeal.main_v20_1) = v1 c
          ∧ r.2.mem ((c.tc : Thread Cert.RopeIdeal.nD Cert.RopeIdeal.τ).loc Cert.RopeIdeal.main_v20_2) = v2 c
          ∧ r.2.mem ((c.tc : Thread Cert.RopeIdeal.nD Cert.RopeIdeal.τ).loc Cert.RopeIdeal.main_v20_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RefRopeIdeal.defs (F := Ideal)) (onTc (τ := Cert.RefRopeIdeal.τ) (Cert.RefRopeIdeal.main (F := Ideal))) ⟨m', fun _ => 0, g'⟩ (fun r => ∀ c : Dev Cert.RefRopeIdeal.nD,
          r.2.mem ((c.tc : Thread Cert.RefRopeIdeal.nD Cert.RefRopeIdeal.τ).loc Cert.RefRopeIdeal.main_v20) = v0 c
          ∧ r.2.mem ((c.tc : Thread Cert.RefRopeIdeal.nD Cert.RefRopeIdeal.τ).loc Cert.RefRopeIdeal.main_v21) = v1 c
          ∧ r.2.mem ((c.tc : Thread Cert.RefRopeIdeal.nD Cert.RefRopeIdeal.τ).loc Cert.RefRopeIdeal.main_v22) = v2 c
          ∧ r.2.mem ((c.tc : Thread Cert.RefRopeIdeal.nD Cert.RefRopeIdeal.τ).loc Cert.RefRopeIdeal.main_v24) = v3 c
          ∧ r.2.mem ((c.tc : Thread Cert.RefRopeIdeal.nD Cert.RefRopeIdeal.τ).loc Cert.RefRopeIdeal.main_arg0) = m' ((c.tc : Thread Cert.RefRopeIdeal.nD Cert.RefRopeIdeal.τ).loc Cert.RefRopeIdeal.main_arg0))

def preserves_Gla_GlaIdeal : Prop :=
  True

def algebraic_GlaIdeal_RefGlaIdeal_pre_gla_in_range [hGlaIdeal : Cert.GlaIdeal.Facts] [hRefGlaIdeal : Cert.RefGlaIdeal.Facts] [hPre_gla_in_range : Cert.Pre_gla_in_range.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.RefGlaIdeal.nD Cert.RefGlaIdeal.τ Cert.RefGlaIdeal.sig) → Buf (Elt Ideal) ℓ) (g' : Dev Cert.RefGlaIdeal.nD → PrngReg), Pre_GlaIdeal_gla_in_range m →
    (∀ c : Dev Cert.GlaIdeal.nD,
      m' ((c.tc : Thread Cert.RefGlaIdeal.nD Cert.RefGlaIdeal.τ).loc Cert.RefGlaIdeal.main_arg0) = m ((c.tc : Thread Cert.GlaIdeal.nD Cert.GlaIdeal.τ).loc Cert.GlaIdeal.main_arg0)
      ∧ m' ((c.tc : Thread Cert.RefGlaIdeal.nD Cert.RefGlaIdeal.τ).loc Cert.RefGlaIdeal.main_arg1) = m ((c.tc : Thread Cert.GlaIdeal.nD Cert.GlaIdeal.τ).loc Cert.GlaIdeal.main_arg1)
      ∧ m' ((c.tc : Thread Cert.RefGlaIdeal.nD Cert.RefGlaIdeal.τ).loc Cert.RefGlaIdeal.main_arg2) = m ((c.tc : Thread Cert.GlaIdeal.nD Cert.GlaIdeal.τ).loc Cert.GlaIdeal.main_arg2)
      ∧ m' ((c.tc : Thread Cert.RefGlaIdeal.nD Cert.RefGlaIdeal.τ).loc Cert.RefGlaIdeal.main_arg3) = m ((c.tc : Thread Cert.GlaIdeal.nD Cert.GlaIdeal.τ).loc Cert.GlaIdeal.main_arg3)
      ∧ m' ((c.tc : Thread Cert.RefGlaIdeal.nD Cert.RefGlaIdeal.τ).loc Cert.RefGlaIdeal.main_arg4) = m ((c.tc : Thread Cert.GlaIdeal.nD Cert.GlaIdeal.τ).loc Cert.GlaIdeal.main_arg4)
      ∧ m' ((c.tc : Thread Cert.RefGlaIdeal.nD Cert.RefGlaIdeal.τ).loc Cert.RefGlaIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v0)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v0) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.RefGlaIdeal.defs (F := Ideal)) (onTc (τ := Cert.RefGlaIdeal.τ) (Cert.RefGlaIdeal.main (F := Ideal))) ⟨m', fun _ => 0, g'⟩ (fun r => ∀ c : Dev Cert.RefGlaIdeal.nD,
          r.2.mem ((c.tc : Thread Cert.RefGlaIdeal.nD Cert.RefGlaIdeal.τ).loc Cert.RefGlaIdeal.main_v48) = v0 c
          ∧ r.2.mem ((c.tc : Thread Cert.RefGlaIdeal.nD Cert.RefGlaIdeal.τ).loc Cert.RefGlaIdeal.main_arg0) = m' ((c.tc : Thread Cert.RefGlaIdeal.nD Cert.RefGlaIdeal.τ).loc Cert.RefGlaIdeal.main_arg0)
          ∧ r.2.mem ((c.tc : Thread Cert.RefGlaIdeal.nD Cert.RefGlaIdeal.τ).loc Cert.RefGlaIdeal.main_arg1) = m' ((c.tc : Thread Cert.RefGlaIdeal.nD Cert.RefGlaIdeal.τ).loc Cert.RefGlaIdeal.main_arg1)
          ∧ r.2.mem ((c.tc : Thread Cert.RefGlaIdeal.nD Cert.RefGlaIdeal.τ).loc Cert.RefGlaIdeal.main_arg2) = m' ((c.tc : Thread Cert.RefGlaIdeal.nD Cert.RefGlaIdeal.τ).loc Cert.RefGlaIdeal.main_arg2)
          ∧ r.2.mem ((c.tc : Thread Cert.RefGlaIdeal.nD Cert.RefGlaIdeal.τ).loc Cert.RefGlaIdeal.main_arg3) = m' ((c.tc : Thread Cert.RefGlaIdeal.nD Cert.RefGlaIdeal.τ).loc Cert.RefGlaIdeal.main_arg3)
          ∧ r.2.mem ((c.tc : Thread Cert.RefGlaIdeal.nD Cert.RefGlaIdeal.τ).loc Cert.RefGlaIdeal.main_arg4) = m' ((c.tc : Thread Cert.RefGlaIdeal.nD Cert.RefGlaIdeal.τ).loc Cert.RefGlaIdeal.main_arg4)
          ∧ r.2.mem ((c.tc : Thread Cert.RefGlaIdeal.nD Cert.RefGlaIdeal.τ).loc Cert.RefGlaIdeal.main_arg5) = m' ((c.tc : Thread Cert.RefGlaIdeal.nD Cert.RefGlaIdeal.τ).loc Cert.RefGlaIdeal.main_arg5))

def Claim : Prop :=
  ∃ (hOut : Cert.Out.Facts) (hOutIdeal : Cert.OutIdeal.Facts) (hRefOutIdeal : Cert.RefOutIdeal.Facts) (hIn : Cert.In.Facts) (hInIdeal : Cert.InIdeal.Facts) (hRefInIdeal : Cert.RefInIdeal.Facts) (hConv : Cert.Conv.Facts) (hConvIdeal : Cert.ConvIdeal.Facts) (hRefConvIdeal : Cert.RefConvIdeal.Facts) (hRope : Cert.Rope.Facts) (hRopeIdeal : Cert.RopeIdeal.Facts) (hRefRopeIdeal : Cert.RefRopeIdeal.Facts) (hGla : Cert.Gla.Facts) (hGlaIdeal : Cert.GlaIdeal.Facts) (hRefGlaIdeal : Cert.RefGlaIdeal.Facts) (hPre_in_finite : Cert.Pre_in_finite.Facts) (hPre_gla_in_range : Cert.Pre_gla_in_range.Facts),
    quiescent_Out (hOut := hOut)
    ∧ quiescent_OutIdeal (hOutIdeal := hOutIdeal)
    ∧ quiescent_RefOutIdeal (hRefOutIdeal := hRefOutIdeal)
    ∧ quiescent_In (hIn := hIn)
    ∧ quiescent_InIdeal (hInIdeal := hInIdeal)
    ∧ quiescent_InIdeal_pre_in_finite (hInIdeal := hInIdeal) (hPre_in_finite := hPre_in_finite)
    ∧ quiescent_RefInIdeal (hRefInIdeal := hRefInIdeal)
    ∧ quiescent_RefInIdeal_pre_in_finite (hRefInIdeal := hRefInIdeal) (hPre_in_finite := hPre_in_finite)
    ∧ quiescent_Conv (hConv := hConv)
    ∧ quiescent_ConvIdeal (hConvIdeal := hConvIdeal)
    ∧ quiescent_RefConvIdeal (hRefConvIdeal := hRefConvIdeal)
    ∧ quiescent_Rope (hRope := hRope)
    ∧ quiescent_RopeIdeal (hRopeIdeal := hRopeIdeal)
    ∧ quiescent_RefRopeIdeal (hRefRopeIdeal := hRefRopeIdeal)
    ∧ quiescent_Gla (hGla := hGla)
    ∧ quiescent_GlaIdeal (hGlaIdeal := hGlaIdeal)
    ∧ quiescent_GlaIdeal_pre_gla_in_range (hGlaIdeal := hGlaIdeal) (hPre_gla_in_range := hPre_gla_in_range)
    ∧ quiescent_RefGlaIdeal (hRefGlaIdeal := hRefGlaIdeal)
    ∧ quiescent_RefGlaIdeal_pre_gla_in_range (hRefGlaIdeal := hRefGlaIdeal) (hPre_gla_in_range := hPre_gla_in_range)
    ∧ preserves_Out_OutIdeal
    ∧ algebraic_OutIdeal_RefOutIdeal (hOutIdeal := hOutIdeal) (hRefOutIdeal := hRefOutIdeal)
    ∧ preserves_In_InIdeal
    ∧ algebraic_InIdeal_RefInIdeal_pre_in_finite (hInIdeal := hInIdeal) (hRefInIdeal := hRefInIdeal) (hPre_in_finite := hPre_in_finite)
    ∧ preserves_Conv_ConvIdeal
    ∧ algebraic_ConvIdeal_RefConvIdeal (hConvIdeal := hConvIdeal) (hRefConvIdeal := hRefConvIdeal)
    ∧ preserves_Rope_RopeIdeal
    ∧ algebraic_RopeIdeal_RefRopeIdeal (hRopeIdeal := hRopeIdeal) (hRefRopeIdeal := hRefRopeIdeal)
    ∧ preserves_Gla_GlaIdeal
    ∧ algebraic_GlaIdeal_RefGlaIdeal_pre_gla_in_range (hGlaIdeal := hGlaIdeal) (hRefGlaIdeal := hRefGlaIdeal) (hPre_gla_in_range := hPre_gla_in_range)
-- ==== Pre_gla_in_range.lean ====
abbrev S4x8192x128 : Shape := ⟨3, ![4, 8192, 128]⟩
abbrev S4x8192x256 : Shape := ⟨3, ![4, 8192, 256]⟩
abbrev S1x256 : Shape := ⟨2, ![1, 256]⟩
abbrev S_ : Shape := ⟨0, ![]⟩

class Facts : Prop where
  bcast_S_S4x8192x128 : S_.BroadcastsInDim S4x8192x128 (![] : Fin 0 → Fin S4x8192x128.rank)
  bcast_S_S4x8192x256 : S_.BroadcastsInDim S4x8192x256 (![] : Fin 0 → Fin S4x8192x256.rank)

variable [Facts]

def fn {F : FTy → Type} [FloatOps F] (main_arg0 : FVec F S4x8192x128 .f32) (main_arg1 : FVec F S4x8192x128 .f32) (main_arg2 : FVec F S4x8192x256 .f32) (main_arg3 : FVec F S4x8192x128 .f32) (main_arg4 : FVec F S4x8192x256 .bf16) (main_arg5 : FVec F S1x256 .f32) : IVec S4x8192x128 1 × IVec S4x8192x128 1 × IVec S4x8192x256 1 × IVec S4x8192x128 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_v3 : FVec F S4x8192x128 .f32 := Host.absf main_arg1
  let main_cst_0 : FVec F S_ .f32 := constant S_ .f32 0x7F800000#32
  let main_v4 : FVec F S4x8192x128 .f32 := broadcastInDim S4x8192x128 ![] bcast_S_S4x8192x128 main_cst_0
  let main_v5 : IVec S4x8192x128 1 := cmpf .olt main_v3 main_v4
  let main_v6 : FVec F S4x8192x256 .f32 := Host.absf main_arg2
  let main_cst_1 : FVec F S_ .f32 := constant S_ .f32 0x7F800000#32
  let main_v7 : FVec F S4x8192x256 .f32 := broadcastInDim S4x8192x256 ![] bcast_S_S4x8192x256 main_cst_1
  let main_v8 : IVec S4x8192x256 1 := cmpf .olt main_v6 main_v7
  let main_cst_2 : FVec F S_ .f32 := constant S_ .f32 0xC0A00000#32
  let main_v9 : FVec F S4x8192x128 .f32 := broadcastInDim S4x8192x128 ![] bcast_S_S4x8192x128 main_cst_2
  let main_v10 : IVec S4x8192x128 1 := cmpf .oge main_arg3 main_v9
  let main_cst_3 : FVec F S_ .f32 := constant S_ .f32 0x00000000#32
  let main_v11 : FVec F S4x8192x128 .f32 := broadcastInDim S4x8192x128 ![] bcast_S_S4x8192x128 main_cst_3
  let main_v12 : IVec S4x8192x128 1 := cmpf .ole main_arg3 main_v11
  let main_v13 : IVec S4x8192x128 1 := andi main_v10 main_v12
  (main_v2, main_v5, main_v8, main_v13)
-- ==== Pre_in_finite.lean ====
abbrev S32768x1024 : Shape := ⟨2, ![32768, 1024]⟩
abbrev S1024x4184 : Shape := ⟨2, ![1024, 4184]⟩
abbrev S16x128 : Shape := ⟨2, ![16, 128]⟩
abbrev S128 : Shape := ⟨1, ![128]⟩
abbrev S32768x32 : Shape := ⟨2, ![32768, 32]⟩
abbrev S_ : Shape := ⟨0, ![]⟩

class Facts : Prop where
  bcast_S_S32768x1024 : S_.BroadcastsInDim S32768x1024 (![] : Fin 0 → Fin S32768x1024.rank)
  bcast_S_S1024x4184 : S_.BroadcastsInDim S1024x4184 (![] : Fin 0 → Fin S1024x4184.rank)
  bcast_S_S16x128 : S_.BroadcastsInDim S16x128 (![] : Fin 0 → Fin S16x128.rank)

variable [Facts]

def fn {F : FTy → Type} [FloatOps F] (main_arg0 : FVec F S32768x1024 .f32) (main_arg1 : FVec F S1024x4184 .f32) (main_arg2 : FVec F S16x128 .f32) (main_arg3 : FVec F S128 .f32) (main_arg4 : FVec F S32768x32 .f32) (main_arg5 : FVec F S32768x32 .f32) : IVec S32768x1024 1 × IVec S1024x4184 1 × IVec S16x128 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x4184 .f32 := Host.absf main_arg1
  let main_cst_0 : FVec F S_ .f32 := constant S_ .f32 0x7F800000#32
  let main_v4 : FVec F S1024x4184 .f32 := broadcastInDim S1024x4184 ![] bcast_S_S1024x4184 main_cst_0
  let main_v5 : IVec S1024x4184 1 := cmpf .olt main_v3 main_v4
  let main_v6 : FVec F S16x128 .f32 := Host.absf main_arg2
  let main_cst_1 : FVec F S_ .f32 := constant S_ .f32 0x7F800000#32
  let main_v7 : FVec F S16x128 .f32 := broadcastInDim S16x128 ![] bcast_S_S16x128 main_cst_1
  let main_v8 : IVec S16x128 1 := cmpf .olt main_v6 main_v7
  (main_v2, main_v5, main_v8)
-- ==== Out.lean ====
abbrev S32768x512 : Shape := ⟨2, ![32768, 512]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S512x1 : Shape := ⟨2, ![512, 1]⟩
abbrev S256x512 : Shape := ⟨2, ![256, 512]⟩
abbrev S512 : Shape := ⟨1, ![512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S32768x256, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefOutIdeal.lean ====
abbrev S32768x512 : Shape := ⟨2, ![32768, 512]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S32768x256, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32768x512, .f32⟩
  | .hbm, ⟨8, _⟩ => ⟨S32768x256, .f32⟩
  | .hbm, ⟨9, _⟩ => ⟨S32768x256, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== In.lean ====
abbrev S32768x1024 : Shape := ⟨2, ![32768, 1024]⟩
abbrev S1024x4184 : Shape := ⟨2, ![1024, 4184]⟩
abbrev S16x128 : Shape := ⟨2, ![16, 128]⟩
abbrev S128 : Shape := ⟨1, ![128]⟩
abbrev S32768x32 : Shape := ⟨2, ![32768, 32]⟩
abbrev S1024x512 : Shape := ⟨2, ![1024, 512]⟩
abbrev S1024x64 : Shape := ⟨2, ![1024, 64]⟩
abbrev S1024x8 : Shape := ⟨2, ![1024, 8]⟩
abbrev S1024x256 : Shape := ⟨2, ![1024, 256]⟩
abbrev S1024x128 : Shape := ⟨2, ![1024, 128]⟩
abbrev S1024x16 : Shape := ⟨2, ![1024, 16]⟩
abbrev S_ : Shape := ⟨0, ![]⟩
abbrev S1024x1552 : Shape := ⟨2, ![1024, 1552]⟩
abbrev S1552x1024 : Shape := ⟨2, ![1552, 1024]⟩
abbrev S1024x112 : Shape := ⟨2, ![1024, 112]⟩
abbrev S1024x2816 : Shape := ⟨2, ![1024, 2816]⟩
abbrev S128x128 : Shape := ⟨2, ![128, 128]⟩
abbrev S1 : Shape := ⟨1, ![1]⟩
abbrev S32x32768 : Shape := ⟨2, ![32, 32768]⟩
abbrev S32768x128 : Shape := ⟨2, ![32768, 128]⟩
abbrev S1x128 : Shape := ⟨2, ![1, 128]⟩
abbrev S512x32768 : Shape := ⟨2, ![512, 32768]⟩
abbrev S8x32768 : Shape := ⟨2, ![8, 32768]⟩
abbrev S32768x512 : Shape := ⟨2, ![32768, 512]⟩
abbrev S32768x64 : Shape := ⟨2, ![32768, 64]⟩
abbrev S32768x256 : Shape := ⟨2, ![32768, 256]⟩
abbrev S512x1024 : Shape := ⟨2, ![512, 1024]⟩
abbrev S32x512 : Shape := ⟨2, ![32, 512]⟩
abbrev S512x128 : Shape := ⟨2, ![512, 128]⟩
abbrev S512x512 : Shape := ⟨2, ![512, 512]⟩
abbrev S8x512 : Shape := ⟨2, ![8, 512]⟩
abbrev S512x64 : Shape := ⟨2, ![512, 64]⟩
abbrev S512x256 : Shape := ⟨2, ![512, 256]⟩
abbrev S1552x512 : Shape := ⟨2, ![1552, 512]⟩

abbrev nBuf : Space → Nat
  | .hbm => 63
  | .vmem => 43
  | .smem => 0
  | _ => 0

abbrev bufTy : (tb : Table) → Fin (tcTables nBuf tb) → BufTy
  | .hbm, ⟨0, _⟩ => ⟨S32768x1024, .f32⟩
  | .hbm, ⟨1, _⟩ => ⟨S1024x4184, .f32⟩
  | .hbm, ⟨2, _⟩ => ⟨S16x128, .f32⟩
  | .hbm, ⟨3, _⟩ => ⟨S128, .f32⟩
  | .hbm, ⟨4, _⟩ => ⟨S32768x32, .f32⟩
  | .hbm, ⟨5, _⟩ => ⟨S32768x32, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x64, .f32⟩
  | .hbm, ⟨12, _⟩ => ⟨S1024x8, .f32⟩
  | .hbm, ⟨13, _⟩ => ⟨S1024x512, .f32⟩
  | .hbm, ⟨14, _⟩ => ⟨S1024x256, .f32⟩
  | .hbm, ⟨15, _⟩ => ⟨S1024x128, .f32⟩
  | .hbm, ⟨16, _⟩ => ⟨S1024x128, .f32⟩
  | .hbm, ⟨17, _⟩ => ⟨S1024x256, .f32⟩
  | .hbm, ⟨18, _⟩ => ⟨S1024x256, .f32⟩
  | .hbm, ⟨19, _⟩ => ⟨S1024x16, .f32⟩
  | .hbm, ⟨20, _⟩ => ⟨S_, .f32⟩
  | .hbm, ⟨21, _⟩ => ⟨S1024x8, .f32⟩
  | .hbm, ⟨22, _⟩ => ⟨S1024x16, .f32⟩
  | .hbm, ⟨23, _⟩ => ⟨S1024x1552, .f32⟩
  | .hbm, ⟨24, _⟩ => ⟨S1552x1024, .f32⟩
  | .hbm, ⟨25, _⟩ => ⟨S_, .f32⟩
  | .hbm, ⟨26, _⟩ => ⟨S1024x64, .f32⟩
  | .hbm, ⟨27, _⟩ => ⟨S1024x128, .f32⟩
  | .hbm, ⟨28, _⟩ => ⟨S_, .f32⟩
  | .hbm, ⟨29, _⟩ => ⟨S1024x112, .f32⟩
  | .hbm, ⟨30, _⟩ => ⟨S1024x128, .f32⟩
  | .hbm, ⟨31, _⟩ => ⟨S1024x2816, .f32⟩
  | .hbm, ⟨32, _⟩ => ⟨S1552x1024, .bf16⟩
  | .hbm, ⟨33, _⟩ => ⟨S1024x2816, .bf16⟩
  | .hbm, ⟨34, _⟩ => ⟨S_, .f32⟩
  | .hbm, ⟨35, _⟩ => ⟨S128x128, .f32⟩
  | .hbm, ⟨36, _⟩ => ⟨S_, .i32⟩
  | .hbm, ⟨37, _⟩ => ⟨S1, .i32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .f32⟩
  | .hbm, ⟨42, _⟩ => ⟨S128x128, .bf16⟩
  | .hbm, ⟨43, _⟩ => ⟨S32x32768, .f32⟩
  | .hbm, ⟨44, _⟩ => ⟨S32x32768, .f32⟩
  | .hbm, ⟨45, _⟩ => ⟨S32768x128, .f32⟩
  | .hbm, ⟨46, _⟩ => ⟨S32768x32, .f32⟩
  | .hbm, ⟨47, _⟩ => ⟨S32768x128, .f32⟩
  | .hbm, ⟨48, _⟩ => ⟨S1x128, .f32⟩
  | .hbm, ⟨49, _⟩ => ⟨S512x32768, .bf16⟩
  | .hbm, ⟨50, _⟩ => ⟨S512x32768, .bf16⟩
  | .hbm, ⟨51, _⟩ => ⟨S512x32768, .bf16⟩
  | .hbm, ⟨52, _⟩ => ⟨S8x32768, .f32⟩
  | .hbm, ⟨53, _⟩ => ⟨S32768x512, .bf16⟩
  | .hbm, ⟨54, _⟩ => ⟨S32768x64, .bf16⟩
  | .hbm, ⟨55, _⟩ => ⟨S32768x512, .bf16⟩
  | .hbm, ⟨56, _⟩ => ⟨S32768x256, .f32⟩
  | .hbm, ⟨57, _⟩ => ⟨S32768x256, .bf16⟩
  | .hbm, ⟨58, _⟩ => ⟨S32768x128, .f32⟩
  | .hbm, ⟨59, _⟩ => ⟨S32768x128, .f32⟩
  | .hbm, ⟨60, _⟩ => ⟨S32768x256, .f32⟩
  | .hbm, ⟨61, _⟩ => ⟨S32768x256, .bf16⟩
  | .hbm, ⟨62, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1552x1024, .bf16⟩
  | .local _ .vmem, ⟨3, _⟩ => ⟨S1024x2816, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S8x512, .f32⟩
  | .local _ .vmem, ⟨22, _⟩ => ⟨S8x512, .f32⟩
  | .local _ .vmem, ⟨23, _⟩ => ⟨S512x512, .bf16⟩
  | .local _ .vmem, ⟨24, _⟩ => ⟨S512x512, .bf16⟩
  | .local _ .vmem, ⟨25, _⟩ => ⟨S512x64, .bf16⟩
  | .local _ .vmem, ⟨26, _⟩ => ⟨S512x64, .bf16⟩
  | .local _ .vmem, ⟨27, _⟩ => ⟨S512x512, .bf16⟩
  | .local _ .vmem, ⟨28, _⟩ => ⟨S512x512, .bf16⟩
  | .local _ .vmem, ⟨29, _⟩ => ⟨S512x256, .f32⟩
  | .local _ .vmem, ⟨30, _⟩ => ⟨S512x256, .f32⟩
  | .local _ .vmem, ⟨31, _⟩ => ⟨S512x256, .bf16⟩
  | .local _ .vmem, ⟨32, _⟩ => ⟨S512x256, .bf16⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x256, .f32⟩
  | .local _ .vmem, ⟨38, _⟩ => ⟨S512x256, .f32⟩
  | .local _ .vmem, ⟨39, _⟩ => ⟨S512x256, .bf16⟩
  | .local _ .vmem, ⟨40, _⟩ => ⟨S512x256, .bf16⟩
  | .local _ .vmem, ⟨41, _⟩ => ⟨S512x128, .f32⟩
  | .local _ .vmem, ⟨42, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev main_v38_4 : Ref sig .tc := ⟨.hbm, 53, rfl⟩
abbrev main_v38_5 : Ref sig .tc := ⟨.hbm, 54, rfl⟩
abbrev main_v38_6 : Ref sig .tc := ⟨.hbm, 55, rfl⟩
abbrev main_v38_7 : Ref sig .tc := ⟨.hbm, 56, rfl⟩
abbrev main_v38_8 : Ref sig .tc := ⟨.hbm, 57, rfl⟩
abbrev main_v38_9 : Ref sig .tc := ⟨.hbm, 58, rfl⟩
abbrev main_v38_10 : Ref sig .tc := ⟨.hbm, 59, rfl⟩
abbrev main_v38_11 : Ref sig .tc := ⟨.hbm, 60, rfl⟩
abbrev main_v38_12 : Ref sig .tc := ⟨.hbm, 61, rfl⟩
abbrev main_v38_13 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1552x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== RefInIdeal.lean ====
abbrev S32768x1024 : Shape := ⟨2, ![32768, 1024]⟩
abbrev S1024x4184 : Shape := ⟨2, ![1024, 4184]⟩
abbrev S16x128 : Shape := ⟨2, ![16, 128]⟩
abbrev S128 : Shape := ⟨1, ![128]⟩
abbrev S32768x32 : Shape := ⟨2, ![32768, 32]⟩
abbrev S32768x4184 : Shape := ⟨2, ![32768, 4184]⟩
abbrev S32768x512 : Shape := ⟨2, ![32768, 512]⟩
abbrev S32768x64 : Shape := ⟨2, ![32768, 64]⟩
abbrev S32768x8 : Shape := ⟨2, ![32768, 8]⟩
abbrev S32768x256 : Shape := ⟨2, ![32768, 256]⟩
abbrev S32768x128 : Shape := ⟨2, ![32768, 128]⟩
abbrev S32768x16 : Shape := ⟨2, ![32768, 16]⟩
abbrev S32768x8x64 : Shape := ⟨3, ![32768, 8, 64]⟩
abbrev S32768x8x32 : Shape := ⟨3, ![32768, 8, 32]⟩
abbrev S32768x1x32 : Shape := ⟨3, ![32768, 1, 32]⟩
abbrev S_ : Shape := ⟨0, ![]⟩
abbrev S32768x1x64 : Shape := ⟨3, ![32768, 1, 64]⟩
abbrev S1x128 : Shape := ⟨2, ![1, 128]⟩
abbrev S512x32768 : Shape := ⟨2, ![512, 32768]⟩
abbrev S8x32768 : Shape := ⟨2, ![8, 32768]⟩

abbrev nBuf : Space → Nat
  | .hbm => 167
  | .vmem => 0
  | .smem => 0
  | _ => 0

abbrev hbmTy0_0 (i : Nat) : BufTy := match i % 128 with
  | 0 => ⟨S32768x1024, .f32⟩
  | 1 => ⟨S1024x4184, .f32⟩
  | 2 => ⟨S16x128, .f32⟩
  | 3 => ⟨S128, .f32⟩
  | 4 => ⟨S32768x32, .f32⟩
  | 5 => ⟨S32768x32, .f32⟩
  | 6 => ⟨S32768x4184, .f32⟩
  | 7 => ⟨S32768x512, .f32⟩
  | 8 => ⟨S32768x512, .f32⟩
  | 9 => ⟨S32768x512, .f32⟩
  | 10 => ⟨S32768x512, .f32⟩
  | 11 => ⟨S32768x512, .f32⟩
  | 12 => ⟨S32768x64, .f32⟩
  | 13 => ⟨S32768x8, .f32⟩
  | 14 => ⟨S32768x512, .f32⟩
  | 15 => ⟨S32768x256, .f32⟩
  | 16 => ⟨S32768x128, .f32⟩
  | 17 => ⟨S32768x128, .f32⟩
  | 18 => ⟨S32768x256, .f32⟩
  | 19 => ⟨S32768x256, .f32⟩
  | 20 => ⟨S32768x16, .f32⟩
  | 21 => ⟨S32768x8x64, .f32⟩
  | 22 => ⟨S32768x8x32, .f32⟩
  | 23 => ⟨S32768x8x32, .f32⟩
  | 24 => ⟨S32768x1x32, .f32⟩
  | 25 => ⟨S32768x1x32, .f32⟩
  | 26 => ⟨S32768x8x32, .f32⟩
  | 27 => ⟨S32768x8x32, .f32⟩
  | 28 => ⟨S32768x8x32, .f32⟩
  | 29 => ⟨S32768x8x32, .f32⟩
  | 30 => ⟨S32768x8x32, .f32⟩
  | 31 => ⟨S32768x8x32, .f32⟩
  | 32 => ⟨S32768x8x32, .f32⟩
  | 33 => ⟨S32768x8x32, .f32⟩
  | 34 => ⟨S32768x8x32, .f32⟩
  | 35 => ⟨S32768x8x32, .f32⟩
  | 36 => ⟨S32768x8x64, .f32⟩
  | 37 => ⟨S_, .f32⟩
  | 38 => ⟨S32768x8x64, .f32⟩
  | 39 => ⟨S32768x8x64, .f32⟩
  | 40 => ⟨S32768x8x64, .f32⟩
  | 41 => ⟨S32768x8x32, .f32⟩
  | 42 => ⟨S32768x8x32, .f32⟩
  | 43 => ⟨S32768x1x32, .f32⟩
  | 44 => ⟨S32768x1x32, .f32⟩
  | 45 => ⟨S32768x8x32, .f32⟩
  | 46 => ⟨S32768x8x32, .f32⟩
  | 47 => ⟨S32768x8x32, .f32⟩
  | 48 => ⟨S32768x8x32, .f32⟩
  | 49 => ⟨S32768x8x32, .f32⟩
  | 50 => ⟨S32768x8x32, .f32⟩
  | 51 => ⟨S32768x8x32, .f32⟩
  | 52 => ⟨S32768x8x32, .f32⟩
  | 53 => ⟨S32768x8x32, .f32⟩
  | 54 => ⟨S32768x8x32, .f32⟩
  | 55 => ⟨S32768x8x64, .f32⟩
  | 56 => ⟨S32768x8x64, .f32⟩
  | 57 => ⟨S32768x8x32, .f32⟩
  | 58 => ⟨S32768x8x32, .f32⟩
  | 59 => ⟨S32768x1x32, .f32⟩
  | 60 => ⟨S32768x1x32, .f32⟩
  | 61 => ⟨S32768x8x32, .f32⟩
  | 62 => ⟨S32768x8x32, .f32⟩
  | 63 => ⟨S32768x8x32, .f32⟩
  | 64 => ⟨S32768x8x32, .f32⟩
  | 65 => ⟨S32768x8x32, .f32⟩
  | 66 => ⟨S32768x8x32, .f32⟩
  | 67 => ⟨S32768x8x32, .f32⟩
  | 68 => ⟨S32768x8x32, .f32⟩
  | 69 => ⟨S32768x8x32, .f32⟩
  | 70 => ⟨S32768x8x32, .f32⟩
  | 71 => ⟨S32768x8x64, .f32⟩
  | 72 => ⟨S32768x1x64, .f32⟩
  | 73 => ⟨S32768x1x32, .f32⟩
  | 74 => ⟨S32768x1x32, .f32⟩
  | 75 => ⟨S32768x1x32, .f32⟩
  | 76 => ⟨S32768x1x32, .f32⟩
  | 77 => ⟨S32768x1x32, .f32⟩
  | 78 => ⟨S32768x1x32, .f32⟩
  | 79 => ⟨S32768x1x32, .f32⟩
  | 80 => ⟨S32768x1x32, .f32⟩
  | 81 => ⟨S32768x1x32, .f32⟩
  | 82 => ⟨S32768x1x32, .f32⟩
  | 83 => ⟨S32768x1x64, .f32⟩
  | 84 => ⟨S32768x64, .f32⟩
  | 85 => ⟨S_, .f32⟩
  | 86 => ⟨S32768x8, .f32⟩
  | 87 => ⟨S32768x8, .f32⟩
  | 88 => ⟨S32768x256, .f32⟩
  | 89 => ⟨S32768x256, .f32⟩
  | 90 => ⟨S32768x128, .f32⟩
  | 91 => ⟨S1x128, .f32⟩
  | 92 => ⟨S32768x128, .f32⟩
  | 93 => ⟨S32768x128, .f32⟩
  | 94 => ⟨S32768x128, .f32⟩
  | 95 => ⟨S_, .f32⟩
  | 96 => ⟨S32768x128, .f32⟩
  | 97 => ⟨S32768x128, .f32⟩
  | 98 => ⟨S32768x128, .f32⟩
  | 99 => ⟨S32768x128, .f32⟩
  | 100 => ⟨S32768x128, .i1⟩
  | 101 => ⟨S32768x128, .f32⟩
  | 102 => ⟨S32768x128, .f32⟩
  | 103 => ⟨S32768x128, .f32⟩
  | 104 => ⟨S32768x128, .f32⟩
  | 105 => ⟨S32768x128, .f32⟩
  | 106 => ⟨S32768x128, .f32⟩
  | 107 => ⟨S32768x128, .f32⟩
  | 108 => ⟨S32768x128, .f32⟩
  | 109 => ⟨S32768x128, .f32⟩
  | 110 => ⟨S_, .f32⟩
  | 111 => ⟨S32768x128, .f32⟩
  | 112 => ⟨S32768x128, .f32⟩
  | 113 => ⟨S32768x512, .f32⟩
  | 114 => ⟨S512x32768, .f32⟩
  | 115 => ⟨S512x32768, .bf16⟩
  | 116 => ⟨S32768x512, .f32⟩
  | 117 => ⟨S512x32768, .f32⟩
  | 118 => ⟨S512x32768, .bf16⟩
  | 119 => ⟨S512x32768, .f32⟩
  | 120 => ⟨S512x32768, .bf16⟩
  | 121 => ⟨S8x32768, .f32⟩
  | 122 => ⟨S32768x512, .f32⟩
  | 123 => ⟨S32768x512, .bf16⟩
  | 124 => ⟨S32768x64, .bf16⟩
  | 125 => ⟨S32768x512, .f32⟩
  | 126 => ⟨S32768x512, .f32⟩
  | 127 => ⟨S_, .f32⟩
  | _ => ⟨S32768x1024, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S32768x512, .f32⟩
  | 6 => ⟨S32768x512, .bf16⟩
  | 7 => ⟨S32768x256, .f32⟩
  | 8 => ⟨S32768x256, .f32⟩
  | 9 => ⟨S_, .f32⟩
  | 10 => ⟨S32768x256, .f32⟩
  | 11 => ⟨S32768x256, .f32⟩
  | 12 => ⟨S_, .f32⟩
  | 13 => ⟨S32768x256, .f32⟩
  | 14 => ⟨S32768x256, .f32⟩
  | 15 => ⟨S32768x256, .f32⟩
  | 16 => ⟨S32768x256, .f32⟩
  | 17 => ⟨S32768x256, .f32⟩
  | 18 => ⟨S_, .f32⟩
  | 19 => ⟨S32768x256, .f32⟩
  | 20 => ⟨S32768x256, .f32⟩
  | 21 => ⟨S_, .f32⟩
  | 22 => ⟨S32768x256, .f32⟩
  | 23 => ⟨S32768x256, .f32⟩
  | 24 => ⟨S32768x256, .f32⟩
  | 25 => ⟨S32768x256, .bf16⟩
  | 26 => ⟨S_, .f32⟩
  | 27 => ⟨S32768x128, .f32⟩
  | 28 => ⟨S32768x128, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S_, .f32⟩
  | 35 => ⟨S32768x256, .f32⟩
  | 36 => ⟨S32768x256, .f32⟩
  | 37 => ⟨S32768x256, .f32⟩
  | 38 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_0 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_call0_v0 : Ref sig .tc := ⟨.hbm, 94, rfl⟩
abbrev main_call0_call0_cst : Ref sig .tc := ⟨.hbm, 95, rfl⟩
abbrev main_call0_call0_v0 : Ref sig .tc := ⟨.hbm, 96, rfl⟩
abbrev main_call0_call0_v1 : Ref sig .tc := ⟨.hbm, 97, rfl⟩
abbrev main_call0_call0_v2 : Ref sig .tc := ⟨.hbm, 98, rfl⟩
abbrev main_call0_call0_v3 : Ref sig .tc := ⟨.hbm, 99, rfl⟩
abbrev main_call0_call0_v4 : Ref sig .tc := ⟨.hbm, 100, rfl⟩
abbrev main_call0_call0_v5 : Ref sig .tc := ⟨.hbm, 101, rfl⟩
abbrev main_call0_call0_v6 : Ref sig .tc := ⟨.hbm, 102, rfl⟩
abbrev main_call0_call0_v7 : Ref sig .tc := ⟨.hbm, 103, rfl⟩
abbrev main_call0_call0_v8 : Ref sig .tc := ⟨.hbm, 104, rfl⟩
abbrev main_call0_call0_v9 : Ref sig .tc := ⟨.hbm, 105, rfl⟩
abbrev main_call0_call0_v10 : Ref sig .tc := ⟨.hbm, 106, rfl⟩
abbrev main_call0_call0_v11 : Ref sig .tc := ⟨.hbm, 107, rfl⟩
abbrev main_call0_v1 : Ref sig .tc := ⟨.hbm, 108, rfl⟩
abbrev main_v86 : Ref sig .tc := ⟨.hbm, 109, rfl⟩
abbrev main_cst_1 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_2 : Ref sig .tc := ⟨.hbm, 137, rfl⟩
abbrev main_v105 : Ref sig .tc := ⟨.hbm, 138, rfl⟩
abbrev main_v106 : Ref sig .tc := ⟨.hbm, 139, rfl⟩
abbrev main_cst_3 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v110 : Ref sig .tc := ⟨.hbm, 152, rfl⟩
abbrev main_v111 : Ref sig .tc := ⟨.hbm, 153, rfl⟩
abbrev main_cst_4 : Ref sig .tc := ⟨.hbm, 154, rfl⟩
abbrev main_v112 : Ref sig .tc := ⟨.hbm, 155, rfl⟩
abbrev main_v113 : Ref sig .tc := ⟨.hbm, 156, rfl⟩
abbrev main_call3_v0 : Ref sig .tc := ⟨.hbm, 157, rfl⟩
abbrev main_call3_v1 : Ref sig .tc := ⟨.hbm, 158, rfl⟩
abbrev main_call3_cst : Ref sig .tc := ⟨.hbm, 159, rfl⟩
abbrev main_call3_v2 : Ref sig .tc := ⟨.hbm, 160, rfl⟩
abbrev main_call3_v3 : Ref sig .tc := ⟨.hbm, 161, rfl⟩
abbrev main_call3_cst_0 : Ref sig .tc := ⟨.hbm, 162, rfl⟩
abbrev main_call3_v4 : Ref sig .tc := ⟨.hbm, 163, rfl⟩
abbrev main_call3_v5 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]
-- ==== Conv.lean ====
abbrev S32768x256 : Shape := ⟨2, ![32768, 256]⟩
abbrev S31x256 : Shape := ⟨2, ![31, 256]⟩
abbrev S256 : Shape := ⟨1, ![256]⟩
abbrev S256x256 : Shape := ⟨2, ![256, 256]⟩
abbrev S1x256 : Shape := ⟨2, ![1, 256]⟩
abbrev S512x256 : Shape := ⟨2, ![512, 256]⟩
abbrev S32x256 : Shape := ⟨2, ![32, 256]⟩
abbrev S8x544x256 : Shape := ⟨3, ![8, 544, 256]⟩
abbrev S1x32x256 : Shape := ⟨3, ![1, 32, 256]⟩
abbrev S1x512x256 : Shape := ⟨3, ![1, 512, 256]⟩
abbrev S1x536x256 : Shape := ⟨3, ![1, 536, 256]⟩
abbrev S536x256 : Shape := ⟨2, ![536, 256]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩

abbrev nBuf : Space → Nat
  | .hbm => 14
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768x256, .bf16⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S256x256, .bf16⟩
  | .hbm, ⟨12, _⟩ => ⟨S1x256, .f32⟩
  | .hbm, ⟨13, _⟩ => ⟨S32768x256, .bf16⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x256, .bf16⟩
  | .local _ .vmem, ⟨5, _⟩ => ⟨S512x256, .bf16⟩
  | .local _ .vmem, ⟨6, _⟩ => ⟨S31x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S8x544x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefConvIdeal.lean ====
abbrev S32768x256 : Shape := ⟨2, ![32768, 256]⟩
abbrev S31x256 : Shape := ⟨2, ![31, 256]⟩
abbrev S256 : Shape := ⟨1, ![256]⟩
abbrev S256x256 : Shape := ⟨2, ![256, 256]⟩
abbrev S4x8192x256 : Shape := ⟨3, ![4, 8192, 256]⟩
abbrev S_ : Shape := ⟨0, ![]⟩
abbrev S4x8222x256 : Shape := ⟨3, ![4, 8222, 256]⟩
abbrev S1x256 : Shape := ⟨2, ![1, 256]⟩
abbrev S1x1x256 : Shape := ⟨3, ![1, 1, 256]⟩
abbrev S4x8192 : Shape := ⟨2, ![4, 8192]⟩
abbrev S4x8192x1 : Shape := ⟨3, ![4, 8192, 1]⟩

abbrev nBuf : Space → Nat
  | .hbm => 280
  | .vmem => 0
  | .smem => 0
  | _ => 0

abbrev hbmTy0_0 (i : Nat) : BufTy := match i % 128 with
  | 0 => ⟨S32768x256, .f32⟩
  | 1 => ⟨S32768x256, .bf16⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S4x8192x256, .f32⟩
  | 9 => ⟨S_, .i32⟩
  | 10 => ⟨S_, .f32⟩
  | 11 => ⟨S4x8222x256, .f32⟩
  | 12 => ⟨S_, .f32⟩
  | 13 => ⟨S4x8192x256, .f32⟩
  | 14 => ⟨S4x8192x256, .f32⟩
  | 15 => ⟨S1x256, .f32⟩
  | 16 => ⟨S256, .f32⟩
  | 17 => ⟨S1x1x256, .f32⟩
  | 18 => ⟨S4x8192x256, .f32⟩
  | 19 => ⟨S4x8192x256, .f32⟩
  | 20 => ⟨S4x8192x256, .f32⟩
  | 21 => ⟨S4x8192x256, .f32⟩
  | 22 => ⟨S1x256, .f32⟩
  | 23 => ⟨S256, .f32⟩
  | 24 => ⟨S1x1x256, .f32⟩
  | 25 => ⟨S4x8192x256, .f32⟩
  | 26 => ⟨S4x8192x256, .f32⟩
  | 27 => ⟨S4x8192x256, .f32⟩
  | 28 => ⟨S4x8192x256, .f32⟩
  | 29 => ⟨S1x256, .f32⟩
  | 30 => ⟨S256, .f32⟩
  | 31 => ⟨S1x1x256, .f32⟩
  | 32 => ⟨S4x8192x256, .f32⟩
  | 33 => ⟨S4x8192x256, .f32⟩
  | 34 => ⟨S4x8192x256, .f32⟩
  | 35 => ⟨S4x8192x256, .f32⟩
  | 36 => ⟨S1x256, .f32⟩
  | 37 => ⟨S256, .f32⟩
  | 38 => ⟨S1x1x256, .f32⟩
  | 39 => ⟨S4x8192x256, .f32⟩
  | 40 => ⟨S4x8192x256, .f32⟩
  | 41 => ⟨S4x8192x256, .f32⟩
  | 42 => ⟨S4x8192x256, .f32⟩
  | 43 => ⟨S1x256, .f32⟩
  | 44 => ⟨S256, .f32⟩
  | 45 => ⟨S1x1x256, .f32⟩
  | 46 => ⟨S4x8192x256, .f32⟩
  | 47 => ⟨S4x8192x256, .f32⟩
  | 48 => ⟨S4x8192x256, .f32⟩
  | 49 => ⟨S4x8192x256, .f32⟩
  | 50 => ⟨S1x256, .f32⟩
  | 51 => ⟨S256, .f32⟩
  | 52 => ⟨S1x1x256, .f32⟩
  | 53 => ⟨S4x8192x256, .f32⟩
  | 54 => ⟨S4x8192x256, .f32⟩
  | 55 => ⟨S4x8192x256, .f32⟩
  | 56 => ⟨S4x8192x256, .f32⟩
  | 57 => ⟨S1x256, .f32⟩
  | 58 => ⟨S256, .f32⟩
  | 59 => ⟨S1x1x256, .f32⟩
  | 60 => ⟨S4x8192x256, .f32⟩
  | 61 => ⟨S4x8192x256, .f32⟩
  | 62 => ⟨S4x8192x256, .f32⟩
  | 63 => ⟨S4x8192x256, .f32⟩
  | 64 => ⟨S1x256, .f32⟩
  | 65 => ⟨S256, .f32⟩
  | 66 => ⟨S1x1x256, .f32⟩
  | 67 => ⟨S4x8192x256, .f32⟩
  | 68 => ⟨S4x8192x256, .f32⟩
  | 69 => ⟨S4x8192x256, .f32⟩
  | 70 => ⟨S4x8192x256, .f32⟩
  | 71 => ⟨S1x256, .f32⟩
  | 72 => ⟨S256, .f32⟩
  | 73 => ⟨S1x1x256, .f32⟩
  | 74 => ⟨S4x8192x256, .f32⟩
  | 75 => ⟨S4x8192x256, .f32⟩
  | 76 => ⟨S4x8192x256, .f32⟩
  | 77 => ⟨S4x8192x256, .f32⟩
  | 78 => ⟨S1x256, .f32⟩
  | 79 => ⟨S256, .f32⟩
  | 80 => ⟨S1x1x256, .f32⟩
  | 81 => ⟨S4x8192x256, .f32⟩
  | 82 => ⟨S4x8192x256, .f32⟩
  | 83 => ⟨S4x8192x256, .f32⟩
  | 84 => ⟨S4x8192x256, .f32⟩
  | 85 => ⟨S1x256, .f32⟩
  | 86 => ⟨S256, .f32⟩
  | 87 => ⟨S1x1x256, .f32⟩
  | 88 => ⟨S4x8192x256, .f32⟩
  | 89 => ⟨S4x8192x256, .f32⟩
  | 90 => ⟨S4x8192x256, .f32⟩
  | 91 => ⟨S4x8192x256, .f32⟩
  | 92 => ⟨S1x256, .f32⟩
  | 93 => ⟨S256, .f32⟩
  | 94 => ⟨S1x1x256, .f32⟩
  | 95 => ⟨S4x8192x256, .f32⟩
  | 96 => ⟨S4x8192x256, .f32⟩
  | 97 => ⟨S4x8192x256, .f32⟩
  | 98 => ⟨S4x8192x256, .f32⟩
  | 99 => ⟨S1x256, .f32⟩
  | 100 => ⟨S256, .f32⟩
  | 101 => ⟨S1x1x256, .f32⟩
  | 102 => ⟨S4x8192x256, .f32⟩
  | 103 => ⟨S4x8192x256, .f32⟩
  | 104 => ⟨S4x8192x256, .f32⟩
  | 105 => ⟨S4x8192x256, .f32⟩
  | 106 => ⟨S1x256, .f32⟩
  | 107 => ⟨S256, .f32⟩
  | 108 => ⟨S1x1x256, .f32⟩
  | 109 => ⟨S4x8192x256, .f32⟩
  | 110 => ⟨S4x8192x256, .f32⟩
  | 111 => ⟨S4x8192x256, .f32⟩
  | 112 => ⟨S4x8192x256, .f32⟩
  | 113 => ⟨S1x256, .f32⟩
  | 114 => ⟨S256, .f32⟩
  | 115 => ⟨S1x1x256, .f32⟩
  | 116 => ⟨S4x8192x256, .f32⟩
  | 117 => ⟨S4x8192x256, .f32⟩
  | 118 => ⟨S4x8192x256, .f32⟩
  | 119 => ⟨S4x8192x256, .f32⟩
  | 120 => ⟨S1x256, .f32⟩
  | 121 => ⟨S256, .f32⟩
  | 122 => ⟨S1x1x256, .f32⟩
  | 123 => ⟨S4x8192x256, .f32⟩
  | 124 => ⟨S4x8192x256, .f32⟩
  | 125 => ⟨S4x8192x256, .f32⟩
  | 126 => ⟨S4x8192x256, .f32⟩
  | 127 => ⟨S1x256, .f32⟩
  | _ => ⟨S32768x256, .f32⟩

abbrev hbmTy0_1 (i : Nat) : BufTy := match i % 128 with
  | 0 => ⟨S256, .f32⟩
  | 1 => ⟨S1x1x256, .f32⟩
  | 2 => ⟨S4x8192x256, .f32⟩
  | 3 => ⟨S4x8192x256, .f32⟩
  | 4 => ⟨S4x8192x256, .f32⟩
  | 5 => ⟨S4x8192x256, .f32⟩
  | 6 => ⟨S1x256, .f32⟩
  | 7 => ⟨S256, .f32⟩
  | 8 => ⟨S1x1x256, .f32⟩
  | 9 => ⟨S4x8192x256, .f32⟩
  | 10 => ⟨S4x8192x256, .f32⟩
  | 11 => ⟨S4x8192x256, .f32⟩
  | 12 => ⟨S4x8192x256, .f32⟩
  | 13 => ⟨S1x256, .f32⟩
  | 14 => ⟨S256, .f32⟩
  | 15 => ⟨S1x1x256, .f32⟩
  | 16 => ⟨S4x8192x256, .f32⟩
  | 17 => ⟨S4x8192x256, .f32⟩
  | 18 => ⟨S4x8192x256, .f32⟩
  | 19 => ⟨S4x8192x256, .f32⟩
  | 20 => ⟨S1x256, .f32⟩
  | 21 => ⟨S256, .f32⟩
  | 22 => ⟨S1x1x256, .f32⟩
  | 23 => ⟨S4x8192x256, .f32⟩
  | 24 => ⟨S4x8192x256, .f32⟩
  | 25 => ⟨S4x8192x256, .f32⟩
  | 26 => ⟨S4x8192x256, .f32⟩
  | 27 => ⟨S1x256, .f32⟩
  | 28 => ⟨S256, .f32⟩
  | 29 => ⟨S1x1x256, .f32⟩
  | 30 => ⟨S4x8192x256, .f32⟩
  | 31 => ⟨S4x8192x256, .f32⟩
  | 32 => ⟨S4x8192x256, .f32⟩
  | 33 => ⟨S4x8192x256, .f32⟩
  | 34 => ⟨S1x256, .f32⟩
  | 35 => ⟨S256, .f32⟩
  | 36 => ⟨S1x1x256, .f32⟩
  | 37 => ⟨S4x8192x256, .f32⟩
  | 38 => ⟨S4x8192x256, .f32⟩
  | 39 => ⟨S4x8192x256, .f32⟩
  | 40 => ⟨S4x8192x256, .f32⟩
  | 41 => ⟨S1x256, .f32⟩
  | 42 => ⟨S256, .f32⟩
  | 43 => ⟨S1x1x256, .f32⟩
  | 44 => ⟨S4x8192x256, .f32⟩
  | 45 => ⟨S4x8192x256, .f32⟩
  | 46 => ⟨S4x8192x256, .f32⟩
  | 47 => ⟨S4x8192x256, .f32⟩
  | 48 => ⟨S1x256, .f32⟩
  | 49 => ⟨S256, .f32⟩
  | 50 => ⟨S1x1x256, .f32⟩
  | 51 => ⟨S4x8192x256, .f32⟩
  | 52 => ⟨S4x8192x256, .f32⟩
  | 53 => ⟨S4x8192x256, .f32⟩
  | 54 => ⟨S4x8192x256, .f32⟩
  | 55 => ⟨S1x256, .f32⟩
  | 56 => ⟨S256, .f32⟩
  | 57 => ⟨S1x1x256, .f32⟩
  | 58 => ⟨S4x8192x256, .f32⟩
  | 59 => ⟨S4x8192x256, .f32⟩
  | 60 => ⟨S4x8192x256, .f32⟩
  | 61 => ⟨S4x8192x256, .f32⟩
  | 62 => ⟨S1x256, .f32⟩
  | 63 => ⟨S256, .f32⟩
  | 64 => ⟨S1x1x256, .f32⟩
  | 65 => ⟨S4x8192x256, .f32⟩
  | 66 => ⟨S4x8192x256, .f32⟩
  | 67 => ⟨S4x8192x256, .f32⟩
  | 68 => ⟨S4x8192x256, .f32⟩
  | 69 => ⟨S1x256, .f32⟩
  | 70 => ⟨S256, .f32⟩
  | 71 => ⟨S1x1x256, .f32⟩
  | 72 => ⟨S4x8192x256, .f32⟩
  | 73 => ⟨S4x8192x256, .f32⟩
  | 74 => ⟨S4x8192x256, .f32⟩
  | 75 => ⟨S4x8192x256, .f32⟩
  | 76 => ⟨S1x256, .f32⟩
  | 77 => ⟨S256, .f32⟩
  | 78 => ⟨S1x1x256, .f32⟩
  | 79 => ⟨S4x8192x256, .f32⟩
  | 80 => ⟨S4x8192x256, .f32⟩
  | 81 => ⟨S4x8192x256, .f32⟩
  | 82 => ⟨S4x8192x256, .f32⟩
  | 83 => ⟨S1x256, .f32⟩
  | 84 => ⟨S256, .f32⟩
  | 85 => ⟨S1x1x256, .f32⟩
  | 86 => ⟨S4x8192x256, .f32⟩
  | 87 => ⟨S4x8192x256, .f32⟩
  | 88 => ⟨S4x8192x256, .f32⟩
  | 89 => ⟨S4x8192x256, .f32⟩
  | 90 => ⟨S1x256, .f32⟩
  | 91 => ⟨S256, .f32⟩
  | 92 => ⟨S1x1x256, .f32⟩
  | 93 => ⟨S4x8192x256, .f32⟩
  | 94 => ⟨S4x8192x256, .f32⟩
  | 95 => ⟨S4x8192x256, .f32⟩
  | 96 => ⟨S4x8192x256, .f32⟩
  | 97 => ⟨S1x256, .f32⟩
  | 98 => ⟨S256, .f32⟩
  | 99 => ⟨S1x1x256, .f32⟩
  | 100 => ⟨S4x8192x256, .f32⟩
  | 101 => ⟨S4x8192x256, .f32⟩
  | 102 => ⟨S4x8192x256, .f32⟩
  | 103 => ⟨S1x1x256, .f32⟩
  | 104 => ⟨S4x8192x256, .f32⟩
  | 105 => ⟨S4x8192x256, .f32⟩
  | 106 => ⟨S_, .f32⟩
  | 107 => ⟨S4x8192, .f32⟩
  | 108 => ⟨S4x8192x1, .f32⟩
  | 109 => ⟨S_, .f32⟩
  | 110 => ⟨S4x8192x1, .f32⟩
  | 111 => ⟨S4x8192x1, .f32⟩
  | 112 => ⟨S4x8192x256, .f32⟩
  | 113 => ⟨S4x8192x256, .f32⟩
  | 114 => ⟨S4x8192x256, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S4x8192x256, .f32⟩
  | 122 => ⟨S4x8192x256, .f32⟩
  | 123 => ⟨S_, .f32⟩
  | 124 => ⟨S4x8192x1, .f32⟩
  | 125 => ⟨S4x8192x1, .f32⟩
  | 126 => ⟨S4x8192x1, .f32⟩
  | 127 => ⟨S4x8192x256, .f32⟩
  | _ => ⟨S32768x256, .f32⟩

abbrev hbmTy0_2 (i : Nat) : BufTy := match i % 128 with
  | 0 => ⟨S4x8192x256, .f32⟩
  | 1 => ⟨S1x1x256, .f32⟩
  | 2 => ⟨S4x8192x256, .f32⟩
  | 3 => ⟨S4x8192x256, .f32⟩
  | 4 => ⟨S1x1x256, .f32⟩
  | 5 => ⟨S4x8192x256, .f32⟩
  | 6 => ⟨S4x8192x256, .f32⟩
  | 7 => ⟨S4x8192x256, .f32⟩
  | 8 => ⟨S4x8192x256, .f32⟩
  | 9 => ⟨S_, .f32⟩
  | 10 => ⟨S4x8192x256, .f32⟩
  | 11 => ⟨S4x8192x256, .f32⟩
  | 12 => ⟨S_, .f32⟩
  | 13 => ⟨S4x8192x256, .f32⟩
  | 14 => ⟨S4x8192x256, .f32⟩
  | 15 => ⟨S4x8192x256, .f32⟩
  | 16 => ⟨S4x8192x256, .f32⟩
  | 17 => ⟨S1x1x256, .f32⟩
  | 18 => ⟨S4x8192x256, .f32⟩
  | 19 => ⟨S4x8192x256, .f32⟩
  | 20 => ⟨S32768x256, .f32⟩
  | 21 => ⟨S32768x256, .f32⟩
  | 22 => ⟨S32768x256, .f32⟩
  | 23 => ⟨S32768x256, .bf16⟩
  | _ => ⟨S32768x256, .f32⟩

abbrev hbmTy (i : Nat) : BufTy := match i / 128 with
  | 0 => hbmTy0_0 i
  | 1 => hbmTy0_1 i
  | 2 => hbmTy0_2 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_cst_0 : Ref sig .tc := ⟨.hbm, 234, rfl⟩
abbrev main_v223 : Ref sig .tc := ⟨.hbm, 235, rfl⟩
abbrev main_v224 : Ref sig .tc := ⟨.hbm, 236, rfl⟩
abbrev main_cst_1 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_cst_2 : Ref sig .tc := ⟨.hbm, 243, rfl⟩
abbrev main_v230 : Ref sig .tc := ⟨.hbm, 244, rfl⟩
abbrev main_v231 : Ref sig .tc := ⟨.hbm, 245, rfl⟩
abbrev main_cst_3 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_cst_4 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_call1_v0 : Ref sig .tc := ⟨.hbm, 263, rfl⟩
abbrev main_call1_v1 : Ref sig .tc := ⟨.hbm, 264, rfl⟩
abbrev main_call1_cst : Ref sig .tc := ⟨.hbm, 265, rfl⟩
abbrev main_call1_v2 : Ref sig .tc := ⟨.hbm, 266, rfl⟩
abbrev main_call1_v3 : Ref sig .tc := ⟨.hbm, 267, rfl⟩
abbrev main_call1_cst_0 : Ref sig .tc := ⟨.hbm, 268, rfl⟩
abbrev main_call1_v4 : Ref sig .tc := ⟨.hbm, 269, rfl⟩
abbrev main_call1_v5 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩

abbrev nD : Nat := 1
abbrev τ : Topo := Topo.v7x

variable {F : FTy → Type} [FloatOps F]
-- ==== Rope.lean ====
abbrev S4x8192 : Shape := ⟨2, ![4, 8192]⟩
abbrev S128 : Shape := ⟨1, ![128]⟩
abbrev S32768 : Shape := ⟨1, ![32768]⟩
abbrev S32 : Shape := ⟨1, ![32]⟩
abbrev S_ : Shape := ⟨0, ![]⟩
abbrev S1x128 : Shape := ⟨2, ![1, 128]⟩
abbrev S1x32 : Shape := ⟨2, ![1, 32]⟩
abbrev S4x32 : Shape := ⟨2, ![4, 32]⟩
abbrev S1x32768 : Shape := ⟨2, ![1, 32768]⟩
abbrev S32768x1 : Shape := ⟨2, ![32768, 1]⟩
abbrev S32x1 : Shape := ⟨2, ![32, 1]⟩
abbrev S32x32768 : Shape := ⟨2, ![32, 32768]⟩
abbrev S32768x128 : Shape := ⟨2, ![32768, 128]⟩
abbrev S1x1024 : Shape := ⟨2, ![1, 1024]⟩
abbrev S1024x1 : Shape := ⟨2, ![1024, 1]⟩
abbrev S32x1024 : Shape := ⟨2, ![32, 1024]⟩
abbrev S1024x128 : Shape := ⟨2, ![1024, 128]⟩

abbrev nBuf : Space → Nat
  | .hbm => 30
  | .vmem => 15
  | .smem => 0
  | _ => 0

abbrev bufTy : (tb : Table) → Fin (tcTables nBuf tb) → BufTy
  | .hbm, ⟨0, _⟩ => ⟨S4x8192, .i32⟩
  | .hbm, ⟨1, _⟩ => ⟨S128, .f32⟩
  | .hbm, ⟨2, _⟩ => ⟨S32768, .i32⟩
  | .hbm, ⟨3, _⟩ => ⟨S32768, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x128, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S1x32768, .f32⟩
  | .hbm, ⟨24, _⟩ => ⟨S32768x1, .f32⟩
  | .hbm, ⟨25, _⟩ => ⟨S32x1, .f32⟩
  | .hbm, ⟨26, _⟩ => ⟨S32x32768, .f32⟩
  | .hbm, ⟨27, _⟩ => ⟨S32x32768, .f32⟩
  | .hbm, ⟨28, _⟩ => ⟨S32768x128, .f32⟩
  | .hbm, ⟨29, _⟩ => ⟨S32768x128, .f32⟩
  | .local _ .vmem, ⟨0, _⟩ => ⟨S1x1024, .f32⟩
  | .local _ .vmem, ⟨1, _⟩ => ⟨S1x1024, .f32⟩
  | .local _ .vmem, ⟨2, _⟩ => ⟨S1024x1, .f32⟩
  | .local _ .vmem, ⟨3, _⟩ => ⟨S1024x1, .f32⟩
  | .local _ .vmem, ⟨4, _⟩ => ⟨S32x1, .f32⟩
  | .local _ .vmem, ⟨5, _⟩ => ⟨S1x128, .f32⟩
  | .local _ .vmem, ⟨6, _⟩ => ⟨S1x128, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefRopeIdeal.lean ====
abbrev S4x8192 : Shape := ⟨2, ![4, 8192]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S32768x32 : Shape := ⟨2, ![32768, 32]⟩
abbrev S32x32768 : Shape := ⟨2, ![32, 32768]⟩
abbrev S32768x128 : Shape := ⟨2, ![32768, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4x8192x1, .i32⟩
  | .hbm, ⟨16, _⟩ => ⟨S4x8192x1, .f32⟩
  | .hbm, ⟨17, _⟩ => ⟨S1x1x32, .f32⟩
  | .hbm, ⟨18, _⟩ => ⟨S4x8192x32, .f32⟩
  | .hbm, ⟨19, _⟩ => ⟨S4x8192x32, .f32⟩
  | .hbm, ⟨20, _⟩ => ⟨S4x8192x32, .f32⟩
  | .hbm, ⟨21, _⟩ => ⟨S4x8192x32, .f32⟩
  | .hbm, ⟨22, _⟩ => ⟨S32768x32, .f32⟩
  | .hbm, ⟨23, _⟩ => ⟨S4x8192x32, .f32⟩
  | .hbm, ⟨24, _⟩ => ⟨S32768x32, .f32⟩
  | .hbm, ⟨25, _⟩ => ⟨S32x32768, .f32⟩
  | .hbm, ⟨26, _⟩ => ⟨S32x32768, .f32⟩
  | .hbm, ⟨27, _⟩ => ⟨S32768x128, .f32⟩
  | .hbm, ⟨28, _⟩ => ⟨S32768x32, .f32⟩
  | .hbm, ⟨29, _⟩ => ⟨S32768x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Gla.lean ====
abbrev S4x8192x128 : Shape := ⟨3, ![4, 8192, 128]⟩
abbrev S4x8192x256 : Shape := ⟨3, ![4, 8192, 256]⟩
abbrev S1x256 : Shape := ⟨2, ![1, 256]⟩
abbrev S4x512x128 : Shape := ⟨3, ![4, 512, 128]⟩
abbrev S4x512x256 : Shape := ⟨3, ![4, 512, 256]⟩
abbrev S4x256x128 : Shape := ⟨3, ![4, 256, 128]⟩
abbrev S64x64 : Shape := ⟨2, ![64, 64]⟩
abbrev S256x128 : Shape := ⟨2, ![256, 128]⟩
abbrev S256x512 : Shape := ⟨2, ![256, 512]⟩
abbrev S256x256 : Shape := ⟨2, ![256, 256]⟩
abbrev S64x256 : Shape := ⟨2, ![64, 256]⟩
abbrev S64x128 : Shape := ⟨2, ![64, 128]⟩
abbrev S1x64x128 : Shape := ⟨3, ![1, 64, 128]⟩
abbrev S1x64x256 : Shape := ⟨3, ![1, 64, 256]⟩
abbrev S1x128 : Shape := ⟨2, ![1, 128]⟩
abbrev S1x256x128 : Shape := ⟨3, ![1, 256, 128]⟩
abbrev S64x512 : Shape := ⟨2, ![64, 512]⟩
abbrev S256x64 : Shape := ⟨2, ![256, 64]⟩

abbrev nBuf : Space → Nat
  | .hbm => 7
  | .vmem => 14
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x256, .f32⟩
  | .hbm, ⟨3, _⟩ => ⟨S4x8192x128, .f32⟩
  | .hbm, ⟨4, _⟩ => ⟨S4x8192x256, .bf16⟩
  | .hbm, ⟨5, _⟩ => ⟨S1x256, .f32⟩
  | .hbm, ⟨6, _⟩ => ⟨S4x8192x256, .bf16⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x512x256, .f32⟩
  | .local _ .vmem, ⟨5, _⟩ => ⟨S4x512x256, .f32⟩
  | .local _ .vmem, ⟨6, _⟩ => ⟨S4x512x128, .f32⟩
  | .local _ .vmem, ⟨7, _⟩ => ⟨S4x512x128, .f32⟩
  | .local _ .vmem, ⟨8, _⟩ => ⟨S4x512x256, .bf16⟩
  | .local _ .vmem, ⟨9, _⟩ => ⟨S4x512x256, .bf16⟩
  | .local _ .vmem, ⟨10, _⟩ => ⟨S1x256, .f32⟩
  | .local _ .vmem, ⟨11, _⟩ => ⟨S4x512x256, .bf16⟩
  | .local _ .vmem, ⟨12, _⟩ => ⟨S4x512x256, .bf16⟩
  | .local _ .vmem, ⟨13, _⟩ => ⟨S4x256x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_41 : BitVec 32 := 0#32
  let c8_i32 : BitVec 32 := 8#32
  let v161 : BitVec 32 := Scalar.addi c0_i32_41 c8_i32
  let c1_i32_42 : BitVec 32 := 1#32
  ⟨c0_i32_41, v161, c1_i32_42⟩
def k0_mult1 (k0_t1 : Fin k0_t1_loop.trips) : BitVec 32 :=
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  v162
def k0_off1 (k0_t1 : Fin k0_t1_loop.trips) : Fin 3 → Nat :=
  let c0 : Index := 0#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v164 : Index := Scalar.indexCast v163
  let c0_45 : Index := 0#32
  ![0, v164.toNat, 0]
def k0_off2 (k0_t1 : Fin k0_t1_loop.trips) : Fin 3 → Nat :=
  let c0_48 : Index := 0#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v170 : Index := Scalar.indexCast v163
  let c0_49 : Index := 0#32
  ![0, v170.toNat, 0]
def k0_off3 (k0_t1 : Fin k0_t1_loop.trips) : Fin 3 → Nat :=
  let c1 : Index := 1#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v188 : Index := Scalar.indexCast v163
  let c0_55 : Index := 0#32
  ![1, v188.toNat, 0]
def k0_off4 (k0_t1 : Fin k0_t1_loop.trips) : Fin 3 → Nat :=
  let c1_58 : Index := 1#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v194 : Index := Scalar.indexCast v163
  let c0_59 : Index := 0#32
  ![1, v194.toNat, 0]
def k0_off5 (k0_t1 : Fin k0_t1_loop.trips) : Fin 3 → Nat :=
  let c2 : Index := 2#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v212 : Index := Scalar.indexCast v163
  let c0_65 : Index := 0#32
  ![2, v212.toNat, 0]
def k0_off6 (k0_t1 : Fin k0_t1_loop.trips) : Fin 3 → Nat :=
  let c2_68 : Index := 2#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v218 : Index := Scalar.indexCast v163
  let c0_69 : Index := 0#32
  ![2, v218.toNat, 0]
def k0_off7 (k0_t1 : Fin k0_t1_loop.trips) : Fin 3 → Nat :=
  let c3 : Index := 3#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v236 : Index := Scalar.indexCast v163
  let c0_75 : Index := 0#32
  ![3, v236.toNat, 0]
def k0_off8 (k0_t1 : Fin k0_t1_loop.trips) : Fin 3 → Nat :=
  let c3_78 : Index := 3#32
  let c0_i32_41 : BitVec 32 := 0#32
  let c1_i32_42 : BitVec 32 := 1#32
  let arg9 : BitVec 32 := Scf.iv c0_i32_41 c1_i32_42 k0_t1
  let c64_i32_44 : BitVec 32 := 64#32
  let v162 : BitVec 32 := Scalar.muli arg9 c64_i32_44
  let v163 : BitVec 32 := v162
  let v242 : Index := Scalar.indexCast v163
  let c0_79 : Index := 0#32
  ![3, v242.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefGlaIdeal.lean ====
abbrev S4x8192x128 : Shape := ⟨3, ![4, 8192, 128]⟩
abbrev S4x8192x256 : Shape := ⟨3, ![4, 8192, 256]⟩
abbrev S1x256 : Shape := ⟨2, ![1, 256]⟩
abbrev S4x8192x4x32 : Shape := ⟨4, ![4, 8192, 4, 32]⟩
abbrev S4x8192x4x64 : Shape := ⟨4, ![4, 8192, 4, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x4x32x8192 : Shape := ⟨4, ![4, 4, 32, 8192]⟩
abbrev S4x8192x1x4x32 : Shape := ⟨5, ![4, 8192, 1, 4, 32]⟩
abbrev S4x1x8192x4x32 : Shape := ⟨5, ![4, 1, 8192, 4, 32]⟩
abbrev S4x8192x8192x4x32 : Shape := ⟨5, ![4, 8192, 8192, 4, 32]⟩
abbrev S1x8192x8192x1x1 : Shape := ⟨5, ![1, 8192, 8192, 1, 1]⟩
abbrev S_ : Shape := ⟨0, ![]⟩
abbrev S4x8192x8192x4 : Shape := ⟨4, ![4, 8192, 8192, 4]⟩
abbrev S4x4x64x8192 : Shape := ⟨4, ![4, 4, 64, 8192]⟩
abbrev S4x8192x4 : Shape := ⟨3, ![4, 8192, 4]⟩
abbrev S4x8192x4x1 : Shape := ⟨4, ![4, 8192, 4, 1]⟩
abbrev S4x64 : Shape := ⟨2, ![4, 64]⟩
abbrev S1x1x4x64 : Shape := ⟨4, ![1, 1, 4, 64]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x256, .f32⟩
  | .hbm, ⟨3, _⟩ => ⟨S4x8192x128, .f32⟩
  | .hbm, ⟨4, _⟩ => ⟨S4x8192x256, .bf16⟩
  | .hbm, ⟨5, _⟩ => ⟨S1x256, .f32⟩
  | .hbm, ⟨6, _⟩ => ⟨S4x8192x4x32, .f32⟩
  | .hbm, ⟨7, _⟩ => ⟨S4x8192x4x32, .f32⟩
  | .hbm, ⟨8, _⟩ => ⟨S4x8192x4x32, .f32⟩
  | .hbm, ⟨9, _⟩ => ⟨S4x8192x4x64, .f32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8192x8192, .f32⟩
  | .hbm, ⟨18, _⟩ => ⟨S4x4x32x8192, .f32⟩
  | .hbm, ⟨19, _⟩ => ⟨S4x8192x4x32, .f32⟩
  | .hbm, ⟨20, _⟩ => ⟨S4x8192x1x4x32, .f32⟩
  | .hbm, ⟨21, _⟩ => ⟨S4x1x8192x4x32, .f32⟩
  | .hbm, ⟨22, _⟩ => ⟨S4x8192x8192x4x32, .f32⟩
  | .hbm, ⟨23, _⟩ => ⟨S4x8192x8192x4x32, .f32⟩
  | .hbm, ⟨24, _⟩ => ⟨S4x8192x8192x4x32, .f32⟩
  | .hbm, ⟨25, _⟩ => ⟨S1x8192x8192x1x1, .i1⟩
  | .hbm, ⟨26, _⟩ => ⟨S_, .f32⟩
  | .hbm, ⟨27, _⟩ => ⟨S_, .f32⟩
  | .hbm, ⟨28, _⟩ => ⟨S4x8192x8192x4x32, .i1⟩
  | .hbm, ⟨29, _⟩ => ⟨S4x8192x8192x4x32, .f32⟩
  | .hbm, ⟨30, _⟩ => ⟨S4x8192x8192x4x32, .f32⟩
  | .hbm, ⟨31, _⟩ => ⟨S4x8192x8192x4x32, .f32⟩
  | .hbm, ⟨32, _⟩ => ⟨S4x8192x1x4x32, .f32⟩
  | .hbm, ⟨33, _⟩ => ⟨S4x1x8192x4x32, .f32⟩
  | .hbm, ⟨34, _⟩ => ⟨S4x8192x8192x4x32, .f32⟩
  | .hbm, ⟨35, _⟩ => ⟨S4x8192x8192x4x32, .f32⟩
  | .hbm, ⟨36, _⟩ => ⟨S4x8192x8192x4x32, .f32⟩
  | .hbm, ⟨37, _⟩ => ⟨S4x8192x8192x4x32, .f32⟩
  | .hbm, ⟨38, _⟩ => ⟨S_, .f32⟩
  | .hbm, ⟨39, _⟩ => ⟨S4x8192x8192x4, .f32⟩
  | .hbm, ⟨40, _⟩ => ⟨S4x4x64x8192, .f32⟩
  | .hbm, ⟨41, _⟩ => ⟨S4x8192x4x64, .f32⟩
  | .hbm, ⟨42, _⟩ => ⟨S4x8192x4x64, .f32⟩
  | .hbm, ⟨43, _⟩ => ⟨S_, .f32⟩
  | .hbm, ⟨44, _⟩ => ⟨S4x8192x4, .f32⟩
  | .hbm, ⟨45, _⟩ => ⟨S4x8192x4x1, .f32⟩
  | .hbm, ⟨46, _⟩ => ⟨S_, .f32⟩
  | .hbm, ⟨47, _⟩ => ⟨S4x8192x4x1, .f32⟩
  | .hbm, ⟨48, _⟩ => ⟨S4x8192x4x1, .f32⟩
  | .hbm, ⟨49, _⟩ => ⟨S_, .f32⟩
  | .hbm, ⟨50, _⟩ => ⟨S4x8192x4x1, .f32⟩
  | .hbm, ⟨51, _⟩ => ⟨S4x8192x4x1, .f32⟩
  | .hbm, ⟨52, _⟩ => ⟨S4x8192x4x1, .f32⟩
  | .hbm, ⟨53, _⟩ => ⟨S4x8192x4x64, .f32⟩
  | .hbm, ⟨54, _⟩ => ⟨S4x8192x4x64, .f32⟩
  | .hbm, ⟨55, _⟩ => ⟨S4x64, .f32⟩
  | .hbm, ⟨56, _⟩ => ⟨S1x1x4x64, .f32⟩
  | .hbm, ⟨57, _⟩ => ⟨S4x8192x4x64, .f32⟩
  | .hbm, ⟨58, _⟩ => ⟨S4x8192x4x64, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S4x8192x256, .bf16⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.OutRun.lean ====
module

public import proofs.«01_k».proof.Defs
public import proofs.«01_k».proof.Proof.Gen.OutIdeal.Value
public import Idealize.ShloMosaic.Lib.Pointwise
public import Idealize.ShloMosaic.Lib.Pipeline.ReadBack

@[expose] public section

noncomputable section

namespace Cert.OutIdeal.Whole

open Cert.OutIdeal Cert.OutIdeal.Gen Idealize.ShloMosaic Idealize.ShloMosaic.TcCoe Idealize.SL.Sem
open Idealize.ShloMosaic.Pipeline (Dat)

/-- The block before it is normalised, at row `r` and column `q`: the scaled residual and the three products. -/
def zed (x0 : FVec Ideal S512x512 .bf16) (x1 : FVec Ideal S512x256 .bf16) (x2 : FVec Ideal S512x256 .bf16) (x3 : FVec Ideal S512x1024 .f32)
    (x4 : FVec Ideal S1024x1024 .bf16) (r : Fin 512) (q : Fin 1024) : EReal :=
  Ideal.ofBits .f32 0x3FD744FD#32 * x3 (ix2 r q)
    + ((∑ k : Fin 512, x0 (ix2 r k) * x4 (ix2 ⟨k.val, by omega⟩ q) + ∑ k : Fin 256, x1 (ix2 r k) * x4 (ix2 ⟨512 + k.val, by omega⟩ q))
      + ∑ k : Fin 256, x2 (ix2 r k) * x4 (ix2 ⟨768 + k.val, by omega⟩ q))

/-- A sum over a row, taken as the sums over its two halves. -/
def halves (f : Fin 1024 → EReal) : EReal :=
  (∑ k : Fin 512, f ⟨k.val, by omega⟩) + ∑ k : Fin 512, f ⟨512 + k.val, by omega⟩

/-- The mean of a row, as the kernel takes it: the sum times one 1024th. -/
def mean (f : Fin 1024 → EReal) : EReal := halves f * Ideal.ofBits .f32 0x3A800000#32

/-- A row, normalised by its mean and variance, scaled and shifted. -/
def norm (f : Fin 1024 → EReal) (g b : Fin 1024 → EReal) (q : Fin 1024) : EReal :=
  (f q - mean f) * Ideal.rsqrt (mean (fun k => (f k - mean f) * (f k - mean f)) + Ideal.ofBits .f32 0x3727C5AC#32) * g q + b q

/-- What the kernel's body leaves in its output block. -/
def G (x0 : FVec Ideal S512x512 .bf16) (x1 : FVec Ideal S512x256 .bf16) (x2 : FVec Ideal S512x256 .bf16) (x3 : FVec Ideal S512x1024 .f32)
    (x4 : FVec Ideal S1024x1024 .bf16) (x5 x6 : FVec Ideal S1x1024 .f32) : FVec Ideal S512x1024 .f32 :=
  fun y => norm (zed x0 x1 x2 x3 x4 (y 0)) (fun q => x5 (ix2 0 q)) (fun q => x6 (ix2 0 q)) (y 1)

variable (x0 : FVec Ideal S512x512 .bf16) (x1 : FVec Ideal S512x256 .bf16) (x2 : FVec Ideal S512x256 .bf16) (x3 : FVec Ideal S512x1024 .f32)
  (x4 : FVec Ideal S1024x1024 .bf16) (x5 x6 : FVec Ideal S1x1024 .f32)

/-- The left half of the block before it is normalised, as the body stores it. -/
def zl : FVec Ideal S512x512 .f32 :=
  k0_pay4 (View.ld (Val := Elt Ideal) (e' := .bf16) x0 (Rect.unit ![0, 0] ![512, 512] inb_S512x512_S512x512_0_0))
    (View.ld (Val := Elt Ideal) (e' := .bf16) x4 (Rect.unit ![0, 0] ![512, 512] inb_S1024x1024_S512x512_0_0))
    (View.ld (Val := Elt Ideal) (e' := .bf16) x1 (Rect.unit ![0, 0] ![512, 256] inb_S512x256_S512x256_0_0))
    (View.ld (Val := Elt Ideal) (e' := .bf16) x4 (Rect.unit ![512, 0] ![256, 512] inb_S1024x1024_S256x512_512_0))
    (View.ld (Val := Elt Ideal) (e' := .bf16) x2 (Rect.unit ![0, 0] ![512, 256] inb_S512x256_S512x256_0_0))
    (View.ld (Val := Elt Ideal) (e' := .bf16) x4 (Rect.unit ![768, 0] ![256, 512] inb_S1024x1024_S256x512_768_0))
    (View.ld (Val := Elt Ideal) (e' := .f32) x3 (Rect.unit ![0, 0] ![512, 512] inb_S512x1024_S512x512_0_0))

/-- Its right half. -/
def zr : FVec Ideal S512x512 .f32 :=
  k0_pay7 (k0_pay6 (View.ld (Val := Elt Ideal) (e' := .bf16) x0 (Rect.unit ![0, 0] ![512, 512] inb_S512x512_S512x512_0_0))
      (View.ld (Val := Elt Ideal) (e' := .bf16) x4 (Rect.unit ![0, 512] ![512, 512] inb_S1024x1024_S512x512_0_512)))
    (View.ld (Val := Elt Ideal) (e' := .bf16) x1 (Rect.unit ![0, 0] ![512, 256] inb_S512x256_S512x256_0_0))
    (View.ld (Val := Elt Ideal) (e' := .bf16) x4 (Rect.unit ![512, 512] ![256, 512] inb_S1024x1024_S256x512_512_512))
    (View.ld (Val := Elt Ideal) (e' := .bf16) x2 (Rect.unit ![0, 0] ![512, 256] inb_S512x256_S512x256_0_0))
    (View.ld (Val := Elt Ideal) (e' := .bf16) x4 (Rect.unit ![768, 512] ![256, 512] inb_S1024x1024_S256x512_768_512))
    (View.ld (Val := Elt Ideal) (e' := .f32) x3 (Rect.unit ![0, 512] ![512, 512] inb_S512x1024_S512x512_0_512))

theorem zl_apply (r q : Fin 512) : zl x0 x1 x2 x3 x4 (ix2 r q) = zed x0 x1 x2 x3 x4 r ⟨q.val, by omega⟩ := by
  pointwise [zl, zed, k0_pay4]

theorem zr_apply (r q : Fin 512) : zr x0 x1 x2 x3 x4 (ix2 r q) = zed x0 x1 x2 x3 x4 r ⟨512 + q.val, by omega⟩ := by
  pointwise [zr, zed, k0_pay7, k0_pay6]

theorem cov_l (v : View sig .tc .vmem S512x1024 .f32) (w wl : FVec Ideal S512x512 .f32) :
    v.readCov (Val := Elt Ideal) [⟨(Rect.unit ![0, 512] ![512, 512] inb_S512x1024_S512x512_0_512), w⟩, ⟨(Rect.unit ![0, 0] ![512, 512] inb_S512x1024_S512x512_0_0), wl⟩] (Rect.unit ![0, 0] ![512, 512] inb_S512x1024_S512x512_0_0).toLoadRect = wl := by
  rw [View.readCov_skip _ _ _ _ _ (by decide)]
  exact View.readCov_cons_toLoadRect v _ _ _

theorem cov_r (v : View sig .tc .vmem S512x1024 .f32) (w wr wl : FVec Ideal S512x512 .f32) :
    v.readCov (Val := Elt Ideal) [⟨(Rect.unit ![0, 0] ![512, 512] inb_S512x1024_S512x512_0_0), w⟩, ⟨(Rect.unit ![0, 512] ![512, 512] inb_S512x1024_S512x512_0_512), wr⟩, ⟨(Rect.unit ![0, 0] ![512, 512] inb_S512x1024_S512x512_0_0), wl⟩] (Rect.unit ![0, 512] ![512, 512] inb_S512x1024_S512x512_0_512).toLoadRect = wr := by
  rw [View.readCov_skip _ _ _ _ _ (by decide)]
  exact View.readCov_cons_toLoadRect v _ _ _

theorem out_eq (c : Dev nD) (t : grid0.Coords) (a1 : Memref sig .tc .vmem S512x512 .bf16) (h1 : a1.IsWhole) (a2 : Memref sig .tc .vmem S512x256 .bf16) (h2 : a2.IsWhole) (a3 : Memref sig .tc .vmem S512x256 .bf16) (h3 : a3.IsWhole) (a4 : Memref sig .tc .vmem S512x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole)
    (x0 : Vec Ideal S512x512 .bf16) (x1 : Vec Ideal S512x256 .bf16) (x2 : Vec Ideal S512x256 .bf16) (x3 : Vec Ideal S512x1024 .f32) (x4 : Vec Ideal S1024x1024 .bf16) (x5 : Vec Ideal S1x1024 .f32) (x6 : Vec Ideal S1x1024 .f32) :
    out0_A_7 c t a1 h1 a2 h2 a3 h3 a4 h4 a5 h5 a6 h6 a7 h7 a8 h8 x0 x1 x2 x3 x4 x5 x6 = G x0 x1 x2 x3 x4 x5 x6 := by
  unfold out0_A_7
  rw [View.read_writes_junk_eq_canon]
  unfold kernelRun0_A
  dsimp only
  sl_unfold_words
  simp only [View.readAt_eq_ld, h1.read_unread, h2.read_unread, h3.read_unread, h4.read_unread, h5.read_unread, h6.read_unread, h7.read_unread]
  simp only [↓cov_l, ↓cov_r, ↓View.readCov_cons_toLoadRect]
  funext y
  obtain ⟨r, q, rfl⟩ : ∃ (r : Fin 512) (q : Fin 1024), y = ix2 r q := ⟨y 0, y 1, eq_ix2 y⟩
  show _ = norm (zed x0 x1 x2 x3 x4 r) (fun q => x5 (ix2 0 q)) (fun q => x6 (ix2 0 q)) q
  have hzl := zl_apply x0 x1 x2 x3 x4 r
  have hzr := zr_apply x0 x1 x2 x3 x4 r
  unfold zl at hzl
  unfold zr at hzr
  by_cases hy : q.val < 512
  · have hn : ix2 r q ∉ ((Rect.unit ![0, 512] ![512, 512] inb_S512x1024_S512x512_0_512) : Rect S512x1024).set := fun h => by
      have h1 := (Rect.mem_set_unit.1 h) (1 : Fin 2)
      have h2 : 512 ≤ q.val := h1.1
      omega
    rw [View.canon_cons_of_not_mem _ _ ?_]
    swap
    · exact hn
    have he : (ix2 r q : S512x1024.Idx) = ((Rect.unit ![0, 0] ![512, 512] inb_S512x1024_S512x512_0_0) : Rect S512x1024).emb (ix2 r ⟨q.val, hy⟩) := by
      funext a
      apply Fin.ext
      match a with
      | ⟨0, _⟩ => show r.val = 0 + 1 * r.val; omega
      | ⟨1, _⟩ => show q.val = 0 + 1 * q.val; omega
    conv_lhs => rw [he]
    rw [View.canon_cons_emb]
    pointwise [k0_pay2, k0_pay8, k0_pay9, k0_pay5, k0_pay10, k0_pay1]
    simp only [norm, mean, halves, hzl, hzr]
  · have he : (ix2 r q : S512x1024.Idx) = ((Rect.unit ![0, 512] ![512, 512] inb_S512x1024_S512x512_0_512) : Rect S512x1024).emb (ix2 r ⟨q.val - 512, by omega⟩) := by
      funext a
      apply Fin.ext
      match a with
      | ⟨0, _⟩ => show r.val = 0 + 1 * r.val; omega
      | ⟨1, _⟩ => show q.val = 512 + 1 * (q.val - 512); omega
    conv_lhs => rw [he]
    rw [View.canon_cons_emb]
    pointwise [k0_pay3, k0_pay8, k0_pay9, k0_pay5, k0_pay10, k0_pay1]
    have hq : (⟨512 + (q.val - 512), by omega⟩ : Fin 1024) = q := Fin.ext (by show 512 + (q.val - 512) = q.val; omega)
    simp only [norm, mean, halves, hzl, hzr, hq]

end Cert.OutIdeal.Whole

end
-- ==== Proof.OutFinal.lean ====
module

public import proofs.«01_k».proof.Proof.OutRun
public import proofs.«01_k».proof.Proof.Gen.RefOutIdeal.Read
public import Idealize.ShloMosaic.Lib.StableHlo.ReadAt

@[expose] public section

noncomputable section

namespace Cert.OutIdeal.Whole

open Cert.OutIdeal Cert.OutIdeal.Gen Cert.OutIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Row `r` of block `t`, as a row of the whole array. -/
def row (t : Fin cfg0.N) (r : Fin 512) : Fin 32768 := ⟨512 * t.val + r.val, by
  have h : t.val < 64 := t.isLt
  omega⟩

theorem emb0 (t : Fin cfg0.N) (r : Fin 512) (k : Fin 512) : ((cfg0.win 0).blk t).view.emb (ix2 r k) = ix2 (row t r) k := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 512 + 1 * k.val = k.val; omega
theorem emb1 (t : Fin cfg0.N) (r : Fin 512) (k : Fin 256) : ((cfg0.win 1).blk t).view.emb (ix2 r k) = ix2 (row t r) k := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 256 + 1 * k.val = k.val; omega
theorem emb2 (t : Fin cfg0.N) (r : Fin 512) (k : Fin 256) : ((cfg0.win 2).blk t).view.emb (ix2 r k) = ix2 (row t r) k := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 256 + 1 * k.val = k.val; omega
theorem emb3 (t : Fin cfg0.N) (r : Fin 512) (k : Fin 1024) : ((cfg0.win 3).blk t).view.emb (ix2 r k) = ix2 (row t r) k := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * k.val = k.val; omega
theorem emb4 (t : Fin cfg0.N) (j : S1024x1024.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega
theorem emb5 (t : Fin cfg0.N) (j : S1x1024.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega
theorem emb6 (t : Fin cfg0.N) (j : S1x1024.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega
theorem emb7 (t : Fin cfg0.N) (r : Fin 512) (k : Fin 1024) : ((cfg0.win 7).blk t).view.emb (ix2 r k) = ix2 (row t r) k := by
  obtain ⟨e0, e1⟩ := idx7 t
  funext a; apply Fin.ext
  match a with
  | ⟨0, _⟩ => show win0_7.index t (0 : Fin 2) * 512 + 1 * r.val = 512 * t.val + r.val; omega
  | ⟨1, _⟩ => show win0_7.index t (1 : Fin 2) * 1024 + 1 * k.val = k.val; omega

/-- The weights as the launch finds them: the argument, its cast being the identity. -/
theorem V_w (c : Dev nD) : V m c main_v0 = (m ((c : Thread nD τ).loc main_arg4) : Vec Ideal S1024x1024 .f32) := by
  unfold V
  funext j
  after_reads_at
theorem V_g (c : Dev nD) (q : Fin 1024) : V m c main_v1 (ix2 0 q) = m ((c : Thread nD τ).loc main_arg5) (ix1 q) := by
  unfold V
  after_reads_at
theorem V_b (c : Dev nD) (q : Fin 1024) : V m c main_v2 (ix2 0 q) = m ((c : Thread nD τ).loc main_arg6) (ix1 q) := by
  unfold V
  after_reads_at

/-- A row before it is normalised, of the argument arrays. -/
def zrow (a0 : Vec Ideal S32768x512 .bf16) (a1 a2 : Vec Ideal S32768x256 .bf16) (a3 : Vec Ideal S32768x1024 .f32) (a4 : Vec Ideal S1024x1024 .f32)
    (p : Fin 32768) (q : Fin 1024) : EReal :=
  Ideal.ofBits .f32 0x3FD744FD#32 * a3 (ix2 p q)
    + ((∑ k : Fin 512, a0 (ix2 p k) * a4 (ix2 ⟨k.val, by omega⟩ q) + ∑ k : Fin 256, a1 (ix2 p k) * a4 (ix2 ⟨512 + k.val, by omega⟩ q))
      + ∑ k : Fin 256, a2 (ix2 p k) * a4 (ix2 ⟨768 + k.val, by omega⟩ q))

/-- The result array as a function of the argument arrays. -/
def res (a0 : Vec Ideal S32768x512 .bf16) (a1 a2 : Vec Ideal S32768x256 .bf16) (a3 : Vec Ideal S32768x1024 .f32) (a4 : Vec Ideal S1024x1024 .f32)
    (a5 a6 : Vec Ideal S1024 .f32) : Vec Ideal S32768x1024 .f32 :=
  fun y => norm (zrow a0 a1 a2 a3 a4 (y (0 : Fin 2))) (fun q => a5 (ix1 q)) (fun q => a6 (ix1 q)) (y (1 : Fin 2))

/-- The result on the memory the run starts from. -/
abbrev resM (c : Dev nD) : Vec Ideal S32768x1024 .f32 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem iblk0 (c : Dev nD) (t : Fin cfg0.N) (r : Fin 512) (k : Fin 512) : iblk m c 0 t (ix2 r k) = m ((c : Thread nD τ).loc main_arg0) (ix2 (row t r) k) := by
  show V m c main_arg0 (((cfg0.win 0).blk t).view.emb (ix2 r k)) = _
  rw [emb0, V_main_arg0]
theorem iblk1 (c : Dev nD) (t : Fin cfg0.N) (r : Fin 512) (k : Fin 256) : iblk m c 1 t (ix2 r k) = m ((c : Thread nD τ).loc main_arg1) (ix2 (row t r) k) := by
  show V m c main_arg1 (((cfg0.win 1).blk t).view.emb (ix2 r k)) = _
  rw [emb1, V_main_arg1]
theorem iblk2 (c : Dev nD) (t : Fin cfg0.N) (r : Fin 512) (k : Fin 256) : iblk m c 2 t (ix2 r k) = m ((c : Thread nD τ).loc main_arg2) (ix2 (row t r) k) := by
  show V m c main_arg2 (((cfg0.win 2).blk t).view.emb (ix2 r k)) = _
  rw [emb2, V_main_arg2]
theorem iblk3 (c : Dev nD) (t : Fin cfg0.N) (r : Fin 512) (k : Fin 1024) : iblk m c 3 t (ix2 r k) = m ((c : Thread nD τ).loc main_arg3) (ix2 (row t r) k) := by
  show V m c main_arg3 (((cfg0.win 3).blk t).view.emb (ix2 r k)) = _
  rw [emb3, V_main_arg3]
theorem iblk4 (c : Dev nD) (t : Fin cfg0.N) (j : S1024x1024.Idx) : iblk m c 4 t j = m ((c : Thread nD τ).loc main_arg4) j := by
  show V m c main_v0 (((cfg0.win 4).blk t).view.emb j) = _
  rw [emb4, V_w]
theorem iblk5 (c : Dev nD) (t : Fin cfg0.N) (q : Fin 1024) : iblk m c 5 t (ix2 0 q) = m ((c : Thread nD τ).loc main_arg5) (ix1 q) := by
  show V m c main_v1 (((cfg0.win 5).blk t).view.emb (ix2 0 q)) = _
  rw [emb5, V_g]
theorem iblk6 (c : Dev nD) (t : Fin cfg0.N) (q : Fin 1024) : iblk m c 6 t (ix2 0 q) = m ((c : Thread nD τ).loc main_arg6) (ix1 q) := by
  show V m c main_v2 (((cfg0.win 6).blk t).view.emb (ix2 0 q)) = _
  rw [emb6, V_b]

/-- What a grid point writes back is its block of the result. -/
theorem flushed_eq (c : Dev nD) (t : Fin cfg0.N) :
    (dats m 0 c).flushed 7 t = ((cfg0.win 7).blk t).view.read (Elt Ideal) (resM m c) := by
  rw [flushed7_A, out_eq]
  funext j
  obtain ⟨r, q, rfl⟩ : ∃ (r : Fin 512) (q : Fin 1024), j = ix2 r q := ⟨j 0, j 1, eq_ix2 j⟩
  show G _ _ _ _ _ _ _ (ix2 r q) = resM m c (((cfg0.win 7).blk t).view.emb (ix2 r q))
  rw [emb7]
  show norm (zed _ _ _ _ _ r) _ _ q = norm (zrow _ _ _ _ _ (row t r)) _ _ q
  have hz : zed (iblk m c 0 t) (iblk m c 1 t) (iblk m c 2 t) (iblk m c 3 t) (iblk m c 4 t) r
      = zrow (m ((c : Thread nD τ).loc main_arg0)) (m ((c : Thread nD τ).loc main_arg1)) (m ((c : Thread nD τ).loc main_arg2))
        (m ((c : Thread nD τ).loc main_arg3)) (m ((c : Thread nD τ).loc main_arg4)) (row t r) := by
    funext k
    simp only [zed, zrow, iblk0, iblk1, iblk2, iblk3, iblk4]
  rw [hz, funext (iblk5 m c t), funext (iblk6 m c t)]

theorem covered (i : S32768x1024.Idx) : ∃ t : Fin cfg0.N, (cfg0.win 7).flush t = true ∧ i ∈ ((cfg0.win 7).blk t).view.set := by
  obtain ⟨p, q, rfl⟩ : ∃ (p : Fin 32768) (q : Fin 1024), i = ix2 p q := ⟨i 0, i 1, eq_ix2 i⟩
  have ht : p.val / 512 < cfg0.N := by show _ < 64; omega
  refine ⟨⟨p.val / 512, ht⟩, flush0_7 _, ?_⟩
  have h := ((cfg0.win 7).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb7 ⟨p.val / 512, ht⟩ ⟨p.val % 512, by omega⟩ q
  rw [e] at h2
  exact h2 ▸ h

theorem final (c : Dev nD) : (dats m 0 c).arrAt 7 cfg0.N = resM m c :=
  (dats m 0 c).arrAt_eq_of_cover 7 (resM m c) (fun t _ => flushed_eq m c t) covered

end Cert.OutIdeal.Whole

namespace Cert.RefOutIdeal.Whole

open Cert.RefOutIdeal Cert.RefOutIdeal.Gen Cert.RefOutIdeal.Read Idealize.ShloMosaic Idealize.ShloMosaic.TcCoe Idealize.SL.Sem
open Cert.OutIdeal.Whole (zrow norm mean halves res)

variable (a0 : Vec Ideal S32768x512 .bf16) (a1 a2 : Vec Ideal S32768x256 .bf16) (a3 : Vec Ideal S32768x1024 .f32) (a4 : Vec Ideal S1024x1024 .f32)
    (a5 a6 : Vec Ideal S1024 .f32)

/-- A sum over 1024 places, cut at 512 and 768. -/
theorem sum_cut (f : Fin 1024 → EReal) :
    ∑ x, f x = ((∑ k : Fin 512, f ⟨k.val, by omega⟩) + ∑ k : Fin 256, f ⟨512 + k.val, by omega⟩) + ∑ k : Fin 256, f ⟨768 + k.val, by omega⟩ := by
  show ∑ x : Fin (512 + 256 + 256), f x = _
  rw [Fin.sum_univ_add, Fin.sum_univ_add]
  rfl

theorem z_apply (p : Fin 32768) (q : Fin 1024) : val_main_v7 (F := Ideal) a0 a1 a2 a3 a4 (ix2 p q) = zrow a0 a1 a2 a3 a4 p q := by
  pointwise [val_main_v7, val_main_v6, val_main_v5, val_main_cst, val_main_v4, val_main_v3, val_main_v0, val_main_v1, val_main_v2, zrow]
  rw [sum_cut]
  congr 1

/-- The mean as the reference takes it is the mean as the kernel takes it. -/
theorem mean_eq (f : Fin 1024 → EReal) : Ideal.div (∑ k, f k) (Ideal.ofBits .f32 0x44800000#32) = mean f := by
  have h1 : Ideal.ofBits .f32 0x44800000#32 = ((1024 : ℝ) : EReal) := by simp [Ideal.ofBits, Ideal.ieee, -EReal.coe_mul]; norm_num
  have h2 : Ideal.ofBits .f32 0x3A800000#32 = ((1 / 1024 : ℝ) : EReal) := by simp [Ideal.ofBits, Ideal.ieee, -EReal.coe_mul]; norm_num
  have h3 : ∑ k, f k = halves f := by
    show ∑ k : Fin (512 + 512), f k = _
    rw [Fin.sum_univ_add]
    rfl
  rw [h1, Ideal.div_coe (by norm_num), h3, mean, h2]

theorem mean_apply (p : Fin 32768) : val_main_v11 (F := Ideal) a0 a1 a2 a3 a4 (ix2 p 0) = mean (zrow a0 a1 a2 a3 a4 p) := by
  pointwise [val_main_v11, val_main_v10, val_main_cst_1, val_main_v9, val_main_v8, val_main_cst_0]
  simp only [z_apply]
  exact mean_eq _

theorem res_apply (p : Fin 32768) (q : Fin 1024) :
    val_main_v31 (F := Ideal) a0 a1 a2 a3 a4 a5 a6 (ix2 p q) = res a0 a1 a2 a3 a4 a5 a6 (ix2 p q) := by
  show _ = norm (zrow a0 a1 a2 a3 a4 p) (fun q => a5 (ix1 q)) (fun q => a6 (ix1 q)) q
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_cst_2, val_main_cst_3, val_main_cst_4]
  simp only [z_apply, mean_apply, mean_eq]
  rfl

theorem res_eq : val_main_v31 (F := Ideal) a0 a1 a2 a3 a4 a5 a6 = res a0 a1 a2 a3 a4 a5 a6 := by
  funext i
  obtain ⟨p, q, rfl⟩ : ∃ (p : Fin 32768) (q : Fin 1024), i = ix2 p q := ⟨i 0, i 1, eq_ix2 i⟩
  exact res_apply a0 a1 a2 a3 a4 a5 a6 p q

end Cert.RefOutIdeal.Whole

namespace Cert.OutIdeal.Whole

open Idealize.ShloMosaic Idealize.ShloMosaic.TcCoe Idealize.SL.Sem

/-- The output projection's kernel and its reference compute the same function. -/
theorem algebraic : Cert.algebraic_OutIdeal_RefOutIdeal := by
  intro m g m' g' _ he
  refine ⟨fun c => resM m c, ?_, ?_⟩
  · exact (θ_run _ _ _).mono (fun r h c => ⟨(h c).1.trans (final m c), (h c).2⟩) (Cert.OutIdeal.Value.run_blocks m g)
  · refine (θ_run _ _ _).mono (fun r h c => ⟨((h c).1.trans (Cert.RefOutIdeal.Read.val_main_v31_eq m' c)).trans ?_, (h c).2⟩) (Cert.RefOutIdeal.Value.run m' g')
    obtain ⟨e0, e1, e2, e3, e4, e5, e6⟩ := he c
    rw [e0, e1, e2, e3, e4, e5, e6]
    exact Cert.RefOutIdeal.Whole.res_eq _ _ _ _ _ _ _

end Cert.OutIdeal.Whole

end
-- ==== Proof.InIdealFrame.lean ====
/- The launch of the input projection, its body's triple at every grid point, and its frame. -/
module

public import proofs.«01_k».proof.Proof.Gen.InIdeal.Launch
public import proofs.«01_k».proof.Proof.Gen.InIdeal.Skeleton
public import proofs.«01_k».proof.Proof.Gen.InIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 8000000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument: the region finds it as launched. -/
theorem V_main_arg (c : Dev nD) (b : Ref sig .tc) (hb : b ∈ [main_arg0, main_arg1, main_arg2, main_arg3, main_arg4, main_arg5]) : V m c b = m ((c : Thread nD τ).loc b) := by
  simp only [List.mem_cons, List.not_mem_nil, or_false] at hb
  refine StableHlo.after_of_forall_not_mem (b := Proc.devRef .tc b) _ _ (List.forall_iff_forall_mem.mp ?_)
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  rcases hb with rfl | rfl | rfl | rfl | rfl | rfl <;> (repeat' apply And.intro) <;> exact StableHlo.devRef_ne_of_ne (by decide)
theorem V_main_arg0 (c : Dev nD) : V m c main_arg0 = m ((c : Thread nD τ).loc main_arg0) := V_main_arg m c _ (by decide)
theorem V_main_arg1 (c : Dev nD) : V m c main_arg1 = m ((c : Thread nD τ).loc main_arg1) := V_main_arg m c _ (by decide)
theorem V_main_arg2 (c : Dev nD) : V m c main_arg2 = m ((c : Thread nD τ).loc main_arg2) := V_main_arg m c _ (by decide)
theorem V_main_arg3 (c : Dev nD) : V m c main_arg3 = m ((c : Thread nD τ).loc main_arg3) := V_main_arg m c _ (by decide)
theorem V_main_arg4 (c : Dev nD) : V m c main_arg4 = m ((c : Thread nD τ).loc main_arg4) := V_main_arg m c _ (by decide)
theorem V_main_arg5 (c : Dev nD) : V m c main_arg5 = m ((c : Thread nD τ).loc main_arg5) := V_main_arg m c _ (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 8000000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

abbrev r0_0 : Rect S512x1024 := Rect.unit (s := S512x1024) ![0, 0] S512x1024.size inb_S512x1024_S512x1024_0_0
abbrev r0_1 : Rect S32x512 := Rect.unit (s := S32x512) ![0, 0] S32x512.size inb_S32x512_S32x512_0_0
abbrev r0_2 : Rect S1552x1024 := Rect.unit (s := S1552x1024) ![0, 0] S1552x1024.size inb_S1552x1024_S1552x1024_0_0
abbrev r0_3 : Rect S512x512 := Rect.unit (s := S512x512) ![0, 0] S32x512.size inb_S512x512_S32x512_0_0
abbrev r0_4 : Rect S512x512 := Rect.unit (s := S512x512) ![32, 0] S32x512.size inb_S512x512_S32x512_32_0
abbrev r0_5 : Rect S512x512 := Rect.unit (s := S512x512) ![64, 0] S32x512.size inb_S512x512_S32x512_64_0
abbrev r0_6 : Rect S512x512 := Rect.unit (s := S512x512) ![96, 0] S32x512.size inb_S512x512_S32x512_96_0
abbrev r0_7 : Rect S512x512 := Rect.unit (s := S512x512) ![128, 0] S32x512.size inb_S512x512_S32x512_128_0
abbrev r0_8 : Rect S512x512 := Rect.unit (s := S512x512) ![160, 0] S32x512.size inb_S512x512_S32x512_160_0
abbrev r0_9 : Rect S512x512 := Rect.unit (s := S512x512) ![192, 0] S32x512.size inb_S512x512_S32x512_192_0
abbrev r0_10 : Rect S512x512 := Rect.unit (s := S512x512) ![224, 0] S32x512.size inb_S512x512_S32x512_224_0
abbrev r0_11 : Rect S512x512 := Rect.unit (s := S512x512) ![256, 0] S32x512.size inb_S512x512_S32x512_256_0
abbrev r0_12 : Rect S512x512 := Rect.unit (s := S512x512) ![288, 0] S32x512.size inb_S512x512_S32x512_288_0
abbrev r0_13 : Rect S512x512 := Rect.unit (s := S512x512) ![320, 0] S32x512.size inb_S512x512_S32x512_320_0
abbrev r0_14 : Rect S512x512 := Rect.unit (s := S512x512) ![352, 0] S32x512.size inb_S512x512_S32x512_352_0
abbrev r0_15 : Rect S512x512 := Rect.unit (s := S512x512) ![384, 0] S32x512.size inb_S512x512_S32x512_384_0
abbrev r0_16 : Rect S512x512 := Rect.unit (s := S512x512) ![416, 0] S32x512.size inb_S512x512_S32x512_416_0
abbrev r0_17 : Rect S512x512 := Rect.unit (s := S512x512) ![448, 0] S32x512.size inb_S512x512_S32x512_448_0
abbrev r0_18 : Rect S512x512 := Rect.unit (s := S512x512) ![480, 0] S32x512.size inb_S512x512_S32x512_480_0
abbrev r0_19 : Rect S512x512 := Rect.unit (s := S512x512) ![0, 0] S512x512.size inb_S512x512_S512x512_0_0
abbrev r0_20 : Rect S8x512 := Rect.unit (s := S8x512) ![0, 0] S8x512.size inb_S8x512_S8x512_0_0
abbrev r0_21 : Rect S512x128 := Rect.unit (s := S512x128) ![0, 0] S512x128.size inb_S512x128_S512x128_0_0
abbrev r0_22 : Rect S1024x2816 := Rect.unit (s := S1024x2816) ![0, 0] S1024x128.size inb_S1024x2816_S1024x128_0_0
abbrev r0_23 : Rect S512x512 := Rect.unit (s := S512x512) ![0, 0] S512x128.size inb_S512x512_S512x128_0_0
abbrev r0_24 : Rect S1024x2816 := Rect.unit (s := S1024x2816) ![0, 128] S1024x128.size inb_S1024x2816_S1024x128_0_128
abbrev r0_25 : Rect S512x512 := Rect.unit (s := S512x512) ![0, 128] S512x128.size inb_S512x512_S512x128_0_128
abbrev r0_26 : Rect S1024x2816 := Rect.unit (s := S1024x2816) ![0, 256] S1024x128.size inb_S1024x2816_S1024x128_0_256
abbrev r0_27 : Rect S512x512 := Rect.unit (s := S512x512) ![0, 256] S512x128.size inb_S512x512_S512x128_0_256
abbrev r0_28 : Rect S1024x2816 := Rect.unit (s := S1024x2816) ![0, 384] S1024x128.size inb_S1024x2816_S1024x128_0_384
abbrev r0_29 : Rect S512x512 := Rect.unit (s := S512x512) ![0, 384] S512x128.size inb_S512x512_S512x128_0_384
abbrev r0_30 : Rect S1024x2816 := Rect.unit (s := S1024x2816) ![0, 512] S1024x128.size inb_S1024x2816_S1024x128_0_512
abbrev r0_31 : Rect S512x64 := Rect.unit (s := S512x64) ![0, 0] S512x64.size inb_S512x64_S512x64_0_0
abbrev r0_32 : Rect S1024x2816 := Rect.unit (s := S1024x2816) ![0, 640] S1024x512.size inb_S1024x2816_S1024x512_0_640
abbrev r0_33 : Rect S1024x2816 := Rect.unit (s := S1024x2816) ![0, 1152] S1024x256.size inb_S1024x2816_S1024x256_0_1152
abbrev r0_34 : Rect S1024x2816 := Rect.unit (s := S1024x2816) ![0, 1408] S1024x256.size inb_S1024x2816_S1024x256_0_1408
abbrev r0_35 : Rect S512x256 := Rect.unit (s := S512x256) ![0, 0] S512x256.size inb_S512x256_S512x256_0_0
abbrev r0_36 : Rect S1024x2816 := Rect.unit (s := S1024x2816) ![0, 1664] S1024x256.size inb_S1024x2816_S1024x256_0_1664
abbrev r0_37 : Rect S1024x2816 := Rect.unit (s := S1024x2816) ![0, 1920] S1024x128.size inb_S1024x2816_S1024x128_0_1920
abbrev r0_38 : Rect S1024x2816 := Rect.unit (s := S1024x2816) ![0, 2048] S1024x128.size inb_S1024x2816_S1024x128_0_2048
abbrev r0_39 : Rect S1024x2816 := Rect.unit (s := S1024x2816) ![0, 2176] S1024x256.size inb_S1024x2816_S1024x256_0_2176
abbrev r0_40 : Rect S1024x2816 := Rect.unit (s := S1024x2816) ![0, 2432] S1024x256.size inb_S1024x2816_S1024x256_0_2432
abbrev r0_41 : Rect S1024x2816 := Rect.unit (s := S1024x2816) ![0, 2688] S1024x128.size inb_S1024x2816_S1024x128_0_2688
abbrev r0_42 : Rect S128x128 := Rect.unit (s := S128x128) ![0, 0] S128x128.size inb_S128x128_S128x128_0_0
abbrev r0_43 : Rect S1x128 := Rect.unit (s := S1x128) ![0, 0] S1x128.size inb_S1x128_S1x128_0_0

/-! ## What the body leaves in each output window's buffer -/

/-! ### Values of the body that the stores' payloads, spelt out, would write more than once

    Each is a vector the body binds (often a part call's result), stated over the input windows' blocks and
    numbered on from the skeleton's payload functions (`k0_pay105` …, after `k0_pay104`), so that
    `out0_W` and the values after it name it instead of spelling it out (`unfold_out out0_W` opens a canon
    with them, `unfold_payloads` opens them with the payloads); the comment after each is the printed function's
    name for the value (a count appended where that name is bound again). -/

section Outputs

variable (x0 : Vec F S512x1024 .f32) (x1 : Vec F S1552x1024 .bf16) (x2 : Vec F S1024x2816 .bf16) (x3 x4 : Vec F S128x128 .bf16) (x5 : Vec F S1x128 .f32) (x6 x7 : Vec F S32x512 .f32) (x8 x9 : Vec F S512x128 .f32)

def k0_pay105 : FVec F S512x1024 .bf16 :=
  k0_pay2 (View.ld x0 r0_0) -- `v1`
def k0_pay106 : FVec F S32x512 .f32 :=
  k0_pay3 (View.ld x6 r0_1) -- `v3`
def k0_pay107 : FVec F S32x512 .f32 :=
  k0_pay4 (View.ld x7 r0_1) -- `v5`
def k0_pay108 : FVec F S1552x512 .f32 :=
  k0_pay5 (View.ld x0 r0_0) (View.ld x1 r0_2) -- `v8`
def k0_pay109 : FVec F S512x128 .f32 :=
  k0_pay78 (View.ld x8 r0_21) -- `v273`
def k0_pay110 : FVec F S512x128 .f32 :=
  k0_pay79 (View.ld x9 r0_21) -- `v275`
def k0_pay111 : IVec S512x128 1 :=
  k0_pay80 -- `v294`

/-- Window 10's buffer after the body, from the inputs' blocks: its pieces, last first. -/
def out0_10 : Vec F S512x512 .bf16 :=
  View.canon [⟨r0_18, k0_pay71 (k0_pay106 x6) (k0_pay107 x7) (k0_pay67 (k0_pay108 x0 x1)) (k0_pay68 (k0_pay108 x0 x1))⟩,
    ⟨r0_17, k0_pay70 (k0_pay69 (k0_pay106 x6) (k0_pay107 x7) (k0_pay108 x0 x1))⟩,
    ⟨r0_16, k0_pay62 (k0_pay106 x6) (k0_pay107 x7) (k0_pay108 x0 x1)⟩,
    ⟨r0_15, k0_pay61 (k0_pay106 x6) (k0_pay107 x7) (k0_pay108 x0 x1)⟩,
    ⟨r0_14, k0_pay53 (k0_pay106 x6) (k0_pay107 x7) (k0_pay108 x0 x1)⟩,
    ⟨r0_13, k0_pay52 (k0_pay106 x6) (k0_pay107 x7) (k0_pay108 x0 x1)⟩,
    ⟨r0_12, k0_pay44 (k0_pay106 x6) (k0_pay107 x7) (k0_pay108 x0 x1)⟩,
    ⟨r0_11, k0_pay43 (k0_pay106 x6) (k0_pay107 x7) (k0_pay108 x0 x1)⟩,
    ⟨r0_10, k0_pay36 (k0_pay35 (k0_pay106 x6) (k0_pay107 x7) (k0_pay108 x0 x1)) (Scalar.ofBits .f32 0x3E38AA3B#32)⟩,
    ⟨r0_9, k0_pay34 (k0_pay106 x6) (k0_pay107 x7) (k0_pay108 x0 x1)⟩,
    ⟨r0_8, k0_pay27 (k0_pay106 x6) (k0_pay107 x7) (k0_pay23 (k0_pay108 x0 x1)) (k0_pay24 (k0_pay108 x0 x1))⟩,
    ⟨r0_7, k0_pay26 (k0_pay25 (k0_pay106 x6) (k0_pay107 x7) (k0_pay108 x0 x1))⟩,
    ⟨r0_6, k0_pay18 (k0_pay106 x6) (k0_pay107 x7) (k0_pay108 x0 x1)⟩,
    ⟨r0_5, k0_pay17 (k0_pay106 x6) (k0_pay107 x7) (k0_pay108 x0 x1)⟩,
    ⟨r0_4, k0_pay9 (View.ld x0 r0_0) (View.ld x6 r0_1) (View.ld x7 r0_1) (View.ld x1 r0_2)⟩,
    ⟨r0_3, k0_pay8 (View.ld x0 r0_0) (View.ld x6 r0_1) (View.ld x7 r0_1) (View.ld x1 r0_2)⟩]

/-- Its stores tile the buffer (checked by evaluation), so they cover it; a window that stores through the same
    rectangles at the same type is covered by the same fact. -/
theorem cover0_10 (p0 p1 p2 p3 p4 p5 p6 p7 p8 p9 p10 p11 p12 p13 p14 p15 : Vec F S32x512 .bf16) (y : S512x512.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] : List (View.Piece (Elt F) S512x512 .bf16)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] S32x512.size (by rfl) y

/-- Window 11's buffer after the body, from the inputs' blocks: its pieces, last first. -/
def out0_11 : Vec F S512x512 .bf16 :=
  View.canon [⟨r0_18, k0_pay75 (k0_pay106 x6) (k0_pay107 x7) (k0_pay108 x0 x1)⟩,
    ⟨r0_17, k0_pay74 (k0_pay106 x6) (k0_pay107 x7) (k0_pay108 x0 x1)⟩,
    ⟨r0_16, k0_pay66 (k0_pay106 x6) (k0_pay107 x7) (k0_pay108 x0 x1)⟩,
    ⟨r0_15, k0_pay65 (k0_pay106 x6) (k0_pay107 x7) (k0_pay108 x0 x1)⟩,
    ⟨r0_14, k0_pay58 (k0_pay57 (k0_pay106 x6) (k0_pay107 x7) (k0_pay108 x0 x1)) (Scalar.ofBits .f32 0x3F800000#32)⟩,
    ⟨r0_13, k0_pay56 (k0_pay106 x6) (k0_pay107 x7) (k0_pay108 x0 x1)⟩,
    ⟨r0_12, k0_pay49 (k0_pay106 x6) (k0_pay107 x7) (k0_pay45 (k0_pay108 x0 x1)) (k0_pay46 (k0_pay108 x0 x1))⟩,
    ⟨r0_11, k0_pay48 (k0_pay47 (k0_pay106 x6) (k0_pay107 x7) (k0_pay108 x0 x1))⟩,
    ⟨r0_10, k0_pay40 (k0_pay106 x6) (k0_pay107 x7) (k0_pay108 x0 x1)⟩,
    ⟨r0_9, k0_pay39 (k0_pay106 x6) (k0_pay107 x7) (k0_pay108 x0 x1)⟩,
    ⟨r0_8, k0_pay31 (k0_pay106 x6) (k0_pay107 x7) (k0_pay108 x0 x1)⟩,
    ⟨r0_7, k0_pay30 (k0_pay106 x6) (k0_pay107 x7) (k0_pay108 x0 x1)⟩,
    ⟨r0_6, k0_pay22 (k0_pay106 x6) (k0_pay107 x7) (k0_pay108 x0 x1)⟩,
    ⟨r0_5, k0_pay21 (k0_pay106 x6) (k0_pay107 x7) (k0_pay108 x0 x1)⟩,
    ⟨r0_4, k0_pay14 (k0_pay13 (View.ld x0 r0_0) (View.ld x6 r0_1) (View.ld x7 r0_1) (View.ld x1 r0_2)) (Scalar.ofBits .f32 0x3F800000#32)⟩,
    ⟨r0_3, k0_pay12 (View.ld x0 r0_0) (View.ld x6 r0_1) (View.ld x7 r0_1) (View.ld x1 r0_2)⟩]

/-- Window 12's buffer after the body, from the inputs' blocks: its pieces, last first. -/
def out0_12 : Vec F S512x512 .bf16 :=
  View.canon [⟨r0_19, k0_pay76 (k0_pay108 x0 x1)⟩]

theorem cover0_12 (p0 : Vec F S512x512 .bf16) (y : S512x512.Idx) :
    ∃ pc ∈ ([⟨r0_19, p0⟩] : List (View.Piece (Elt F) S512x512 .bf16)), y ∈ pc.1.set :=
  View.cover_of_tiled [⟨r0_19, p0⟩] S512x512.size (by rfl) y

/-- Window 13's buffer after the body, from the inputs' blocks: its pieces, last first. -/
def out0_13 : Vec F S8x512 .f32 :=
  View.canon [⟨r0_20, k0_pay77 (k0_pay108 x0 x1)⟩]

theorem cover0_13 (p0 : Vec F S8x512 .f32) (y : S8x512.Idx) :
    ∃ pc ∈ ([⟨r0_20, p0⟩] : List (View.Piece (Elt F) S8x512 .f32)), y ∈ pc.1.set :=
  View.cover_of_tiled [⟨r0_20, p0⟩] S8x512.size (by rfl) y

/-- Window 14's buffer after the body, from the inputs' blocks: its pieces, last first. -/
def out0_14 : Vec F S512x512 .bf16 :=
  View.canon [⟨r0_29, k0_pay87 (k0_pay105 x0) (k0_pay109 x8) (k0_pay110 x9) k0_pay111 (View.ld x2 r0_28)⟩,
    ⟨r0_27, k0_pay86 (k0_pay105 x0) (k0_pay109 x8) (k0_pay110 x9) k0_pay111 (View.ld x2 r0_26)⟩,
    ⟨r0_25, k0_pay85 (k0_pay109 x8) (k0_pay110 x9) k0_pay111 (k0_pay82 (k0_pay105 x0) (View.ld x2 r0_24)) (k0_pay83 (k0_pay105 x0) (View.ld x2 r0_24)) (k0_pay84 (k0_pay105 x0) (View.ld x2 r0_24))⟩,
    ⟨r0_23, k0_pay81 (k0_pay105 x0) (View.ld x8 r0_21) (View.ld x9 r0_21) (View.ld x2 r0_22)⟩]

theorem cover0_14 (p0 p1 p2 p3 : Vec F S512x128 .bf16) (y : S512x512.Idx) :
    ∃ pc ∈ ([⟨r0_29, p0⟩, ⟨r0_27, p1⟩, ⟨r0_25, p2⟩, ⟨r0_23, p3⟩] : List (View.Piece (Elt F) S512x512 .bf16)), y ∈ pc.1.set :=
  View.cover_of_tiled [⟨r0_29, p0⟩, ⟨r0_27, p1⟩, ⟨r0_25, p2⟩, ⟨r0_23, p3⟩] S512x128.size (by rfl) y

/-- Window 15's buffer after the body, from the inputs' blocks: its pieces, last first. -/
def out0_15 : Vec F S512x64 .bf16 :=
  View.canon [⟨r0_31, k0_pay91 (k0_pay89 (k0_pay105 x0) (k0_pay109 x8) (View.ld x2 r0_30)) (k0_pay90 (k0_pay105 x0) (k0_pay110 x9) k0_pay111 (View.ld x2 r0_30))⟩]

theorem cover0_15 (p0 : Vec F S512x64 .bf16) (y : S512x64.Idx) :
    ∃ pc ∈ ([⟨r0_31, p0⟩] : List (View.Piece (Elt F) S512x64 .bf16)), y ∈ pc.1.set :=
  View.cover_of_tiled [⟨r0_31, p0⟩] S512x64.size (by rfl) y

/-- Window 16's buffer after the body, from the inputs' blocks: its pieces, last first. -/
def out0_16 : Vec F S512x512 .bf16 :=
  View.canon [⟨r0_19, k0_pay92 (k0_pay105 x0) (View.ld x2 r0_32)⟩]

/-- Window 17's buffer after the body, from the inputs' blocks: its pieces, last first. -/
def out0_17 : Vec F S512x256 .f32 :=
  View.canon [⟨r0_35, k0_pay93 (k0_pay105 x0) (View.ld x2 r0_33) (View.ld x2 r0_34)⟩]

theorem cover0_17 (p0 : Vec F S512x256 .f32) (y : S512x256.Idx) :
    ∃ pc ∈ ([⟨r0_35, p0⟩] : List (View.Piece (Elt F) S512x256 .f32)), y ∈ pc.1.set :=
  View.cover_of_tiled [⟨r0_35, p0⟩] S512x256.size (by rfl) y

/-- Window 18's buffer after the body, from the inputs' blocks: its pieces, last first. -/
def out0_18 : Vec F S512x256 .bf16 :=
  View.canon [⟨r0_35, k0_pay95 (k0_pay105 x0) (k0_pay94 (View.ld x2 r0_36))⟩]

theorem cover0_18 (p0 : Vec F S512x256 .bf16) (y : S512x256.Idx) :
    ∃ pc ∈ ([⟨r0_35, p0⟩] : List (View.Piece (Elt F) S512x256 .bf16)), y ∈ pc.1.set :=
  View.cover_of_tiled [⟨r0_35, p0⟩] S512x256.size (by rfl) y

/-- Window 19's buffer after the body, from the inputs' blocks: its pieces, last first. -/
def out0_19 : Vec F S512x128 .f32 :=
  View.canon [⟨r0_21, k0_pay96 (k0_pay105 x0) (View.ld x2 r0_37)⟩]

theorem cover0_19 (p0 : Vec F S512x128 .f32) (y : S512x128.Idx) :
    ∃ pc ∈ ([⟨r0_21, p0⟩] : List (View.Piece (Elt F) S512x128 .f32)), y ∈ pc.1.set :=
  View.cover_of_tiled [⟨r0_21, p0⟩] S512x128.size (by rfl) y

/-- Window 20's buffer after the body, from the inputs' blocks: its pieces, last first. -/
def out0_20 : Vec F S512x128 .f32 :=
  View.canon [⟨r0_21, k0_pay97 (k0_pay105 x0) (View.ld x2 r0_38)⟩]

/-- Window 21's buffer after the body, from the inputs' blocks: its pieces, last first. -/
def out0_21 : Vec F S512x256 .f32 :=
  View.canon [⟨r0_35, k0_pay98 (k0_pay105 x0) (View.ld x2 r0_39)⟩]

/-- Window 22's buffer after the body, from the inputs' blocks: its pieces, last first. -/
def out0_22 : Vec F S512x256 .bf16 :=
  View.canon [⟨r0_35, k0_pay101 (k0_pay99 (k0_pay105 x0) (View.ld x2 r0_40)) (k0_pay100 (k0_pay105 x0) (View.ld x2 r0_40))⟩]

/-- Window 23's buffer after the body, from the inputs' blocks: its pieces, last first. -/
def out0_23 : Vec F S512x128 .f32 :=
  View.canon [⟨r0_21, k0_pay1 (k0_pay103 (k0_pay105 x0) (View.ld x2 r0_41) (View.ld x3 r0_42) (View.ld x3 r0_42) (View.ld x4 r0_42) (View.ld x5 r0_43)) (k0_pay104 (k0_pay105 x0) (View.ld x2 r0_41) (View.ld x3 r0_42) (View.ld x3 r0_42) (View.ld x4 r0_42) (View.ld x5 r0_43))⟩]

end Outputs

/-! ## The body's triple -/

set_option maxHeartbeats 8000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1552x1024 .bf16) (harg2 : arg2.IsWhole) (arg3 : Memref sig .tc .vmem S1024x2816 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x512 .f32) (harg14 : arg14.IsWhole) (arg15 : Memref sig .tc .vmem S512x512 .bf16) (harg15 : arg15.IsWhole) (arg16 : Memref sig .tc .vmem S512x64 .bf16) (harg16 : arg16.IsWhole) (arg17 : Memref sig .tc .vmem S512x512 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x128 .f32) (harg20 : arg20.IsWhole) (arg21 : Memref sig .tc .vmem S512x128 .f32) (harg21 : arg21.IsWhole) (arg22 : Memref sig .tc .vmem S512x256 .f32) (harg22 : arg22.IsWhole) (arg23 : Memref sig .tc .vmem S512x256 .bf16) (harg23 : arg23.IsWhole) (arg24 : Memref sig .tc .vmem S512x128 .f32) (harg24 : arg24.IsWhole)
    (x0 : Vec F S512x1024 .f32) (x1 : Vec F S1552x1024 .bf16) (x2 : Vec F S1024x2816 .bf16) (x3 x4 : Vec F S128x128 .bf16) (x5 : Vec F S1x128 .f32) (x6 x7 : Vec F S32x512 .f32) (x8 x9 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x6 x7) ∗ owns (c : Thread nD τ) arg12 fullShare (out0_11 x0 x1 x6 x7) ∗ owns (c : Thread nD τ) arg13 fullShare (out0_12 x0 x1) ∗ owns (c : Thread nD τ) arg14 fullShare (out0_13 x0 x1) ∗ owns (c : Thread nD τ) arg15 fullShare (out0_14 x0 x2 x8 x9) ∗ owns (c : Thread nD τ) arg16 fullShare (out0_15 x0 x2 x8 x9) ∗ owns (c : Thread nD τ) arg17 fullShare (out0_16 x0 x2) ∗ owns (c : Thread nD τ) arg18 fullShare (out0_17 x0 x2) ∗ owns (c : Thread nD τ) arg19 fullShare (out0_18 x0 x2) ∗ owns (c : Thread nD τ) arg20 fullShare (out0_19 x0 x2) ∗ owns (c : Thread nD τ) arg21 fullShare (out0_20 x0 x2) ∗ owns (c : Thread nD τ) arg22 fullShare (out0_21 x0 x2) ∗ owns (c : Thread nD τ) arg23 fullShare (out0_22 x0 x2) ∗ owns (c : Thread nD τ) arg24 fullShare (out0_23 x0 x2 x3 x4 x5)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _ _ _ _ _ _ _ _ _ _ _ _ _ _ _ _)).trans ?_
    rfl
  isplitl [H11]
  · iexists _; isplitr
    swap; · iexact H11
    ipureintro
    refine (View.read_writes_eq_canon _ _ _ (cover0_10 _ _ _ _ _ _ _ _ _ _ _ _ _ _ _ _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_12 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_19 _)).trans ?_
    rfl
  isplitl [H21]
  · iexists _; isplitr
    swap; · iexact H21
    ipureintro
    refine (View.read_writes_eq_canon _ _ _ (cover0_17 _)).trans ?_
    rfl
  isplitl [H22]
  · iexists _; isplitr
    swap; · iexact H22
    ipureintro
    refine (View.read_writes_eq_canon _ _ _ (cover0_18 _)).trans ?_
    rfl
  iexists _; isplitr
  swap; · iexact H23
  ipureintro
  refine (View.read_writes_eq_canon _ _ _ (cover0_19 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 6 t) (iblk m c 7 t)
    | ⟨11, _⟩ => out0_11 (iblk m c 0 t) (iblk m c 1 t) (iblk m c 6 t) (iblk m c 7 t)
    | ⟨12, _⟩ => out0_12 (iblk m c 0 t) (iblk m c 1 t)
    | ⟨13, _⟩ => out0_13 (iblk m c 0 t) (iblk m c 1 t)
    | ⟨14, _⟩ => out0_14 (iblk m c 0 t) (iblk m c 2 t) (iblk m c 8 t) (iblk m c 9 t)
    | ⟨15, _⟩ => out0_15 (iblk m c 0 t) (iblk m c 2 t) (iblk m c 8 t) (iblk m c 9 t)
    | ⟨16, _⟩ => out0_16 (iblk m c 0 t) (iblk m c 2 t)
    | ⟨17, _⟩ => out0_17 (iblk m c 0 t) (iblk m c 2 t)
    | ⟨18, _⟩ => out0_18 (iblk m c 0 t) (iblk m c 2 t)
    | ⟨19, _⟩ => out0_19 (iblk m c 0 t) (iblk m c 2 t)
    | ⟨20, _⟩ => out0_20 (iblk m c 0 t) (iblk m c 2 t)
    | ⟨21, _⟩ => out0_21 (iblk m c 0 t) (iblk m c 2 t)
    | ⟨22, _⟩ => out0_22 (iblk m c 0 t) (iblk m c 2 t)
    | ⟨23, _⟩ => out0_23 (iblk m c 0 t) (iblk m c 2 t) (iblk m c 3 t) (iblk m c 4 t) (iblk m c 5 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 6 t) (iblk m c 7 t) := by dsimp only [dats]
theorem after0_11 (c : Dev nD) (t : Fin cfg0.N) : (dats m 0 c).after 11 t = out0_11 (iblk m c 0 t) (iblk m c 1 t) (iblk m c 6 t) (iblk m c 7 t) := by dsimp only [dats]
theorem after0_12 (c : Dev nD) (t : Fin cfg0.N) : (dats m 0 c).after 12 t = out0_12 (iblk m c 0 t) (iblk m c 1 t) := by dsimp only [dats]
theorem after0_13 (c : Dev nD) (t : Fin cfg0.N) : (dats m 0 c).after 13 t = out0_13 (iblk m c 0 t) (iblk m c 1 t) := by dsimp only [dats]
theorem after0_14 (c : Dev nD) (t : Fin cfg0.N) : (dats m 0 c).after 14 t = out0_14 (iblk m c 0 t) (iblk m c 2 t) (iblk m c 8 t) (iblk m c 9 t) := by dsimp only [dats]
theorem after0_15 (c : Dev nD) (t : Fin cfg0.N) : (dats m 0 c).after 15 t = out0_15 (iblk m c 0 t) (iblk m c 2 t) (iblk m c 8 t) (iblk m c 9 t) := by dsimp only [dats]
theorem after0_16 (c : Dev nD) (t : Fin cfg0.N) : (dats m 0 c).after 16 t = out0_16 (iblk m c 0 t) (iblk m c 2 t) := by dsimp only [dats]
theorem after0_17 (c : Dev nD) (t : Fin cfg0.N) : (dats m 0 c).after 17 t = out0_17 (iblk m c 0 t) (iblk m c 2 t) := by dsimp only [dats]
theorem after0_18 (c : Dev nD) (t : Fin cfg0.N) : (dats m 0 c).after 18 t = out0_18 (iblk m c 0 t) (iblk m c 2 t) := by dsimp only [dats]
theorem after0_19 (c : Dev nD) (t : Fin cfg0.N) : (dats m 0 c).after 19 t = out0_19 (iblk m c 0 t) (iblk m c 2 t) := by dsimp only [dats]
theorem after0_20 (c : Dev nD) (t : Fin cfg0.N) : (dats m 0 c).after 20 t = out0_20 (iblk m c 0 t) (iblk m c 2 t) := by dsimp only [dats]
theorem after0_21 (c : Dev nD) (t : Fin cfg0.N) : (dats m 0 c).after 21 t = out0_21 (iblk m c 0 t) (iblk m c 2 t) := by dsimp only [dats]
theorem after0_22 (c : Dev nD) (t : Fin cfg0.N) : (dats m 0 c).after 22 t = out0_22 (iblk m c 0 t) (iblk m c 2 t) := by dsimp only [dats]
theorem after0_23 (c : Dev nD) (t : Fin cfg0.N) : (dats m 0 c).after 23 t = out0_23 (iblk m c 0 t) (iblk m c 2 t) (iblk m c 3 t) (iblk m c 4 t) (iblk m c 5 t) := by dsimp only [dats]

/-- Each input's current staging buffer holds its block at every point, fetched there or not: the body leaves the
    block in place, and unfetched the block's index has not moved. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 40000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 8000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_InIdeal`'s statement (Defs.lean) at any `F` — Proof.lean cites it at `Bits`:
    `theorem Cert.Proof.claim : Cert.Claim := ⟨Cert.InIdeal.Gen.facts, fun m ρ _ => Cert.InIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InIdeal.Gen

end
-- ==== Proof.InBands.lean ====
module

public import proofs.«01_k».proof.Defs
public import proofs.«01_k».proof.Proof.InIdealFrame
public import Idealize.ShloMosaic.Lib.Pointwise
public import Idealize.ShloMosaic.Lib.Pipeline.ReadBack

@[expose] public section

noncomputable section

namespace Cert.InIdeal.Whole

open Cert.InIdeal Cert.InIdeal.Gen Idealize.ShloMosaic Idealize.ShloMosaic.TcCoe Idealize.SL.Sem
open Idealize.ShloMosaic.Pipeline (Dat)

/-- The rotation by position of 64-row heads, read out of the projected rows `H` from row `base` on: the first half
    of each head is `a * cos - b * sin`, the second `b * cos + a * sin`, and the whole is scaled by `s`. -/
def rope (C S : FVec Ideal S32x512 .f32) (H : FVec Ideal S1552x512 .f32) (base : Nat) (hb : base ≤ 512) (s : EReal) : FVec Ideal S512x512 .bf16 :=
  fun y =>
    have hy : (y 0).val < 512 := (y 0).isLt
    if h : (y 0).val % 64 < 32 then
      (H (ix2 ⟨base + (y 0).val, by omega⟩ (y 1)) * C (ix2 ⟨(y 0).val % 64, h⟩ (y 1))
        - H (ix2 ⟨base + (y 0).val + 32, by omega⟩ (y 1)) * S (ix2 ⟨(y 0).val % 64, h⟩ (y 1))) * s
    else
      (H (ix2 ⟨base + (y 0).val, by omega⟩ (y 1)) * C (ix2 ⟨(y 0).val % 64 - 32, by omega⟩ (y 1))
        + H (ix2 ⟨base + (y 0).val - 32, by omega⟩ (y 1)) * S (ix2 ⟨(y 0).val % 64 - 32, by omega⟩ (y 1))) * s

theorem rope_lo (C S : FVec Ideal S32x512 .f32) (H : FVec Ideal S1552x512 .f32) (base : Nat) (hb : base ≤ 512) (s : EReal)
    (off : Nat) (ho : off % 64 = 0) (hl : off ≤ 448) (r : Fin 32) (c : Fin 512) :
    rope C S H base hb s (ix2 ⟨off + r.val, by omega⟩ c)
      = (H (ix2 ⟨base + off + r.val, by omega⟩ c) * C (ix2 r c) - H (ix2 ⟨base + off + 32 + r.val, by omega⟩ c) * S (ix2 r c)) * s := by
  have h : (off + r.val) % 64 < 32 := by omega
  have e1 : (⟨(off + r.val) % 64, h⟩ : Fin 32) = r := by apply Fin.ext; show (off + r.val) % 64 = r.val; omega
  have e2 : (⟨base + (off + r.val), by omega⟩ : Fin 1552) = ⟨base + off + r.val, by omega⟩ := by apply Fin.ext; show base + (off + r.val) = base + off + r.val; omega
  have e3 : (⟨base + (off + r.val) + 32, by omega⟩ : Fin 1552) = ⟨base + off + 32 + r.val, by omega⟩ := by
    apply Fin.ext; show base + (off + r.val) + 32 = base + off + 32 + r.val; omega
  refine (dif_pos h).trans ?_
  show (H (ix2 ⟨base + (off + r.val), by omega⟩ c) * C (ix2 ⟨(off + r.val) % 64, h⟩ c)
        - H (ix2 ⟨base + (off + r.val) + 32, by omega⟩ c) * S (ix2 ⟨(off + r.val) % 64, h⟩ c)) * s = _
  rw [e1, e2, e3]

theorem rope_hi (C S : FVec Ideal S32x512 .f32) (H : FVec Ideal S1552x512 .f32) (base : Nat) (hb : base ≤ 512) (s : EReal)
    (off : Nat) (ho : off % 64 = 0) (hl : off ≤ 448) (r : Fin 32) (c : Fin 512) :
    rope C S H base hb s (ix2 ⟨off + 32 + r.val, by omega⟩ c)
      = (H (ix2 ⟨base + off + 32 + r.val, by omega⟩ c) * C (ix2 r c) + H (ix2 ⟨base + off + r.val, by omega⟩ c) * S (ix2 r c)) * s := by
  have h : ¬ (off + 32 + r.val) % 64 < 32 := by omega
  have e1 : (⟨(off + 32 + r.val) % 64 - 32, by omega⟩ : Fin 32) = r := by
    apply Fin.ext; show (off + 32 + r.val) % 64 - 32 = r.val; omega
  have e2 : (⟨base + (off + 32 + r.val), by omega⟩ : Fin 1552) = ⟨base + off + 32 + r.val, by omega⟩ := by
    apply Fin.ext; show base + (off + 32 + r.val) = base + off + 32 + r.val; omega
  have e3 : (⟨base + (off + 32 + r.val) - 32, by omega⟩ : Fin 1552) = ⟨base + off + r.val, by omega⟩ := by
    apply Fin.ext; show base + (off + 32 + r.val) - 32 = base + off + r.val; omega
  refine (dif_neg h).trans ?_
  show (H (ix2 ⟨base + (off + 32 + r.val), by omega⟩ c) * C (ix2 ⟨(off + 32 + r.val) % 64 - 32, by omega⟩ c)
        + H (ix2 ⟨base + (off + 32 + r.val) - 32, by omega⟩ c) * S (ix2 ⟨(off + 32 + r.val) % 64 - 32, by omega⟩ c)) * s = _
  rw [e1, e2, e3]

theorem band (off : Nat) (inb : ∀ a, (![off, 0] : Fin 2 → Nat) a + S32x512.size a ≤ S512x512.size a) (r : Fin 32) (c : Fin 512)
    (h : off + r.val < 512) :
    (Rect.unit (s := S512x512) ![off, 0] S32x512.size inb).emb (ix2 r c) = ix2 ⟨off + r.val, h⟩ c := by
  funext a; apply Fin.ext
  match a with
  | ⟨0, _⟩ => show off + 1 * r.val = off + r.val; omega
  | ⟨1, _⟩ => show 0 + 1 * c.val = c.val; omega

section Bands
variable (v3 v5 : FVec Ideal S32x512 .f32) (v8 : FVec Ideal S1552x512 .f32)
variable (x0 : FVec Ideal S512x1024 .f32) (w : FVec Ideal S1552x1024 .bf16)

theorem q_lo0 (r : Fin 32) (c : Fin 512) : (k0_pay8 (F := Ideal) x0 v3 v5 w : FVec Ideal S32x512 .bf16) (ix2 r c) = ((k0_pay5 (F := Ideal) x0 w : FVec Ideal S1552x512 .f32) (ix2 ⟨r.val, by omega⟩ c) * (k0_pay3 (F := Ideal) v3 : FVec Ideal S32x512 .f32) (ix2 r c) - (k0_pay5 (F := Ideal) x0 w : FVec Ideal S1552x512 .f32) (ix2 ⟨32 + r.val, by omega⟩ c) * (k0_pay4 (F := Ideal) v5 : FVec Ideal S32x512 .f32) (ix2 r c)) * Ideal.ofBits .f32 0x3E38AA3B#32 := by
  pointwise [k0_pay8, k0_pay6, k0_pay7]
theorem q_hi0 (r : Fin 32) (c : Fin 512) : (k0_pay9 (F := Ideal) x0 v3 v5 w : FVec Ideal S32x512 .bf16) (ix2 r c) = ((k0_pay5 (F := Ideal) x0 w : FVec Ideal S1552x512 .f32) (ix2 ⟨32 + r.val, by omega⟩ c) * (k0_pay3 (F := Ideal) v3 : FVec Ideal S32x512 .f32) (ix2 r c) + (k0_pay5 (F := Ideal) x0 w : FVec Ideal S1552x512 .f32) (ix2 ⟨r.val, by omega⟩ c) * (k0_pay4 (F := Ideal) v5 : FVec Ideal S32x512 .f32) (ix2 r c)) * Ideal.ofBits .f32 0x3E38AA3B#32 := by
  pointwise [k0_pay9, k0_pay6, k0_pay7]

theorem q_lo1 (r : Fin 32) (c : Fin 512) : (k0_pay17 (F := Ideal) v3 v5 v8 : FVec Ideal S32x512 .bf16) (ix2 r c) = (v8 (ix2 ⟨64 + r.val, by omega⟩ c) * v3 (ix2 r c) - v8 (ix2 ⟨96 + r.val, by omega⟩ c) * v5 (ix2 r c)) * Ideal.ofBits .f32 0x3E38AA3B#32 := by
  pointwise [k0_pay17, k0_pay15, k0_pay16]
theorem q_hi1 (r : Fin 32) (c : Fin 512) : (k0_pay18 (F := Ideal) v3 v5 v8 : FVec Ideal S32x512 .bf16) (ix2 r c) = (v8 (ix2 ⟨96 + r.val, by omega⟩ c) * v3 (ix2 r c) + v8 (ix2 ⟨64 + r.val, by omega⟩ c) * v5 (ix2 r c)) * Ideal.ofBits .f32 0x3E38AA3B#32 := by
  pointwise [k0_pay18, k0_pay15, k0_pay16]

theorem q_lo2 (r : Fin 32) (c : Fin 512) : (k0_pay26 (F := Ideal) (k0_pay25 v3 v5 v8) : FVec Ideal S32x512 .bf16) (ix2 r c) = (v8 (ix2 ⟨128 + r.val, by omega⟩ c) * v3 (ix2 r c) - v8 (ix2 ⟨160 + r.val, by omega⟩ c) * v5 (ix2 r c)) * Ideal.ofBits .f32 0x3E38AA3B#32 := by
  pointwise [k0_pay26, k0_pay25, k0_pay23, k0_pay24]
theorem q_hi2 (r : Fin 32) (c : Fin 512) : (k0_pay27 (F := Ideal) v3 v5 (k0_pay23 v8) (k0_pay24 v8) : FVec Ideal S32x512 .bf16) (ix2 r c) = (v8 (ix2 ⟨160 + r.val, by omega⟩ c) * v3 (ix2 r c) + v8 (ix2 ⟨128 + r.val, by omega⟩ c) * v5 (ix2 r c)) * Ideal.ofBits .f32 0x3E38AA3B#32 := by
  pointwise [k0_pay27, k0_pay23, k0_pay24]

theorem q_lo3 (r : Fin 32) (c : Fin 512) : (k0_pay34 (F := Ideal) v3 v5 v8 : FVec Ideal S32x512 .bf16) (ix2 r c) = (v8 (ix2 ⟨192 + r.val, by omega⟩ c) * v3 (ix2 r c) - v8 (ix2 ⟨224 + r.val, by omega⟩ c) * v5 (ix2 r c)) * Ideal.ofBits .f32 0x3E38AA3B#32 := by
  pointwise [k0_pay34, k0_pay32, k0_pay33]
theorem q_hi3 (r : Fin 32) (c : Fin 512) : (k0_pay36 (F := Ideal) (k0_pay35 v3 v5 v8) (Scalar.ofBits .f32 0x3E38AA3B#32) : FVec Ideal S32x512 .bf16) (ix2 r c) = (v8 (ix2 ⟨224 + r.val, by omega⟩ c) * v3 (ix2 r c) + v8 (ix2 ⟨192 + r.val, by omega⟩ c) * v5 (ix2 r c)) * Ideal.ofBits .f32 0x3E38AA3B#32 := by
  pointwise [k0_pay36, k0_pay35, k0_pay32, k0_pay33]

theorem q_lo4 (r : Fin 32) (c : Fin 512) : (k0_pay43 (F := Ideal) v3 v5 v8 : FVec Ideal S32x512 .bf16) (ix2 r c) = (v8 (ix2 ⟨256 + r.val, by omega⟩ c) * v3 (ix2 r c) - v8 (ix2 ⟨288 + r.val, by omega⟩ c) * v5 (ix2 r c)) * Ideal.ofBits .f32 0x3E38AA3B#32 := by
  pointwise [k0_pay43, k0_pay41, k0_pay42]
theorem q_hi4 (r : Fin 32) (c : Fin 512) : (k0_pay44 (F := Ideal) v3 v5 v8 : FVec Ideal S32x512 .bf16) (ix2 r c) = (v8 (ix2 ⟨288 + r.val, by omega⟩ c) * v3 (ix2 r c) + v8 (ix2 ⟨256 + r.val, by omega⟩ c) * v5 (ix2 r c)) * Ideal.ofBits .f32 0x3E38AA3B#32 := by
  pointwise [k0_pay44, k0_pay41, k0_pay42]

theorem q_lo5 (r : Fin 32) (c : Fin 512) : (k0_pay52 (F := Ideal) v3 v5 v8 : FVec Ideal S32x512 .bf16) (ix2 r c) = (v8 (ix2 ⟨320 + r.val, by omega⟩ c) * v3 (ix2 r c) - v8 (ix2 ⟨352 + r.val, by omega⟩ c) * v5 (ix2 r c)) * Ideal.ofBits .f32 0x3E38AA3B#32 := by
  pointwise [k0_pay52, k0_pay50, k0_pay51]
theorem q_hi5 (r : Fin 32) (c : Fin 512) : (k0_pay53 (F := Ideal) v3 v5 v8 : FVec Ideal S32x512 .bf16) (ix2 r c) = (v8 (ix2 ⟨352 + r.val, by omega⟩ c) * v3 (ix2 r c) + v8 (ix2 ⟨320 + r.val, by omega⟩ c) * v5 (ix2 r c)) * Ideal.ofBits .f32 0x3E38AA3B#32 := by
  pointwise [k0_pay53, k0_pay50, k0_pay51]

theorem q_lo6 (r : Fin 32) (c : Fin 512) : (k0_pay61 (F := Ideal) v3 v5 v8 : FVec Ideal S32x512 .bf16) (ix2 r c) = (v8 (ix2 ⟨384 + r.val, by omega⟩ c) * v3 (ix2 r c) - v8 (ix2 ⟨416 + r.val, by omega⟩ c) * v5 (ix2 r c)) * Ideal.ofBits .f32 0x3E38AA3B#32 := by
  pointwise [k0_pay61, k0_pay59, k0_pay60]
theorem q_hi6 (r : Fin 32) (c : Fin 512) : (k0_pay62 (F := Ideal) v3 v5 v8 : FVec Ideal S32x512 .bf16) (ix2 r c) = (v8 (ix2 ⟨416 + r.val, by omega⟩ c) * v3 (ix2 r c) + v8 (ix2 ⟨384 + r.val, by omega⟩ c) * v5 (ix2 r c)) * Ideal.ofBits .f32 0x3E38AA3B#32 := by
  pointwise [k0_pay62, k0_pay59, k0_pay60]

theorem q_lo7 (r : Fin 32) (c : Fin 512) : (k0_pay70 (F := Ideal) (k0_pay69 v3 v5 v8) : FVec Ideal S32x512 .bf16) (ix2 r c) = (v8 (ix2 ⟨448 + r.val, by omega⟩ c) * v3 (ix2 r c) - v8 (ix2 ⟨480 + r.val, by omega⟩ c) * v5 (ix2 r c)) * Ideal.ofBits .f32 0x3E38AA3B#32 := by
  pointwise [k0_pay70, k0_pay69, k0_pay67, k0_pay68]
theorem q_hi7 (r : Fin 32) (c : Fin 512) : (k0_pay71 (F := Ideal) v3 v5 (k0_pay67 v8) (k0_pay68 v8) : FVec Ideal S32x512 .bf16) (ix2 r c) = (v8 (ix2 ⟨480 + r.val, by omega⟩ c) * v3 (ix2 r c) + v8 (ix2 ⟨448 + r.val, by omega⟩ c) * v5 (ix2 r c)) * Ideal.ofBits .f32 0x3E38AA3B#32 := by
  pointwise [k0_pay71, k0_pay67, k0_pay68]

theorem qi_lo0 (r : Fin 32) (c : Fin 512) : (k0_pay12 (F := Ideal) x0 v3 v5 w : FVec Ideal S32x512 .bf16) (ix2 r c) = ((k0_pay5 (F := Ideal) x0 w : FVec Ideal S1552x512 .f32) (ix2 ⟨512 + r.val, by omega⟩ c) * (k0_pay3 (F := Ideal) v3 : FVec Ideal S32x512 .f32) (ix2 r c) - (k0_pay5 (F := Ideal) x0 w : FVec Ideal S1552x512 .f32) (ix2 ⟨544 + r.val, by omega⟩ c) * (k0_pay4 (F := Ideal) v5 : FVec Ideal S32x512 .f32) (ix2 r c)) * Ideal.ofBits .f32 0x3F800000#32 := by
  pointwise [k0_pay12, k0_pay10, k0_pay11]
theorem qi_hi0 (r : Fin 32) (c : Fin 512) : (k0_pay14 (F := Ideal) (k0_pay13 x0 v3 v5 w) (Scalar.ofBits .f32 0x3F800000#32) : FVec Ideal S32x512 .bf16) (ix2 r c) = ((k0_pay5 (F := Ideal) x0 w : FVec Ideal S1552x512 .f32) (ix2 ⟨544 + r.val, by omega⟩ c) * (k0_pay3 (F := Ideal) v3 : FVec Ideal S32x512 .f32) (ix2 r c) + (k0_pay5 (F := Ideal) x0 w : FVec Ideal S1552x512 .f32) (ix2 ⟨512 + r.val, by omega⟩ c) * (k0_pay4 (F := Ideal) v5 : FVec Ideal S32x512 .f32) (ix2 r c)) * Ideal.ofBits .f32 0x3F800000#32 := by
  pointwise [k0_pay14, k0_pay13, k0_pay10, k0_pay11]

theorem qi_lo1 (r : Fin 32) (c : Fin 512) : (k0_pay21 (F := Ideal) v3 v5 v8 : FVec Ideal S32x512 .bf16) (ix2 r c) = (v8 (ix2 ⟨576 + r.val, by omega⟩ c) * v3 (ix2 r c) - v8 (ix2 ⟨608 + r.val, by omega⟩ c) * v5 (ix2 r c)) * Ideal.ofBits .f32 0x3F800000#32 := by
  pointwise [k0_pay21, k0_pay19, k0_pay20]
theorem qi_hi1 (r : Fin 32) (c : Fin 512) : (k0_pay22 (F := Ideal) v3 v5 v8 : FVec Ideal S32x512 .bf16) (ix2 r c) = (v8 (ix2 ⟨608 + r.val, by omega⟩ c) * v3 (ix2 r c) + v8 (ix2 ⟨576 + r.val, by omega⟩ c) * v5 (ix2 r c)) * Ideal.ofBits .f32 0x3F800000#32 := by
  pointwise [k0_pay22, k0_pay19, k0_pay20]

theorem qi_lo2 (r : Fin 32) (c : Fin 512) : (k0_pay30 (F := Ideal) v3 v5 v8 : FVec Ideal S32x512 .bf16) (ix2 r c) = (v8 (ix2 ⟨640 + r.val, by omega⟩ c) * v3 (ix2 r c) - v8 (ix2 ⟨672 + r.val, by omega⟩ c) * v5 (ix2 r c)) * Ideal.ofBits .f32 0x3F800000#32 := by
  pointwise [k0_pay30, k0_pay28, k0_pay29]
theorem qi_hi2 (r : Fin 32) (c : Fin 512) : (k0_pay31 (F := Ideal) v3 v5 v8 : FVec Ideal S32x512 .bf16) (ix2 r c) = (v8 (ix2 ⟨672 + r.val, by omega⟩ c) * v3 (ix2 r c) + v8 (ix2 ⟨640 + r.val, by omega⟩ c) * v5 (ix2 r c)) * Ideal.ofBits .f32 0x3F800000#32 := by
  pointwise [k0_pay31, k0_pay28, k0_pay29]

theorem qi_lo3 (r : Fin 32) (c : Fin 512) : (k0_pay39 (F := Ideal) v3 v5 v8 : FVec Ideal S32x512 .bf16) (ix2 r c) = (v8 (ix2 ⟨704 + r.val, by omega⟩ c) * v3 (ix2 r c) - v8 (ix2 ⟨736 + r.val, by omega⟩ c) * v5 (ix2 r c)) * Ideal.ofBits .f32 0x3F800000#32 := by
  pointwise [k0_pay39, k0_pay37, k0_pay38]
theorem qi_hi3 (r : Fin 32) (c : Fin 512) : (k0_pay40 (F := Ideal) v3 v5 v8 : FVec Ideal S32x512 .bf16) (ix2 r c) = (v8 (ix2 ⟨736 + r.val, by omega⟩ c) * v3 (ix2 r c) + v8 (ix2 ⟨704 + r.val, by omega⟩ c) * v5 (ix2 r c)) * Ideal.ofBits .f32 0x3F800000#32 := by
  pointwise [k0_pay40, k0_pay37, k0_pay38]

theorem qi_lo4 (r : Fin 32) (c : Fin 512) : (k0_pay48 (F := Ideal) (k0_pay47 v3 v5 v8) : FVec Ideal S32x512 .bf16) (ix2 r c) = (v8 (ix2 ⟨768 + r.val, by omega⟩ c) * v3 (ix2 r c) - v8 (ix2 ⟨800 + r.val, by omega⟩ c) * v5 (ix2 r c)) * Ideal.ofBits .f32 0x3F800000#32 := by
  pointwise [k0_pay48, k0_pay47, k0_pay45, k0_pay46]
theorem qi_hi4 (r : Fin 32) (c : Fin 512) : (k0_pay49 (F := Ideal) v3 v5 (k0_pay45 v8) (k0_pay46 v8) : FVec Ideal S32x512 .bf16) (ix2 r c) = (v8 (ix2 ⟨800 + r.val, by omega⟩ c) * v3 (ix2 r c) + v8 (ix2 ⟨768 + r.val, by omega⟩ c) * v5 (ix2 r c)) * Ideal.ofBits .f32 0x3F800000#32 := by
  pointwise [k0_pay49, k0_pay45, k0_pay46]

theorem qi_lo5 (r : Fin 32) (c : Fin 512) : (k0_pay56 (F := Ideal) v3 v5 v8 : FVec Ideal S32x512 .bf16) (ix2 r c) = (v8 (ix2 ⟨832 + r.val, by omega⟩ c) * v3 (ix2 r c) - v8 (ix2 ⟨864 + r.val, by omega⟩ c) * v5 (ix2 r c)) * Ideal.ofBits .f32 0x3F800000#32 := by
  pointwise [k0_pay56, k0_pay54, k0_pay55]
theorem qi_hi5 (r : Fin 32) (c : Fin 512) : (k0_pay58 (F := Ideal) (k0_pay57 v3 v5 v8) (Scalar.ofBits .f32 0x3F800000#32) : FVec Ideal S32x512 .bf16) (ix2 r c) = (v8 (ix2 ⟨864 + r.val, by omega⟩ c) * v3 (ix2 r c) + v8 (ix2 ⟨832 + r.val, by omega⟩ c) * v5 (ix2 r c)) * Ideal.ofBits .f32 0x3F800000#32 := by
  pointwise [k0_pay58, k0_pay57, k0_pay54, k0_pay55]

theorem qi_lo6 (r : Fin 32) (c : Fin 512) : (k0_pay65 (F := Ideal) v3 v5 v8 : FVec Ideal S32x512 .bf16) (ix2 r c) = (v8 (ix2 ⟨896 + r.val, by omega⟩ c) * v3 (ix2 r c) - v8 (ix2 ⟨928 + r.val, by omega⟩ c) * v5 (ix2 r c)) * Ideal.ofBits .f32 0x3F800000#32 := by
  pointwise [k0_pay65, k0_pay63, k0_pay64]
theorem qi_hi6 (r : Fin 32) (c : Fin 512) : (k0_pay66 (F := Ideal) v3 v5 v8 : FVec Ideal S32x512 .bf16) (ix2 r c) = (v8 (ix2 ⟨928 + r.val, by omega⟩ c) * v3 (ix2 r c) + v8 (ix2 ⟨896 + r.val, by omega⟩ c) * v5 (ix2 r c)) * Ideal.ofBits .f32 0x3F800000#32 := by
  pointwise [k0_pay66, k0_pay63, k0_pay64]

theorem qi_lo7 (r : Fin 32) (c : Fin 512) : (k0_pay74 (F := Ideal) v3 v5 v8 : FVec Ideal S32x512 .bf16) (ix2 r c) = (v8 (ix2 ⟨960 + r.val, by omega⟩ c) * v3 (ix2 r c) - v8 (ix2 ⟨992 + r.val, by omega⟩ c) * v5 (ix2 r c)) * Ideal.ofBits .f32 0x3F800000#32 := by
  pointwise [k0_pay74, k0_pay72, k0_pay73]
theorem qi_hi7 (r : Fin 32) (c : Fin 512) : (k0_pay75 (F := Ideal) v3 v5 v8 : FVec Ideal S32x512 .bf16) (ix2 r c) = (v8 (ix2 ⟨992 + r.val, by omega⟩ c) * v3 (ix2 r c) + v8 (ix2 ⟨960 + r.val, by omega⟩ c) * v5 (ix2 r c)) * Ideal.ofBits .f32 0x3F800000#32 := by
  pointwise [k0_pay75, k0_pay72, k0_pay73]

end Bands

variable (x0 : FVec Ideal S512x1024 .f32) (x1 : FVec Ideal S1552x1024 .bf16) (x2 : FVec Ideal S1024x2816 .bf16) (x3 : FVec Ideal S128x128 .bf16)
  (x4 : FVec Ideal S128x128 .bf16) (x5 : FVec Ideal S1x128 .f32) (x6 : FVec Ideal S32x512 .f32) (x7 : FVec Ideal S32x512 .f32)
  (x8 : FVec Ideal S512x128 .f32) (x9 : FVec Ideal S512x128 .f32)

/-- The projected rows of the transposed half, at row `r` and column `c`. -/
theorem ht_apply (r : Fin 1552) (c : Fin 512) :
    (k0_pay108 (F := Ideal) x0 x1 : FVec Ideal S1552x512 .f32) (ix2 r c) = ∑ k : Fin 1024, x1 (ix2 r k) * x0 (ix2 c k) := by
  pointwise [k0_pay108, k0_pay5, k0_pay2]

theorem cos_apply (r : Fin 32) (c : Fin 512) : (k0_pay106 (F := Ideal) x6 : FVec Ideal S32x512 .f32) (ix2 r c) = x6 (ix2 r c) := by
  pointwise [k0_pay106, k0_pay3]

theorem sin_apply (r : Fin 32) (c : Fin 512) : (k0_pay107 (F := Ideal) x7 : FVec Ideal S32x512 .f32) (ix2 r c) = x7 (ix2 r c) := by
  pointwise [k0_pay107, k0_pay4]

set_option maxHeartbeats 1000000 in
theorem out10_eq : (out0_10 (F := Ideal) x0 x1 x6 x7 : FVec Ideal S512x512 .bf16)
    = rope (k0_pay106 (F := Ideal) x6) (k0_pay107 (F := Ideal) x7) (k0_pay108 (F := Ideal) x0 x1) 0 (by omega) (Ideal.ofBits .f32 0x3E38AA3B#32) := by
  funext y
  unfold out0_10
  simp only [k0_pay106, k0_pay107, k0_pay108]
  refine View.canon_apply_of_pieces _ _ ?_ y (cover0_10 _ _ _ _ _ _ _ _ _ _ _ _ _ _ _ _ y)
  refine View.PiecesOf.mem ?_
  refine ⟨?_, ?_, ?_, ?_, ?_, ?_, ?_, ?_, ?_, ?_, ?_, ?_, ?_, ?_, ?_, ?_, trivial⟩
  · intro x
    obtain ⟨r, c, rfl⟩ : ∃ (r : Fin 32) (c : Fin 512), x = ix2 r c := ⟨x 0, x 1, eq_ix2 x⟩
    refine (q_hi7 _ _ _ r c).trans (Eq.trans ?_ (congrArg _ (band 480 inb_S512x512_S32x512_480_0 r c (by omega))).symm)
    exact (rope_hi _ _ _ 0 _ _ 448 (by omega) (by omega) r c).symm
  · intro x
    obtain ⟨r, c, rfl⟩ : ∃ (r : Fin 32) (c : Fin 512), x = ix2 r c := ⟨x 0, x 1, eq_ix2 x⟩
    refine (q_lo7 _ _ _ r c).trans (Eq.trans ?_ (congrArg _ (band 448 inb_S512x512_S32x512_448_0 r c (by omega))).symm)
    exact (rope_lo _ _ _ 0 _ _ 448 (by omega) (by omega) r c).symm
  · intro x
    obtain ⟨r, c, rfl⟩ : ∃ (r : Fin 32) (c : Fin 512), x = ix2 r c := ⟨x 0, x 1, eq_ix2 x⟩
    refine (q_hi6 _ _ _ r c).trans (Eq.trans ?_ (congrArg _ (band 416 inb_S512x512_S32x512_416_0 r c (by omega))).symm)
    exact (rope_hi _ _ _ 0 _ _ 384 (by omega) (by omega) r c).symm
  · intro x
    obtain ⟨r, c, rfl⟩ : ∃ (r : Fin 32) (c : Fin 512), x = ix2 r c := ⟨x 0, x 1, eq_ix2 x⟩
    refine (q_lo6 _ _ _ r c).trans (Eq.trans ?_ (congrArg _ (band 384 inb_S512x512_S32x512_384_0 r c (by omega))).symm)
    exact (rope_lo _ _ _ 0 _ _ 384 (by omega) (by omega) r c).symm
  · intro x
    obtain ⟨r, c, rfl⟩ : ∃ (r : Fin 32) (c : Fin 512), x = ix2 r c := ⟨x 0, x 1, eq_ix2 x⟩
    refine (q_hi5 _ _ _ r c).trans (Eq.trans ?_ (congrArg _ (band 352 inb_S512x512_S32x512_352_0 r c (by omega))).symm)
    exact (rope_hi _ _ _ 0 _ _ 320 (by omega) (by omega) r c).symm
  · intro x
    obtain ⟨r, c, rfl⟩ : ∃ (r : Fin 32) (c : Fin 512), x = ix2 r c := ⟨x 0, x 1, eq_ix2 x⟩
    refine (q_lo5 _ _ _ r c).trans (Eq.trans ?_ (congrArg _ (band 320 inb_S512x512_S32x512_320_0 r c (by omega))).symm)
    exact (rope_lo _ _ _ 0 _ _ 320 (by omega) (by omega) r c).symm
  · intro x
    obtain ⟨r, c, rfl⟩ : ∃ (r : Fin 32) (c : Fin 512), x = ix2 r c := ⟨x 0, x 1, eq_ix2 x⟩
    refine (q_hi4 _ _ _ r c).trans (Eq.trans ?_ (congrArg _ (band 288 inb_S512x512_S32x512_288_0 r c (by omega))).symm)
    exact (rope_hi _ _ _ 0 _ _ 256 (by omega) (by omega) r c).symm
  · intro x
    obtain ⟨r, c, rfl⟩ : ∃ (r : Fin 32) (c : Fin 512), x = ix2 r c := ⟨x 0, x 1, eq_ix2 x⟩
    refine (q_lo4 _ _ _ r c).trans (Eq.trans ?_ (congrArg _ (band 256 inb_S512x512_S32x512_256_0 r c (by omega))).symm)
    exact (rope_lo _ _ _ 0 _ _ 256 (by omega) (by omega) r c).symm
  · intro x
    obtain ⟨r, c, rfl⟩ : ∃ (r : Fin 32) (c : Fin 512), x = ix2 r c := ⟨x 0, x 1, eq_ix2 x⟩
    refine (q_hi3 _ _ _ r c).trans (Eq.trans ?_ (congrArg _ (band 224 inb_S512x512_S32x512_224_0 r c (by omega))).symm)
    exact (rope_hi _ _ _ 0 _ _ 192 (by omega) (by omega) r c).symm
  · intro x
    obtain ⟨r, c, rfl⟩ : ∃ (r : Fin 32) (c : Fin 512), x = ix2 r c := ⟨x 0, x 1, eq_ix2 x⟩
    refine (q_lo3 _ _ _ r c).trans (Eq.trans ?_ (congrArg _ (band 192 inb_S512x512_S32x512_192_0 r c (by omega))).symm)
    exact (rope_lo _ _ _ 0 _ _ 192 (by omega) (by omega) r c).symm
  · intro x
    obtain ⟨r, c, rfl⟩ : ∃ (r : Fin 32) (c : Fin 512), x = ix2 r c := ⟨x 0, x 1, eq_ix2 x⟩
    refine (q_hi2 _ _ _ r c).trans (Eq.trans ?_ (congrArg _ (band 160 inb_S512x512_S32x512_160_0 r c (by omega))).symm)
    exact (rope_hi _ _ _ 0 _ _ 128 (by omega) (by omega) r c).symm
  · intro x
    obtain ⟨r, c, rfl⟩ : ∃ (r : Fin 32) (c : Fin 512), x = ix2 r c := ⟨x 0, x 1, eq_ix2 x⟩
    refine (q_lo2 _ _ _ r c).trans (Eq.trans ?_ (congrArg _ (band 128 inb_S512x512_S32x512_128_0 r c (by omega))).symm)
    exact (rope_lo _ _ _ 0 _ _ 128 (by omega) (by omega) r c).symm
  · intro x
    obtain ⟨r, c, rfl⟩ : ∃ (r : Fin 32) (c : Fin 512), x = ix2 r c := ⟨x 0, x 1, eq_ix2 x⟩
    refine (q_hi1 _ _ _ r c).trans (Eq.trans ?_ (congrArg _ (band 96 inb_S512x512_S32x512_96_0 r c (by omega))).symm)
    exact (rope_hi _ _ _ 0 _ _ 64 (by omega) (by omega) r c).symm
  · intro x
    obtain ⟨r, c, rfl⟩ : ∃ (r : Fin 32) (c : Fin 512), x = ix2 r c := ⟨x 0, x 1, eq_ix2 x⟩
    refine (q_lo1 _ _ _ r c).trans (Eq.trans ?_ (congrArg _ (band 64 inb_S512x512_S32x512_64_0 r c (by omega))).symm)
    exact (rope_lo _ _ _ 0 _ _ 64 (by omega) (by omega) r c).symm
  · intro x
    obtain ⟨r, c, rfl⟩ : ∃ (r : Fin 32) (c : Fin 512), x = ix2 r c := ⟨x 0, x 1, eq_ix2 x⟩
    refine (q_hi0 _ _ _ _ r c).trans (Eq.trans ?_ (congrArg _ (band 32 inb_S512x512_S32x512_32_0 r c (by omega))).symm)
    refine Eq.trans ?_ (rope_hi _ _ _ 0 _ _ 0 (by omega) (by omega) r c).symm
    rw [show (⟨0 + 0 + r.val, by omega⟩ : Fin 1552) = ⟨r.val, by omega⟩ from Fin.ext (by simp)]
  · intro x
    obtain ⟨r, c, rfl⟩ : ∃ (r : Fin 32) (c : Fin 512), x = ix2 r c := ⟨x 0, x 1, eq_ix2 x⟩
    refine (q_lo0 _ _ _ _ r c).trans (Eq.trans ?_ (congrArg _ (band 0 inb_S512x512_S32x512_0_0 r c (by omega))).symm)
    refine Eq.trans ?_ (rope_lo _ _ _ 0 _ _ 0 (by omega) (by omega) r c).symm
    rw [show (⟨0 + 0 + r.val, by omega⟩ : Fin 1552) = ⟨r.val, by omega⟩ from Fin.ext (by simp)]

set_option maxHeartbeats 1000000 in
theorem out11_eq : (out0_11 (F := Ideal) x0 x1 x6 x7 : FVec Ideal S512x512 .bf16)
    = rope (k0_pay106 (F := Ideal) x6) (k0_pay107 (F := Ideal) x7) (k0_pay108 (F := Ideal) x0 x1) 512 (by omega) (Ideal.ofBits .f32 0x3F800000#32) := by
  funext y
  unfold out0_11
  simp only [k0_pay106, k0_pay107, k0_pay108]
  refine View.canon_apply_of_pieces _ _ ?_ y (cover0_10 _ _ _ _ _ _ _ _ _ _ _ _ _ _ _ _ y)
  refine View.PiecesOf.mem ?_
  refine ⟨?_, ?_, ?_, ?_, ?_, ?_, ?_, ?_, ?_, ?_, ?_, ?_, ?_, ?_, ?_, ?_, trivial⟩
  · intro x
    obtain ⟨r, c, rfl⟩ : ∃ (r : Fin 32) (c : Fin 512), x = ix2 r c := ⟨x 0, x 1, eq_ix2 x⟩
    refine (qi_hi7 _ _ _ r c).trans (Eq.trans ?_ (congrArg _ (band 480 inb_S512x512_S32x512_480_0 r c (by omega))).symm)
    exact (rope_hi _ _ _ 512 _ _ 448 (by omega) (by omega) r c).symm
  · intro x
    obtain ⟨r, c, rfl⟩ : ∃ (r : Fin 32) (c : Fin 512), x = ix2 r c := ⟨x 0, x 1, eq_ix2 x⟩
    refine (qi_lo7 _ _ _ r c).trans (Eq.trans ?_ (congrArg _ (band 448 inb_S512x512_S32x512_448_0 r c (by omega))).symm)
    exact (rope_lo _ _ _ 512 _ _ 448 (by omega) (by omega) r c).symm
  · intro x
    obtain ⟨r, c, rfl⟩ : ∃ (r : Fin 32) (c : Fin 512), x = ix2 r c := ⟨x 0, x 1, eq_ix2 x⟩
    refine (qi_hi6 _ _ _ r c).trans (Eq.trans ?_ (congrArg _ (band 416 inb_S512x512_S32x512_416_0 r c (by omega))).symm)
    exact (rope_hi _ _ _ 512 _ _ 384 (by omega) (by omega) r c).symm
  · intro x
    obtain ⟨r, c, rfl⟩ : ∃ (r : Fin 32) (c : Fin 512), x = ix2 r c := ⟨x 0, x 1, eq_ix2 x⟩
    refine (qi_lo6 _ _ _ r c).trans (Eq.trans ?_ (congrArg _ (band 384 inb_S512x512_S32x512_384_0 r c (by omega))).symm)
    exact (rope_lo _ _ _ 512 _ _ 384 (by omega) (by omega) r c).symm
  · intro x
    obtain ⟨r, c, rfl⟩ : ∃ (r : Fin 32) (c : Fin 512), x = ix2 r c := ⟨x 0, x 1, eq_ix2 x⟩
    refine (qi_hi5 _ _ _ r c).trans (Eq.trans ?_ (congrArg _ (band 352 inb_S512x512_S32x512_352_0 r c (by omega))).symm)
    exact (rope_hi _ _ _ 512 _ _ 320 (by omega) (by omega) r c).symm
  · intro x
    obtain ⟨r, c, rfl⟩ : ∃ (r : Fin 32) (c : Fin 512), x = ix2 r c := ⟨x 0, x 1, eq_ix2 x⟩
    refine (qi_lo5 _ _ _ r c).trans (Eq.trans ?_ (congrArg _ (band 320 inb_S512x512_S32x512_320_0 r c (by omega))).symm)
    exact (rope_lo _ _ _ 512 _ _ 320 (by omega) (by omega) r c).symm
  · intro x
    obtain ⟨r, c, rfl⟩ : ∃ (r : Fin 32) (c : Fin 512), x = ix2 r c := ⟨x 0, x 1, eq_ix2 x⟩
    refine (qi_hi4 _ _ _ r c).trans (Eq.trans ?_ (congrArg _ (band 288 inb_S512x512_S32x512_288_0 r c (by omega))).symm)
    exact (rope_hi _ _ _ 512 _ _ 256 (by omega) (by omega) r c).symm
  · intro x
    obtain ⟨r, c, rfl⟩ : ∃ (r : Fin 32) (c : Fin 512), x = ix2 r c := ⟨x 0, x 1, eq_ix2 x⟩
    refine (qi_lo4 _ _ _ r c).trans (Eq.trans ?_ (congrArg _ (band 256 inb_S512x512_S32x512_256_0 r c (by omega))).symm)
    exact (rope_lo _ _ _ 512 _ _ 256 (by omega) (by omega) r c).symm
  · intro x
    obtain ⟨r, c, rfl⟩ : ∃ (r : Fin 32) (c : Fin 512), x = ix2 r c := ⟨x 0, x 1, eq_ix2 x⟩
    refine (qi_hi3 _ _ _ r c).trans (Eq.trans ?_ (congrArg _ (band 224 inb_S512x512_S32x512_224_0 r c (by omega))).symm)
    exact (rope_hi _ _ _ 512 _ _ 192 (by omega) (by omega) r c).symm
  · intro x
    obtain ⟨r, c, rfl⟩ : ∃ (r : Fin 32) (c : Fin 512), x = ix2 r c := ⟨x 0, x 1, eq_ix2 x⟩
    refine (qi_lo3 _ _ _ r c).trans (Eq.trans ?_ (congrArg _ (band 192 inb_S512x512_S32x512_192_0 r c (by omega))).symm)
    exact (rope_lo _ _ _ 512 _ _ 192 (by omega) (by omega) r c).symm
  · intro x
    obtain ⟨r, c, rfl⟩ : ∃ (r : Fin 32) (c : Fin 512), x = ix2 r c := ⟨x 0, x 1, eq_ix2 x⟩
    refine (qi_hi2 _ _ _ r c).trans (Eq.trans ?_ (congrArg _ (band 160 inb_S512x512_S32x512_160_0 r c (by omega))).symm)
    exact (rope_hi _ _ _ 512 _ _ 128 (by omega) (by omega) r c).symm
  · intro x
    obtain ⟨r, c, rfl⟩ : ∃ (r : Fin 32) (c : Fin 512), x = ix2 r c := ⟨x 0, x 1, eq_ix2 x⟩
    refine (qi_lo2 _ _ _ r c).trans (Eq.trans ?_ (congrArg _ (band 128 inb_S512x512_S32x512_128_0 r c (by omega))).symm)
    exact (rope_lo _ _ _ 512 _ _ 128 (by omega) (by omega) r c).symm
  · intro x
    obtain ⟨r, c, rfl⟩ : ∃ (r : Fin 32) (c : Fin 512), x = ix2 r c := ⟨x 0, x 1, eq_ix2 x⟩
    refine (qi_hi1 _ _ _ r c).trans (Eq.trans ?_ (congrArg _ (band 96 inb_S512x512_S32x512_96_0 r c (by omega))).symm)
    exact (rope_hi _ _ _ 512 _ _ 64 (by omega) (by omega) r c).symm
  · intro x
    obtain ⟨r, c, rfl⟩ : ∃ (r : Fin 32) (c : Fin 512), x = ix2 r c := ⟨x 0, x 1, eq_ix2 x⟩
    refine (qi_lo1 _ _ _ r c).trans (Eq.trans ?_ (congrArg _ (band 64 inb_S512x512_S32x512_64_0 r c (by omega))).symm)
    exact (rope_lo _ _ _ 512 _ _ 64 (by omega) (by omega) r c).symm
  · intro x
    obtain ⟨r, c, rfl⟩ : ∃ (r : Fin 32) (c : Fin 512), x = ix2 r c := ⟨x 0, x 1, eq_ix2 x⟩
    refine (qi_hi0 _ _ _ _ r c).trans (Eq.trans ?_ (congrArg _ (band 32 inb_S512x512_S32x512_32_0 r c (by omega))).symm)
    exact (rope_hi _ _ _ 512 _ _ 0 (by omega) (by omega) r c).symm
  · intro x
    obtain ⟨r, c, rfl⟩ : ∃ (r : Fin 32) (c : Fin 512), x = ix2 r c := ⟨x 0, x 1, eq_ix2 x⟩
    refine (qi_lo0 _ _ _ _ r c).trans (Eq.trans ?_ (congrArg _ (band 0 inb_S512x512_S32x512_0_0 r c (by omega))).symm)
    exact (rope_lo _ _ _ 512 _ _ 0 (by omega) (by omega) r c).symm

end Cert.InIdeal.Whole
-- ==== Proof.InBlocks.lean ====
module

public import proofs.«01_k».proof.Defs
public import proofs.«01_k».proof.Proof.InBands
public import Idealize.ShloMosaic.Lib.Pointwise
public import Idealize.ShloMosaic.Lib.Pipeline.ReadBack

@[expose] public section

noncomputable section

namespace Cert.InIdeal.Whole

open Cert.InIdeal Cert.InIdeal.Gen Idealize.ShloMosaic Idealize.ShloMosaic.TcCoe Idealize.SL.Sem
open Idealize.ShloMosaic.Pipeline (Dat)

variable (x0 : FVec Ideal S512x1024 .f32) (x1 : FVec Ideal S1552x1024 .bf16) (x2 : FVec Ideal S1024x2816 .bf16) (x3 : FVec Ideal S128x128 .bf16)
  (x4 : FVec Ideal S128x128 .bf16) (x5 : FVec Ideal S1x128 .f32) (x6 : FVec Ideal S32x512 .f32) (x7 : FVec Ideal S32x512 .f32)
  (x8 : FVec Ideal S512x128 .f32) (x9 : FVec Ideal S512x128 .f32)

/-- The projected rows, at row `r` and packed column `q`. -/
def hr (x0 : FVec Ideal S512x1024 .f32) (x2 : FVec Ideal S1024x2816 .bf16) (r : Fin 512) (q : Fin 2816) : EReal :=
  ∑ k : Fin 1024, x0 (ix2 r k) * x2 (ix2 k q)

/-- `z` times its logistic value, as the kernel writes it. -/
def silu (z : EReal) : EReal := z * Ideal.div (Ideal.ofBits .f32 0x3F800000#32) (Ideal.ofBits .f32 0x3F800000#32 + Ideal.exp (Ideal.ofBits .f32 0x00000000#32 - z))

theorem mask_apply (r : Fin 512) (c : Fin 128) : k0_pay80 (ix2 r c) = if c.val % 64 < 32 then 1#1 else 0#1 := by
  pointwise [k0_pay80]
  revert c
  decide +kernel

theorem krot (hz C S : FVec Ideal S512x128 .f32) (r : Fin 512) (c : Fin 128) :
    (k0_pay85 (F := Ideal) C S k0_pay80 hz (dynamicRotate 1 96#32 none hz rotates_S512x128_d1) (dynamicRotate 1 32#32 none hz rotates_S512x128_d1) : FVec Ideal S512x128 .bf16) (ix2 r c)
     = hz (ix2 r c) * C (ix2 r c) + (if c.val % 64 < 32 then hz (ix2 r ⟨(c.val + 32) % 128, by omega⟩) else hz (ix2 r ⟨(c.val + 96) % 128, by omega⟩)) * S (ix2 r c) := by
  pointwise [k0_pay85]
  rw [mask_apply]
  split <;> simp [Scalar.select]

theorem out12_apply (r : Fin 512) (c : Fin 512) : (out0_12 (F := Ideal) x0 x1 : FVec Ideal S512x512 .bf16) (ix2 r c) = ∑ k : Fin 1024, x1 (ix2 ⟨1024 + r.val, by omega⟩ k) * x0 (ix2 c k) := by
  unfold out0_12
  refine (congrFun (View.canon_unit_zero (by funext a; fin_cases a <;> rfl) _ _) (ix2 r c)).trans ?_
  pointwise [k0_pay76, k0_pay108, k0_pay5, k0_pay2, hr, silu]

theorem out13_apply (r : Fin 8) (c : Fin 512) : (out0_13 (F := Ideal) x0 x1 : FVec Ideal S8x512 .f32) (ix2 r c) = (∑ k : Fin 1024, x1 (ix2 ⟨1536 + r.val, by omega⟩ k) * x0 (ix2 c k)) * Ideal.ofBits .f32 0x3D3504F3#32 := by
  unfold out0_13
  refine (congrFun (View.canon_unit_zero (by funext a; fin_cases a <;> rfl) _ _) (ix2 r c)).trans ?_
  pointwise [k0_pay77, k0_pay108, k0_pay5, k0_pay2, hr, silu]

theorem out16_apply (r : Fin 512) (c : Fin 512) : (out0_16 (F := Ideal) x0 x2 : FVec Ideal S512x512 .bf16) (ix2 r c) = silu (hr x0 x2 r ⟨640 + c.val, by omega⟩) := by
  unfold out0_16
  refine (congrFun (View.canon_unit_zero (by funext a; fin_cases a <;> rfl) _ _) (ix2 r c)).trans ?_
  pointwise [k0_pay92, k0_pay105, k0_pay2, hr, silu]

theorem out17_apply (r : Fin 512) (c : Fin 256) : (out0_17 (F := Ideal) x0 x2 : FVec Ideal S512x256 .f32) (ix2 r c) = hr x0 x2 r ⟨1152 + c.val, by omega⟩ * Ideal.div (Ideal.ofBits .f32 0x3F800000#32) (Ideal.ofBits .f32 0x3F800000#32 + Ideal.exp (Ideal.ofBits .f32 0x00000000#32 - hr x0 x2 r ⟨1408 + c.val, by omega⟩)) := by
  unfold out0_17
  refine (congrFun (View.canon_unit_zero (by funext a; fin_cases a <;> rfl) _ _) (ix2 r c)).trans ?_
  pointwise [k0_pay93, k0_pay105, k0_pay2, hr, silu]

theorem out18_apply (r : Fin 512) (c : Fin 256) : (out0_18 (F := Ideal) x0 x2 : FVec Ideal S512x256 .bf16) (ix2 r c) = silu (hr x0 x2 r ⟨1664 + c.val, by omega⟩) := by
  unfold out0_18
  refine (congrFun (View.canon_unit_zero (by funext a; fin_cases a <;> rfl) _ _) (ix2 r c)).trans ?_
  pointwise [k0_pay95, k0_pay94, k0_pay105, k0_pay2, hr, silu]

theorem out19_apply (r : Fin 512) (c : Fin 128) : (out0_19 (F := Ideal) x0 x2 : FVec Ideal S512x128 .f32) (ix2 r c) = hr x0 x2 r ⟨1920 + c.val, by omega⟩ * Ideal.ofBits .f32 0x3E3504F3#32 := by
  unfold out0_19
  refine (congrFun (View.canon_unit_zero (by funext a; fin_cases a <;> rfl) _ _) (ix2 r c)).trans ?_
  pointwise [k0_pay96, k0_pay105, k0_pay2, hr, silu]

theorem out20_apply (r : Fin 512) (c : Fin 128) : (out0_20 (F := Ideal) x0 x2 : FVec Ideal S512x128 .f32) (ix2 r c) = hr x0 x2 r ⟨2048 + c.val, by omega⟩ := by
  unfold out0_20
  refine (congrFun (View.canon_unit_zero (by funext a; fin_cases a <;> rfl) _ _) (ix2 r c)).trans ?_
  pointwise [k0_pay97, k0_pay105, k0_pay2, hr, silu]

theorem out21_apply (r : Fin 512) (c : Fin 256) : (out0_21 (F := Ideal) x0 x2 : FVec Ideal S512x256 .f32) (ix2 r c) = hr x0 x2 r ⟨2176 + c.val, by omega⟩ := by
  unfold out0_21
  refine (congrFun (View.canon_unit_zero (by funext a; fin_cases a <;> rfl) _ _) (ix2 r c)).trans ?_
  pointwise [k0_pay98, k0_pay105, k0_pay2, hr, silu]

theorem out22_apply (r : Fin 512) (c : Fin 256) : (out0_22 (F := Ideal) x0 x2 : FVec Ideal S512x256 .bf16) (ix2 r c) = silu (hr x0 x2 r ⟨2432 + c.val, by omega⟩) := by
  unfold out0_22
  refine (congrFun (View.canon_unit_zero (by funext a; fin_cases a <;> rfl) _ _) (ix2 r c)).trans ?_
  pointwise [k0_pay101, k0_pay100, k0_pay99, k0_pay105, k0_pay2, hr, silu]

/-- The keys' rotation by position within 64-lane heads, at row `r` and packed column `off + q`. -/
def kr (x0 : FVec Ideal S512x1024 .f32) (x2 : FVec Ideal S1024x2816 .bf16) (x8 x9 : FVec Ideal S512x128 .f32) (off : Nat) (ho : off ≤ 512)
    (r : Fin 512) (q : Fin 512) : EReal :=
  hr x0 x2 r ⟨off + q.val, by omega⟩ * x8 (ix2 r ⟨q.val % 128, by omega⟩)
    + (if q.val % 64 < 32 then hr x0 x2 r ⟨off + q.val + 32, by omega⟩ else hr x0 x2 r ⟨off + q.val - 32, by omega⟩)
      * x9 (ix2 r ⟨q.val % 128, by omega⟩)

theorem rot_hr (f : Fin 2816 → EReal) (off : Nat) (ho : off ≤ 1024) (c : Fin 128) :
    (if c.val % 64 < 32 then f ⟨off + (c.val + 32) % 128, by omega⟩ else f ⟨off + (c.val + 96) % 128, by omega⟩)
      = if c.val % 64 < 32 then f ⟨off + c.val + 32, by omega⟩ else f ⟨off + c.val - 32, by omega⟩ := by
  by_cases h : c.val % 64 < 32
  · rw [if_pos h, if_pos h]
    exact congrArg f (Fin.ext (show off + (c.val + 32) % 128 = off + c.val + 32 by omega))
  · rw [if_neg h, if_neg h]
    exact congrArg f (Fin.ext (show off + (c.val + 96) % 128 = off + c.val - 32 by omega))

theorem pay81_eq (x : FVec Ideal S512x1024 .bf16) (c s : FVec Ideal S512x128 .f32) (w : FVec Ideal S1024x128 .bf16) :
    (k0_pay81 (F := Ideal) x c s w) = k0_pay85 (k0_pay78 c) (k0_pay79 s) k0_pay80 (k0_pay82 x w)
      (dynamicRotate 1 96#32 none (k0_pay82 x w) rotates_S512x128_d1) (dynamicRotate 1 32#32 none (k0_pay82 x w) rotates_S512x128_d1) := rfl

theorem pay86_eq (x : FVec Ideal S512x1024 .bf16) (c s : FVec Ideal S512x128 .f32) (w : FVec Ideal S1024x128 .bf16) :
    (k0_pay86 (F := Ideal) x c s k0_pay80 w) = k0_pay85 c s k0_pay80 (k0_pay82 x w)
      (dynamicRotate 1 96#32 none (k0_pay82 x w) rotates_S512x128_d1) (dynamicRotate 1 32#32 none (k0_pay82 x w) rotates_S512x128_d1) := rfl

theorem pay87_eq (x : FVec Ideal S512x1024 .bf16) (c s : FVec Ideal S512x128 .f32) (w : FVec Ideal S1024x128 .bf16) :
    (k0_pay87 (F := Ideal) x c s k0_pay80 w) = k0_pay85 c s k0_pay80 (k0_pay82 x w)
      (dynamicRotate 1 96#32 none (k0_pay82 x w) rotates_S512x128_d1) (dynamicRotate 1 32#32 none (k0_pay82 x w) rotates_S512x128_d1) := rfl

theorem pay85_eq (x : FVec Ideal S512x1024 .bf16) (c s : FVec Ideal S512x128 .f32) (w : FVec Ideal S1024x128 .bf16) :
    (k0_pay85 (F := Ideal) c s k0_pay80 (k0_pay82 x w) (k0_pay83 x w) (k0_pay84 x w)) = k0_pay85 c s k0_pay80 (k0_pay82 x w)
      (dynamicRotate 1 96#32 none (k0_pay82 x w) rotates_S512x128_d1) (dynamicRotate 1 32#32 none (k0_pay82 x w) rotates_S512x128_d1) := rfl

/-- The last rotated block, which is only half as wide as the others. -/
theorem pay91_apply (x : FVec Ideal S512x1024 .bf16) (c s : FVec Ideal S512x128 .f32) (w : FVec Ideal S1024x128 .bf16) (r : Fin 512) (q : Fin 64) :
    (k0_pay91 (F := Ideal) (k0_pay89 x c w) (k0_pay90 x s k0_pay80 w) : FVec Ideal S512x64 .bf16) (ix2 r q)
      = (k0_pay85 (F := Ideal) c s k0_pay80 (k0_pay82 x w)
      (dynamicRotate 1 96#32 none (k0_pay82 x w) rotates_S512x128_d1) (dynamicRotate 1 32#32 none (k0_pay82 x w) rotates_S512x128_d1)
        : FVec Ideal S512x128 .bf16) (ix2 r ⟨q.val, by omega⟩) := by
  pointwise [k0_pay91, k0_pay89, k0_pay90, k0_pay85, k0_pay88, k0_pay82]

theorem cosr_apply (r : Fin 512) (c : Fin 128) : (k0_pay78 (F := Ideal) (View.ld (Val := Elt Ideal) (e' := .f32) x8 r0_21) : FVec Ideal S512x128 .f32) (ix2 r c) = x8 (ix2 r c) := by
  pointwise [k0_pay78]

theorem sinr_apply (r : Fin 512) (c : Fin 128) : (k0_pay79 (F := Ideal) (View.ld (Val := Elt Ideal) (e' := .f32) x9 r0_21) : FVec Ideal S512x128 .f32) (ix2 r c) = x9 (ix2 r c) := by
  pointwise [k0_pay79]

theorem bandc (off : Nat) (inb : ∀ a, (![0, off] : Fin 2 → Nat) a + S512x128.size a ≤ S512x512.size a) (r : Fin 512) (c : Fin 128)
    (h : off + c.val < 512) :
    (Rect.unit (s := S512x512) ![0, off] S512x128.size inb).emb (ix2 r c) = ix2 r ⟨off + c.val, h⟩ := by
  funext a; apply Fin.ext
  match a with
  | ⟨0, _⟩ => show 0 + 1 * r.val = r.val; omega
  | ⟨1, _⟩ => show off + 1 * c.val = off + c.val; omega

theorem kr_band (off : Nat) (ho : off % 128 = 0) (hl : off ≤ 384) (r : Fin 512) (c : Fin 128) :
    kr x0 x2 x8 x9 0 (by omega) r ⟨off + c.val, by omega⟩
      = hr x0 x2 r ⟨off + c.val, by omega⟩ * x8 (ix2 r c)
        + (if c.val % 64 < 32 then hr x0 x2 r ⟨off + (c.val + 32) % 128, by omega⟩ else hr x0 x2 r ⟨off + (c.val + 96) % 128, by omega⟩)
          * x9 (ix2 r c) := by
  rw [rot_hr (hr x0 x2 r) off (by omega) c]
  unfold kr
  have e1 : (⟨(off + c.val) % 128, by omega⟩ : Fin 128) = c := Fin.ext (show (off + c.val) % 128 = c.val by omega)
  have e2 : (⟨0 + (off + c.val), by omega⟩ : Fin 2816) = ⟨off + c.val, by omega⟩ := Fin.ext (show 0 + (off + c.val) = off + c.val by omega)
  have e3 : (⟨0 + (off + c.val) + 32, by omega⟩ : Fin 2816) = ⟨off + c.val + 32, by omega⟩ := Fin.ext (show 0 + (off + c.val) + 32 = off + c.val + 32 by omega)
  have e4 : (⟨0 + (off + c.val) - 32, by omega⟩ : Fin 2816) = ⟨off + c.val - 32, by omega⟩ := Fin.ext (show 0 + (off + c.val) - 32 = off + c.val - 32 by omega)
  have e5 : ((off + c.val) % 64 < 32) = (c.val % 64 < 32) := by
    have : (off + c.val) % 64 = c.val % 64 := by omega
    rw [this]
  simp only [e1, e2, e3, e4, e5]

theorem hz0 (r : Fin 512) (c : Fin 128) : (k0_pay82 (F := Ideal) (k0_pay2 (View.ld (Val := Elt Ideal) (e' := .f32) x0 r0_0)) (View.ld (Val := Elt Ideal) (e' := .bf16) x2 r0_22) : FVec Ideal S512x128 .f32) (ix2 r c)
    = hr x0 x2 r ⟨0 + c.val, by omega⟩ := by
  pointwise [k0_pay82, k0_pay2, hr]

theorem hz1 (r : Fin 512) (c : Fin 128) : (k0_pay82 (F := Ideal) (k0_pay2 (View.ld (Val := Elt Ideal) (e' := .f32) x0 r0_0)) (View.ld (Val := Elt Ideal) (e' := .bf16) x2 r0_24) : FVec Ideal S512x128 .f32) (ix2 r c)
    = hr x0 x2 r ⟨128 + c.val, by omega⟩ := by
  pointwise [k0_pay82, k0_pay2, hr]

theorem hz2 (r : Fin 512) (c : Fin 128) : (k0_pay82 (F := Ideal) (k0_pay2 (View.ld (Val := Elt Ideal) (e' := .f32) x0 r0_0)) (View.ld (Val := Elt Ideal) (e' := .bf16) x2 r0_26) : FVec Ideal S512x128 .f32) (ix2 r c)
    = hr x0 x2 r ⟨256 + c.val, by omega⟩ := by
  pointwise [k0_pay82, k0_pay2, hr]

theorem hz3 (r : Fin 512) (c : Fin 128) : (k0_pay82 (F := Ideal) (k0_pay2 (View.ld (Val := Elt Ideal) (e' := .f32) x0 r0_0)) (View.ld (Val := Elt Ideal) (e' := .bf16) x2 r0_28) : FVec Ideal S512x128 .f32) (ix2 r c)
    = hr x0 x2 r ⟨384 + c.val, by omega⟩ := by
  pointwise [k0_pay82, k0_pay2, hr]

theorem hz4 (r : Fin 512) (c : Fin 128) : (k0_pay82 (F := Ideal) (k0_pay2 (View.ld (Val := Elt Ideal) (e' := .f32) x0 r0_0)) (View.ld (Val := Elt Ideal) (e' := .bf16) x2 r0_30) : FVec Ideal S512x128 .f32) (ix2 r c)
    = hr x0 x2 r ⟨512 + c.val, by omega⟩ := by
  pointwise [k0_pay82, k0_pay2, hr]

/-- The block of rotated keys. -/
def keys (x0 : FVec Ideal S512x1024 .f32) (x2 : FVec Ideal S1024x2816 .bf16) (x8 x9 : FVec Ideal S512x128 .f32) : FVec Ideal S512x512 .bf16 :=
  fun y => kr x0 x2 x8 x9 0 (by omega) (y 0) (y 1)

theorem out14_eq : (out0_14 (F := Ideal) x0 x2 x8 x9 : FVec Ideal S512x512 .bf16) = keys x0 x2 x8 x9 := by
  funext y
  unfold out0_14
  simp only [k0_pay105, k0_pay109, k0_pay110, k0_pay111, pay81_eq, pay85_eq, pay86_eq, pay87_eq]
  refine View.canon_apply_of_pieces (Val := Elt Ideal) (e := .bf16) (keys x0 x2 x8 x9) _ ?_ y (cover0_14 _ _ _ _ y)
  refine View.PiecesOf.mem ?_
  refine ⟨?_, ?_, ?_, ?_, trivial⟩
  · intro x
    obtain ⟨r, c, rfl⟩ : ∃ (r : Fin 512) (c : Fin 128), x = ix2 r c := ⟨x 0, x 1, eq_ix2 x⟩
    refine (krot _ _ _ r c).trans (Eq.trans ?_ (congrArg (keys x0 x2 x8 x9) (bandc 384 inb_S512x512_S512x128_0_384 r c (by omega))).symm)
    refine Eq.trans ?_ (kr_band x0 x2 x8 x9 384 (by omega) (by omega) r c).symm
    rw [cosr_apply, sinr_apply, hz3, hz3, hz3]
  · intro x
    obtain ⟨r, c, rfl⟩ : ∃ (r : Fin 512) (c : Fin 128), x = ix2 r c := ⟨x 0, x 1, eq_ix2 x⟩
    refine (krot _ _ _ r c).trans (Eq.trans ?_ (congrArg (keys x0 x2 x8 x9) (bandc 256 inb_S512x512_S512x128_0_256 r c (by omega))).symm)
    refine Eq.trans ?_ (kr_band x0 x2 x8 x9 256 (by omega) (by omega) r c).symm
    rw [cosr_apply, sinr_apply, hz2, hz2, hz2]
  · intro x
    obtain ⟨r, c, rfl⟩ : ∃ (r : Fin 512) (c : Fin 128), x = ix2 r c := ⟨x 0, x 1, eq_ix2 x⟩
    refine (krot _ _ _ r c).trans (Eq.trans ?_ (congrArg (keys x0 x2 x8 x9) (bandc 128 inb_S512x512_S512x128_0_128 r c (by omega))).symm)
    refine Eq.trans ?_ (kr_band x0 x2 x8 x9 128 (by omega) (by omega) r c).symm
    rw [cosr_apply, sinr_apply, hz1, hz1, hz1]
  · intro x
    obtain ⟨r, c, rfl⟩ : ∃ (r : Fin 512) (c : Fin 128), x = ix2 r c := ⟨x 0, x 1, eq_ix2 x⟩
    refine (krot _ _ _ r c).trans (Eq.trans ?_ (congrArg (keys x0 x2 x8 x9) (bandc 0 inb_S512x512_S512x128_0_0 r c (by omega))).symm)
    refine Eq.trans ?_ (kr_band x0 x2 x8 x9 0 (by omega) (by omega) r c).symm
    rw [cosr_apply, sinr_apply, hz0, hz0, hz0]

theorem out15_apply (r : Fin 512) (c : Fin 64) : (out0_15 (F := Ideal) x0 x2 x8 x9 : FVec Ideal S512x64 .bf16) (ix2 r c) = kr x0 x2 x8 x9 512 (by omega) r ⟨c.val, by omega⟩ := by
  unfold out0_15
  simp only [k0_pay105, k0_pay109, k0_pay110, k0_pay111]
  refine (congrFun (View.canon_unit_zero (by funext a; fin_cases a <;> rfl) _ _) (ix2 r c)).trans ?_
  rw [pay91_apply, krot, cosr_apply, sinr_apply, hz4, hz4, hz4]
  have e := rot_hr (hr x0 x2 r) 512 (by omega) ⟨c.val, by omega⟩
  simp only [] at e ⊢
  rw [e]
  unfold kr
  have e1 : (⟨c.val % 128, by omega⟩ : Fin 128) = ⟨c.val, by omega⟩ := Fin.ext (show c.val % 128 = c.val by omega)
  simp only [e1]

/-- The low-rank decay's argument, at row `r` and column `c`, as the kernel sums it: the product, its two corrections and the bias. -/
def lz (x0 : FVec Ideal S512x1024 .f32) (x2 : FVec Ideal S1024x2816 .bf16) (x3 x4 : FVec Ideal S128x128 .bf16) (x5 : FVec Ideal S1x128 .f32)
    (r : Fin 512) (c : Fin 128) : EReal :=
  ((∑ j : Fin 128, hr x0 x2 r ⟨2688 + j.val, by omega⟩ * x3 (ix2 j c)
    + ∑ j : Fin 128, (hr x0 x2 r ⟨2688 + j.val, by omega⟩ - hr x0 x2 r ⟨2688 + j.val, by omega⟩) * x3 (ix2 j c))
    + ∑ j : Fin 128, hr x0 x2 r ⟨2688 + j.val, by omega⟩ * x4 (ix2 j c)) + x5 (ix2 0 c)

theorem lz_apply (r : Fin 512) (c : Fin 128) : (k0_pay102 (F := Ideal) (k0_pay105 (F := Ideal) x0) (View.ld (Val := Elt Ideal) (e' := .bf16) x2 r0_41) (View.ld (Val := Elt Ideal) (e' := .bf16) x3 r0_42) (View.ld (Val := Elt Ideal) (e' := .bf16) x3 r0_42) (View.ld (Val := Elt Ideal) (e' := .bf16) x4 r0_42) (View.ld (Val := Elt Ideal) (e' := .f32) x5 r0_43) : FVec Ideal S512x128 .f32) (ix2 r c)
    = lz x0 x2 x3 x4 x5 r c := by
  pointwise [k0_pay102, k0_pay105, k0_pay2, lz, hr]

/-- The logarithm of the logistic function, over sixteen, as the kernel writes it. -/
def lsig (z : EReal) : EReal :=
  (min z (Ideal.ofBits .f32 0x00000000#32) - Ideal.log (Ideal.ofBits .f32 0x3F800000#32 + Ideal.exp (Ideal.ofBits .f32 0x00000000#32 - FloatOps.absf (F := Ideal) (φ := .f32) z)))
    * Ideal.ofBits .f32 0x3D800000#32

theorem out23_apply (r : Fin 512) (c : Fin 128) : (out0_23 (F := Ideal) x0 x2 x3 x4 x5 : FVec Ideal S512x128 .f32) (ix2 r c) = lsig (lz x0 x2 x3 x4 x5 r c) := by
  unfold out0_23
  refine (congrFun (View.canon_unit_zero (by funext a; fin_cases a <;> rfl) _ _) (ix2 r c)).trans ?_
  rw [← lz_apply x0 x2 x3 x4 x5]
  pointwise [k0_pay1, k0_pay103, k0_pay104, lsig]

end Cert.InIdeal.Whole
-- ==== Proof.InHost.lean ====
module

public import proofs.«01_k».proof.Defs
public import proofs.«01_k».proof.Proof.InIdealFrame
public import Idealize.ShloMosaic.Lib.Pointwise
public import Idealize.ShloMosaic.Lib.StableHlo.ReadAt
public import Idealize.ShloMosaic.Lib.Routing.OpsPair

@[expose] public section

noncomputable section

namespace Cert.InIdeal.Whole

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem wt_0 (c : Dev nD) (k : Fin 1024) (j : Fin 512) : V m c main_v23 (ix2 ⟨j.val, by omega⟩ k) = m ((c : Thread nD τ).loc main_arg1) (ix2 k ⟨j.val, by omega⟩) := by
  unfold V
  after_reads_at
  all_goals after_reads_at
  all_goals exact congrArg (fun q => m ((c : Thread nD τ).loc main_arg1) (ix2 k q)) (Fin.ext (by dsimp only; omega))
theorem wt_512 (c : Dev nD) (k : Fin 1024) (j : Fin 512) : V m c main_v23 (ix2 ⟨512 + j.val, by omega⟩ k) = m ((c : Thread nD τ).loc main_arg1) (ix2 k ⟨2048 + j.val, by omega⟩) := by
  unfold V
  after_reads_at
  all_goals after_reads_at
  all_goals exact congrArg (fun q => m ((c : Thread nD τ).loc main_arg1) (ix2 k q)) (Fin.ext (by dsimp only; omega))
theorem wt_1024 (c : Dev nD) (k : Fin 1024) (j : Fin 512) : V m c main_v23 (ix2 ⟨1024 + j.val, by omega⟩ k) = m ((c : Thread nD τ).loc main_arg1) (ix2 k ⟨1024 + j.val, by omega⟩) := by
  unfold V
  after_reads_at
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wt_1536 (c : Dev nD) (k : Fin 1024) (j : Fin 8) : V m c main_v23 (ix2 ⟨1536 + j.val, by omega⟩ k) = m ((c : Thread nD τ).loc main_arg1) (ix2 k ⟨2624 + j.val, by omega⟩) := by
  unfold V
  after_reads_at
  all_goals refine (dif_neg (by omega)).trans ?_
  all_goals refine (dif_neg (by omega)).trans ?_
  all_goals refine (dif_neg (by omega)).trans ?_
  all_goals try after_reads_at
  all_goals refine (dif_pos (by omega)).trans ?_
  all_goals try after_reads_at
  all_goals exact congrArg (fun q => m ((c : Thread nD τ).loc main_arg1) (ix2 k q)) (Fin.ext (by dsimp only; omega))
theorem wr_0 (c : Dev nD) (k : Fin 1024) (j : Fin 512) : V m c main_v24 (ix2 k ⟨j.val, by omega⟩) = m ((c : Thread nD τ).loc main_arg1) (ix2 k ⟨512 + j.val, by omega⟩) := by
  unfold V
  after_reads_at
  all_goals after_reads_at
  all_goals exact congrArg (fun q => m ((c : Thread nD τ).loc main_arg1) (ix2 k q)) (Fin.ext (by dsimp only; omega))
theorem wr_512 (c : Dev nD) (k : Fin 1024) (j : Fin 64) : V m c main_v24 (ix2 k ⟨512 + j.val, by omega⟩) = m ((c : Thread nD τ).loc main_arg1) (ix2 k ⟨2560 + j.val, by omega⟩) := by
  unfold V
  after_reads_at
  all_goals refine (dif_pos (by omega)).trans ?_
  all_goals try after_reads_at
  all_goals refine (dif_pos (by omega)).trans ?_
  all_goals try after_reads_at
  all_goals exact congrArg (fun q => m ((c : Thread nD τ).loc main_arg1) (ix2 k q)) (Fin.ext (by dsimp only; omega))
theorem wr_640 (c : Dev nD) (k : Fin 1024) (j : Fin 512) : V m c main_v24 (ix2 k ⟨640 + j.val, by omega⟩) = m ((c : Thread nD τ).loc main_arg1) (ix2 k ⟨1536 + j.val, by omega⟩) := by
  unfold V
  after_reads_at
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_1152 (c : Dev nD) (k : Fin 1024) (j : Fin 256) : V m c main_v24 (ix2 k ⟨1152 + j.val, by omega⟩) = m ((c : Thread nD τ).loc main_arg1) (ix2 k ⟨2632 + j.val, by omega⟩) := by
  unfold V
  after_reads_at
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_1408 (c : Dev nD) (k : Fin 1024) (j : Fin 256) : V m c main_v24 (ix2 k ⟨1408 + j.val, by omega⟩) = m ((c : Thread nD τ).loc main_arg1) (ix2 k ⟨2888 + j.val, by omega⟩) := by
  unfold V
  after_reads_at
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_1664 (c : Dev nD) (k : Fin 1024) (j : Fin 256) : V m c main_v24 (ix2 k ⟨1664 + j.val, by omega⟩) = m ((c : Thread nD τ).loc main_arg1) (ix2 k ⟨3144 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_1920 (c : Dev nD) (k : Fin 1024) (j : Fin 128) : V m c main_v24 (ix2 k ⟨1920 + j.val, by omega⟩) = m ((c : Thread nD τ).loc main_arg1) (ix2 k ⟨3400 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_2048 (c : Dev nD) (k : Fin 1024) (j : Fin 128) : V m c main_v24 (ix2 k ⟨2048 + j.val, by omega⟩) = m ((c : Thread nD τ).loc main_arg1) (ix2 k ⟨3528 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_2176 (c : Dev nD) (k : Fin 1024) (j : Fin 256) : V m c main_v24 (ix2 k ⟨2176 + j.val, by omega⟩) = m ((c : Thread nD τ).loc main_arg1) (ix2 k ⟨3656 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_2432 (c : Dev nD) (k : Fin 1024) (j : Fin 256) : V m c main_v24 (ix2 k ⟨2432 + j.val, by omega⟩) = m ((c : Thread nD τ).loc main_arg1) (ix2 k ⟨3912 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_pos (by omega)).trans ?_
  all_goals try after_reads_at
  all_goals exact congrArg (fun q => m ((c : Thread nD τ).loc main_arg1) (ix2 k q)) (Fin.ext (by dsimp only; omega))
theorem wr_2688 (c : Dev nD) (k : Fin 1024) (j : Fin 16) : V m c main_v24 (ix2 k ⟨2688 + j.val, by omega⟩) = m ((c : Thread nD τ).loc main_arg1) (ix2 k ⟨4168 + j.val, by omega⟩) := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals try after_reads_at
  all_goals refine (dif_pos (by omega)).trans ?_
  all_goals try after_reads_at
  all_goals exact congrArg (fun q => m ((c : Thread nD τ).loc main_arg1) (ix2 k q)) (Fin.ext (by dsimp only; omega))
theorem wr_pad (c : Dev nD) (k : Fin 1024) (j : Fin 112) : V m c main_v24 (ix2 k ⟨2704 + j.val, by omega⟩) = Ideal.ofBits .f32 0x00000000#32 := by
  unfold V
  after_reads_at
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals refine (dif_neg (by omega)).trans ?_
  all_goals try after_reads_at
  all_goals try refine (dif_neg (by omega)).trans ?_
  all_goals try after_reads_at
theorem gb (c : Dev nD) (j : Fin 128) : V m c main_v37 (ix2 0 j) = m ((c : Thread nD τ).loc main_arg3) (ix1 j) := by
  unfold V
  after_reads_at
theorem tcos (c : Dev nD) (j : Fin 32) (R : Fin 32768) : V m c main_v32 (ix2 j R) = m ((c : Thread nD τ).loc main_arg4) (ix2 R j) := by
  unfold V
  after_reads_at
theorem tsin (c : Dev nD) (j : Fin 32) (R : Fin 32768) : V m c main_v33 (ix2 j R) = m ((c : Thread nD τ).loc main_arg5) (ix2 R j) := by
  unfold V
  after_reads_at
theorem rcos_0 (c : Dev nD) (R : Fin 32768) (j : Fin 32) : V m c main_v34 (ix2 R ⟨j.val, by omega⟩) = m ((c : Thread nD τ).loc main_arg4) (ix2 R j) := by
  unfold V
  after_reads_at
  all_goals refine (dif_pos (by omega)).trans ?_
  all_goals try after_reads_at
  all_goals exact congrArg (fun q => m ((c : Thread nD τ).loc main_arg4) (ix2 R q)) (Fin.ext (by dsimp only; omega))
theorem rsin_0 (c : Dev nD) (R : Fin 32768) (j : Fin 32) : V m c main_v36 (ix2 R ⟨j.val, by omega⟩) = Neg.neg (α := EReal) (m ((c : Thread nD τ).loc main_arg5) (ix2 R j)) := by
  unfold V
  after_reads_at
  all_goals after_reads_at
  all_goals exact congrArg (fun q => Neg.neg (α := EReal) (m ((c : Thread nD τ).loc main_arg5) (ix2 R q))) (Fin.ext (by dsimp only; omega))
theorem rcos_32 (c : Dev nD) (R : Fin 32768) (j : Fin 32) : V m c main_v34 (ix2 R ⟨32 + j.val, by omega⟩) = m ((c : Thread nD τ).loc main_arg4) (ix2 R j) := by
  unfold V
  after_reads_at
  all_goals refine (dif_neg (by omega)).trans ?_
  all_goals refine (dif_pos (by omega)).trans ?_
  all_goals try after_reads_at
  all_goals exact congrArg (fun q => m ((c : Thread nD τ).loc main_arg4) (ix2 R q)) (Fin.ext (by dsimp only; omega))
theorem rsin_32 (c : Dev nD) (R : Fin 32768) (j : Fin 32) : V m c main_v36 (ix2 R ⟨32 + j.val, by omega⟩) = (m ((c : Thread nD τ).loc main_arg5) (ix2 R j)) := by
  unfold V
  after_reads_at
  all_goals refine (dif_neg (by omega)).trans ?_
  all_goals refine (dif_pos (by omega)).trans ?_
  all_goals try after_reads_at
  all_goals exact congrArg (fun q => (m ((c : Thread nD τ).loc main_arg5) (ix2 R q))) (Fin.ext (by dsimp only; omega))
theorem rcos_64 (c : Dev nD) (R : Fin 32768) (j : Fin 32) : V m c main_v34 (ix2 R ⟨64 + j.val, by omega⟩) = m ((c : Thread nD τ).loc main_arg4) (ix2 R j) := by
  unfold V
  after_reads_at
  all_goals refine (dif_neg (by omega)).trans ?_
  all_goals refine (dif_neg (by omega)).trans ?_
  all_goals refine (dif_pos (by omega)).trans ?_
  all_goals try after_reads_at
  all_goals exact congrArg (fun q => m ((c : Thread nD τ).loc main_arg4) (ix2 R q)) (Fin.ext (by dsimp only; omega))
theorem rsin_64 (c : Dev nD) (R : Fin 32768) (j : Fin 32) : V m c main_v36 (ix2 R ⟨64 + j.val, by omega⟩) = Neg.neg (α := EReal) (m ((c : Thread nD τ).loc main_arg5) (ix2 R j)) := by
  unfold V
  after_reads_at
  all_goals refine (dif_neg (by omega)).trans ?_
  all_goals refine (dif_neg (by omega)).trans ?_
  all_goals refine (dif_pos (by omega)).trans ?_
  all_goals try after_reads_at
  all_goals exact congrArg (fun q => Neg.neg (α := EReal) (m ((c : Thread nD τ).loc main_arg5) (ix2 R q))) (Fin.ext (by dsimp only; omega))
theorem rcos_96 (c : Dev nD) (R : Fin 32768) (j : Fin 32) : V m c main_v34 (ix2 R ⟨96 + j.val, by omega⟩) = m ((c : Thread nD τ).loc main_arg4) (ix2 R j) := by
  unfold V
  after_reads_at
  all_goals refine (dif_neg (by omega)).trans ?_
  all_goals refine (dif_neg (by omega)).trans ?_
  all_goals refine (dif_neg (by omega)).trans ?_
  all_goals try after_reads_at
  all_goals exact congrArg (fun q => m ((c : Thread nD τ).loc main_arg4) (ix2 R q)) (Fin.ext (by dsimp only; omega))
theorem rsin_96 (c : Dev nD) (R : Fin 32768) (j : Fin 32) : V m c main_v36 (ix2 R ⟨96 + j.val, by omega⟩) = (m ((c : Thread nD τ).loc main_arg5) (ix2 R j)) := by
  unfold V
  after_reads_at
  all_goals refine (dif_neg (by omega)).trans ?_
  all_goals refine (dif_neg (by omega)).trans ?_
  all_goals refine (dif_neg (by omega)).trans ?_
  all_goals try after_reads_at
  all_goals exact congrArg (fun q => (m ((c : Thread nD τ).loc main_arg5) (ix2 R q))) (Fin.ext (by dsimp only; omega))

theorem foldl_hit {α β : Type} (p : β → Prop) [DecidablePred p] (g : β → α) (v : α) :
    ∀ (L : List β) (x : α), (∀ n ∈ L, p n → g n = v) → (x = v ∨ ∃ n ∈ L, p n) → L.foldl (fun a n => if p n then g n else a) x = v
  | [], x, _, h => by
    rcases h with h | ⟨n, hn, _⟩
    · exact h
    · cases hn
  | b :: L, x, hg, h => by
    rw [List.foldl_cons]
    refine foldl_hit p g v L _ (fun n hn => hg n (List.mem_cons_of_mem _ hn)) ?_
    by_cases hb : p b
    · left; rw [if_pos hb]; exact hg b List.mem_cons_self hb
    · rw [if_neg hb]
      rcases h with h | ⟨n, hn, hp⟩
      · exact Or.inl h
      · rcases List.mem_cons.1 hn with rfl | hn
        · exact absurd hp hb
        · exact Or.inr ⟨n, hn, hp⟩

theorem lands (k : Fin 16) (j : Fin 128) (r : Fin 128) (q : Fin 128) (idx : IVec S1 32) (hi : ∀ i, idx i = 0#32) :
    scatter_S128x128_S1_S16x128_01_n_0_0.resultIdx? (ix2 k j) idx = some (ix2 r q) ↔ k.val = r.val ∧ j = q := by
  refine (Routing.resultIdx?_ix2 (R := 128) (C := 128) scatter_S128x128_S1_S16x128_01_n_0_0 (ix2 k j) idx r q).trans ?_
  have w0 : scatter_S128x128_S1_S16x128_01_n_0_0.window (ix2 k j) 0 = k.val := rfl
  have w1 : scatter_S128x128_S1_S16x128_01_n_0_0.window (ix2 k j) 1 = j.val := rfl
  have s0 : scatter_S128x128_S1_S16x128_01_n_0_0.start (ix2 k j) idx 0 = 0 := by
    simp [ScatterDims.start, hi]
  have s1 : scatter_S128x128_S1_S16x128_01_n_0_0.start (ix2 k j) idx 1 = 0 := by
    simp [ScatterDims.start, hi, scatter_S128x128_S1_S16x128_01_n_0_0]
  rw [w0, w1, s0, s1, Fin.ext_iff]
  omega

theorem scat (x : S128x128.Idx → EReal) (idx : IVec S1 32) (hi : ∀ i, idx i = 0#32) (u : S16x128.Idx → EReal) (r q : Fin 128) :
    Host.scatter scatter_S128x128_S1_S16x128_01_n_0_0 (fun _ b => b) x idx u (ix2 r q) = if h : r.val < 16 then u (ix2 ⟨r.val, h⟩ q) else x (ix2 r q) := by
  refine (Routing.scatter_at scatter_S128x128_S1_S16x128_01_n_0_0 (fun _ b => b) x idx u (ix2 r q)).trans ?_
  have key : ∀ n : Fin S16x128.numel, scatter_S128x128_S1_S16x128_01_n_0_0.resultIdx? (S16x128.rowMajor.symm n) idx = some (ix2 r q)
      ↔ (S16x128.rowMajor.symm n (0 : Fin 2)).val = r.val ∧ S16x128.rowMajor.symm n (1 : Fin 2) = q := fun n => by
    have e := eq_ix2 (S16x128.rowMajor.symm n)
    rw [e]
    exact lands _ _ r q idx hi
  by_cases h : r.val < 16
  · rw [dif_pos h]
    refine foldl_hit _ _ _ _ _ (fun n _ hn => ?_) (Or.inr ⟨S16x128.rowMajor (ix2 ⟨r.val, h⟩ q), List.mem_finRange _, ?_⟩)
    · obtain ⟨h0, h1⟩ := (key n).1 hn
      refine congrArg u ?_
      rw [eq_ix2 (S16x128.rowMajor.symm n)]
      rw [h1]
      exact congrArg (fun a => ix2 a q) (Fin.ext h0)
    · rw [key, Equiv.symm_apply_apply]
      exact ⟨rfl, rfl⟩
  · rw [dif_neg h]
    refine foldl_hit _ _ _ _ _ (fun n _ hn => ?_) (Or.inl rfl)
    have h0 := ((key n).1 hn).1
    have h1 : (S16x128.rowMajor.symm n (0 : Fin 2)).val < 16 := (S16x128.rowMajor.symm n (0 : Fin 2)).isLt
    omega

theorem w2_apply (c : Dev nD) (k j : Fin 128) : V m c main_v28 (ix2 k j)
    = if h : k.val < 16 then m ((c : Thread nD τ).loc main_arg2) (ix2 ⟨k.val, h⟩ j) else Ideal.ofBits .f32 0x00000000#32 := by
  unfold V
  after_reads_at
  refine (scat _ _ (fun i => ?_) _ k j).trans ?_
  · pointwise []
  · split
    · rfl
    · pointwise []
theorem w2l_apply (c : Dev nD) (k j : Fin 128) : V m c main_v31 (ix2 k j) = HSub.hSub (α := EReal) (β := EReal) (γ := EReal) (V m c main_v28 (ix2 k j)) (V m c main_v28 (ix2 k j)) := by
  unfold V
  after_reads_at

end Cert.InIdeal.Whole
-- ==== Proof.RefInOps.lean ====
/- The reference's operations in order, and its run. -/
module

public import proofs.«01_k».proof.Proof.Gen.RefInIdeal
public import proofs.«01_k».proof.Proof.Gen.RefOutIdeal.Run
public import Idealize.ShloMosaic.Lib.StableHlo.Run

@[expose] public section

noncomputable section

namespace Cert.RefInIdeal.Value

open Cert.RefInIdeal Cert.RefInIdeal.Gen Idealize.ShloMosaic Idealize.ShloMosaic.TcCoe Idealize.SL.Sem Idealize.ShloMosaic.StableHlo

variable {F : FTy → Type} [FloatOps F]

/-- The function of the operation that writes `main_v30`, named. It packs its operands into a list of dependent pairs
    whose shapes a later argument's type mentions, so `simp` cannot rewrite an operand where it stands; applied by
    name, the operands are plain arguments, which `run`'s simp pass rewrites before the name unfolds. -/
def fn_main_v30 : Vec F S32768x8x32 .f32 → Vec F S32768x8x32 .f32 → Vec F S32768x8x64 .f32 :=
  (fun a b => concatenate S32768x8x64 2 [⟨S32768x8x32, a⟩, ⟨S32768x8x32, b⟩] concatenates_S32768x8x32_S32768x8x32_S32768x8x64_d2)

/-- The function of the operation that writes `main_v48`, named. It packs its operands into a list of dependent pairs
    whose shapes a later argument's type mentions, so `simp` cannot rewrite an operand where it stands; applied by
    name, the operands are plain arguments, which `run`'s simp pass rewrites before the name unfolds. -/
def fn_main_v48 : Vec F S32768x8x32 .f32 → Vec F S32768x8x32 .f32 → Vec F S32768x8x64 .f32 :=
  (fun a b => concatenate S32768x8x64 2 [⟨S32768x8x32, a⟩, ⟨S32768x8x32, b⟩] concatenates_S32768x8x32_S32768x8x32_S32768x8x64_d2)

/-- The function of the operation that writes `main_v64`, named. It packs its operands into a list of dependent pairs
    whose shapes a later argument's type mentions, so `simp` cannot rewrite an operand where it stands; applied by
    name, the operands are plain arguments, which `run`'s simp pass rewrites before the name unfolds. -/
def fn_main_v64 : Vec F S32768x8x32 .f32 → Vec F S32768x8x32 .f32 → Vec F S32768x8x64 .f32 :=
  (fun a b => concatenate S32768x8x64 2 [⟨S32768x8x32, a⟩, ⟨S32768x8x32, b⟩] concatenates_S32768x8x32_S32768x8x32_S32768x8x64_d2)

/-- The function of the operation that writes `main_v76`, named. It packs its operands into a list of dependent pairs
    whose shapes a later argument's type mentions, so `simp` cannot rewrite an operand where it stands; applied by
    name, the operands are plain arguments, which `run`'s simp pass rewrites before the name unfolds. -/
def fn_main_v76 : Vec F S32768x1x32 .f32 → Vec F S32768x1x32 .f32 → Vec F S32768x1x64 .f32 :=
  (fun a b => concatenate S32768x1x64 2 [⟨S32768x1x32, a⟩, ⟨S32768x1x32, b⟩] concatenates_S32768x1x32_S32768x1x32_S32768x1x64_d2)

set_option maxHeartbeats 16000000 in
/-- @main's 161 operations, in order (a called function's operations stand in its call's place, spelt `TRef.…`). -/
abbrev ops : List (HloOp τ sig (Elt F)) :=
  [ binary main_arg0 main_arg1 main_v0 ((fun l r => Host.dotGeneral dot_S32768x1024_S1024x4184_S32768x4184_1_0_0_1_n_n none l r) : Vec F S32768x1024 .f32 → Vec F S1024x4184 .f32 → Vec F S32768x4184 .f32),
    unary main_v0 main_v1 ((extractStridedSlice S32768x512 ![0, 0] · slices_S32768x4184_S32768x512_0_0) : Vec F S32768x4184 .f32 → Vec F S32768x512 .f32),
    unary main_v0 main_v2 ((extractStridedSlice S32768x512 ![0, 512] · slices_S32768x4184_S32768x512_0_512) : Vec F S32768x4184 .f32 → Vec F S32768x512 .f32),
    unary main_v0 main_v3 ((extractStridedSlice S32768x512 ![0, 1024] · slices_S32768x4184_S32768x512_0_1024) : Vec F S32768x4184 .f32 → Vec F S32768x512 .f32),
    unary main_v0 main_v4 ((extractStridedSlice S32768x512 ![0, 1536] · slices_S32768x4184_S32768x512_0_1536) : Vec F S32768x4184 .f32 → Vec F S32768x512 .f32),
    unary main_v0 main_v5 ((extractStridedSlice S32768x512 ![0, 2048] · slices_S32768x4184_S32768x512_0_2048) : Vec F S32768x4184 .f32 → Vec F S32768x512 .f32),
    unary main_v0 main_v6 ((extractStridedSlice S32768x64 ![0, 2560] · slices_S32768x4184_S32768x64_0_2560) : Vec F S32768x4184 .f32 → Vec F S32768x64 .f32),
    unary main_v0 main_v7 ((extractStridedSlice S32768x8 ![0, 2624] · slices_S32768x4184_S32768x8_0_2624) : Vec F S32768x4184 .f32 → Vec F S32768x8 .f32),
    unary main_v0 main_v8 ((extractStridedSlice S32768x512 ![0, 2632] · slices_S32768x4184_S32768x512_0_2632) : Vec F S32768x4184 .f32 → Vec F S32768x512 .f32),
    unary main_v0 main_v9 ((extractStridedSlice S32768x256 ![0, 3144] · slices_S32768x4184_S32768x256_0_3144) : Vec F S32768x4184 .f32 → Vec F S32768x256 .f32),
    unary main_v0 main_v10 ((extractStridedSlice S32768x128 ![0, 3400] · slices_S32768x4184_S32768x128_0_3400) : Vec F S32768x4184 .f32 → Vec F S32768x128 .f32),
    unary main_v0 main_v11 ((extractStridedSlice S32768x128 ![0, 3528] · slices_S32768x4184_S32768x128_0_3528) : Vec F S32768x4184 .f32 → Vec F S32768x128 .f32),
    unary main_v0 main_v12 ((extractStridedSlice S32768x256 ![0, 3656] · slices_S32768x4184_S32768x256_0_3656) : Vec F S32768x4184 .f32 → Vec F S32768x256 .f32),
    unary main_v0 main_v13 ((extractStridedSlice S32768x256 ![0, 3912] · slices_S32768x4184_S32768x256_0_3912) : Vec F S32768x4184 .f32 → Vec F S32768x256 .f32),
    unary main_v0 main_v14 ((extractStridedSlice S32768x16 ![0, 4168] · slices_S32768x4184_S32768x16_0_4168) : Vec F S32768x4184 .f32 → Vec F S32768x16 .f32),
    reshape main_v1 main_v15 (rfl : (.f32 : EltTy) = .f32) shapeCasts_S32768x512_S32768x8x64,
    unary main_v15 main_v16 ((extractStridedSlice S32768x8x32 ![0, 0, 0] · slices_S32768x8x64_S32768x8x32_0_0_0) : Vec F S32768x8x64 .f32 → Vec F S32768x8x32 .f32),
    unary main_v15 main_v17 ((extractStridedSlice S32768x8x32 ![0, 0, 32] · slices_S32768x8x64_S32768x8x32_0_0_32) : Vec F S32768x8x64 .f32 → Vec F S32768x8x32 .f32),
    unary main_arg4 main_v18 (broadcastInDim S32768x1x32 ![0, 2] bcast_S32768x32_S32768x1x32_0_2 : Vec F S32768x32 .f32 → Vec F S32768x1x32 .f32),
    unary main_arg5 main_v19 (broadcastInDim S32768x1x32 ![0, 2] bcast_S32768x32_S32768x1x32_0_2 : Vec F S32768x32 .f32 → Vec F S32768x1x32 .f32),
    unary main_v18 main_v20 (broadcastInDim S32768x8x32 ![0, 1, 2] bcast_S32768x1x32_S32768x8x32_0_1_2 : Vec F S32768x1x32 .f32 → Vec F S32768x8x32 .f32),
    binary main_v16 main_v20 main_v21 (mulf : Vec F S32768x8x32 .f32 → Vec F S32768x8x32 .f32 → Vec F S32768x8x32 .f32),
    unary main_v19 main_v22 (broadcastInDim S32768x8x32 ![0, 1, 2] bcast_S32768x1x32_S32768x8x32_0_1_2 : Vec F S32768x1x32 .f32 → Vec F S32768x8x32 .f32),
    binary main_v17 main_v22 main_v23 (mulf : Vec F S32768x8x32 .f32 → Vec F S32768x8x32 .f32 → Vec F S32768x8x32 .f32),
    binary main_v21 main_v23 main_v24 (subf : Vec F S32768x8x32 .f32 → Vec F S32768x8x32 .f32 → Vec F S32768x8x32 .f32),
    unary main_v18 main_v25 (broadcastInDim S32768x8x32 ![0, 1, 2] bcast_S32768x1x32_S32768x8x32_0_1_2 : Vec F S32768x1x32 .f32 → Vec F S32768x8x32 .f32),
    binary main_v17 main_v25 main_v26 (mulf : Vec F S32768x8x32 .f32 → Vec F S32768x8x32 .f32 → Vec F S32768x8x32 .f32),
    unary main_v19 main_v27 (broadcastInDim S32768x8x32 ![0, 1, 2] bcast_S32768x1x32_S32768x8x32_0_1_2 : Vec F S32768x1x32 .f32 → Vec F S32768x8x32 .f32),
    binary main_v16 main_v27 main_v28 (mulf : Vec F S32768x8x32 .f32 → Vec F S32768x8x32 .f32 → Vec F S32768x8x32 .f32),
    binary main_v26 main_v28 main_v29 (addf : Vec F S32768x8x32 .f32 → Vec F S32768x8x32 .f32 → Vec F S32768x8x32 .f32),
    binary main_v24 main_v29 main_v30 (fn_main_v30 (F := F)),
    nullary main_cst (constant S_ .f32 0x3E38AA3B#32),
    unary main_cst main_v31 (broadcastInDim S32768x8x64 ![] bcast_S_S32768x8x64 : Vec F S_ .f32 → Vec F S32768x8x64 .f32),
    binary main_v30 main_v31 main_v32 (mulf : Vec F S32768x8x64 .f32 → Vec F S32768x8x64 .f32 → Vec F S32768x8x64 .f32),
    reshape main_v2 main_v33 (rfl : (.f32 : EltTy) = .f32) shapeCasts_S32768x512_S32768x8x64,
    unary main_v33 main_v34 ((extractStridedSlice S32768x8x32 ![0, 0, 0] · slices_S32768x8x64_S32768x8x32_0_0_0) : Vec F S32768x8x64 .f32 → Vec F S32768x8x32 .f32),
    unary main_v33 main_v35 ((extractStridedSlice S32768x8x32 ![0, 0, 32] · slices_S32768x8x64_S32768x8x32_0_0_32) : Vec F S32768x8x64 .f32 → Vec F S32768x8x32 .f32),
    unary main_arg4 main_v36 (broadcastInDim S32768x1x32 ![0, 2] bcast_S32768x32_S32768x1x32_0_2 : Vec F S32768x32 .f32 → Vec F S32768x1x32 .f32),
    unary main_arg5 main_v37 (broadcastInDim S32768x1x32 ![0, 2] bcast_S32768x32_S32768x1x32_0_2 : Vec F S32768x32 .f32 → Vec F S32768x1x32 .f32),
    unary main_v36 main_v38 (broadcastInDim S32768x8x32 ![0, 1, 2] bcast_S32768x1x32_S32768x8x32_0_1_2 : Vec F S32768x1x32 .f32 → Vec F S32768x8x32 .f32),
    binary main_v34 main_v38 main_v39 (mulf : Vec F S32768x8x32 .f32 → Vec F S32768x8x32 .f32 → Vec F S32768x8x32 .f32),
    unary main_v37 main_v40 (broadcastInDim S32768x8x32 ![0, 1, 2] bcast_S32768x1x32_S32768x8x32_0_1_2 : Vec F S32768x1x32 .f32 → Vec F S32768x8x32 .f32),
    binary main_v35 main_v40 main_v41 (mulf : Vec F S32768x8x32 .f32 → Vec F S32768x8x32 .f32 → Vec F S32768x8x32 .f32),
    binary main_v39 main_v41 main_v42 (subf : Vec F S32768x8x32 .f32 → Vec F S32768x8x32 .f32 → Vec F S32768x8x32 .f32),
    unary main_v36 main_v43 (broadcastInDim S32768x8x32 ![0, 1, 2] bcast_S32768x1x32_S32768x8x32_0_1_2 : Vec F S32768x1x32 .f32 → Vec F S32768x8x32 .f32),
    binary main_v35 main_v43 main_v44 (mulf : Vec F S32768x8x32 .f32 → Vec F S32768x8x32 .f32 → Vec F S32768x8x32 .f32),
    unary main_v37 main_v45 (broadcastInDim S32768x8x32 ![0, 1, 2] bcast_S32768x1x32_S32768x8x32_0_1_2 : Vec F S32768x1x32 .f32 → Vec F S32768x8x32 .f32),
    binary main_v34 main_v45 main_v46 (mulf : Vec F S32768x8x32 .f32 → Vec F S32768x8x32 .f32 → Vec F S32768x8x32 .f32),
    binary main_v44 main_v46 main_v47 (addf : Vec F S32768x8x32 .f32 → Vec F S32768x8x32 .f32 → Vec F S32768x8x32 .f32),
    binary main_v42 main_v47 main_v48 (fn_main_v48 (F := F)),
    reshape main_v5 main_v49 (rfl : (.f32 : EltTy) = .f32) shapeCasts_S32768x512_S32768x8x64,
    unary main_v49 main_v50 ((extractStridedSlice S32768x8x32 ![0, 0, 0] · slices_S32768x8x64_S32768x8x32_0_0_0) : Vec F S32768x8x64 .f32 → Vec F S32768x8x32 .f32),
    unary main_v49 main_v51 ((extractStridedSlice S32768x8x32 ![0, 0, 32] · slices_S32768x8x64_S32768x8x32_0_0_32) : Vec F S32768x8x64 .f32 → Vec F S32768x8x32 .f32),
    unary main_arg4 main_v52 (broadcastInDim S32768x1x32 ![0, 2] bcast_S32768x32_S32768x1x32_0_2 : Vec F S32768x32 .f32 → Vec F S32768x1x32 .f32),
    unary main_arg5 main_v53 (broadcastInDim S32768x1x32 ![0, 2] bcast_S32768x32_S32768x1x32_0_2 : Vec F S32768x32 .f32 → Vec F S32768x1x32 .f32),
    unary main_v52 main_v54 (broadcastInDim S32768x8x32 ![0, 1, 2] bcast_S32768x1x32_S32768x8x32_0_1_2 : Vec F S32768x1x32 .f32 → Vec F S32768x8x32 .f32),
    binary main_v50 main_v54 main_v55 (mulf : Vec F S32768x8x32 .f32 → Vec F S32768x8x32 .f32 → Vec F S32768x8x32 .f32),
    unary main_v53 main_v56 (broadcastInDim S32768x8x32 ![0, 1, 2] bcast_S32768x1x32_S32768x8x32_0_1_2 : Vec F S32768x1x32 .f32 → Vec F S32768x8x32 .f32),
    binary main_v51 main_v56 main_v57 (mulf : Vec F S32768x8x32 .f32 → Vec F S32768x8x32 .f32 → Vec F S32768x8x32 .f32),
    binary main_v55 main_v57 main_v58 (subf : Vec F S32768x8x32 .f32 → Vec F S32768x8x32 .f32 → Vec F S32768x8x32 .f32),
    unary main_v52 main_v59 (broadcastInDim S32768x8x32 ![0, 1, 2] bcast_S32768x1x32_S32768x8x32_0_1_2 : Vec F S32768x1x32 .f32 → Vec F S32768x8x32 .f32),
    binary main_v51 main_v59 main_v60 (mulf : Vec F S32768x8x32 .f32 → Vec F S32768x8x32 .f32 → Vec F S32768x8x32 .f32),
    unary main_v53 main_v61 (broadcastInDim S32768x8x32 ![0, 1, 2] bcast_S32768x1x32_S32768x8x32_0_1_2 : Vec F S32768x1x32 .f32 → Vec F S32768x8x32 .f32),
    binary main_v50 main_v61 main_v62 (mulf : Vec F S32768x8x32 .f32 → Vec F S32768x8x32 .f32 → Vec F S32768x8x32 .f32),
    binary main_v60 main_v62 main_v63 (addf : Vec F S32768x8x32 .f32 → Vec F S32768x8x32 .f32 → Vec F S32768x8x32 .f32),
    binary main_v58 main_v63 main_v64 (fn_main_v64 (F := F)),
    unary main_v6 main_v65 (broadcastInDim S32768x1x64 ![0, 2] bcast_S32768x64_S32768x1x64_0_2 : Vec F S32768x64 .f32 → Vec F S32768x1x64 .f32),
    unary main_v65 main_v66 ((extractStridedSlice S32768x1x32 ![0, 0, 0] · slices_S32768x1x64_S32768x1x32_0_0_0) : Vec F S32768x1x64 .f32 → Vec F S32768x1x32 .f32),
    unary main_v65 main_v67 ((extractStridedSlice S32768x1x32 ![0, 0, 32] · slices_S32768x1x64_S32768x1x32_0_0_32) : Vec F S32768x1x64 .f32 → Vec F S32768x1x32 .f32),
    unary main_arg4 main_v68 (broadcastInDim S32768x1x32 ![0, 2] bcast_S32768x32_S32768x1x32_0_2 : Vec F S32768x32 .f32 → Vec F S32768x1x32 .f32),
    unary main_arg5 main_v69 (broadcastInDim S32768x1x32 ![0, 2] bcast_S32768x32_S32768x1x32_0_2 : Vec F S32768x32 .f32 → Vec F S32768x1x32 .f32),
    binary main_v66 main_v68 main_v70 (mulf : Vec F S32768x1x32 .f32 → Vec F S32768x1x32 .f32 → Vec F S32768x1x32 .f32),
    binary main_v67 main_v69 main_v71 (mulf : Vec F S32768x1x32 .f32 → Vec F S32768x1x32 .f32 → Vec F S32768x1x32 .f32),
    binary main_v70 main_v71 main_v72 (subf : Vec F S32768x1x32 .f32 → Vec F S32768x1x32 .f32 → Vec F S32768x1x32 .f32),
    binary main_v67 main_v68 main_v73 (mulf : Vec F S32768x1x32 .f32 → Vec F S32768x1x32 .f32 → Vec F S32768x1x32 .f32),
    binary main_v66 main_v69 main_v74 (mulf : Vec F S32768x1x32 .f32 → Vec F S32768x1x32 .f32 → Vec F S32768x1x32 .f32),
    binary main_v73 main_v74 main_v75 (addf : Vec F S32768x1x32 .f32 → Vec F S32768x1x32 .f32 → Vec F S32768x1x32 .f32),
    binary main_v72 main_v75 main_v76 (fn_main_v76 (F := F)),
    reshape main_v76 main_v77 (rfl : (.f32 : EltTy) = .f32) shapeCasts_S32768x1x64_S32768x64,
    nullary main_cst_0 (constant S_ .f32 0x3D3504F3#32),
    unary main_cst_0 main_v78 (broadcastInDim S32768x8 ![] bcast_S_S32768x8 : Vec F S_ .f32 → Vec F S32768x8 .f32),
    binary main_v7 main_v78 main_v79 (mulf : Vec F S32768x8 .f32 → Vec F S32768x8 .f32 → Vec F S32768x8 .f32),
    unary main_v8 main_v80 ((extractStridedSlice S32768x256 ![0, 0] · slices_S32768x512_S32768x256_0_0) : Vec F S32768x512 .f32 → Vec F S32768x256 .f32),
    unary main_v8 main_v81 ((extractStridedSlice S32768x256 ![0, 256] · slices_S32768x512_S32768x256_0_256) : Vec F S32768x512 .f32 → Vec F S32768x256 .f32),
    binary main_v14 main_arg2 main_v82 ((fun l r => Host.dotGeneral dot_S32768x16_S16x128_S32768x128_1_0_0_1_n_n none l r) : Vec F S32768x16 .f32 → Vec F S16x128 .f32 → Vec F S32768x128 .f32),
    unary main_arg3 main_v83 (broadcastInDim S1x128 ![1] bcast_S128_S1x128_1 : Vec F S128 .f32 → Vec F S1x128 .f32),
    unary main_v83 main_v84 (broadcastInDim S32768x128 ![0, 1] bcast_S1x128_S32768x128_0_1 : Vec F S1x128 .f32 → Vec F S32768x128 .f32),
    binary main_v82 main_v84 main_v85 (addf : Vec F S32768x128 .f32 → Vec F S32768x128 .f32 → Vec F S32768x128 .f32),
    TRef.unary (TRef.of (T := ⟨S32768x128, .f32⟩) main_v85) (TRef.of (T := ⟨S32768x128, .f32⟩) main_call0_v0) Host.negf,
    TRef.nullary (TRef.of (T := ⟨S_, .f32⟩) main_call0_call0_cst) (constant S_ .f32 0x00000000#32),
    TRef.unary (TRef.of (T := ⟨S_, .f32⟩) main_call0_call0_cst) (TRef.of (T := ⟨S32768x128, .f32⟩) main_call0_call0_v0) (broadcastInDim S32768x128 ![] bcast_S_S32768x128),
    TRef.binary (TRef.of (T := ⟨S32768x128, .f32⟩) main_call0_v0) (TRef.of (T := ⟨S32768x128, .f32⟩) main_call0_call0_v0) (TRef.of (T := ⟨S32768x128, .f32⟩) main_call0_call0_v1) maximumf,
    TRef.unary (TRef.of (T := ⟨S_, .f32⟩) main_call0_call0_cst) (TRef.of (T := ⟨S32768x128, .f32⟩) main_call0_call0_v2) (broadcastInDim S32768x128 ![] bcast_S_S32768x128),
    TRef.binary (TRef.of (T := ⟨S32768x128, .f32⟩) main_call0_v0) (TRef.of (T := ⟨S32768x128, .f32⟩) main_call0_call0_v2) (TRef.of (T := ⟨S32768x128, .f32⟩) main_call0_call0_v3) subf,
    TRef.binary (TRef.of (T := ⟨S32768x128, .f32⟩) main_call0_call0_v3) (TRef.of (T := ⟨S32768x128, .f32⟩) main_call0_call0_v3) (TRef.of (T := ⟨S32768x128, .i1⟩) main_call0_call0_v4) (cmpf .une),
    TRef.unary (TRef.of (T := ⟨S_, .f32⟩) main_call0_call0_cst) (TRef.of (T := ⟨S32768x128, .f32⟩) main_call0_call0_v5) (broadcastInDim S32768x128 ![] bcast_S_S32768x128),
    TRef.binary (TRef.of (T := ⟨S32768x128, .f32⟩) main_call0_v0) (TRef.of (T := ⟨S32768x128, .f32⟩) main_call0_call0_v5) (TRef.of (T := ⟨S32768x128, .f32⟩) main_call0_call0_v6) addf,
    TRef.unary (TRef.of (T := ⟨S32768x128, .f32⟩) main_call0_call0_v3) (TRef.of (T := ⟨S32768x128, .f32⟩) main_call0_call0_v7) Host.absf,
    TRef.unary (TRef.of (T := ⟨S32768x128, .f32⟩) main_call0_call0_v7) (TRef.of (T := ⟨S32768x128, .f32⟩) main_call0_call0_v8) Host.negf,
    TRef.unary (TRef.of (T := ⟨S32768x128, .f32⟩) main_call0_call0_v8) (TRef.of (T := ⟨S32768x128, .f32⟩) main_call0_call0_v9) Host.exp,
    TRef.unary (TRef.of (T := ⟨S32768x128, .f32⟩) main_call0_call0_v9) (TRef.of (T := ⟨S32768x128, .f32⟩) main_call0_call0_v10) Host.log1p,
    TRef.binary (TRef.of (T := ⟨S32768x128, .f32⟩) main_call0_call0_v1) (TRef.of (T := ⟨S32768x128, .f32⟩) main_call0_call0_v10) (TRef.of (T := ⟨S32768x128, .f32⟩) main_call0_call0_v11) addf,
    TRef.ternary (TRef.of (T := ⟨S32768x128, .i1⟩) main_call0_call0_v4) (TRef.of (T := ⟨S32768x128, .f32⟩) main_call0_call0_v6) (TRef.of (T := ⟨S32768x128, .f32⟩) main_call0_call0_v11) (TRef.of (T := ⟨S32768x128, .f32⟩) main_call0_v1) select,
    TRef.unary (TRef.of (T := ⟨S32768x128, .f32⟩) main_call0_v1) (TRef.of (T := ⟨S32768x128, .f32⟩) main_v86) Host.negf,
    nullary main_cst_1 (constant S_ .f32 0x41800000#32),
    unary main_cst_1 main_v87 (broadcastInDim S32768x128 ![] bcast_S_S32768x128 : Vec F S_ .f32 → Vec F S32768x128 .f32),
    binary main_v86 main_v87 main_v88 (Host.divf : Vec F S32768x128 .f32 → Vec F S32768x128 .f32 → Vec F S32768x128 .f32),
    reshape main_v32 main_v89 (rfl : (.f32 : EltTy) = .f32) shapeCasts_S32768x8x64_S32768x512,
    unary main_v89 main_v90 ((transpose S512x32768 [1, 0] · transposes_S32768x512_S512x32768_1_0) : Vec F S32768x512 .f32 → Vec F S512x32768 .f32),
    unary main_v90 main_v91 ((truncf .bf16 · bitsLt_bf16_f32) : Vec F S512x32768 .f32 → Vec F S512x32768 .bf16),
    reshape main_v64 main_v92 (rfl : (.f32 : EltTy) = .f32) shapeCasts_S32768x8x64_S32768x512,
    unary main_v92 main_v93 ((transpose S512x32768 [1, 0] · transposes_S32768x512_S512x32768_1_0) : Vec F S32768x512 .f32 → Vec F S512x32768 .f32),
    unary main_v93 main_v94 ((truncf .bf16 · bitsLt_bf16_f32) : Vec F S512x32768 .f32 → Vec F S512x32768 .bf16),
    unary main_v3 main_v95 ((transpose S512x32768 [1, 0] · transposes_S32768x512_S512x32768_1_0) : Vec F S32768x512 .f32 → Vec F S512x32768 .f32),
    unary main_v95 main_v96 ((truncf .bf16 · bitsLt_bf16_f32) : Vec F S512x32768 .f32 → Vec F S512x32768 .bf16),
    unary main_v79 main_v97 ((transpose S8x32768 [1, 0] · transposes_S32768x8_S8x32768_1_0) : Vec F S32768x8 .f32 → Vec F S8x32768 .f32),
    reshape main_v48 main_v98 (rfl : (.f32 : EltTy) = .f32) shapeCasts_S32768x8x64_S32768x512,
    unary main_v98 main_v99 ((truncf .bf16 · bitsLt_bf16_f32) : Vec F S32768x512 .f32 → Vec F S32768x512 .bf16),
    unary main_v77 main_v100 ((truncf .bf16 · bitsLt_bf16_f32) : Vec F S32768x64 .f32 → Vec F S32768x64 .bf16),
    TRef.unary (TRef.of (T := ⟨S32768x512, .f32⟩) main_v4) (TRef.of (T := ⟨S32768x512, .f32⟩) main_call1_v0) Host.negf,
    TRef.unary (TRef.of (T := ⟨S32768x512, .f32⟩) main_call1_v0) (TRef.of (T := ⟨S32768x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S32768x512, .f32⟩) main_call1_v2) (broadcastInDim S32768x512 ![] bcast_S_S32768x512),
    TRef.binary (TRef.of (T := ⟨S32768x512, .f32⟩) main_call1_v2) (TRef.of (T := ⟨S32768x512, .f32⟩) main_call1_v1) (TRef.of (T := ⟨S32768x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S32768x512, .f32⟩) main_call1_v4) (broadcastInDim S32768x512 ![] bcast_S_S32768x512),
    TRef.binary (TRef.of (T := ⟨S32768x512, .f32⟩) main_call1_v4) (TRef.of (T := ⟨S32768x512, .f32⟩) main_call1_v3) (TRef.of (T := ⟨S32768x512, .f32⟩) main_call1_v5) Host.divf,
    TRef.binary (TRef.of (T := ⟨S32768x512, .f32⟩) main_v4) (TRef.of (T := ⟨S32768x512, .f32⟩) main_call1_v5) (TRef.of (T := ⟨S32768x512, .f32⟩) main_v101) mulf,
    unary main_v101 main_v102 ((truncf .bf16 · bitsLt_bf16_f32) : Vec F S32768x512 .f32 → Vec F S32768x512 .bf16),
    unary main_v81 main_v103 (Host.negf : Vec F S32768x256 .f32 → Vec F S32768x256 .f32),
    unary main_v103 main_v104 (Host.exp : Vec F S32768x256 .f32 → Vec F S32768x256 .f32),
    nullary main_cst_2 (constant S_ .f32 0x3F800000#32),
    unary main_cst_2 main_v105 (broadcastInDim S32768x256 ![] bcast_S_S32768x256 : Vec F S_ .f32 → Vec F S32768x256 .f32),
    binary main_v105 main_v104 main_v106 (addf : Vec F S32768x256 .f32 → Vec F S32768x256 .f32 → Vec F S32768x256 .f32),
    nullary main_cst_3 (constant S_ .f32 0x3F800000#32),
    unary main_cst_3 main_v107 (broadcastInDim S32768x256 ![] bcast_S_S32768x256 : Vec F S_ .f32 → Vec F S32768x256 .f32),
    binary main_v107 main_v106 main_v108 (Host.divf : Vec F S32768x256 .f32 → Vec F S32768x256 .f32 → Vec F S32768x256 .f32),
    binary main_v80 main_v108 main_v109 (mulf : Vec F S32768x256 .f32 → Vec F S32768x256 .f32 → Vec F S32768x256 .f32),
    TRef.unary (TRef.of (T := ⟨S32768x256, .f32⟩) main_v9) (TRef.of (T := ⟨S32768x256, .f32⟩) main_call2_v0) Host.negf,
    TRef.unary (TRef.of (T := ⟨S32768x256, .f32⟩) main_call2_v0) (TRef.of (T := ⟨S32768x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S32768x256, .f32⟩) main_call2_v2) (broadcastInDim S32768x256 ![] bcast_S_S32768x256),
    TRef.binary (TRef.of (T := ⟨S32768x256, .f32⟩) main_call2_v2) (TRef.of (T := ⟨S32768x256, .f32⟩) main_call2_v1) (TRef.of (T := ⟨S32768x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S32768x256, .f32⟩) main_call2_v4) (broadcastInDim S32768x256 ![] bcast_S_S32768x256),
    TRef.binary (TRef.of (T := ⟨S32768x256, .f32⟩) main_call2_v4) (TRef.of (T := ⟨S32768x256, .f32⟩) main_call2_v3) (TRef.of (T := ⟨S32768x256, .f32⟩) main_call2_v5) Host.divf,
    TRef.binary (TRef.of (T := ⟨S32768x256, .f32⟩) main_v9) (TRef.of (T := ⟨S32768x256, .f32⟩) main_call2_v5) (TRef.of (T := ⟨S32768x256, .f32⟩) main_v110) mulf,
    unary main_v110 main_v111 ((truncf .bf16 · bitsLt_bf16_f32) : Vec F S32768x256 .f32 → Vec F S32768x256 .bf16),
    nullary main_cst_4 (constant S_ .f32 0x3E3504F3#32),
    unary main_cst_4 main_v112 (broadcastInDim S32768x128 ![] bcast_S_S32768x128 : Vec F S_ .f32 → Vec F S32768x128 .f32),
    binary main_v10 main_v112 main_v113 (mulf : Vec F S32768x128 .f32 → Vec F S32768x128 .f32 → Vec F S32768x128 .f32),
    TRef.unary (TRef.of (T := ⟨S32768x256, .f32⟩) main_v13) (TRef.of (T := ⟨S32768x256, .f32⟩) main_call3_v0) Host.negf,
    TRef.unary (TRef.of (T := ⟨S32768x256, .f32⟩) main_call3_v0) (TRef.of (T := ⟨S32768x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S32768x256, .f32⟩) main_call3_v2) (broadcastInDim S32768x256 ![] bcast_S_S32768x256),
    TRef.binary (TRef.of (T := ⟨S32768x256, .f32⟩) main_call3_v2) (TRef.of (T := ⟨S32768x256, .f32⟩) main_call3_v1) (TRef.of (T := ⟨S32768x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S32768x256, .f32⟩) main_call3_v4) (broadcastInDim S32768x256 ![] bcast_S_S32768x256),
    TRef.binary (TRef.of (T := ⟨S32768x256, .f32⟩) main_call3_v4) (TRef.of (T := ⟨S32768x256, .f32⟩) main_call3_v3) (TRef.of (T := ⟨S32768x256, .f32⟩) main_call3_v5) Host.divf,
    TRef.binary (TRef.of (T := ⟨S32768x256, .f32⟩) main_v13) (TRef.of (T := ⟨S32768x256, .f32⟩) main_call3_v5) (TRef.of (T := ⟨S32768x256, .f32⟩) main_v114) mulf,
    unary main_v114 main_v115 ((truncf .bf16 · bitsLt_bf16_f32) : Vec F S32768x256 .f32 → Vec F S32768x256 .bf16) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., nullary_bufs_sub .., unary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., unary_bufs_sub .., unary_bufs_sub .., unary_bufs_sub .., unary_bufs_sub .., unary_bufs_sub .., binary_bufs_sub .., binary_bufs_sub .., binary_bufs_sub .., binary_bufs_sub .., binary_bufs_sub .., binary_bufs_sub .., binary_bufs_sub .., reshape_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., reshape_bufs_sub .., unary_bufs_sub .., unary_bufs_sub .., reshape_bufs_sub .., unary_bufs_sub .., unary_bufs_sub .., unary_bufs_sub .., unary_bufs_sub .., unary_bufs_sub .., reshape_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub ..⟩

end Cert.RefInIdeal.Value

end
-- ==== Proof.RefInVals.lean ====
/- The reference's values, one definition for each of its operations, and its run stated with them. -/
module

public import proofs.«01_k».proof.Proof.RefInOps
public import Idealize.ShloMosaic.Lib.Pipeline.Value
public import Idealize.ShloMosaic.Lib.ValueIdx
public import Idealize.ShloMosaic.PureOps.Ideal.Laws

@[expose] public section

noncomputable section

namespace Cert.RefInIdeal.Vals

open Cert.RefInIdeal Cert.RefInIdeal.Gen Cert.RefInIdeal.Value Idealize.ShloMosaic Idealize.ShloMosaic.TcCoe Idealize.SL.Sem Idealize.ShloMosaic.StableHlo

variable {F : FTy → Type} [FloatOps F]
variable (x0 : Vec F S32768x1024 .f32) (x1 : Vec F S1024x4184 .f32) (x2 : Vec F S16x128 .f32) (x3 : Vec F S128 .f32) (x4 x5 : Vec F S32768x32 .f32)

def val_main_v0 : Vec F S32768x4184 .f32 :=
  Host.dotGeneral dot_S32768x1024_S1024x4184_S32768x4184_1_0_0_1_n_n none (x0) (x1)
def val_main_v1 : Vec F S32768x512 .f32 :=
  extractStridedSlice S32768x512 ![0, 0] (val_main_v0 x0 x1) slices_S32768x4184_S32768x512_0_0
def val_main_v2 : Vec F S32768x512 .f32 :=
  extractStridedSlice S32768x512 ![0, 512] (val_main_v0 x0 x1) slices_S32768x4184_S32768x512_0_512
def val_main_v3 : Vec F S32768x512 .f32 :=
  extractStridedSlice S32768x512 ![0, 1024] (val_main_v0 x0 x1) slices_S32768x4184_S32768x512_0_1024
def val_main_v4 : Vec F S32768x512 .f32 :=
  extractStridedSlice S32768x512 ![0, 1536] (val_main_v0 x0 x1) slices_S32768x4184_S32768x512_0_1536
def val_main_v5 : Vec F S32768x512 .f32 :=
  extractStridedSlice S32768x512 ![0, 2048] (val_main_v0 x0 x1) slices_S32768x4184_S32768x512_0_2048
def val_main_v6 : Vec F S32768x64 .f32 :=
  extractStridedSlice S32768x64 ![0, 2560] (val_main_v0 x0 x1) slices_S32768x4184_S32768x64_0_2560
def val_main_v7 : Vec F S32768x8 .f32 :=
  extractStridedSlice S32768x8 ![0, 2624] (val_main_v0 x0 x1) slices_S32768x4184_S32768x8_0_2624
def val_main_v8 : Vec F S32768x512 .f32 :=
  extractStridedSlice S32768x512 ![0, 2632] (val_main_v0 x0 x1) slices_S32768x4184_S32768x512_0_2632
def val_main_v9 : Vec F S32768x256 .f32 :=
  extractStridedSlice S32768x256 ![0, 3144] (val_main_v0 x0 x1) slices_S32768x4184_S32768x256_0_3144
def val_main_v10 : Vec F S32768x128 .f32 :=
  extractStridedSlice S32768x128 ![0, 3400] (val_main_v0 x0 x1) slices_S32768x4184_S32768x128_0_3400
def val_main_v11 : Vec F S32768x128 .f32 :=
  extractStridedSlice S32768x128 ![0, 3528] (val_main_v0 x0 x1) slices_S32768x4184_S32768x128_0_3528
def val_main_v12 : Vec F S32768x256 .f32 :=
  extractStridedSlice S32768x256 ![0, 3656] (val_main_v0 x0 x1) slices_S32768x4184_S32768x256_0_3656
def val_main_v13 : Vec F S32768x256 .f32 :=
  extractStridedSlice S32768x256 ![0, 3912] (val_main_v0 x0 x1) slices_S32768x4184_S32768x256_0_3912
def val_main_v14 : Vec F S32768x16 .f32 :=
  extractStridedSlice S32768x16 ![0, 4168] (val_main_v0 x0 x1) slices_S32768x4184_S32768x16_0_4168
def val_main_v15 : Vec F S32768x8x64 .f32 :=
  shapeCast _ (val_main_v1 x0 x1) shapeCasts_S32768x512_S32768x8x64
def val_main_v16 : Vec F S32768x8x32 .f32 :=
  extractStridedSlice S32768x8x32 ![0, 0, 0] (val_main_v15 x0 x1) slices_S32768x8x64_S32768x8x32_0_0_0
def val_main_v17 : Vec F S32768x8x32 .f32 :=
  extractStridedSlice S32768x8x32 ![0, 0, 32] (val_main_v15 x0 x1) slices_S32768x8x64_S32768x8x32_0_0_32
def val_main_v18 : Vec F S32768x1x32 .f32 :=
  broadcastInDim S32768x1x32 ![0, 2] bcast_S32768x32_S32768x1x32_0_2 (x4)
def val_main_v19 : Vec F S32768x1x32 .f32 :=
  broadcastInDim S32768x1x32 ![0, 2] bcast_S32768x32_S32768x1x32_0_2 (x5)
def val_main_v20 : Vec F S32768x8x32 .f32 :=
  broadcastInDim S32768x8x32 ![0, 1, 2] bcast_S32768x1x32_S32768x8x32_0_1_2 (val_main_v18 x4)
def val_main_v21 : Vec F S32768x8x32 .f32 :=
  mulf (val_main_v16 x0 x1) (val_main_v20 x4)
def val_main_v22 : Vec F S32768x8x32 .f32 :=
  broadcastInDim S32768x8x32 ![0, 1, 2] bcast_S32768x1x32_S32768x8x32_0_1_2 (val_main_v19 x5)
def val_main_v23 : Vec F S32768x8x32 .f32 :=
  mulf (val_main_v17 x0 x1) (val_main_v22 x5)
def val_main_v24 : Vec F S32768x8x32 .f32 :=
  subf (val_main_v21 x0 x1 x4) (val_main_v23 x0 x1 x5)
def val_main_v25 : Vec F S32768x8x32 .f32 :=
  broadcastInDim S32768x8x32 ![0, 1, 2] bcast_S32768x1x32_S32768x8x32_0_1_2 (val_main_v18 x4)
def val_main_v26 : Vec F S32768x8x32 .f32 :=
  mulf (val_main_v17 x0 x1) (val_main_v25 x4)
def val_main_v27 : Vec F S32768x8x32 .f32 :=
  broadcastInDim S32768x8x32 ![0, 1, 2] bcast_S32768x1x32_S32768x8x32_0_1_2 (val_main_v19 x5)
def val_main_v28 : Vec F S32768x8x32 .f32 :=
  mulf (val_main_v16 x0 x1) (val_main_v27 x5)
def val_main_v29 : Vec F S32768x8x32 .f32 :=
  addf (val_main_v26 x0 x1 x4) (val_main_v28 x0 x1 x5)
def val_main_v30 : Vec F S32768x8x64 .f32 :=
  concatenate S32768x8x64 2 [⟨S32768x8x32, (val_main_v24 x0 x1 x4 x5)⟩, ⟨S32768x8x32, (val_main_v29 x0 x1 x4 x5)⟩] concatenates_S32768x8x32_S32768x8x32_S32768x8x64_d2
def val_main_cst : Vec F S_ .f32 :=
  constant S_ .f32 0x3E38AA3B#32
def val_main_v31 : Vec F S32768x8x64 .f32 :=
  broadcastInDim S32768x8x64 ![] bcast_S_S32768x8x64 (val_main_cst (F := F))
def val_main_v32 : Vec F S32768x8x64 .f32 :=
  mulf (val_main_v30 x0 x1 x4 x5) (val_main_v31 (F := F))
def val_main_v33 : Vec F S32768x8x64 .f32 :=
  shapeCast _ (val_main_v2 x0 x1) shapeCasts_S32768x512_S32768x8x64
def val_main_v34 : Vec F S32768x8x32 .f32 :=
  extractStridedSlice S32768x8x32 ![0, 0, 0] (val_main_v33 x0 x1) slices_S32768x8x64_S32768x8x32_0_0_0
def val_main_v35 : Vec F S32768x8x32 .f32 :=
  extractStridedSlice S32768x8x32 ![0, 0, 32] (val_main_v33 x0 x1) slices_S32768x8x64_S32768x8x32_0_0_32
def val_main_v36 : Vec F S32768x1x32 .f32 :=
  broadcastInDim S32768x1x32 ![0, 2] bcast_S32768x32_S32768x1x32_0_2 (x4)
def val_main_v37 : Vec F S32768x1x32 .f32 :=
  broadcastInDim S32768x1x32 ![0, 2] bcast_S32768x32_S32768x1x32_0_2 (x5)
def val_main_v38 : Vec F S32768x8x32 .f32 :=
  broadcastInDim S32768x8x32 ![0, 1, 2] bcast_S32768x1x32_S32768x8x32_0_1_2 (val_main_v36 x4)
def val_main_v39 : Vec F S32768x8x32 .f32 :=
  mulf (val_main_v34 x0 x1) (val_main_v38 x4)
def val_main_v40 : Vec F S32768x8x32 .f32 :=
  broadcastInDim S32768x8x32 ![0, 1, 2] bcast_S32768x1x32_S32768x8x32_0_1_2 (val_main_v37 x5)
def val_main_v41 : Vec F S32768x8x32 .f32 :=
  mulf (val_main_v35 x0 x1) (val_main_v40 x5)
def val_main_v42 : Vec F S32768x8x32 .f32 :=
  subf (val_main_v39 x0 x1 x4) (val_main_v41 x0 x1 x5)
def val_main_v43 : Vec F S32768x8x32 .f32 :=
  broadcastInDim S32768x8x32 ![0, 1, 2] bcast_S32768x1x32_S32768x8x32_0_1_2 (val_main_v36 x4)
def val_main_v44 : Vec F S32768x8x32 .f32 :=
  mulf (val_main_v35 x0 x1) (val_main_v43 x4)
def val_main_v45 : Vec F S32768x8x32 .f32 :=
  broadcastInDim S32768x8x32 ![0, 1, 2] bcast_S32768x1x32_S32768x8x32_0_1_2 (val_main_v37 x5)
def val_main_v46 : Vec F S32768x8x32 .f32 :=
  mulf (val_main_v34 x0 x1) (val_main_v45 x5)
def val_main_v47 : Vec F S32768x8x32 .f32 :=
  addf (val_main_v44 x0 x1 x4) (val_main_v46 x0 x1 x5)
def val_main_v48 : Vec F S32768x8x64 .f32 :=
  concatenate S32768x8x64 2 [⟨S32768x8x32, (val_main_v42 x0 x1 x4 x5)⟩, ⟨S32768x8x32, (val_main_v47 x0 x1 x4 x5)⟩] concatenates_S32768x8x32_S32768x8x32_S32768x8x64_d2
def val_main_v49 : Vec F S32768x8x64 .f32 :=
  shapeCast _ (val_main_v5 x0 x1) shapeCasts_S32768x512_S32768x8x64
def val_main_v50 : Vec F S32768x8x32 .f32 :=
  extractStridedSlice S32768x8x32 ![0, 0, 0] (val_main_v49 x0 x1) slices_S32768x8x64_S32768x8x32_0_0_0
def val_main_v51 : Vec F S32768x8x32 .f32 :=
  extractStridedSlice S32768x8x32 ![0, 0, 32] (val_main_v49 x0 x1) slices_S32768x8x64_S32768x8x32_0_0_32
def val_main_v52 : Vec F S32768x1x32 .f32 :=
  broadcastInDim S32768x1x32 ![0, 2] bcast_S32768x32_S32768x1x32_0_2 (x4)
def val_main_v53 : Vec F S32768x1x32 .f32 :=
  broadcastInDim S32768x1x32 ![0, 2] bcast_S32768x32_S32768x1x32_0_2 (x5)
def val_main_v54 : Vec F S32768x8x32 .f32 :=
  broadcastInDim S32768x8x32 ![0, 1, 2] bcast_S32768x1x32_S32768x8x32_0_1_2 (val_main_v52 x4)
def val_main_v55 : Vec F S32768x8x32 .f32 :=
  mulf (val_main_v50 x0 x1) (val_main_v54 x4)
def val_main_v56 : Vec F S32768x8x32 .f32 :=
  broadcastInDim S32768x8x32 ![0, 1, 2] bcast_S32768x1x32_S32768x8x32_0_1_2 (val_main_v53 x5)
def val_main_v57 : Vec F S32768x8x32 .f32 :=
  mulf (val_main_v51 x0 x1) (val_main_v56 x5)
def val_main_v58 : Vec F S32768x8x32 .f32 :=
  subf (val_main_v55 x0 x1 x4) (val_main_v57 x0 x1 x5)
def val_main_v59 : Vec F S32768x8x32 .f32 :=
  broadcastInDim S32768x8x32 ![0, 1, 2] bcast_S32768x1x32_S32768x8x32_0_1_2 (val_main_v52 x4)
def val_main_v60 : Vec F S32768x8x32 .f32 :=
  mulf (val_main_v51 x0 x1) (val_main_v59 x4)
def val_main_v61 : Vec F S32768x8x32 .f32 :=
  broadcastInDim S32768x8x32 ![0, 1, 2] bcast_S32768x1x32_S32768x8x32_0_1_2 (val_main_v53 x5)
def val_main_v62 : Vec F S32768x8x32 .f32 :=
  mulf (val_main_v50 x0 x1) (val_main_v61 x5)
def val_main_v63 : Vec F S32768x8x32 .f32 :=
  addf (val_main_v60 x0 x1 x4) (val_main_v62 x0 x1 x5)
def val_main_v64 : Vec F S32768x8x64 .f32 :=
  concatenate S32768x8x64 2 [⟨S32768x8x32, (val_main_v58 x0 x1 x4 x5)⟩, ⟨S32768x8x32, (val_main_v63 x0 x1 x4 x5)⟩] concatenates_S32768x8x32_S32768x8x32_S32768x8x64_d2
def val_main_v65 : Vec F S32768x1x64 .f32 :=
  broadcastInDim S32768x1x64 ![0, 2] bcast_S32768x64_S32768x1x64_0_2 (val_main_v6 x0 x1)
def val_main_v66 : Vec F S32768x1x32 .f32 :=
  extractStridedSlice S32768x1x32 ![0, 0, 0] (val_main_v65 x0 x1) slices_S32768x1x64_S32768x1x32_0_0_0
def val_main_v67 : Vec F S32768x1x32 .f32 :=
  extractStridedSlice S32768x1x32 ![0, 0, 32] (val_main_v65 x0 x1) slices_S32768x1x64_S32768x1x32_0_0_32
def val_main_v68 : Vec F S32768x1x32 .f32 :=
  broadcastInDim S32768x1x32 ![0, 2] bcast_S32768x32_S32768x1x32_0_2 (x4)
def val_main_v69 : Vec F S32768x1x32 .f32 :=
  broadcastInDim S32768x1x32 ![0, 2] bcast_S32768x32_S32768x1x32_0_2 (x5)
def val_main_v70 : Vec F S32768x1x32 .f32 :=
  mulf (val_main_v66 x0 x1) (val_main_v68 x4)
def val_main_v71 : Vec F S32768x1x32 .f32 :=
  mulf (val_main_v67 x0 x1) (val_main_v69 x5)
def val_main_v72 : Vec F S32768x1x32 .f32 :=
  subf (val_main_v70 x0 x1 x4) (val_main_v71 x0 x1 x5)
def val_main_v73 : Vec F S32768x1x32 .f32 :=
  mulf (val_main_v67 x0 x1) (val_main_v68 x4)
def val_main_v74 : Vec F S32768x1x32 .f32 :=
  mulf (val_main_v66 x0 x1) (val_main_v69 x5)
def val_main_v75 : Vec F S32768x1x32 .f32 :=
  addf (val_main_v73 x0 x1 x4) (val_main_v74 x0 x1 x5)
def val_main_v76 : Vec F S32768x1x64 .f32 :=
  concatenate S32768x1x64 2 [⟨S32768x1x32, (val_main_v72 x0 x1 x4 x5)⟩, ⟨S32768x1x32, (val_main_v75 x0 x1 x4 x5)⟩] concatenates_S32768x1x32_S32768x1x32_S32768x1x64_d2
def val_main_v77 : Vec F S32768x64 .f32 :=
  shapeCast _ (val_main_v76 x0 x1 x4 x5) shapeCasts_S32768x1x64_S32768x64
def val_main_cst_0 : Vec F S_ .f32 :=
  constant S_ .f32 0x3D3504F3#32
def val_main_v78 : Vec F S32768x8 .f32 :=
  broadcastInDim S32768x8 ![] bcast_S_S32768x8 (val_main_cst_0 (F := F))
def val_main_v79 : Vec F S32768x8 .f32 :=
  mulf (val_main_v7 x0 x1) (val_main_v78 (F := F))
def val_main_v80 : Vec F S32768x256 .f32 :=
  extractStridedSlice S32768x256 ![0, 0] (val_main_v8 x0 x1) slices_S32768x512_S32768x256_0_0
def val_main_v81 : Vec F S32768x256 .f32 :=
  extractStridedSlice S32768x256 ![0, 256] (val_main_v8 x0 x1) slices_S32768x512_S32768x256_0_256
def val_main_v82 : Vec F S32768x128 .f32 :=
  Host.dotGeneral dot_S32768x16_S16x128_S32768x128_1_0_0_1_n_n none (val_main_v14 x0 x1) (x2)
def val_main_v83 : Vec F S1x128 .f32 :=
  broadcastInDim S1x128 ![1] bcast_S128_S1x128_1 (x3)
def val_main_v84 : Vec F S32768x128 .f32 :=
  broadcastInDim S32768x128 ![0, 1] bcast_S1x128_S32768x128_0_1 (val_main_v83 x3)
def val_main_v85 : Vec F S32768x128 .f32 :=
  addf (val_main_v82 x0 x1 x2) (val_main_v84 x3)
def val_main_call0_v0 : Vec F S32768x128 .f32 :=
  Host.negf (val_main_v85 x0 x1 x2 x3)
def val_main_call0_call0_cst : Vec F S_ .f32 :=
  constant S_ .f32 0x00000000#32
def val_main_call0_call0_v0 : Vec F S32768x128 .f32 :=
  broadcastInDim S32768x128 ![] bcast_S_S32768x128 (val_main_call0_call0_cst (F := F))
def val_main_call0_call0_v1 : Vec F S32768x128 .f32 :=
  maximumf (val_main_call0_v0 x0 x1 x2 x3) (val_main_call0_call0_v0 (F := F))
def val_main_call0_call0_v2 : Vec F S32768x128 .f32 :=
  broadcastInDim S32768x128 ![] bcast_S_S32768x128 (val_main_call0_call0_cst (F := F))
def val_main_call0_call0_v3 : Vec F S32768x128 .f32 :=
  subf (val_main_call0_v0 x0 x1 x2 x3) (val_main_call0_call0_v2 (F := F))
def val_main_call0_call0_v4 : Vec F S32768x128 .i1 :=
  cmpf .une (val_main_call0_call0_v3 x0 x1 x2 x3) (val_main_call0_call0_v3 x0 x1 x2 x3)
def val_main_call0_call0_v5 : Vec F S32768x128 .f32 :=
  broadcastInDim S32768x128 ![] bcast_S_S32768x128 (val_main_call0_call0_cst (F := F))
def val_main_call0_call0_v6 : Vec F S32768x128 .f32 :=
  addf (val_main_call0_v0 x0 x1 x2 x3) (val_main_call0_call0_v5 (F := F))
def val_main_call0_call0_v7 : Vec F S32768x128 .f32 :=
  Host.absf (val_main_call0_call0_v3 x0 x1 x2 x3)
def val_main_call0_call0_v8 : Vec F S32768x128 .f32 :=
  Host.negf (val_main_call0_call0_v7 x0 x1 x2 x3)
def val_main_call0_call0_v9 : Vec F S32768x128 .f32 :=
  Host.exp (val_main_call0_call0_v8 x0 x1 x2 x3)
def val_main_call0_call0_v10 : Vec F S32768x128 .f32 :=
  Host.log1p (val_main_call0_call0_v9 x0 x1 x2 x3)
def val_main_call0_call0_v11 : Vec F S32768x128 .f32 :=
  addf (val_main_call0_call0_v1 x0 x1 x2 x3) (val_main_call0_call0_v10 x0 x1 x2 x3)
def val_main_call0_v1 : Vec F S32768x128 .f32 :=
  select (val_main_call0_call0_v4 x0 x1 x2 x3) (val_main_call0_call0_v6 x0 x1 x2 x3) (val_main_call0_call0_v11 x0 x1 x2 x3)
def val_main_v86 : Vec F S32768x128 .f32 :=
  Host.negf (val_main_call0_v1 x0 x1 x2 x3)
def val_main_cst_1 : Vec F S_ .f32 :=
  constant S_ .f32 0x41800000#32
def val_main_v87 : Vec F S32768x128 .f32 :=
  broadcastInDim S32768x128 ![] bcast_S_S32768x128 (val_main_cst_1 (F := F))
def val_main_v88 : Vec F S32768x128 .f32 :=
  Host.divf (val_main_v86 x0 x1 x2 x3) (val_main_v87 (F := F))
def val_main_v89 : Vec F S32768x512 .f32 :=
  shapeCast _ (val_main_v32 x0 x1 x4 x5) shapeCasts_S32768x8x64_S32768x512
def val_main_v90 : Vec F S512x32768 .f32 :=
  transpose S512x32768 [1, 0] (val_main_v89 x0 x1 x4 x5) transposes_S32768x512_S512x32768_1_0
def val_main_v91 : Vec F S512x32768 .bf16 :=
  truncf .bf16 (val_main_v90 x0 x1 x4 x5) bitsLt_bf16_f32
def val_main_v92 : Vec F S32768x512 .f32 :=
  shapeCast _ (val_main_v64 x0 x1 x4 x5) shapeCasts_S32768x8x64_S32768x512
def val_main_v93 : Vec F S512x32768 .f32 :=
  transpose S512x32768 [1, 0] (val_main_v92 x0 x1 x4 x5) transposes_S32768x512_S512x32768_1_0
def val_main_v94 : Vec F S512x32768 .bf16 :=
  truncf .bf16 (val_main_v93 x0 x1 x4 x5) bitsLt_bf16_f32
def val_main_v95 : Vec F S512x32768 .f32 :=
  transpose S512x32768 [1, 0] (val_main_v3 x0 x1) transposes_S32768x512_S512x32768_1_0
def val_main_v96 : Vec F S512x32768 .bf16 :=
  truncf .bf16 (val_main_v95 x0 x1) bitsLt_bf16_f32
def val_main_v97 : Vec F S8x32768 .f32 :=
  transpose S8x32768 [1, 0] (val_main_v79 x0 x1) transposes_S32768x8_S8x32768_1_0
def val_main_v98 : Vec F S32768x512 .f32 :=
  shapeCast _ (val_main_v48 x0 x1 x4 x5) shapeCasts_S32768x8x64_S32768x512
def val_main_v99 : Vec F S32768x512 .bf16 :=
  truncf .bf16 (val_main_v98 x0 x1 x4 x5) bitsLt_bf16_f32
def val_main_v100 : Vec F S32768x64 .bf16 :=
  truncf .bf16 (val_main_v77 x0 x1 x4 x5) bitsLt_bf16_f32
def val_main_call1_v0 : Vec F S32768x512 .f32 :=
  Host.negf (val_main_v4 x0 x1)
def val_main_call1_v1 : Vec F S32768x512 .f32 :=
  Host.exp (val_main_call1_v0 x0 x1)
def val_main_call1_cst : Vec F S_ .f32 :=
  constant S_ .f32 0x3F800000#32
def val_main_call1_v2 : Vec F S32768x512 .f32 :=
  broadcastInDim S32768x512 ![] bcast_S_S32768x512 (val_main_call1_cst (F := F))
def val_main_call1_v3 : Vec F S32768x512 .f32 :=
  addf (val_main_call1_v2 (F := F)) (val_main_call1_v1 x0 x1)
def val_main_call1_cst_0 : Vec F S_ .f32 :=
  constant S_ .f32 0x3F800000#32
def val_main_call1_v4 : Vec F S32768x512 .f32 :=
  broadcastInDim S32768x512 ![] bcast_S_S32768x512 (val_main_call1_cst_0 (F := F))
def val_main_call1_v5 : Vec F S32768x512 .f32 :=
  Host.divf (val_main_call1_v4 (F := F)) (val_main_call1_v3 x0 x1)
def val_main_v101 : Vec F S32768x512 .f32 :=
  mulf (val_main_v4 x0 x1) (val_main_call1_v5 x0 x1)
def val_main_v102 : Vec F S32768x512 .bf16 :=
  truncf .bf16 (val_main_v101 x0 x1) bitsLt_bf16_f32
def val_main_v103 : Vec F S32768x256 .f32 :=
  Host.negf (val_main_v81 x0 x1)
def val_main_v104 : Vec F S32768x256 .f32 :=
  Host.exp (val_main_v103 x0 x1)
def val_main_cst_2 : Vec F S_ .f32 :=
  constant S_ .f32 0x3F800000#32
def val_main_v105 : Vec F S32768x256 .f32 :=
  broadcastInDim S32768x256 ![] bcast_S_S32768x256 (val_main_cst_2 (F := F))
def val_main_v106 : Vec F S32768x256 .f32 :=
  addf (val_main_v105 (F := F)) (val_main_v104 x0 x1)
def val_main_cst_3 : Vec F S_ .f32 :=
  constant S_ .f32 0x3F800000#32
def val_main_v107 : Vec F S32768x256 .f32 :=
  broadcastInDim S32768x256 ![] bcast_S_S32768x256 (val_main_cst_3 (F := F))
def val_main_v108 : Vec F S32768x256 .f32 :=
  Host.divf (val_main_v107 (F := F)) (val_main_v106 x0 x1)
def val_main_v109 : Vec F S32768x256 .f32 :=
  mulf (val_main_v80 x0 x1) (val_main_v108 x0 x1)
def val_main_call2_v0 : Vec F S32768x256 .f32 :=
  Host.negf (val_main_v9 x0 x1)
def val_main_call2_v1 : Vec F S32768x256 .f32 :=
  Host.exp (val_main_call2_v0 x0 x1)
def val_main_call2_cst : Vec F S_ .f32 :=
  constant S_ .f32 0x3F800000#32
def val_main_call2_v2 : Vec F S32768x256 .f32 :=
  broadcastInDim S32768x256 ![] bcast_S_S32768x256 (val_main_call2_cst (F := F))
def val_main_call2_v3 : Vec F S32768x256 .f32 :=
  addf (val_main_call2_v2 (F := F)) (val_main_call2_v1 x0 x1)
def val_main_call2_cst_0 : Vec F S_ .f32 :=
  constant S_ .f32 0x3F800000#32
def val_main_call2_v4 : Vec F S32768x256 .f32 :=
  broadcastInDim S32768x256 ![] bcast_S_S32768x256 (val_main_call2_cst_0 (F := F))
def val_main_call2_v5 : Vec F S32768x256 .f32 :=
  Host.divf (val_main_call2_v4 (F := F)) (val_main_call2_v3 x0 x1)
def val_main_v110 : Vec F S32768x256 .f32 :=
  mulf (val_main_v9 x0 x1) (val_main_call2_v5 x0 x1)
def val_main_v111 : Vec F S32768x256 .bf16 :=
  truncf .bf16 (val_main_v110 x0 x1) bitsLt_bf16_f32
def val_main_cst_4 : Vec F S_ .f32 :=
  constant S_ .f32 0x3E3504F3#32
def val_main_v112 : Vec F S32768x128 .f32 :=
  broadcastInDim S32768x128 ![] bcast_S_S32768x128 (val_main_cst_4 (F := F))
def val_main_v113 : Vec F S32768x128 .f32 :=
  mulf (val_main_v10 x0 x1) (val_main_v112 (F := F))
def val_main_call3_v0 : Vec F S32768x256 .f32 :=
  Host.negf (val_main_v13 x0 x1)
def val_main_call3_v1 : Vec F S32768x256 .f32 :=
  Host.exp (val_main_call3_v0 x0 x1)
def val_main_call3_cst : Vec F S_ .f32 :=
  constant S_ .f32 0x3F800000#32
def val_main_call3_v2 : Vec F S32768x256 .f32 :=
  broadcastInDim S32768x256 ![] bcast_S_S32768x256 (val_main_call3_cst (F := F))
def val_main_call3_v3 : Vec F S32768x256 .f32 :=
  addf (val_main_call3_v2 (F := F)) (val_main_call3_v1 x0 x1)
def val_main_call3_cst_0 : Vec F S_ .f32 :=
  constant S_ .f32 0x3F800000#32
def val_main_call3_v4 : Vec F S32768x256 .f32 :=
  broadcastInDim S32768x256 ![] bcast_S_S32768x256 (val_main_call3_cst_0 (F := F))
def val_main_call3_v5 : Vec F S32768x256 .f32 :=
  Host.divf (val_main_call3_v4 (F := F)) (val_main_call3_v3 x0 x1)
def val_main_v114 : Vec F S32768x256 .f32 :=
  mulf (val_main_v13 x0 x1) (val_main_call3_v5 x0 x1)
def val_main_v115 : Vec F S32768x256 .bf16 :=
  truncf .bf16 (val_main_v114 x0 x1) bitsLt_bf16_f32

set_option maxRecDepth 8192 in
set_option maxHeartbeats 64400000 in
theorem res_main_v91 (m : (ℓ : Loc nD τ sig) → Buf (Elt F) ℓ) (c : Dev nD) :
    after ops (launchContents m c) (Proc.devRef .tc main_v91) = val_main_v91 (F := F) (m ((c.tc : Thread nD τ).loc main_arg0)) (m ((c.tc : Thread nD τ).loc main_arg1)) (m ((c.tc : Thread nD τ).loc main_arg4)) (m ((c.tc : Thread nD τ).loc main_arg5)) := by
  simp only [ops, TRef.binary, TRef.nullary, TRef.ternary, TRef.unary, TRef.toBuf, TRef.ofBuf, cast_eq]; after_results_simp <;> rfl

set_option maxRecDepth 8192 in
set_option maxHeartbeats 64400000 in
theorem res_main_v94 (m : (ℓ : Loc nD τ sig) → Buf (Elt F) ℓ) (c : Dev nD) :
    after ops (launchContents m c) (Proc.devRef .tc main_v94) = val_main_v94 (F := F) (m ((c.tc : Thread nD τ).loc main_arg0)) (m ((c.tc : Thread nD τ).loc main_arg1)) (m ((c.tc : Thread nD τ).loc main_arg4)) (m ((c.tc : Thread nD τ).loc main_arg5)) := by
  simp only [ops, TRef.binary, TRef.nullary, TRef.ternary, TRef.unary, TRef.toBuf, TRef.ofBuf, cast_eq]; after_results_simp <;> rfl

set_option maxRecDepth 8192 in
set_option maxHeartbeats 64400000 in
theorem res_main_v96 (m : (ℓ : Loc nD τ sig) → Buf (Elt F) ℓ) (c : Dev nD) :
    after ops (launchContents m c) (Proc.devRef .tc main_v96) = val_main_v96 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v97 (m : (ℓ : Loc nD τ sig) → Buf (Elt F) ℓ) (c : Dev nD) :
    after ops (launchContents m c) (Proc.devRef .tc main_v97) = val_main_v97 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v99 (m : (ℓ : Loc nD τ sig) → Buf (Elt F) ℓ) (c : Dev nD) :
    after ops (launchContents m c) (Proc.devRef .tc main_v99) = val_main_v99 (F := F) (m ((c.tc : Thread nD τ).loc main_arg0)) (m ((c.tc : Thread nD τ).loc main_arg1)) (m ((c.tc : Thread nD τ).loc main_arg4)) (m ((c.tc : Thread nD τ).loc main_arg5)) := by
  simp only [ops, TRef.binary, TRef.nullary, TRef.ternary, TRef.unary, TRef.toBuf, TRef.ofBuf, cast_eq]; after_results_simp <;> rfl

set_option maxRecDepth 8192 in
set_option maxHeartbeats 64400000 in
theorem res_main_v100 (m : (ℓ : Loc nD τ sig) → Buf (Elt F) ℓ) (c : Dev nD) :
    after ops (launchContents m c) (Proc.devRef .tc main_v100) = val_main_v100 (F := F) (m ((c.tc : Thread nD τ).loc main_arg0)) (m ((c.tc : Thread nD τ).loc main_arg1)) (m ((c.tc : Thread nD τ).loc main_arg4)) (m ((c.tc : Thread nD τ).loc main_arg5)) := by
  simp only [ops, TRef.binary, TRef.nullary, TRef.ternary, TRef.unary, TRef.toBuf, TRef.ofBuf, cast_eq]; after_results_simp <;> rfl

set_option maxRecDepth 8192 in
set_option maxHeartbeats 64400000 in
theorem res_main_v102 (m : (ℓ : Loc nD τ sig) → Buf (Elt F) ℓ) (c : Dev nD) :
    after ops (launchContents m c) (Proc.devRef .tc main_v102) = val_main_v102 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v109 (m : (ℓ : Loc nD τ sig) → Buf (Elt F) ℓ) (c : Dev nD) :
    after ops (launchContents m c) (Proc.devRef .tc main_v109) = val_main_v109 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v111 (m : (ℓ : Loc nD τ sig) → Buf (Elt F) ℓ) (c : Dev nD) :
    after ops (launchContents m c) (Proc.devRef .tc main_v111) = val_main_v111 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v113 (m : (ℓ : Loc nD τ sig) → Buf (Elt F) ℓ) (c : Dev nD) :
    after ops (launchContents m c) (Proc.devRef .tc main_v113) = val_main_v113 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v11 (m : (ℓ : Loc nD τ sig) → Buf (Elt F) ℓ) (c : Dev nD) :
    after ops (launchContents m c) (Proc.devRef .tc main_v11) = val_main_v11 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v12 (m : (ℓ : Loc nD τ sig) → Buf (Elt F) ℓ) (c : Dev nD) :
    after ops (launchContents m c) (Proc.devRef .tc main_v12) = val_main_v12 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v115 (m : (ℓ : Loc nD τ sig) → Buf (Elt F) ℓ) (c : Dev nD) :
    after ops (launchContents m c) (Proc.devRef .tc main_v115) = val_main_v115 (F := F) (m ((c.tc : Thread nD τ).loc main_arg0)) (m ((c.tc : Thread nD τ).loc main_arg1)) := by
  simp only [ops, TRef.binary, TRef.nullary, TRef.ternary, TRef.unary, TRef.toBuf, TRef.ofBuf, cast_eq]; after_results_simp <;> rfl

set_option maxRecDepth 8192 in
set_option maxHeartbeats 64400000 in
theorem res_main_v88 (m : (ℓ : Loc nD τ sig) → Buf (Elt F) ℓ) (c : Dev nD) :
    after ops (launchContents m c) (Proc.devRef .tc main_v88) = val_main_v88 (F := F) (m ((c.tc : Thread nD τ).loc main_arg0)) (m ((c.tc : Thread nD τ).loc main_arg1)) (m ((c.tc : Thread nD τ).loc main_arg2)) (m ((c.tc : Thread nD τ).loc main_arg3)) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg0 (m : (ℓ : Loc nD τ sig) → Buf (Elt F) ℓ) (c : Dev nD) :
    after ops (launchContents m c) (Proc.devRef .tc main_arg0) = m ((c.tc : Thread nD τ).loc main_arg0) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg1 (m : (ℓ : Loc nD τ sig) → Buf (Elt F) ℓ) (c : Dev nD) :
    after ops (launchContents m c) (Proc.devRef .tc main_arg1) = m ((c.tc : Thread nD τ).loc main_arg1) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg2 (m : (ℓ : Loc nD τ sig) → Buf (Elt F) ℓ) (c : Dev nD) :
    after ops (launchContents m c) (Proc.devRef .tc main_arg2) = m ((c.tc : Thread nD τ).loc main_arg2) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg3 (m : (ℓ : Loc nD τ sig) → Buf (Elt F) ℓ) (c : Dev nD) :
    after ops (launchContents m c) (Proc.devRef .tc main_arg3) = m ((c.tc : Thread nD τ).loc main_arg3) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg4 (m : (ℓ : Loc nD τ sig) → Buf (Elt F) ℓ) (c : Dev nD) :
    after ops (launchContents m c) (Proc.devRef .tc main_arg4) = m ((c.tc : Thread nD τ).loc main_arg4) := by
  simp only [ops, TRef.binary, TRef.nullary, TRef.ternary, TRef.unary, TRef.toBuf, TRef.ofBuf, cast_eq]; after_results_simp <;> rfl

set_option maxRecDepth 8192 in
set_option maxHeartbeats 64400000 in
theorem kept_main_arg5 (m : (ℓ : Loc nD τ sig) → Buf (Elt F) ℓ) (c : Dev nD) :
    after ops (launchContents m c) (Proc.devRef .tc main_arg5) = m ((c.tc : Thread nD τ).loc main_arg5) := by
  simp only [ops, TRef.binary, TRef.nullary, TRef.ternary, TRef.unary, TRef.toBuf, TRef.ofBuf, cast_eq]; after_results_simp <;> rfl

/-- Every weakly fair execution of the reference ends with each result at its value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v94) = val_main_v94 (F := F) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v96) = val_main_v96 (F := F) (m ((c.tc : Thread nD τ).loc main_arg0)) (m ((c.tc : Thread nD τ).loc main_arg1))
      ∧ r.2.mem ((c.tc : Thread nD τ).loc main_v97) = val_main_v97 (F := F) (m ((c.tc : Thread nD τ).loc main_arg0)) (m ((c.tc : Thread nD τ).loc main_arg1))
      ∧ r.2.mem ((c.tc : Thread nD τ).loc main_v99) = val_main_v99 (F := F) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v100) = val_main_v100 (F := F) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v102) = val_main_v102 (F := F) (m ((c.tc : Thread nD τ).loc main_arg0)) (m ((c.tc : Thread nD τ).loc main_arg1))
      ∧ r.2.mem ((c.tc : Thread nD τ).loc main_v109) = val_main_v109 (F := F) (m ((c.tc : Thread nD τ).loc main_arg0)) (m ((c.tc : Thread nD τ).loc main_arg1))
      ∧ r.2.mem ((c.tc : Thread nD τ).loc main_v111) = val_main_v111 (F := F) (m ((c.tc : Thread nD τ).loc main_arg0)) (m ((c.tc : Thread nD τ).loc main_arg1))
      ∧ r.2.mem ((c.tc : Thread nD τ).loc main_v113) = val_main_v113 (F := F) (m ((c.tc : Thread nD τ).loc main_arg0)) (m ((c.tc : Thread nD τ).loc main_arg1))
      ∧ r.2.mem ((c.tc : Thread nD τ).loc main_v11) = val_main_v11 (F := F) (m ((c.tc : Thread nD τ).loc main_arg0)) (m ((c.tc : Thread nD τ).loc main_arg1))
      ∧ r.2.mem ((c.tc : Thread nD τ).loc main_v12) = val_main_v12 (F := F) (m ((c.tc : Thread nD τ).loc main_arg0)) (m ((c.tc : Thread nD τ).loc main_arg1))
      ∧ r.2.mem ((c.tc : Thread nD τ).loc main_v115) = val_main_v115 (F := F) (m ((c.tc : Thread nD τ).loc main_arg0)) (m ((c.tc : Thread nD τ).loc main_arg1))
      ∧ r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (res_main_v91 m c),
      (h c main_v94).trans (res_main_v94 m c),
      (h c main_v96).trans (res_main_v96 m c),
      (h c main_v97).trans (res_main_v97 m c),
      (h c main_v99).trans (res_main_v99 m c),
      (h c main_v100).trans (res_main_v100 m c),
      (h c main_v102).trans (res_main_v102 m c),
      (h c main_v109).trans (res_main_v109 m c),
      (h c main_v111).trans (res_main_v111 m c),
      (h c main_v113).trans (res_main_v113 m c),
      (h c main_v11).trans (res_main_v11 m c),
      (h c main_v12).trans (res_main_v12 m c),
      (h c main_v115).trans (res_main_v115 m c),
      (h c main_v88).trans (res_main_v88 m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c)⟩)
    (run_seq scopedRefs_eq scopedSems_eq defs main (fun _ => ops) main_eq (fun _ => ops_sub) m ρ)

end Cert.RefInIdeal.Vals

end
-- ==== Proof.InRef.lean ====
module

public import proofs.«01_k».proof.Proof.RefInVals
public import Idealize.ShloMosaic.Lib.Pointwise

@[expose] public section

noncomputable section

namespace Cert.RefInIdeal.Whole

open Cert.RefInIdeal Cert.RefInIdeal.Gen Cert.RefInIdeal.Vals Idealize.ShloMosaic Idealize.ShloMosaic.TcCoe Idealize.SL.Sem

variable (a0 : FVec Ideal S32768x1024 .f32) (a1 : FVec Ideal S1024x4184 .f32) (a2 : FVec Ideal S16x128 .f32) (a3 : FVec Ideal S128 .f32)
    (a4 a5 : FVec Ideal S32768x32 .f32)

/-- The projection of row `R` to column `q`. -/
def h (R : Fin 32768) (q : Fin 4184) : EReal := ∑ k : Fin 1024, a0 (ix2 R k) * a1 (ix2 k q)

theorem h_apply (R : Fin 32768) (q : Fin 4184) : val_main_v0 (F := Ideal) a0 a1 (ix2 R q) = h a0 a1 R q := by
  pointwise [val_main_v0, h]

/-- The rotation by position of 64-column heads, read out of a projected row `f` from column `off` on. -/
def rot (f : Fin 4184 → EReal) (C S : Fin 32 → EReal) (off : Nat) (ho : off ≤ 3000) (q : Fin 512) : EReal :=
  if hq : q.val % 64 < 32 then
    f ⟨off + q.val, by omega⟩ * C ⟨q.val % 64, hq⟩ - f ⟨off + q.val + 32, by omega⟩ * S ⟨q.val % 64, hq⟩
  else
    f ⟨off + q.val, by omega⟩ * C ⟨q.val % 64 - 32, by omega⟩ + f ⟨off + q.val - 32, by omega⟩ * S ⟨q.val % 64 - 32, by omega⟩

/-- Two rotated halves agree where their columns do. -/
theorem sub_cong (f : Fin 4184 → EReal) (a b : EReal) {i i' j j' : Fin 4184} (h1 : i = i') (h2 : j = j') : f i * a - f j * b = f i' * a - f j' * b := by
  rw [h1, h2]
theorem add_cong (f : Fin 4184 → EReal) (a b : EReal) {i i' j j' : Fin 4184} (h1 : i = i') (h2 : j = j') : f i * a + f j * b = f i' * a + f j' * b := by
  rw [h1, h2]

theorem q_apply (R : Fin 32768) (q : Fin 512) : val_main_v91 (F := Ideal) a0 a1 a4 a5 (ix2 q R)
    = rot (h a0 a1 R) (fun j => a4 (ix2 R j)) (fun j => a5 (ix2 R j)) 0 (by omega) q * Ideal.ofBits .f32 0x3E38AA3B#32 := by
  pointwise [val_main_v91, val_main_v90, val_main_v89, val_main_v32, val_main_v31, val_main_cst, val_main_v15, val_main_v16, val_main_v17, val_main_v18, val_main_v19, val_main_v20, val_main_v21, val_main_v22, val_main_v23, val_main_v24, val_main_v25, val_main_v26, val_main_v27, val_main_v28, val_main_v29, val_main_v30, val_main_v1]
  simp only [h_apply]
  congr 1
  by_cases hq : q.val % 64 < 32
  · refine (dif_pos hq).trans ?_
    refine Eq.trans ?_ (dif_pos hq).symm
    refine sub_cong _ _ _ (Fin.ext ?_) (Fin.ext ?_) <;> dsimp only <;> omega
  · refine (dif_neg hq).trans ?_
    refine Eq.trans ?_ (dif_neg hq).symm
    refine add_cong _ _ _ (Fin.ext ?_) (Fin.ext ?_) <;> dsimp only <;> omega

theorem qi_apply (R : Fin 32768) (q : Fin 512) : val_main_v94 (F := Ideal) a0 a1 a4 a5 (ix2 q R)
    = rot (h a0 a1 R) (fun j => a4 (ix2 R j)) (fun j => a5 (ix2 R j)) 2048 (by omega) q := by
  pointwise [val_main_v94, val_main_v93, val_main_v92, val_main_v49, val_main_v50, val_main_v51, val_main_v52, val_main_v53, val_main_v54, val_main_v55, val_main_v56, val_main_v57, val_main_v58, val_main_v59, val_main_v60, val_main_v61, val_main_v62, val_main_v63, val_main_v64, val_main_v5]
  simp only [h_apply]
  by_cases hq : q.val % 64 < 32
  · refine (dif_pos hq).trans ?_
    refine Eq.trans ?_ (dif_pos hq).symm
    refine sub_cong _ _ _ (Fin.ext ?_) (Fin.ext ?_) <;> dsimp only <;> omega
  · refine (dif_neg hq).trans ?_
    refine Eq.trans ?_ (dif_neg hq).symm
    refine add_cong _ _ _ (Fin.ext ?_) (Fin.ext ?_) <;> dsimp only <;> omega

theorem k_apply (R : Fin 32768) (q : Fin 512) : val_main_v99 (F := Ideal) a0 a1 a4 a5 (ix2 R q)
    = rot (h a0 a1 R) (fun j => a4 (ix2 R j)) (fun j => a5 (ix2 R j)) 512 (by omega) q := by
  pointwise [val_main_v99, val_main_v98, val_main_v33, val_main_v34, val_main_v35, val_main_v36, val_main_v37, val_main_v38, val_main_v39, val_main_v40, val_main_v41, val_main_v42, val_main_v43, val_main_v44, val_main_v45, val_main_v46, val_main_v47, val_main_v48, val_main_v2]
  simp only [h_apply]
  by_cases hq : q.val % 64 < 32
  · refine (dif_pos hq).trans ?_
    refine Eq.trans ?_ (dif_pos hq).symm
    refine sub_cong _ _ _ (Fin.ext ?_) (Fin.ext ?_) <;> dsimp only <;> omega
  · refine (dif_neg hq).trans ?_
    refine Eq.trans ?_ (dif_neg hq).symm
    refine add_cong _ _ _ (Fin.ext ?_) (Fin.ext ?_) <;> dsimp only <;> omega

theorem ki_apply (R : Fin 32768) (q : Fin 64) : val_main_v100 (F := Ideal) a0 a1 a4 a5 (ix2 R q)
    = rot (h a0 a1 R) (fun j => a4 (ix2 R j)) (fun j => a5 (ix2 R j)) 2560 (by omega) ⟨q.val, by omega⟩ := by
  pointwise [val_main_v100, val_main_v65, val_main_v66, val_main_v67, val_main_v68, val_main_v69, val_main_v70, val_main_v71, val_main_v72, val_main_v73, val_main_v74, val_main_v75, val_main_v76, val_main_v77, val_main_v6]
  simp only [h_apply]
  by_cases hq : q.val % 64 < 32
  · refine (dif_pos (show q.val < 32 by omega)).trans ?_
    refine Eq.trans ?_ (dif_pos hq).symm
    refine (sub_cong _ _ _ (i' := ⟨2560 + q.val, by omega⟩) (j' := ⟨2560 + q.val + 32, by omega⟩) (Fin.ext ?_) (Fin.ext ?_)).trans ?_
    · dsimp only
    · dsimp only; omega
    · rw [show (⟨q.val, by omega⟩ : Fin 32) = ⟨q.val % 64, hq⟩ from Fin.ext (by dsimp only; omega)]
  · refine (dif_neg (show ¬ q.val < 32 by omega)).trans ?_
    refine Eq.trans ?_ (dif_neg hq).symm
    refine (add_cong _ _ _ (i' := ⟨2560 + q.val, by omega⟩) (j' := ⟨2560 + q.val - 32, by omega⟩) (Fin.ext ?_) (Fin.ext ?_)).trans ?_
    · dsimp only; omega
    · dsimp only; omega
    · rw [show (⟨q.val - 32, by omega⟩ : Fin 32) = ⟨q.val % 64 - 32, by omega⟩ from Fin.ext (by dsimp only; omega)]

theorem v_apply (R : Fin 32768) (q : Fin 512) : val_main_v96 (F := Ideal) a0 a1 (ix2 q R) = h a0 a1 R ⟨1024 + q.val, by omega⟩ := by
  pointwise [val_main_v96, val_main_v95, val_main_v3]
  all_goals try simp only [h_apply]

theorem wi_apply (R : Fin 32768) (q : Fin 8) : val_main_v97 (F := Ideal) a0 a1 (ix2 q R) = h a0 a1 R ⟨2624 + q.val, by omega⟩ * Ideal.ofBits .f32 0x3D3504F3#32 := by
  pointwise [val_main_v97, val_main_v79, val_main_v78, val_main_cst_0, val_main_v7]
  all_goals try simp only [h_apply]

theorem sag_apply (R : Fin 32768) (q : Fin 512) : val_main_v102 (F := Ideal) a0 a1 (ix2 R q) = h a0 a1 R ⟨1536 + q.val, by omega⟩ * Ideal.div 1 (1 + Ideal.exp (-h a0 a1 R ⟨1536 + q.val, by omega⟩)) := by
  pointwise [val_main_v102, val_main_v101, val_main_call1_v0, val_main_call1_v1, val_main_call1_v2, val_main_call1_v3, val_main_call1_v4, val_main_call1_v5, val_main_call1_cst, val_main_call1_cst_0, val_main_v4]
  all_goals try simp only [h_apply]

theorem glu_apply (R : Fin 32768) (q : Fin 256) : val_main_v109 (F := Ideal) a0 a1 (ix2 R q) = h a0 a1 R ⟨2632 + q.val, by omega⟩ * Ideal.div 1 (1 + Ideal.exp (-h a0 a1 R ⟨2888 + q.val, by omega⟩)) := by
  pointwise [val_main_v109, val_main_v103, val_main_v104, val_main_v105, val_main_v106, val_main_v107, val_main_v108, val_main_cst_2, val_main_cst_3, val_main_v80, val_main_v81, val_main_v8]
  all_goals try simp only [h_apply]
  rw [show (⟨2632 + (256 + q.val), by omega⟩ : Fin 4184) = ⟨2888 + q.val, by omega⟩ from Fin.ext (by dsimp only; omega)]

theorem sbg_apply (R : Fin 32768) (q : Fin 256) : val_main_v111 (F := Ideal) a0 a1 (ix2 R q) = h a0 a1 R ⟨3144 + q.val, by omega⟩ * Ideal.div 1 (1 + Ideal.exp (-h a0 a1 R ⟨3144 + q.val, by omega⟩)) := by
  pointwise [val_main_v111, val_main_v110, val_main_call2_v0, val_main_call2_v1, val_main_call2_v2, val_main_call2_v3, val_main_call2_v4, val_main_call2_v5, val_main_call2_cst, val_main_call2_cst_0, val_main_v9]
  all_goals try simp only [h_apply]

theorem cq_apply (R : Fin 32768) (q : Fin 128) : val_main_v113 (F := Ideal) a0 a1 (ix2 R q) = h a0 a1 R ⟨3400 + q.val, by omega⟩ * Ideal.ofBits .f32 0x3E3504F3#32 := by
  pointwise [val_main_v113, val_main_v112, val_main_cst_4, val_main_v10]
  all_goals try simp only [h_apply]

theorem ck_apply (R : Fin 32768) (q : Fin 128) : val_main_v11 (F := Ideal) a0 a1 (ix2 R q) = h a0 a1 R ⟨3528 + q.val, by omega⟩ := by
  pointwise [val_main_v11]
  all_goals try simp only [h_apply]

theorem cv_apply (R : Fin 32768) (q : Fin 256) : val_main_v12 (F := Ideal) a0 a1 (ix2 R q) = h a0 a1 R ⟨3656 + q.val, by omega⟩ := by
  pointwise [val_main_v12]
  all_goals try simp only [h_apply]

theorem scg_apply (R : Fin 32768) (q : Fin 256) : val_main_v115 (F := Ideal) a0 a1 (ix2 R q) = h a0 a1 R ⟨3912 + q.val, by omega⟩ * Ideal.div 1 (1 + Ideal.exp (-h a0 a1 R ⟨3912 + q.val, by omega⟩)) := by
  pointwise [val_main_v115, val_main_v114, val_main_call3_v0, val_main_call3_v1, val_main_call3_v2, val_main_call3_v3, val_main_call3_v4, val_main_call3_v5, val_main_call3_cst, val_main_call3_cst_0, val_main_v13]
  all_goals try simp only [h_apply]

/-- The decay's argument at row `R` and column `q`. -/
def zl (R : Fin 32768) (q : Fin 128) : EReal := ∑ j : Fin 16, h a0 a1 R ⟨4168 + j.val, by omega⟩ * a2 (ix2 j q) + a3 (ix1 q)

theorem zl_apply (R : Fin 32768) (q : Fin 128) : val_main_v85 (F := Ideal) a0 a1 a2 a3 (ix2 R q) = zl a0 a1 a2 a3 R q := by
  pointwise [val_main_v85, val_main_v84, val_main_v83, val_main_v82, val_main_v14]
  simp only [h_apply, zl]

theorem la_apply (R : Fin 32768) (q : Fin 128) : val_main_v88 (F := Ideal) a0 a1 a2 a3 (ix2 R q)
    = Ideal.div (-(max (-zl a0 a1 a2 a3 R q) 0 + Ideal.log1p (Ideal.exp (-FloatOps.absf (F := Ideal) (φ := .f32) (-zl a0 a1 a2 a3 R q : EReal)))))
      (Ideal.ofBits .f32 0x41800000#32) := by
  pointwise [val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_call0_v0, val_main_call0_v1, val_main_v86, val_main_v87, val_main_cst_1, val_main_v88]
  simp only [zl_apply]
  simp

end Cert.RefInIdeal.Whole
-- ==== Proof.InCols.lean ====
module

public import proofs.«01_k».proof.Proof.InBlocks
public import proofs.«01_k».proof.Proof.InBands
public import proofs.«01_k».proof.Proof.InHost
public import proofs.«01_k».proof.Proof.InRef

@[expose] public section

noncomputable section

namespace Cert.InIdeal.Whole

open Cert.InIdeal Cert.InIdeal.Gen Idealize.ShloMosaic Idealize.ShloMosaic.TcCoe Idealize.SL.Sem
open Idealize.ShloMosaic.Pipeline (Dat)
open Cert.RefInIdeal.Whole (h rot zl)

theorem c_zero : Ideal.ofBits .f32 0x00000000#32 = 0 := by simp [Ideal.ofBits, Ideal.ieee]
theorem c_one : Ideal.ofBits .f32 0x3F800000#32 = 1 := by
  have e : Ideal.ofBits .f32 0x3F800000#32 = ((1 : ℝ) : EReal) := by simp [Ideal.ofBits, Ideal.ieee, -EReal.coe_mul]; norm_num
  simpa using e

/-- A row of the projection transposed: weight row `i` against feature row `cc`. -/
def hc (x0 : FVec Ideal S512x1024 .f32) (x1 : FVec Ideal S1552x1024 .bf16) (i : Fin 1552) (cc : Fin 512) : EReal := ∑ k : Fin 1024, x1 (ix2 i k) * x0 (ix2 cc k)

theorem silu_eq (z : EReal) : silu z = z * Ideal.div 1 (1 + Ideal.exp (-z)) := by
  unfold silu
  rw [c_zero, c_one, zero_sub]

/-- A value is a real number. -/
def Real? (x : EReal) : Prop := ∃ r : ℝ, x = (r : EReal)

theorem Real?.mul {x y : EReal} (hx : Real? x) (hy : Real? y) : Real? (x * y) := by
  obtain ⟨a, rfl⟩ := hx
  obtain ⟨b, rfl⟩ := hy
  exact ⟨a * b, (EReal.coe_mul a b).symm⟩
theorem Real?.add {x y : EReal} (hx : Real? x) (hy : Real? y) : Real? (x + y) := by
  obtain ⟨a, rfl⟩ := hx
  obtain ⟨b, rfl⟩ := hy
  exact ⟨a + b, (EReal.coe_add a b).symm⟩
theorem Real?.sum {n : Nat} (f : Fin n → EReal) (hf : ∀ k, Real? (f k)) : Real? (∑ k, f k) :=
  Finset.sum_induction f Real? (fun _ _ => Real?.add) ⟨0, EReal.coe_zero.symm⟩ (fun k _ => hf k)
theorem Real?.sub_self {x : EReal} (hx : Real? x) : x - x = 0 := by
  obtain ⟨a, rfl⟩ := hx
  rw [← EReal.coe_sub, _root_.sub_self, EReal.coe_zero]

/-- A magnitude below infinity is a real number's. -/
theorem Real?.of_lt {x : EReal} (hx : FloatOps.absf (F := Ideal) (φ := .f32) x < Ideal.ofBits .f32 0x7F800000#32) : Real? x := by
  have e : Ideal.ofBits .f32 0x7F800000#32 = ⊤ := by simp [Ideal.ofBits, Ideal.ieee]
  rw [e, Ideal.absf_def] at hx
  induction x using EReal.rec with
  | bot => simp at hx
  | top => simp at hx
  | coe r => exact ⟨r, rfl⟩

/-- The softened step's logarithm is finite. -/
theorem log_fin (a : EReal) (ha : 0 ≤ a) : Real? (Ideal.log (1 + Ideal.exp (-a))) := by
  induction a using EReal.rec with
  | bot => simp at ha
  | top =>
    refine ⟨0, ?_⟩
    rw [EReal.neg_top, Ideal.exp_bot, add_zero, ← EReal.coe_one, Ideal.log_coe, if_neg (by norm_num), Real.log_one]
  | coe r =>
    refine ⟨Real.log (1 + Real.exp (-r)), ?_⟩
    have hp : ¬ (1 + Real.exp (-r) ≤ 0) := by have := Real.exp_pos (-r); linarith
    rw [← EReal.coe_neg, Ideal.exp_coe, ← EReal.coe_one, ← EReal.coe_add, Ideal.log_coe, if_neg hp]

/-- The two ways of writing the logarithm of the logistic function, over sixteen, agree at every extended real. -/
theorem lsig_eq (z : EReal) : lsig z = Ideal.div (-(max (-z) 0 + Ideal.log1p (Ideal.exp (-FloatOps.absf (F := Ideal) (φ := .f32) (-z : EReal))))) (Ideal.ofBits .f32 0x41800000#32) := by
  have h1 : Ideal.ofBits .f32 0x41800000#32 = ((16 : ℝ) : EReal) := by simp [Ideal.ofBits, Ideal.ieee, -EReal.coe_mul]; norm_num
  have h2 : Ideal.ofBits .f32 0x3D800000#32 = ((1 / 16 : ℝ) : EReal) := by simp [Ideal.ofBits, Ideal.ieee, -EReal.coe_mul]; norm_num
  have ha : FloatOps.absf (F := Ideal) (φ := .f32) (-z : EReal) = FloatOps.absf (F := Ideal) (φ := .f32) z := by
    rw [Ideal.absf_def, Ideal.absf_def]
    show max (-z) (-(-z)) = max z (-z)
    rw [neg_neg, max_comm]
  have hn : 0 ≤ FloatOps.absf (F := Ideal) (φ := .f32) z := by
    rw [Ideal.absf_def]
    show (0 : EReal) ≤ max z (-z)
    rcases le_total 0 z with hz | hz
    · exact le_max_of_le_left hz
    · exact le_max_of_le_right (EReal.neg_nonneg.mpr hz)
  obtain ⟨l, hl⟩ := log_fin _ hn
  rw [h1, Ideal.div_coe (by norm_num), lsig, h2, c_zero, c_one, zero_sub, ha, Ideal.log1p, hl]
  congr 1
  have hm : -(max (-z) 0) = min z 0 := by
    rcases le_total 0 z with hz | hz
    · rw [min_eq_right hz, max_eq_right (by simpa using EReal.neg_le_neg_iff.mpr hz), neg_zero]
    · rw [min_eq_left hz, max_eq_left (EReal.neg_nonneg.mpr hz), neg_neg]
  rw [EReal.neg_add (Or.inr (EReal.coe_ne_top l)) (Or.inr (EReal.coe_ne_bot l)), hm]

/-- The rows' rotation is the columns', read from the projected row. -/
theorem rope_rot (C S : FVec Ideal S32x512 .f32) (H : FVec Ideal S1552x512 .f32) (base : Nat) (hb : base ≤ 512) (s : EReal)
    (f : Fin 4184 → EReal) (C' S' : Fin 32 → EReal) (b : Nat) (ho : b ≤ 3000) (cc : Fin 512)
    (hH : ∀ j : Fin 512, H (ix2 ⟨base + j.val, by omega⟩ cc) = f ⟨b + j.val, by omega⟩)
    (hC : ∀ j : Fin 32, C (ix2 j cc) = C' j) (hS : ∀ j : Fin 32, S (ix2 j cc) = S' j) (q : Fin 512) :
    rope C S H base hb s (ix2 q cc) = rot f C' S' b ho q * s := by
  by_cases hq : q.val % 64 < 32
  · refine (dif_pos hq).trans ?_
    rw [rot, dif_pos hq]
    have e1 := hH q
    have e2 := hH ⟨q.val + 32, by omega⟩
    refine congrArg (· * s) ?_
    refine (congrArg₂ (fun a b : EReal => a - b) (congrArg₂ (fun a b : EReal => a * b) e1 (hC ⟨q.val % 64, hq⟩)) (congrArg₂ (fun a b : EReal => a * b) ?_ (hS ⟨q.val % 64, hq⟩)))
    refine Eq.trans ?_ (e2.trans ?_)
    · exact congrArg (fun i => H (ix2 i cc)) (Fin.ext (by show base + q.val + 32 = base + (q.val + 32); omega))
    · exact congrArg f (Fin.ext (by dsimp only; omega))
  · refine (dif_neg hq).trans ?_
    rw [rot, dif_neg hq]
    have e1 := hH q
    have e2 := hH ⟨q.val - 32, by omega⟩
    refine congrArg (· * s) ?_
    refine (congrArg₂ (fun a b : EReal => a + b) (congrArg₂ (fun a b : EReal => a * b) e1 (hC ⟨q.val % 64 - 32, by omega⟩)) (congrArg₂ (fun a b : EReal => a * b) ?_ (hS ⟨q.val % 64 - 32, by omega⟩)))
    refine Eq.trans ?_ (e2.trans ?_)
    · exact congrArg (fun i => H (ix2 i cc)) (Fin.ext (by show base + q.val - 32 = base + (q.val - 32); omega))
    · exact congrArg f (Fin.ext (by dsimp only; omega))

/-- The keys' rotation, whose sines carry the sign of the half, is the columns'. -/
theorem kr_rot (x0 : FVec Ideal S512x1024 .f32) (x2 : FVec Ideal S1024x2816 .bf16) (x8 x9 : FVec Ideal S512x128 .f32) (off : Nat) (hoff : off ≤ 512)
    (f : Fin 4184 → EReal) (C' S' : Fin 32 → EReal) (b : Nat) (ho : b ≤ 3000) (r : Fin 512) (n : Nat) (hn : n ≤ 512) (hn2 : n % 64 = 0)
    (hH : ∀ j : Fin n, hr x0 x2 r ⟨off + j.val, by omega⟩ = f ⟨b + j.val, by omega⟩)
    (hC : ∀ p : Fin 128, x8 (ix2 r p) = C' ⟨p.val % 32, by omega⟩)
    (hS : ∀ p : Fin 128, x9 (ix2 r p) = if p.val % 64 < 32 then -S' ⟨p.val % 32, by omega⟩ else S' ⟨p.val % 32, by omega⟩) (q : Fin 512) (hqn : q.val < n) :
    kr x0 x2 x8 x9 off hoff r q = rot f C' S' b ho q := by
  unfold kr
  rw [hC, hS]
  have e1 := hH ⟨q.val, hqn⟩
  dsimp only at e1 ⊢
  by_cases hq : q.val % 64 < 32
  · have e2 := hH ⟨q.val + 32, by omega⟩
    rw [if_pos hq, if_pos (by omega), rot, dif_pos hq, e1]
    rw [show (⟨off + q.val + 32, by omega⟩ : Fin 2816) = ⟨off + (q.val + 32), by omega⟩ from Fin.ext (by dsimp only; omega), e2]
    rw [show (⟨q.val % 128 % 32, by omega⟩ : Fin 32) = ⟨q.val % 64, hq⟩ from Fin.ext (by dsimp only; omega)]
    rw [show (⟨b + q.val + 32, by omega⟩ : Fin 4184) = ⟨b + (q.val + 32), by omega⟩ from Fin.ext (by dsimp only; omega)]
    rw [mul_neg, sub_eq_add_neg]
  · have e2 := hH ⟨q.val - 32, by omega⟩
    rw [if_neg hq, if_neg (by omega), rot, dif_neg hq, e1]
    rw [show (⟨off + q.val - 32, by omega⟩ : Fin 2816) = ⟨off + (q.val - 32), by omega⟩ from Fin.ext (by dsimp only; omega), e2]
    rw [show (⟨q.val % 128 % 32, by omega⟩ : Fin 32) = ⟨q.val % 64 - 32, by omega⟩ from Fin.ext (by dsimp only; omega)]
    rw [show (⟨b + q.val - 32, by omega⟩ : Fin 4184) = ⟨b + (q.val - 32), by omega⟩ from Fin.ext (by dsimp only; omega)]

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)
theorem idx13 : ∀ t : Fin cfg0.N, win0_13.index t (0 : Fin 2) = 0 ∧ win0_13.index t (1 : Fin 2) = t.val :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx22 : ∀ t : Fin cfg0.N, win0_22.index t (0 : Fin 2) = t.val ∧ win0_22.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)

/-- Row `r` of block `t`, as a row of the whole array. -/
def row (t : Fin cfg0.N) (r : Fin 512) : Fin 32768 := ⟨512 * t.val + r.val, by
  have h : t.val < 64 := t.isLt
  omega⟩

theorem emb0 (t : Fin cfg0.N) (r : Fin 512) (k : Fin 1024) : ((cfg0.win 0).blk t).view.emb (ix2 r k) = ix2 (row t r) k := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega
theorem emb1 (t : Fin cfg0.N) (r : Fin 1552) (k : Fin 1024) : ((cfg0.win 1).blk t).view.emb (ix2 r k) = ix2 r k := by
  obtain ⟨e0, e1⟩ := idx1 t
  funext a; apply Fin.ext
  match a with
  | ⟨0, _⟩ => show win0_1.index t (0 : Fin 2) * 1552 + 1 * r.val = r.val; omega
  | ⟨1, _⟩ => show win0_1.index t (1 : Fin 2) * 1024 + 1 * k.val = k.val; omega
theorem emb2 (t : Fin cfg0.N) (r : Fin 1024) (k : Fin 2816) : ((cfg0.win 2).blk t).view.emb (ix2 r k) = ix2 r k := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 2816 + 1 * k.val = k.val; omega
theorem emb3 (t : Fin cfg0.N) (r : Fin 128) (k : Fin 128) : ((cfg0.win 3).blk t).view.emb (ix2 r k) = ix2 r k := by
  obtain ⟨e0, e1⟩ := idx3 t
  funext a; apply Fin.ext
  match a with
  | ⟨0, _⟩ => show win0_3.index t (0 : Fin 2) * 128 + 1 * r.val = r.val; omega
  | ⟨1, _⟩ => show win0_3.index t (1 : Fin 2) * 128 + 1 * k.val = k.val; omega
theorem emb4 (t : Fin cfg0.N) (r : Fin 128) (k : Fin 128) : ((cfg0.win 4).blk t).view.emb (ix2 r k) = ix2 r k := by
  obtain ⟨e0, e1⟩ := idx4 t
  funext a; apply Fin.ext
  match a with
  | ⟨0, _⟩ => show win0_4.index t (0 : Fin 2) * 128 + 1 * r.val = r.val; omega
  | ⟨1, _⟩ => show win0_4.index t (1 : Fin 2) * 128 + 1 * k.val = k.val; omega
theorem emb5 (t : Fin cfg0.N) (r : Fin 1) (k : Fin 128) : ((cfg0.win 5).blk t).view.emb (ix2 r k) = ix2 r k := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 128 + 1 * k.val = k.val; omega
theorem emb6 (t : Fin cfg0.N) (r : Fin 32) (k : Fin 512) : ((cfg0.win 6).blk t).view.emb (ix2 r k) = ix2 r (row t k) := by
  obtain ⟨e0, e1⟩ := idx6 t
  funext a; apply Fin.ext
  match a with
  | ⟨0, _⟩ => show win0_6.index t (0 : Fin 2) * 32 + 1 * r.val = r.val; omega
  | ⟨1, _⟩ => show win0_6.index t (1 : Fin 2) * 512 + 1 * k.val = 512 * t.val + k.val; omega
theorem emb7 (t : Fin cfg0.N) (r : Fin 32) (k : Fin 512) : ((cfg0.win 7).blk t).view.emb (ix2 r k) = ix2 r (row t k) := by
  obtain ⟨e0, e1⟩ := idx7 t
  funext a; apply Fin.ext
  match a with
  | ⟨0, _⟩ => show win0_7.index t (0 : Fin 2) * 32 + 1 * r.val = r.val; omega
  | ⟨1, _⟩ => show win0_7.index t (1 : Fin 2) * 512 + 1 * k.val = 512 * t.val + k.val; omega
theorem emb8 (t : Fin cfg0.N) (r : Fin 512) (k : Fin 128) : ((cfg0.win 8).blk t).view.emb (ix2 r k) = ix2 (row t r) k := by
  obtain ⟨e0, e1⟩ := idx8 t
  funext a; apply Fin.ext
  match a with
  | ⟨0, _⟩ => show win0_8.index t (0 : Fin 2) * 512 + 1 * r.val = 512 * t.val + r.val; omega
  | ⟨1, _⟩ => show win0_8.index t (1 : Fin 2) * 128 + 1 * k.val = k.val; omega
theorem emb9 (t : Fin cfg0.N) (r : Fin 512) (k : Fin 128) : ((cfg0.win 9).blk t).view.emb (ix2 r k) = ix2 (row t r) k := by
  obtain ⟨e0, e1⟩ := idx9 t
  funext a; apply Fin.ext
  match a with
  | ⟨0, _⟩ => show win0_9.index t (0 : Fin 2) * 512 + 1 * r.val = 512 * t.val + r.val; omega
  | ⟨1, _⟩ => show win0_9.index t (1 : Fin 2) * 128 + 1 * k.val = k.val; omega
theorem emb10 (t : Fin cfg0.N) (r : Fin 512) (k : Fin 512) : ((cfg0.win 10).blk t).view.emb (ix2 r k) = ix2 r (row t k) := by
  obtain ⟨e0, e1⟩ := idx10 t
  funext a; apply Fin.ext
  match a with
  | ⟨0, _⟩ => show win0_10.index t (0 : Fin 2) * 512 + 1 * r.val = r.val; omega
  | ⟨1, _⟩ => show win0_10.index t (1 : Fin 2) * 512 + 1 * k.val = 512 * t.val + k.val; omega
theorem emb11 (t : Fin cfg0.N) (r : Fin 512) (k : Fin 512) : ((cfg0.win 11).blk t).view.emb (ix2 r k) = ix2 r (row t k) := by
  obtain ⟨e0, e1⟩ := idx11 t
  funext a; apply Fin.ext
  match a with
  | ⟨0, _⟩ => show win0_11.index t (0 : Fin 2) * 512 + 1 * r.val = r.val; omega
  | ⟨1, _⟩ => show win0_11.index t (1 : Fin 2) * 512 + 1 * k.val = 512 * t.val + k.val; omega
theorem emb12 (t : Fin cfg0.N) (r : Fin 512) (k : Fin 512) : ((cfg0.win 12).blk t).view.emb (ix2 r k) = ix2 r (row t k) := by
  obtain ⟨e0, e1⟩ := idx12 t
  funext a; apply Fin.ext
  match a with
  | ⟨0, _⟩ => show win0_12.index t (0 : Fin 2) * 512 + 1 * r.val = r.val; omega
  | ⟨1, _⟩ => show win0_12.index t (1 : Fin 2) * 512 + 1 * k.val = 512 * t.val + k.val; omega
theorem emb13 (t : Fin cfg0.N) (r : Fin 8) (k : Fin 512) : ((cfg0.win 13).blk t).view.emb (ix2 r k) = ix2 r (row t k) := by
  obtain ⟨e0, e1⟩ := idx13 t
  funext a; apply Fin.ext
  match a with
  | ⟨0, _⟩ => show win0_13.index t (0 : Fin 2) * 8 + 1 * r.val = r.val; omega
  | ⟨1, _⟩ => show win0_13.index t (1 : Fin 2) * 512 + 1 * k.val = 512 * t.val + k.val; omega
theorem emb14 (t : Fin cfg0.N) (r : Fin 512) (k : Fin 512) : ((cfg0.win 14).blk t).view.emb (ix2 r k) = ix2 (row t r) k := by
  obtain ⟨e0, e1⟩ := idx14 t
  funext a; apply Fin.ext
  match a with
  | ⟨0, _⟩ => show win0_14.index t (0 : Fin 2) * 512 + 1 * r.val = 512 * t.val + r.val; omega
  | ⟨1, _⟩ => show win0_14.index t (1 : Fin 2) * 512 + 1 * k.val = k.val; omega
theorem emb15 (t : Fin cfg0.N) (r : Fin 512) (k : Fin 64) : ((cfg0.win 15).blk t).view.emb (ix2 r k) = ix2 (row t r) k := by
  obtain ⟨e0, e1⟩ := idx15 t
  funext a; apply Fin.ext
  match a with
  | ⟨0, _⟩ => show win0_15.index t (0 : Fin 2) * 512 + 1 * r.val = 512 * t.val + r.val; omega
  | ⟨1, _⟩ => show win0_15.index t (1 : Fin 2) * 64 + 1 * k.val = k.val; omega
theorem emb16 (t : Fin cfg0.N) (r : Fin 512) (k : Fin 512) : ((cfg0.win 16).blk t).view.emb (ix2 r k) = ix2 (row t r) k := by
  obtain ⟨e0, e1⟩ := idx16 t
  funext a; apply Fin.ext
  match a with
  | ⟨0, _⟩ => show win0_16.index t (0 : Fin 2) * 512 + 1 * r.val = 512 * t.val + r.val; omega
  | ⟨1, _⟩ => show win0_16.index t (1 : Fin 2) * 512 + 1 * k.val = k.val; omega
theorem emb17 (t : Fin cfg0.N) (r : Fin 512) (k : Fin 256) : ((cfg0.win 17).blk t).view.emb (ix2 r k) = ix2 (row t r) k := by
  obtain ⟨e0, e1⟩ := idx17 t
  funext a; apply Fin.ext
  match a with
  | ⟨0, _⟩ => show win0_17.index t (0 : Fin 2) * 512 + 1 * r.val = 512 * t.val + r.val; omega
  | ⟨1, _⟩ => show win0_17.index t (1 : Fin 2) * 256 + 1 * k.val = k.val; omega
theorem emb18 (t : Fin cfg0.N) (r : Fin 512) (k : Fin 256) : ((cfg0.win 18).blk t).view.emb (ix2 r k) = ix2 (row t r) k := by
  obtain ⟨e0, e1⟩ := idx18 t
  funext a; apply Fin.ext
  match a with
  | ⟨0, _⟩ => show win0_18.index t (0 : Fin 2) * 512 + 1 * r.val = 512 * t.val + r.val; omega
  | ⟨1, _⟩ => show win0_18.index t (1 : Fin 2) * 256 + 1 * k.val = k.val; omega
theorem emb19 (t : Fin cfg0.N) (r : Fin 512) (k : Fin 128) : ((cfg0.win 19).blk t).view.emb (ix2 r k) = ix2 (row t r) k := by
  obtain ⟨e0, e1⟩ := idx19 t
  funext a; apply Fin.ext
  match a with
  | ⟨0, _⟩ => show win0_19.index t (0 : Fin 2) * 512 + 1 * r.val = 512 * t.val + r.val; omega
  | ⟨1, _⟩ => show win0_19.index t (1 : Fin 2) * 128 + 1 * k.val = k.val; omega
theorem emb20 (t : Fin cfg0.N) (r : Fin 512) (k : Fin 128) : ((cfg0.win 20).blk t).view.emb (ix2 r k) = ix2 (row t r) k := by
  obtain ⟨e0, e1⟩ := idx20 t
  funext a; apply Fin.ext
  match a with
  | ⟨0, _⟩ => show win0_20.index t (0 : Fin 2) * 512 + 1 * r.val = 512 * t.val + r.val; omega
  | ⟨1, _⟩ => show win0_20.index t (1 : Fin 2) * 128 + 1 * k.val = k.val; omega
theorem emb21 (t : Fin cfg0.N) (r : Fin 512) (k : Fin 256) : ((cfg0.win 21).blk t).view.emb (ix2 r k) = ix2 (row t r) k := by
  obtain ⟨e0, e1⟩ := idx21 t
  funext a; apply Fin.ext
  match a with
  | ⟨0, _⟩ => show win0_21.index t (0 : Fin 2) * 512 + 1 * r.val = 512 * t.val + r.val; omega
  | ⟨1, _⟩ => show win0_21.index t (1 : Fin 2) * 256 + 1 * k.val = k.val; omega
theorem emb22 (t : Fin cfg0.N) (r : Fin 512) (k : Fin 256) : ((cfg0.win 22).blk t).view.emb (ix2 r k) = ix2 (row t r) k := by
  obtain ⟨e0, e1⟩ := idx22 t
  funext a; apply Fin.ext
  match a with
  | ⟨0, _⟩ => show win0_22.index t (0 : Fin 2) * 512 + 1 * r.val = 512 * t.val + r.val; omega
  | ⟨1, _⟩ => show win0_22.index t (1 : Fin 2) * 256 + 1 * k.val = k.val; omega
theorem emb23 (t : Fin cfg0.N) (r : Fin 512) (k : Fin 128) : ((cfg0.win 23).blk t).view.emb (ix2 r k) = ix2 (row t r) k := by
  obtain ⟨e0, e1⟩ := idx23 t
  funext a; apply Fin.ext
  match a with
  | ⟨0, _⟩ => show win0_23.index t (0 : Fin 2) * 512 + 1 * r.val = 512 * t.val + r.val; omega
  | ⟨1, _⟩ => show win0_23.index t (1 : Fin 2) * 128 + 1 * k.val = k.val; omega
theorem iblk0 (c : Dev nD) (t : Fin cfg0.N) (r : Fin 512) (k : Fin 1024) : iblk m c 0 t (ix2 r k) = m ((c : Thread nD τ).loc main_arg0) (ix2 (row t r) k) := by
  show V m c main_arg0 (((cfg0.win 0).blk t).view.emb (ix2 r k)) = _
  rw [emb0, V_main_arg0]
theorem iblk1 (c : Dev nD) (t : Fin cfg0.N) (r : Fin 1552) (k : Fin 1024) : iblk m c 1 t (ix2 r k) = V m c main_v23 (ix2 r k) := by
  show V m c main_v23 (((cfg0.win 1).blk t).view.emb (ix2 r k)) = _
  rw [emb1]
theorem iblk2 (c : Dev nD) (t : Fin cfg0.N) (r : Fin 1024) (k : Fin 2816) : iblk m c 2 t (ix2 r k) = V m c main_v24 (ix2 r k) := by
  show V m c main_v24 (((cfg0.win 2).blk t).view.emb (ix2 r k)) = _
  rw [emb2]
theorem iblk3 (c : Dev nD) (t : Fin cfg0.N) (r : Fin 128) (k : Fin 128) : iblk m c 3 t (ix2 r k) = V m c main_v28 (ix2 r k) := by
  show V m c main_v28 (((cfg0.win 3).blk t).view.emb (ix2 r k)) = _
  rw [emb3]
theorem iblk4 (c : Dev nD) (t : Fin cfg0.N) (r : Fin 128) (k : Fin 128) : iblk m c 4 t (ix2 r k) = V m c main_v31 (ix2 r k) := by
  show V m c main_v31 (((cfg0.win 4).blk t).view.emb (ix2 r k)) = _
  rw [emb4]
theorem iblk5 (c : Dev nD) (t : Fin cfg0.N) (r : Fin 1) (k : Fin 128) : iblk m c 5 t (ix2 r k) = V m c main_v37 (ix2 r k) := by
  show V m c main_v37 (((cfg0.win 5).blk t).view.emb (ix2 r k)) = _
  rw [emb5]
theorem iblk6 (c : Dev nD) (t : Fin cfg0.N) (r : Fin 32) (k : Fin 512) : iblk m c 6 t (ix2 r k) = V m c main_v32 (ix2 r (row t k)) := by
  show V m c main_v32 (((cfg0.win 6).blk t).view.emb (ix2 r k)) = _
  rw [emb6]
theorem iblk7 (c : Dev nD) (t : Fin cfg0.N) (r : Fin 32) (k : Fin 512) : iblk m c 7 t (ix2 r k) = V m c main_v33 (ix2 r (row t k)) := by
  show V m c main_v33 (((cfg0.win 7).blk t).view.emb (ix2 r k)) = _
  rw [emb7]
theorem iblk8 (c : Dev nD) (t : Fin cfg0.N) (r : Fin 512) (k : Fin 128) : iblk m c 8 t (ix2 r k) = V m c main_v34 (ix2 (row t r) k) := by
  show V m c main_v34 (((cfg0.win 8).blk t).view.emb (ix2 r k)) = _
  rw [emb8]
theorem iblk9 (c : Dev nD) (t : Fin cfg0.N) (r : Fin 512) (k : Fin 128) : iblk m c 9 t (ix2 r k) = V m c main_v36 (ix2 (row t r) k) := by
  show V m c main_v36 (((cfg0.win 9).blk t).view.emb (ix2 r k)) = _
  rw [emb9]
theorem hr_0 (c : Dev nD) (t : Fin cfg0.N) (r : Fin 512) (j : Fin 512) : hr (iblk m c 0 t) (iblk m c 2 t) r ⟨0 + j.val, by omega⟩ = h (m ((c : Thread nD τ).loc main_arg0)) (m ((c : Thread nD τ).loc main_arg1)) (row t r) ⟨512 + j.val, by omega⟩ := by
  rw [show (⟨0 + j.val, by omega⟩ : Fin 2816) = ⟨j.val, by omega⟩ from Fin.ext (by dsimp only; omega)]
  unfold hr h
  refine Finset.sum_congr rfl fun k _ => ?_
  rw [iblk0, iblk2, wr_0]
theorem hr_512 (c : Dev nD) (t : Fin cfg0.N) (r : Fin 512) (j : Fin 64) : hr (iblk m c 0 t) (iblk m c 2 t) r ⟨512 + j.val, by omega⟩ = h (m ((c : Thread nD τ).loc main_arg0)) (m ((c : Thread nD τ).loc main_arg1)) (row t r) ⟨2560 + j.val, by omega⟩ := by
  unfold hr h
  refine Finset.sum_congr rfl fun k _ => ?_
  rw [iblk0, iblk2, wr_512]
theorem hr_640 (c : Dev nD) (t : Fin cfg0.N) (r : Fin 512) (j : Fin 512) : hr (iblk m c 0 t) (iblk m c 2 t) r ⟨640 + j.val, by omega⟩ = h (m ((c : Thread nD τ).loc main_arg0)) (m ((c : Thread nD τ).loc main_arg1)) (row t r) ⟨1536 + j.val, by omega⟩ := by
  unfold hr h
  refine Finset.sum_congr rfl fun k _ => ?_
  rw [iblk0, iblk2, wr_640]
theorem hr_1152 (c : Dev nD) (t : Fin cfg0.N) (r : Fin 512) (j : Fin 256) : hr (iblk m c 0 t) (iblk m c 2 t) r ⟨1152 + j.val, by omega⟩ = h (m ((c : Thread nD τ).loc main_arg0)) (m ((c : Thread nD τ).loc main_arg1)) (row t r) ⟨2632 + j.val, by omega⟩ := by
  unfold hr h
  refine Finset.sum_congr rfl fun k _ => ?_
  rw [iblk0, iblk2, wr_1152]
theorem hr_1408 (c : Dev nD) (t : Fin cfg0.N) (r : Fin 512) (j : Fin 256) : hr (iblk m c 0 t) (iblk m c 2 t) r ⟨1408 + j.val, by omega⟩ = h (m ((c : Thread nD τ).loc main_arg0)) (m ((c : Thread nD τ).loc main_arg1)) (row t r) ⟨2888 + j.val, by omega⟩ := by
  unfold hr h
  refine Finset.sum_congr rfl fun k _ => ?_
  rw [iblk0, iblk2, wr_1408]
theorem hr_1664 (c : Dev nD) (t : Fin cfg0.N) (r : Fin 512) (j : Fin 256) : hr (iblk m c 0 t) (iblk m c 2 t) r ⟨1664 + j.val, by omega⟩ = h (m ((c : Thread nD τ).loc main_arg0)) (m ((c : Thread nD τ).loc main_arg1)) (row t r) ⟨3144 + j.val, by omega⟩ := by
  unfold hr h
  refine Finset.sum_congr rfl fun k _ => ?_
  rw [iblk0, iblk2, wr_1664]
theorem hr_1920 (c : Dev nD) (t : Fin cfg0.N) (r : Fin 512) (j : Fin 128) : hr (iblk m c 0 t) (iblk m c 2 t) r ⟨1920 + j.val, by omega⟩ = h (m ((c : Thread nD τ).loc main_arg0)) (m ((c : Thread nD τ).loc main_arg1)) (row t r) ⟨3400 + j.val, by omega⟩ := by
  unfold hr h
  refine Finset.sum_congr rfl fun k _ => ?_
  rw [iblk0, iblk2, wr_1920]
theorem hr_2048 (c : Dev nD) (t : Fin cfg0.N) (r : Fin 512) (j : Fin 128) : hr (iblk m c 0 t) (iblk m c 2 t) r ⟨2048 + j.val, by omega⟩ = h (m ((c : Thread nD τ).loc main_arg0)) (m ((c : Thread nD τ).loc main_arg1)) (row t r) ⟨3528 + j.val, by omega⟩ := by
  unfold hr h
  refine Finset.sum_congr rfl fun k _ => ?_
  rw [iblk0, iblk2, wr_2048]
theorem hr_2176 (c : Dev nD) (t : Fin cfg0.N) (r : Fin 512) (j : Fin 256) : hr (iblk m c 0 t) (iblk m c 2 t) r ⟨2176 + j.val, by omega⟩ = h (m ((c : Thread nD τ).loc main_arg0)) (m ((c : Thread nD τ).loc main_arg1)) (row t r) ⟨3656 + j.val, by omega⟩ := by
  unfold hr h
  refine Finset.sum_congr rfl fun k _ => ?_
  rw [iblk0, iblk2, wr_2176]
theorem hr_2432 (c : Dev nD) (t : Fin cfg0.N) (r : Fin 512) (j : Fin 256) : hr (iblk m c 0 t) (iblk m c 2 t) r ⟨2432 + j.val, by omega⟩ = h (m ((c : Thread nD τ).loc main_arg0)) (m ((c : Thread nD τ).loc main_arg1)) (row t r) ⟨3912 + j.val, by omega⟩ := by
  unfold hr h
  refine Finset.sum_congr rfl fun k _ => ?_
  rw [iblk0, iblk2, wr_2432]
theorem hr_2688 (c : Dev nD) (t : Fin cfg0.N) (r : Fin 512) (j : Fin 16) : hr (iblk m c 0 t) (iblk m c 2 t) r ⟨2688 + j.val, by omega⟩ = h (m ((c : Thread nD τ).loc main_arg0)) (m ((c : Thread nD τ).loc main_arg1)) (row t r) ⟨4168 + j.val, by omega⟩ := by
  unfold hr h
  refine Finset.sum_congr rfl fun k _ => ?_
  rw [iblk0, iblk2, wr_2688]
theorem hr_pad (c : Dev nD) (t : Fin cfg0.N) (r : Fin 512) (j : Fin 112) : hr (iblk m c 0 t) (iblk m c 2 t) r ⟨2704 + j.val, by omega⟩ = 0 := by
  unfold hr
  refine Finset.sum_eq_zero fun k _ => ?_
  rw [iblk2, wr_pad, c_zero, mul_zero]
theorem ht_0 (c : Dev nD) (t : Fin cfg0.N) (cc : Fin 512) (j : Fin 512) : hc (iblk m c 0 t) (iblk m c 1 t) ⟨0 + j.val, by omega⟩ cc = h (m ((c : Thread nD τ).loc main_arg0)) (m ((c : Thread nD τ).loc main_arg1)) (row t cc) ⟨0 + j.val, by omega⟩ := by
  rw [show (⟨0 + j.val, by omega⟩ : Fin 1552) = ⟨j.val, by omega⟩ from Fin.ext (by dsimp only; omega), show (⟨0 + j.val, by omega⟩ : Fin 4184) = ⟨j.val, by omega⟩ from Fin.ext (by dsimp only; omega)]
  unfold hc h
  refine Finset.sum_congr rfl fun k _ => ?_
  rw [iblk0, iblk1, wt_0, mul_comm]
theorem ht_512 (c : Dev nD) (t : Fin cfg0.N) (cc : Fin 512) (j : Fin 512) : hc (iblk m c 0 t) (iblk m c 1 t) ⟨512 + j.val, by omega⟩ cc = h (m ((c : Thread nD τ).loc main_arg0)) (m ((c : Thread nD τ).loc main_arg1)) (row t cc) ⟨2048 + j.val, by omega⟩ := by
  unfold hc h
  refine Finset.sum_congr rfl fun k _ => ?_
  rw [iblk0, iblk1, wt_512, mul_comm]
theorem ht_1024 (c : Dev nD) (t : Fin cfg0.N) (cc : Fin 512) (j : Fin 512) : hc (iblk m c 0 t) (iblk m c 1 t) ⟨1024 + j.val, by omega⟩ cc = h (m ((c : Thread nD τ).loc main_arg0)) (m ((c : Thread nD τ).loc main_arg1)) (row t cc) ⟨1024 + j.val, by omega⟩ := by
  unfold hc h
  refine Finset.sum_congr rfl fun k _ => ?_
  rw [iblk0, iblk1, wt_1024, mul_comm]
theorem ht_1536 (c : Dev nD) (t : Fin cfg0.N) (cc : Fin 512) (j : Fin 8) : hc (iblk m c 0 t) (iblk m c 1 t) ⟨1536 + j.val, by omega⟩ cc = h (m ((c : Thread nD τ).loc main_arg0)) (m ((c : Thread nD τ).loc main_arg1)) (row t cc) ⟨2624 + j.val, by omega⟩ := by
  unfold hc h
  refine Finset.sum_congr rfl fun k _ => ?_
  rw [iblk0, iblk1, wt_1536, mul_comm]

theorem rc (c : Dev nD) (R : Fin 32768) (p : Fin 128) : V m c main_v34 (ix2 R p) = m ((c : Thread nD τ).loc main_arg4) (ix2 R ⟨p.val % 32, by omega⟩) := by
  by_cases h1 : p.val < 32
  · have e := rcos_0 m c R ⟨p.val, h1⟩
    rw [show (⟨p.val % 32, by omega⟩ : Fin 32) = ⟨p.val, h1⟩ from Fin.ext (by dsimp only; omega)]
    exact e
  by_cases h2 : p.val < 64
  · have e := rcos_32 m c R ⟨p.val - 32, by omega⟩
    rw [show (⟨32 + (p.val - 32), by omega⟩ : Fin 128) = p from Fin.ext (by dsimp only; omega)] at e
    rw [show (⟨p.val % 32, by omega⟩ : Fin 32) = ⟨p.val - 32, by omega⟩ from Fin.ext (by dsimp only; omega)]
    exact e
  by_cases h3 : p.val < 96
  · have e := rcos_64 m c R ⟨p.val - 64, by omega⟩
    rw [show (⟨64 + (p.val - 64), by omega⟩ : Fin 128) = p from Fin.ext (by dsimp only; omega)] at e
    rw [show (⟨p.val % 32, by omega⟩ : Fin 32) = ⟨p.val - 64, by omega⟩ from Fin.ext (by dsimp only; omega)]
    exact e
  · have e := rcos_96 m c R ⟨p.val - 96, by omega⟩
    rw [show (⟨96 + (p.val - 96), by omega⟩ : Fin 128) = p from Fin.ext (by dsimp only; omega)] at e
    rw [show (⟨p.val % 32, by omega⟩ : Fin 32) = ⟨p.val - 96, by omega⟩ from Fin.ext (by dsimp only; omega)]
    exact e

theorem rs (c : Dev nD) (R : Fin 32768) (p : Fin 128) : V m c main_v36 (ix2 R p)
    = if p.val % 64 < 32 then Neg.neg (α := EReal) (m ((c : Thread nD τ).loc main_arg5) (ix2 R ⟨p.val % 32, by omega⟩)) else m ((c : Thread nD τ).loc main_arg5) (ix2 R ⟨p.val % 32, by omega⟩) := by
  by_cases h1 : p.val < 32
  · have e := rsin_0 m c R ⟨p.val, h1⟩
    rw [if_pos (by omega), show (⟨p.val % 32, by omega⟩ : Fin 32) = ⟨p.val, h1⟩ from Fin.ext (by dsimp only; omega)]
    exact e
  by_cases h2 : p.val < 64
  · have e := rsin_32 m c R ⟨p.val - 32, by omega⟩
    rw [show (⟨32 + (p.val - 32), by omega⟩ : Fin 128) = p from Fin.ext (by dsimp only; omega)] at e
    rw [if_neg (by omega), show (⟨p.val % 32, by omega⟩ : Fin 32) = ⟨p.val - 32, by omega⟩ from Fin.ext (by dsimp only; omega)]
    exact e
  by_cases h3 : p.val < 96
  · have e := rsin_64 m c R ⟨p.val - 64, by omega⟩
    rw [show (⟨64 + (p.val - 64), by omega⟩ : Fin 128) = p from Fin.ext (by dsimp only; omega)] at e
    rw [if_pos (by omega), show (⟨p.val % 32, by omega⟩ : Fin 32) = ⟨p.val - 64, by omega⟩ from Fin.ext (by dsimp only; omega)]
    exact e
  · have e := rsin_96 m c R ⟨p.val - 96, by omega⟩
    rw [show (⟨96 + (p.val - 96), by omega⟩ : Fin 128) = p from Fin.ext (by dsimp only; omega)] at e
    rw [if_neg (by omega), show (⟨p.val % 32, by omega⟩ : Fin 32) = ⟨p.val - 96, by omega⟩ from Fin.ext (by dsimp only; omega)]
    exact e

/-- With finite features, projection weights and decay weights the kernel's corrected product is the product itself. -/
theorem lz_zl (c : Dev nD) (h0 : ∀ i, Real? ((m ((c : Thread nD τ).loc main_arg0)) i)) (h1 : ∀ i, Real? ((m ((c : Thread nD τ).loc main_arg1)) i)) (h2 : ∀ i, Real? ((m ((c : Thread nD τ).loc main_arg2)) i))
    (t : Fin cfg0.N) (r : Fin 512) (q : Fin 128) :
    lz (iblk m c 0 t) (iblk m c 2 t) (iblk m c 3 t) (iblk m c 4 t) (iblk m c 5 t) r q = zl (m ((c : Thread nD τ).loc main_arg0)) (m ((c : Thread nD τ).loc main_arg1)) (m ((c : Thread nD τ).loc main_arg2)) (m ((c : Thread nD τ).loc main_arg3)) (row t r) q := by
  have hfin : ∀ j : Fin 128, Real? (hr (iblk m c 0 t) (iblk m c 2 t) r ⟨2688 + j.val, by omega⟩) := fun j => by
    by_cases hj : j.val < 16
    · have e := hr_2688 m c t r ⟨j.val, hj⟩
      dsimp only at e
      rw [e, h]
      exact Real?.sum _ fun k => Real?.mul (h0 _) (h1 _)
    · have e := hr_pad m c t r ⟨j.val - 16, by omega⟩
      rw [show (⟨2704 + (j.val - 16), by omega⟩ : Fin 2816) = ⟨2688 + j.val, by omega⟩ from Fin.ext (by dsimp only; omega)] at e
      exact ⟨0, e⟩
  have hw : ∀ j : Fin 128, Real? (V m c main_v28 (ix2 j q)) := fun j => by
    rw [w2_apply]
    by_cases hj : j.val < 16
    · rw [dif_pos hj]
      exact h2 _
    · rw [dif_neg hj, c_zero]
      exact ⟨0, rfl⟩
  have s2 : (∑ j : Fin 128, (hr (iblk m c 0 t) (iblk m c 2 t) r ⟨2688 + j.val, by omega⟩ - hr (iblk m c 0 t) (iblk m c 2 t) r ⟨2688 + j.val, by omega⟩) * (iblk m c 3 t : FVec Ideal S128x128 .bf16) (ix2 j q)) = 0 :=
    Finset.sum_eq_zero fun j _ => by rw [(hfin j).sub_self, zero_mul]
  have s3 : (∑ j : Fin 128, hr (iblk m c 0 t) (iblk m c 2 t) r ⟨2688 + j.val, by omega⟩ * (iblk m c 4 t : FVec Ideal S128x128 .bf16) (ix2 j q)) = 0 :=
    Finset.sum_eq_zero fun j _ => by rw [iblk4, w2l_apply, (hw j).sub_self, mul_zero]
  have s1 : (∑ j : Fin 128, hr (iblk m c 0 t) (iblk m c 2 t) r ⟨2688 + j.val, by omega⟩ * (iblk m c 3 t : FVec Ideal S128x128 .bf16) (ix2 j q))
      = ∑ j : Fin 16, h (m ((c : Thread nD τ).loc main_arg0)) (m ((c : Thread nD τ).loc main_arg1)) (row t r) ⟨4168 + j.val, by omega⟩ * m ((c : Thread nD τ).loc main_arg2) (ix2 j q) := by
    show ∑ j : Fin (16 + 112), _ = _
    rw [Fin.sum_univ_add]
    rw [show (∑ i : Fin 112, _) = (0 : EReal) from Finset.sum_eq_zero fun j _ => ?_, add_zero]
    · refine Finset.sum_congr rfl fun j _ => ?_
      rw [iblk3, w2_apply]
      refine congrArg₂ (fun a b : EReal => a * b) (hr_2688 m c t r j) ?_
      exact dif_pos j.isLt
    · refine (congrArg (fun a : EReal => a * _) ?_).trans (zero_mul _)
      refine Eq.trans ?_ (hr_pad m c t r j)
      exact congrArg (hr (iblk m c 0 t) (iblk m c 2 t) r) (Fin.ext (by show 2688 + (16 + j.val) = 2704 + j.val; omega))
  unfold lz zl
  rw [s1, s2, s3, add_zero, add_zero, iblk5, gb]

end Cert.InIdeal.Whole
-- ==== Proof.InValue.lean ====
module

public import proofs.«01_k».proof.Proof.InIdealFrame
public import Idealize.ShloMosaic.Lib.Pipeline.Value

@[expose] public section

noncomputable section

namespace Cert.InIdeal.Value

open Cert.InIdeal Cert.InIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed10 (c : Dev nD) (t : Fin cfg0.N) :
    (dats m 0 c).flushed 10 t = (cfg0.win 10).cut (grid0.coords t) (out0_10 (iblk m c 0 t) (iblk m c 1 t) (iblk m c 6 t) (iblk m c 7 t)) := by
  show (cfg0.win 10).cut (grid0.coords t) ((dats m 0 c).after 10 t) = _
  rw [after0_10]

theorem flushed11 (c : Dev nD) (t : Fin cfg0.N) :
    (dats m 0 c).flushed 11 t = (cfg0.win 11).cut (grid0.coords t) (out0_11 (iblk m c 0 t) (iblk m c 1 t) (iblk m c 6 t) (iblk m c 7 t)) := by
  show (cfg0.win 11).cut (grid0.coords t) ((dats m 0 c).after 11 t) = _
  rw [after0_11]

theorem flushed12 (c : Dev nD) (t : Fin cfg0.N) :
    (dats m 0 c).flushed 12 t = (cfg0.win 12).cut (grid0.coords t) (out0_12 (iblk m c 0 t) (iblk m c 1 t)) := by
  show (cfg0.win 12).cut (grid0.coords t) ((dats m 0 c).after 12 t) = _
  rw [after0_12]

theorem flushed13 (c : Dev nD) (t : Fin cfg0.N) :
    (dats m 0 c).flushed 13 t = (cfg0.win 13).cut (grid0.coords t) (out0_13 (iblk m c 0 t) (iblk m c 1 t)) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) (out0_14 (iblk m c 0 t) (iblk m c 2 t) (iblk m c 8 t) (iblk m c 9 t)) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) (out0_15 (iblk m c 0 t) (iblk m c 2 t) (iblk m c 8 t) (iblk m c 9 t)) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) (out0_16 (iblk m c 0 t) (iblk m c 2 t)) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) (out0_17 (iblk m c 0 t) (iblk m c 2 t)) := by
  show (cfg0.win 17).cut (grid0.coords t) ((dats m 0 c).after 17 t) = _
  rw [after0_17]

theorem flushed18 (c : Dev nD) (t : Fin cfg0.N) :
    (dats m 0 c).flushed 18 t = (cfg0.win 18).cut (grid0.coords t) (out0_18 (iblk m c 0 t) (iblk m c 2 t)) := by
  show (cfg0.win 18).cut (grid0.coords t) ((dats m 0 c).after 18 t) = _
  rw [after0_18]

theorem flushed19 (c : Dev nD) (t : Fin cfg0.N) :
    (dats m 0 c).flushed 19 t = (cfg0.win 19).cut (grid0.coords t) (out0_19 (iblk m c 0 t) (iblk m c 2 t)) := by
  show (cfg0.win 19).cut (grid0.coords t) ((dats m 0 c).after 19 t) = _
  rw [after0_19]

theorem flushed20 (c : Dev nD) (t : Fin cfg0.N) :
    (dats m 0 c).flushed 20 t = (cfg0.win 20).cut (grid0.coords t) (out0_20 (iblk m c 0 t) (iblk m c 2 t)) := by
  show (cfg0.win 20).cut (grid0.coords t) ((dats m 0 c).after 20 t) = _
  rw [after0_20]

theorem flushed21 (c : Dev nD) (t : Fin cfg0.N) :
    (dats m 0 c).flushed 21 t = (cfg0.win 21).cut (grid0.coords t) (out0_21 (iblk m c 0 t) (iblk m c 2 t)) := by
  show (cfg0.win 21).cut (grid0.coords t) ((dats m 0 c).after 21 t) = _
  rw [after0_21]

theorem flushed22 (c : Dev nD) (t : Fin cfg0.N) :
    (dats m 0 c).flushed 22 t = (cfg0.win 22).cut (grid0.coords t) (out0_22 (iblk m c 0 t) (iblk m c 2 t)) := by
  show (cfg0.win 22).cut (grid0.coords t) ((dats m 0 c).after 22 t) = _
  rw [after0_22]

theorem flushed23 (c : Dev nD) (t : Fin cfg0.N) :
    (dats m 0 c).flushed 23 t = (cfg0.win 23).cut (grid0.coords t) (out0_23 (iblk m c 0 t) (iblk m c 2 t) (iblk m c 3 t) (iblk m c 4 t) (iblk m c 5 t)) := by
  show (cfg0.win 23).cut (grid0.coords t) ((dats m 0 c).after 23 t) = _
  rw [after0_23]

theorem post10 (r : PUnit × MemSt nD τ sig (Elt F)) (h : Pipeline.FramePost cfgs (dats m) 0 (V m) r) (c : Dev nD) :
    r.2.mem ((c : Thread nD τ).loc main_v38_0) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v38_1) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v38_2) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v38_3) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v38_4) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v38_5) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v38_6) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v38_7) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v38_8) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v38_9) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v38_10) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v38_11) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v38_12) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v38_13) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

set_option maxHeartbeats 4000000 in
theorem run_blocks : θ_run defs (onTc (τ := τ) (main (F := F))) ⟨m, fun _ => 0, ρ⟩ fun r => ∀ c : Dev nD,
      r.2.mem ((c : Thread nD τ).loc main_v38_0) = (dats m 0 c).arrAt 10 cfg0.N
      ∧ r.2.mem ((c : Thread nD τ).loc main_v38_1) = (dats m 0 c).arrAt 11 cfg0.N
      ∧ r.2.mem ((c : Thread nD τ).loc main_v38_2) = (dats m 0 c).arrAt 12 cfg0.N
      ∧ r.2.mem ((c : Thread nD τ).loc main_v38_3) = (dats m 0 c).arrAt 13 cfg0.N
      ∧ r.2.mem ((c : Thread nD τ).loc main_v38_4) = (dats m 0 c).arrAt 14 cfg0.N
      ∧ r.2.mem ((c : Thread nD τ).loc main_v38_5) = (dats m 0 c).arrAt 15 cfg0.N
      ∧ r.2.mem ((c : Thread nD τ).loc main_v38_6) = (dats m 0 c).arrAt 16 cfg0.N
      ∧ r.2.mem ((c : Thread nD τ).loc main_v38_7) = (dats m 0 c).arrAt 17 cfg0.N
      ∧ r.2.mem ((c : Thread nD τ).loc main_v38_8) = (dats m 0 c).arrAt 18 cfg0.N
      ∧ r.2.mem ((c : Thread nD τ).loc main_v38_9) = (dats m 0 c).arrAt 19 cfg0.N
      ∧ r.2.mem ((c : Thread nD τ).loc main_v38_10) = (dats m 0 c).arrAt 20 cfg0.N
      ∧ r.2.mem ((c : Thread nD τ).loc main_v38_11) = (dats m 0 c).arrAt 21 cfg0.N
      ∧ r.2.mem ((c : Thread nD τ).loc main_v38_12) = (dats m 0 c).arrAt 22 cfg0.N
      ∧ r.2.mem ((c : Thread nD τ).loc main_v38_13) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post10 m r h c,
      post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c⟩)
    (run_main m ρ)

end Cert.InIdeal.Value
-- ==== Proof.InFinal.lean ====
module

public import proofs.«01_k».proof.Proof.InCols
public import proofs.«01_k».proof.Proof.InValue

@[expose] public section

noncomputable section

namespace Cert.InIdeal.Whole

open Cert.InIdeal Cert.InIdeal.Gen Idealize.ShloMosaic Idealize.ShloMosaic.TcCoe Idealize.SL.Sem
open Idealize.ShloMosaic.Pipeline (Dat)
open Cert.RefInIdeal.Whole (h rot zl)

variable (m : (ℓ : Loc nD τ sig) → Buf (Elt Ideal) ℓ) (ρ : Dev nD → PrngReg)

/-! The arguments, in the memory the run starts from. -/

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)
abbrev arg4 (c : Dev nD) := m ((c : Thread nD τ).loc main_arg4)
abbrev arg5 (c : Dev nD) := m ((c : Thread nD τ).loc main_arg5)

/-- The reference's array for window 10, on the memory the run starts from. -/
abbrev res10 (c : Dev nD) : FVec Ideal S512x32768 .bf16 := Cert.RefInIdeal.Vals.val_main_v91 (F := Ideal) (arg0 m c) (arg1 m c) (arg4 m c) (arg5 m c)

theorem flushed10 (c : Dev nD) (t : Fin cfg0.N) : (dats m 0 c).flushed 10 t = ((cfg0.win 10).blk t).view.read (Elt Ideal) (res10 m c) := by
  rw [Cert.InIdeal.Value.flushed10]
  funext j
  obtain ⟨r, q, rfl⟩ : ∃ (r : Fin 512) (q : Fin 512), j = ix2 r q := ⟨j 0, j 1, eq_ix2 j⟩
  show (out0_10 (F := Ideal) (iblk m c 0 t) (iblk m c 1 t) (iblk m c 6 t) (iblk m c 7 t) : FVec Ideal S512x512 .bf16) (ix2 r q) = res10 m c (((cfg0.win 10).blk t).view.emb (ix2 r q))
  rw [emb10]
  refine (congrFun (out10_eq (iblk m c 0 t) (iblk m c 1 t) (iblk m c 6 t) (iblk m c 7 t)) (ix2 r q)).trans ?_
  refine (rope_rot _ _ _ 0 _ _ (h (arg0 m c) (arg1 m c) (row t q)) (fun j => (arg4 m c) (ix2 (row t q) j)) (fun j => (arg5 m c) (ix2 (row t q) j)) 0 (by omega) q
    (fun j => (ht_apply (iblk m c 0 t) (iblk m c 1 t) _ q).trans (ht_0 m c t q j))
    (fun j => (cos_apply (iblk m c 6 t) j q).trans ((iblk6 m c t j q).trans (tcos m c j (row t q))))
    (fun j => (sin_apply (iblk m c 7 t) j q).trans ((iblk7 m c t j q).trans (tsin m c j (row t q)))) r).trans ?_
  exact (Cert.RefInIdeal.Whole.q_apply (arg0 m c) (arg1 m c) (arg4 m c) (arg5 m c) (row t q) r).symm

theorem covered10 (i : S512x32768.Idx) : ∃ t : Fin cfg0.N, (cfg0.win 10).flush t = true ∧ i ∈ ((cfg0.win 10).blk t).view.set := by
  obtain ⟨p, q, rfl⟩ : ∃ (p : Fin 512) (q : Fin 32768), i = ix2 p q := ⟨i 0, i 1, eq_ix2 i⟩
  have ht : q.val / 512 < cfg0.N := by show _ < 64; omega
  refine ⟨⟨q.val / 512, ht⟩, flush0_10 _, ?_⟩
  have h := ((cfg0.win 10).blk ⟨q.val / 512, ht⟩).view.emb_mem_set (ix2 (p) (⟨q.val % 512, by omega⟩ : Fin 512))
  have e : row ⟨q.val / 512, ht⟩ ⟨q.val % 512, by omega⟩ = q := Fin.ext (by show 512 * (q.val / 512) + q.val % 512 = q.val; omega)
  have h2 := emb10 ⟨q.val / 512, ht⟩ p ⟨q.val % 512, by omega⟩
  rw [e] at h2
  exact h2 ▸ h

theorem final10 (c : Dev nD) : (dats m 0 c).arrAt 10 cfg0.N = res10 m c :=
  (dats m 0 c).arrAt_eq_of_cover 10 (res10 m c) (fun t _ => flushed10 m c t) covered10

/-- The reference's array for window 11, on the memory the run starts from. -/
abbrev res11 (c : Dev nD) : FVec Ideal S512x32768 .bf16 := Cert.RefInIdeal.Vals.val_main_v94 (F := Ideal) (arg0 m c) (arg1 m c) (arg4 m c) (arg5 m c)

theorem flushed11 (c : Dev nD) (t : Fin cfg0.N) : (dats m 0 c).flushed 11 t = ((cfg0.win 11).blk t).view.read (Elt Ideal) (res11 m c) := by
  rw [Cert.InIdeal.Value.flushed11]
  funext j
  obtain ⟨r, q, rfl⟩ : ∃ (r : Fin 512) (q : Fin 512), j = ix2 r q := ⟨j 0, j 1, eq_ix2 j⟩
  show (out0_11 (F := Ideal) (iblk m c 0 t) (iblk m c 1 t) (iblk m c 6 t) (iblk m c 7 t) : FVec Ideal S512x512 .bf16) (ix2 r q) = res11 m c (((cfg0.win 11).blk t).view.emb (ix2 r q))
  rw [emb11]
  refine (congrFun (out11_eq (iblk m c 0 t) (iblk m c 1 t) (iblk m c 6 t) (iblk m c 7 t)) (ix2 r q)).trans ?_
  refine (rope_rot _ _ _ 512 _ _ (h (arg0 m c) (arg1 m c) (row t q)) (fun j => (arg4 m c) (ix2 (row t q) j)) (fun j => (arg5 m c) (ix2 (row t q) j)) 2048 (by omega) q
    (fun j => (ht_apply (iblk m c 0 t) (iblk m c 1 t) _ q).trans (ht_512 m c t q j))
    (fun j => (cos_apply (iblk m c 6 t) j q).trans ((iblk6 m c t j q).trans (tcos m c j (row t q))))
    (fun j => (sin_apply (iblk m c 7 t) j q).trans ((iblk7 m c t j q).trans (tsin m c j (row t q)))) r).trans ?_
  rw [c_one, mul_one]
  exact (Cert.RefInIdeal.Whole.qi_apply (arg0 m c) (arg1 m c) (arg4 m c) (arg5 m c) (row t q) r).symm

theorem covered11 (i : S512x32768.Idx) : ∃ t : Fin cfg0.N, (cfg0.win 11).flush t = true ∧ i ∈ ((cfg0.win 11).blk t).view.set := by
  obtain ⟨p, q, rfl⟩ : ∃ (p : Fin 512) (q : Fin 32768), i = ix2 p q := ⟨i 0, i 1, eq_ix2 i⟩
  have ht : q.val / 512 < cfg0.N := by show _ < 64; omega
  refine ⟨⟨q.val / 512, ht⟩, flush0_11 _, ?_⟩
  have h := ((cfg0.win 11).blk ⟨q.val / 512, ht⟩).view.emb_mem_set (ix2 (p) (⟨q.val % 512, by omega⟩ : Fin 512))
  have e : row ⟨q.val / 512, ht⟩ ⟨q.val % 512, by omega⟩ = q := Fin.ext (by show 512 * (q.val / 512) + q.val % 512 = q.val; omega)
  have h2 := emb11 ⟨q.val / 512, ht⟩ p ⟨q.val % 512, by omega⟩
  rw [e] at h2
  exact h2 ▸ h

theorem final11 (c : Dev nD) : (dats m 0 c).arrAt 11 cfg0.N = res11 m c :=
  (dats m 0 c).arrAt_eq_of_cover 11 (res11 m c) (fun t _ => flushed11 m c t) covered11

/-- The reference's array for window 12, on the memory the run starts from. -/
abbrev res12 (c : Dev nD) : FVec Ideal S512x32768 .bf16 := Cert.RefInIdeal.Vals.val_main_v96 (F := Ideal) (arg0 m c) (arg1 m c)

theorem flushed12 (c : Dev nD) (t : Fin cfg0.N) : (dats m 0 c).flushed 12 t = ((cfg0.win 12).blk t).view.read (Elt Ideal) (res12 m c) := by
  rw [Cert.InIdeal.Value.flushed12]
  funext j
  obtain ⟨r, q, rfl⟩ : ∃ (r : Fin 512) (q : Fin 512), j = ix2 r q := ⟨j 0, j 1, eq_ix2 j⟩
  show (out0_12 (F := Ideal) (iblk m c 0 t) (iblk m c 1 t) : FVec Ideal S512x512 .bf16) (ix2 r q) = res12 m c (((cfg0.win 12).blk t).view.emb (ix2 r q))
  rw [emb12]
  refine (out12_apply (iblk m c 0 t) (iblk m c 1 t) r q).trans ?_
  exact (ht_1024 m c t q r).trans (Cert.RefInIdeal.Whole.v_apply (arg0 m c) (arg1 m c) (row t q) r).symm

theorem covered12 (i : S512x32768.Idx) : ∃ t : Fin cfg0.N, (cfg0.win 12).flush t = true ∧ i ∈ ((cfg0.win 12).blk t).view.set := by
  obtain ⟨p, q, rfl⟩ : ∃ (p : Fin 512) (q : Fin 32768), i = ix2 p q := ⟨i 0, i 1, eq_ix2 i⟩
  have ht : q.val / 512 < cfg0.N := by show _ < 64; omega
  refine ⟨⟨q.val / 512, ht⟩, flush0_12 _, ?_⟩
  have h := ((cfg0.win 12).blk ⟨q.val / 512, ht⟩).view.emb_mem_set (ix2 (p) (⟨q.val % 512, by omega⟩ : Fin 512))
  have e : row ⟨q.val / 512, ht⟩ ⟨q.val % 512, by omega⟩ = q := Fin.ext (by show 512 * (q.val / 512) + q.val % 512 = q.val; omega)
  have h2 := emb12 ⟨q.val / 512, ht⟩ p ⟨q.val % 512, by omega⟩
  rw [e] at h2
  exact h2 ▸ h

theorem final12 (c : Dev nD) : (dats m 0 c).arrAt 12 cfg0.N = res12 m c :=
  (dats m 0 c).arrAt_eq_of_cover 12 (res12 m c) (fun t _ => flushed12 m c t) covered12

/-- The reference's array for window 13, on the memory the run starts from. -/
abbrev res13 (c : Dev nD) : FVec Ideal S8x32768 .f32 := Cert.RefInIdeal.Vals.val_main_v97 (F := Ideal) (arg0 m c) (arg1 m c)

theorem flushed13 (c : Dev nD) (t : Fin cfg0.N) : (dats m 0 c).flushed 13 t = ((cfg0.win 13).blk t).view.read (Elt Ideal) (res13 m c) := by
  rw [Cert.InIdeal.Value.flushed13]
  funext j
  obtain ⟨r, q, rfl⟩ : ∃ (r : Fin 8) (q : Fin 512), j = ix2 r q := ⟨j 0, j 1, eq_ix2 j⟩
  show (out0_13 (F := Ideal) (iblk m c 0 t) (iblk m c 1 t) : FVec Ideal S8x512 .f32) (ix2 r q) = res13 m c (((cfg0.win 13).blk t).view.emb (ix2 r q))
  rw [emb13]
  refine (out13_apply (iblk m c 0 t) (iblk m c 1 t) r q).trans ?_
  exact (congrArg (fun a : EReal => a * Ideal.ofBits .f32 0x3D3504F3#32) (ht_1536 m c t q r)).trans (Cert.RefInIdeal.Whole.wi_apply (arg0 m c) (arg1 m c) (row t q) r).symm

theorem covered13 (i : S8x32768.Idx) : ∃ t : Fin cfg0.N, (cfg0.win 13).flush t = true ∧ i ∈ ((cfg0.win 13).blk t).view.set := by
  obtain ⟨p, q, rfl⟩ : ∃ (p : Fin 8) (q : Fin 32768), i = ix2 p q := ⟨i 0, i 1, eq_ix2 i⟩
  have ht : q.val / 512 < cfg0.N := by show _ < 64; omega
  refine ⟨⟨q.val / 512, ht⟩, flush0_13 _, ?_⟩
  have h := ((cfg0.win 13).blk ⟨q.val / 512, ht⟩).view.emb_mem_set (ix2 (p) (⟨q.val % 512, by omega⟩ : Fin 512))
  have e : row ⟨q.val / 512, ht⟩ ⟨q.val % 512, by omega⟩ = q := Fin.ext (by show 512 * (q.val / 512) + q.val % 512 = q.val; omega)
  have h2 := emb13 ⟨q.val / 512, ht⟩ p ⟨q.val % 512, by omega⟩
  rw [e] at h2
  exact h2 ▸ h

theorem final13 (c : Dev nD) : (dats m 0 c).arrAt 13 cfg0.N = res13 m c :=
  (dats m 0 c).arrAt_eq_of_cover 13 (res13 m c) (fun t _ => flushed13 m c t) covered13

/-- The reference's array for window 14, on the memory the run starts from. -/
abbrev res14 (c : Dev nD) : FVec Ideal S32768x512 .bf16 := Cert.RefInIdeal.Vals.val_main_v99 (F := Ideal) (arg0 m c) (arg1 m c) (arg4 m c) (arg5 m c)

theorem flushed14 (c : Dev nD) (t : Fin cfg0.N) : (dats m 0 c).flushed 14 t = ((cfg0.win 14).blk t).view.read (Elt Ideal) (res14 m c) := by
  rw [Cert.InIdeal.Value.flushed14]
  funext j
  obtain ⟨r, q, rfl⟩ : ∃ (r : Fin 512) (q : Fin 512), j = ix2 r q := ⟨j 0, j 1, eq_ix2 j⟩
  show (out0_14 (F := Ideal) (iblk m c 0 t) (iblk m c 2 t) (iblk m c 8 t) (iblk m c 9 t) : FVec Ideal S512x512 .bf16) (ix2 r q) = res14 m c (((cfg0.win 14).blk t).view.emb (ix2 r q))
  rw [emb14]
  refine (congrFun (out14_eq (iblk m c 0 t) (iblk m c 2 t) (iblk m c 8 t) (iblk m c 9 t)) (ix2 r q)).trans ?_
  refine (kr_rot _ _ _ _ 0 _ (h (arg0 m c) (arg1 m c) (row t r)) (fun j => (arg4 m c) (ix2 (row t r) j)) (fun j => (arg5 m c) (ix2 (row t r) j)) 512 (by omega) r 512 (by omega) (by omega)
    (fun j => hr_0 m c t r j) (fun p => (iblk8 m c t r p).trans (rc m c (row t r) p)) (fun p => (iblk9 m c t r p).trans (rs m c (row t r) p)) q (by exact q.isLt)).trans ?_
  exact (Cert.RefInIdeal.Whole.k_apply (arg0 m c) (arg1 m c) (arg4 m c) (arg5 m c) (row t r) q).symm

theorem covered14 (i : S32768x512.Idx) : ∃ t : Fin cfg0.N, (cfg0.win 14).flush t = true ∧ i ∈ ((cfg0.win 14).blk t).view.set := by
  obtain ⟨p, q, rfl⟩ : ∃ (p : Fin 32768) (q : Fin 512), i = ix2 p q := ⟨i 0, i 1, eq_ix2 i⟩
  have ht : p.val / 512 < cfg0.N := by show _ < 64; omega
  refine ⟨⟨p.val / 512, ht⟩, flush0_14 _, ?_⟩
  have h := ((cfg0.win 14).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb14 ⟨p.val / 512, ht⟩ ⟨p.val % 512, by omega⟩ q
  rw [e] at h2
  exact h2 ▸ h

theorem final14 (c : Dev nD) : (dats m 0 c).arrAt 14 cfg0.N = res14 m c :=
  (dats m 0 c).arrAt_eq_of_cover 14 (res14 m c) (fun t _ => flushed14 m c t) covered14

/-- The reference's array for window 15, on the memory the run starts from. -/
abbrev res15 (c : Dev nD) : FVec Ideal S32768x64 .bf16 := Cert.RefInIdeal.Vals.val_main_v100 (F := Ideal) (arg0 m c) (arg1 m c) (arg4 m c) (arg5 m c)

theorem flushed15 (c : Dev nD) (t : Fin cfg0.N) : (dats m 0 c).flushed 15 t = ((cfg0.win 15).blk t).view.read (Elt Ideal) (res15 m c) := by
  rw [Cert.InIdeal.Value.flushed15]
  funext j
  obtain ⟨r, q, rfl⟩ : ∃ (r : Fin 512) (q : Fin 64), j = ix2 r q := ⟨j 0, j 1, eq_ix2 j⟩
  show (out0_15 (F := Ideal) (iblk m c 0 t) (iblk m c 2 t) (iblk m c 8 t) (iblk m c 9 t) : FVec Ideal S512x64 .bf16) (ix2 r q) = res15 m c (((cfg0.win 15).blk t).view.emb (ix2 r q))
  rw [emb15]
  refine (out15_apply (iblk m c 0 t) (iblk m c 2 t) (iblk m c 8 t) (iblk m c 9 t) r q).trans ?_
  refine (kr_rot _ _ _ _ 512 _ (h (arg0 m c) (arg1 m c) (row t r)) (fun j => (arg4 m c) (ix2 (row t r) j)) (fun j => (arg5 m c) (ix2 (row t r) j)) 2560 (by omega) r 64 (by omega) (by omega)
    (fun j => hr_512 m c t r j) (fun p => (iblk8 m c t r p).trans (rc m c (row t r) p)) (fun p => (iblk9 m c t r p).trans (rs m c (row t r) p)) ⟨q.val, by omega⟩ (by exact q.isLt)).trans ?_
  exact (Cert.RefInIdeal.Whole.ki_apply (arg0 m c) (arg1 m c) (arg4 m c) (arg5 m c) (row t r) q).symm

theorem covered15 (i : S32768x64.Idx) : ∃ t : Fin cfg0.N, (cfg0.win 15).flush t = true ∧ i ∈ ((cfg0.win 15).blk t).view.set := by
  obtain ⟨p, q, rfl⟩ : ∃ (p : Fin 32768) (q : Fin 64), i = ix2 p q := ⟨i 0, i 1, eq_ix2 i⟩
  have ht : p.val / 512 < cfg0.N := by show _ < 64; omega
  refine ⟨⟨p.val / 512, ht⟩, flush0_15 _, ?_⟩
  have h := ((cfg0.win 15).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb15 ⟨p.val / 512, ht⟩ ⟨p.val % 512, by omega⟩ q
  rw [e] at h2
  exact h2 ▸ h

theorem final15 (c : Dev nD) : (dats m 0 c).arrAt 15 cfg0.N = res15 m c :=
  (dats m 0 c).arrAt_eq_of_cover 15 (res15 m c) (fun t _ => flushed15 m c t) covered15

/-- The reference's array for window 16, on the memory the run starts from. -/
abbrev res16 (c : Dev nD) : FVec Ideal S32768x512 .bf16 := Cert.RefInIdeal.Vals.val_main_v102 (F := Ideal) (arg0 m c) (arg1 m c)

theorem flushed16 (c : Dev nD) (t : Fin cfg0.N) : (dats m 0 c).flushed 16 t = ((cfg0.win 16).blk t).view.read (Elt Ideal) (res16 m c) := by
  rw [Cert.InIdeal.Value.flushed16]
  funext j
  obtain ⟨r, q, rfl⟩ : ∃ (r : Fin 512) (q : Fin 512), j = ix2 r q := ⟨j 0, j 1, eq_ix2 j⟩
  show (out0_16 (F := Ideal) (iblk m c 0 t) (iblk m c 2 t) : FVec Ideal S512x512 .bf16) (ix2 r q) = res16 m c (((cfg0.win 16).blk t).view.emb (ix2 r q))
  rw [emb16]
  refine (out16_apply (iblk m c 0 t) (iblk m c 2 t) r q).trans ?_
  rw [silu_eq, hr_640]
  exact (Cert.RefInIdeal.Whole.sag_apply (arg0 m c) (arg1 m c) (row t r) q).symm

theorem covered16 (i : S32768x512.Idx) : ∃ t : Fin cfg0.N, (cfg0.win 16).flush t = true ∧ i ∈ ((cfg0.win 16).blk t).view.set := by
  obtain ⟨p, q, rfl⟩ : ∃ (p : Fin 32768) (q : Fin 512), i = ix2 p q := ⟨i 0, i 1, eq_ix2 i⟩
  have ht : p.val / 512 < cfg0.N := by show _ < 64; omega
  refine ⟨⟨p.val / 512, ht⟩, flush0_16 _, ?_⟩
  have h := ((cfg0.win 16).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb16 ⟨p.val / 512, ht⟩ ⟨p.val % 512, by omega⟩ q
  rw [e] at h2
  exact h2 ▸ h

theorem final16 (c : Dev nD) : (dats m 0 c).arrAt 16 cfg0.N = res16 m c :=
  (dats m 0 c).arrAt_eq_of_cover 16 (res16 m c) (fun t _ => flushed16 m c t) covered16

/-- The reference's array for window 17, on the memory the run starts from. -/
abbrev res17 (c : Dev nD) : FVec Ideal S32768x256 .f32 := Cert.RefInIdeal.Vals.val_main_v109 (F := Ideal) (arg0 m c) (arg1 m c)

theorem flushed17 (c : Dev nD) (t : Fin cfg0.N) : (dats m 0 c).flushed 17 t = ((cfg0.win 17).blk t).view.read (Elt Ideal) (res17 m c) := by
  rw [Cert.InIdeal.Value.flushed17]
  funext j
  obtain ⟨r, q, rfl⟩ : ∃ (r : Fin 512) (q : Fin 256), j = ix2 r q := ⟨j 0, j 1, eq_ix2 j⟩
  show (out0_17 (F := Ideal) (iblk m c 0 t) (iblk m c 2 t) : FVec Ideal S512x256 .f32) (ix2 r q) = res17 m c (((cfg0.win 17).blk t).view.emb (ix2 r q))
  rw [emb17]
  refine (out17_apply (iblk m c 0 t) (iblk m c 2 t) r q).trans ?_
  rw [c_one, c_zero, zero_sub, hr_1152, hr_1408]
  exact (Cert.RefInIdeal.Whole.glu_apply (arg0 m c) (arg1 m c) (row t r) q).symm

theorem covered17 (i : S32768x256.Idx) : ∃ t : Fin cfg0.N, (cfg0.win 17).flush t = true ∧ i ∈ ((cfg0.win 17).blk t).view.set := by
  obtain ⟨p, q, rfl⟩ : ∃ (p : Fin 32768) (q : Fin 256), i = ix2 p q := ⟨i 0, i 1, eq_ix2 i⟩
  have ht : p.val / 512 < cfg0.N := by show _ < 64; omega
  refine ⟨⟨p.val / 512, ht⟩, flush0_17 _, ?_⟩
  have h := ((cfg0.win 17).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb17 ⟨p.val / 512, ht⟩ ⟨p.val % 512, by omega⟩ q
  rw [e] at h2
  exact h2 ▸ h

theorem final17 (c : Dev nD) : (dats m 0 c).arrAt 17 cfg0.N = res17 m c :=
  (dats m 0 c).arrAt_eq_of_cover 17 (res17 m c) (fun t _ => flushed17 m c t) covered17

/-- The reference's array for window 18, on the memory the run starts from. -/
abbrev res18 (c : Dev nD) : FVec Ideal S32768x256 .bf16 := Cert.RefInIdeal.Vals.val_main_v111 (F := Ideal) (arg0 m c) (arg1 m c)

theorem flushed18 (c : Dev nD) (t : Fin cfg0.N) : (dats m 0 c).flushed 18 t = ((cfg0.win 18).blk t).view.read (Elt Ideal) (res18 m c) := by
  rw [Cert.InIdeal.Value.flushed18]
  funext j
  obtain ⟨r, q, rfl⟩ : ∃ (r : Fin 512) (q : Fin 256), j = ix2 r q := ⟨j 0, j 1, eq_ix2 j⟩
  show (out0_18 (F := Ideal) (iblk m c 0 t) (iblk m c 2 t) : FVec Ideal S512x256 .bf16) (ix2 r q) = res18 m c (((cfg0.win 18).blk t).view.emb (ix2 r q))
  rw [emb18]
  refine (out18_apply (iblk m c 0 t) (iblk m c 2 t) r q).trans ?_
  rw [silu_eq, hr_1664]
  exact (Cert.RefInIdeal.Whole.sbg_apply (arg0 m c) (arg1 m c) (row t r) q).symm

theorem covered18 (i : S32768x256.Idx) : ∃ t : Fin cfg0.N, (cfg0.win 18).flush t = true ∧ i ∈ ((cfg0.win 18).blk t).view.set := by
  obtain ⟨p, q, rfl⟩ : ∃ (p : Fin 32768) (q : Fin 256), i = ix2 p q := ⟨i 0, i 1, eq_ix2 i⟩
  have ht : p.val / 512 < cfg0.N := by show _ < 64; omega
  refine ⟨⟨p.val / 512, ht⟩, flush0_18 _, ?_⟩
  have h := ((cfg0.win 18).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb18 ⟨p.val / 512, ht⟩ ⟨p.val % 512, by omega⟩ q
  rw [e] at h2
  exact h2 ▸ h

theorem final18 (c : Dev nD) : (dats m 0 c).arrAt 18 cfg0.N = res18 m c :=
  (dats m 0 c).arrAt_eq_of_cover 18 (res18 m c) (fun t _ => flushed18 m c t) covered18

/-- The reference's array for window 19, on the memory the run starts from. -/
abbrev res19 (c : Dev nD) : FVec Ideal S32768x128 .f32 := Cert.RefInIdeal.Vals.val_main_v113 (F := Ideal) (arg0 m c) (arg1 m c)

theorem flushed19 (c : Dev nD) (t : Fin cfg0.N) : (dats m 0 c).flushed 19 t = ((cfg0.win 19).blk t).view.read (Elt Ideal) (res19 m c) := by
  rw [Cert.InIdeal.Value.flushed19]
  funext j
  obtain ⟨r, q, rfl⟩ : ∃ (r : Fin 512) (q : Fin 128), j = ix2 r q := ⟨j 0, j 1, eq_ix2 j⟩
  show (out0_19 (F := Ideal) (iblk m c 0 t) (iblk m c 2 t) : FVec Ideal S512x128 .f32) (ix2 r q) = res19 m c (((cfg0.win 19).blk t).view.emb (ix2 r q))
  rw [emb19]
  refine (out19_apply (iblk m c 0 t) (iblk m c 2 t) r q).trans ?_
  rw [hr_1920]
  exact (Cert.RefInIdeal.Whole.cq_apply (arg0 m c) (arg1 m c) (row t r) q).symm

theorem covered19 (i : S32768x128.Idx) : ∃ t : Fin cfg0.N, (cfg0.win 19).flush t = true ∧ i ∈ ((cfg0.win 19).blk t).view.set := by
  obtain ⟨p, q, rfl⟩ : ∃ (p : Fin 32768) (q : Fin 128), i = ix2 p q := ⟨i 0, i 1, eq_ix2 i⟩
  have ht : p.val / 512 < cfg0.N := by show _ < 64; omega
  refine ⟨⟨p.val / 512, ht⟩, flush0_19 _, ?_⟩
  have h := ((cfg0.win 19).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb19 ⟨p.val / 512, ht⟩ ⟨p.val % 512, by omega⟩ q
  rw [e] at h2
  exact h2 ▸ h

theorem final19 (c : Dev nD) : (dats m 0 c).arrAt 19 cfg0.N = res19 m c :=
  (dats m 0 c).arrAt_eq_of_cover 19 (res19 m c) (fun t _ => flushed19 m c t) covered19

/-- The reference's array for window 20, on the memory the run starts from. -/
abbrev res20 (c : Dev nD) : FVec Ideal S32768x128 .f32 := Cert.RefInIdeal.Vals.val_main_v11 (F := Ideal) (arg0 m c) (arg1 m c)

theorem flushed20 (c : Dev nD) (t : Fin cfg0.N) : (dats m 0 c).flushed 20 t = ((cfg0.win 20).blk t).view.read (Elt Ideal) (res20 m c) := by
  rw [Cert.InIdeal.Value.flushed20]
  funext j
  obtain ⟨r, q, rfl⟩ : ∃ (r : Fin 512) (q : Fin 128), j = ix2 r q := ⟨j 0, j 1, eq_ix2 j⟩
  show (out0_20 (F := Ideal) (iblk m c 0 t) (iblk m c 2 t) : FVec Ideal S512x128 .f32) (ix2 r q) = res20 m c (((cfg0.win 20).blk t).view.emb (ix2 r q))
  rw [emb20]
  refine (out20_apply (iblk m c 0 t) (iblk m c 2 t) r q).trans ?_
  rw [hr_2048]
  exact (Cert.RefInIdeal.Whole.ck_apply (arg0 m c) (arg1 m c) (row t r) q).symm

theorem covered20 (i : S32768x128.Idx) : ∃ t : Fin cfg0.N, (cfg0.win 20).flush t = true ∧ i ∈ ((cfg0.win 20).blk t).view.set := by
  obtain ⟨p, q, rfl⟩ : ∃ (p : Fin 32768) (q : Fin 128), i = ix2 p q := ⟨i 0, i 1, eq_ix2 i⟩
  have ht : p.val / 512 < cfg0.N := by show _ < 64; omega
  refine ⟨⟨p.val / 512, ht⟩, flush0_20 _, ?_⟩
  have h := ((cfg0.win 20).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb20 ⟨p.val / 512, ht⟩ ⟨p.val % 512, by omega⟩ q
  rw [e] at h2
  exact h2 ▸ h

theorem final20 (c : Dev nD) : (dats m 0 c).arrAt 20 cfg0.N = res20 m c :=
  (dats m 0 c).arrAt_eq_of_cover 20 (res20 m c) (fun t _ => flushed20 m c t) covered20

/-- The reference's array for window 21, on the memory the run starts from. -/
abbrev res21 (c : Dev nD) : FVec Ideal S32768x256 .f32 := Cert.RefInIdeal.Vals.val_main_v12 (F := Ideal) (arg0 m c) (arg1 m c)

theorem flushed21 (c : Dev nD) (t : Fin cfg0.N) : (dats m 0 c).flushed 21 t = ((cfg0.win 21).blk t).view.read (Elt Ideal) (res21 m c) := by
  rw [Cert.InIdeal.Value.flushed21]
  funext j
  obtain ⟨r, q, rfl⟩ : ∃ (r : Fin 512) (q : Fin 256), j = ix2 r q := ⟨j 0, j 1, eq_ix2 j⟩
  show (out0_21 (F := Ideal) (iblk m c 0 t) (iblk m c 2 t) : FVec Ideal S512x256 .f32) (ix2 r q) = res21 m c (((cfg0.win 21).blk t).view.emb (ix2 r q))
  rw [emb21]
  refine (out21_apply (iblk m c 0 t) (iblk m c 2 t) r q).trans ?_
  rw [hr_2176]
  exact (Cert.RefInIdeal.Whole.cv_apply (arg0 m c) (arg1 m c) (row t r) q).symm

theorem covered21 (i : S32768x256.Idx) : ∃ t : Fin cfg0.N, (cfg0.win 21).flush t = true ∧ i ∈ ((cfg0.win 21).blk t).view.set := by
  obtain ⟨p, q, rfl⟩ : ∃ (p : Fin 32768) (q : Fin 256), i = ix2 p q := ⟨i 0, i 1, eq_ix2 i⟩
  have ht : p.val / 512 < cfg0.N := by show _ < 64; omega
  refine ⟨⟨p.val / 512, ht⟩, flush0_21 _, ?_⟩
  have h := ((cfg0.win 21).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb21 ⟨p.val / 512, ht⟩ ⟨p.val % 512, by omega⟩ q
  rw [e] at h2
  exact h2 ▸ h

theorem final21 (c : Dev nD) : (dats m 0 c).arrAt 21 cfg0.N = res21 m c :=
  (dats m 0 c).arrAt_eq_of_cover 21 (res21 m c) (fun t _ => flushed21 m c t) covered21

/-- The reference's array for window 22, on the memory the run starts from. -/
abbrev res22 (c : Dev nD) : FVec Ideal S32768x256 .bf16 := Cert.RefInIdeal.Vals.val_main_v115 (F := Ideal) (arg0 m c) (arg1 m c)

theorem flushed22 (c : Dev nD) (t : Fin cfg0.N) : (dats m 0 c).flushed 22 t = ((cfg0.win 22).blk t).view.read (Elt Ideal) (res22 m c) := by
  rw [Cert.InIdeal.Value.flushed22]
  funext j
  obtain ⟨r, q, rfl⟩ : ∃ (r : Fin 512) (q : Fin 256), j = ix2 r q := ⟨j 0, j 1, eq_ix2 j⟩
  show (out0_22 (F := Ideal) (iblk m c 0 t) (iblk m c 2 t) : FVec Ideal S512x256 .bf16) (ix2 r q) = res22 m c (((cfg0.win 22).blk t).view.emb (ix2 r q))
  rw [emb22]
  refine (out22_apply (iblk m c 0 t) (iblk m c 2 t) r q).trans ?_
  rw [silu_eq, hr_2432]
  exact (Cert.RefInIdeal.Whole.scg_apply (arg0 m c) (arg1 m c) (row t r) q).symm

theorem covered22 (i : S32768x256.Idx) : ∃ t : Fin cfg0.N, (cfg0.win 22).flush t = true ∧ i ∈ ((cfg0.win 22).blk t).view.set := by
  obtain ⟨p, q, rfl⟩ : ∃ (p : Fin 32768) (q : Fin 256), i = ix2 p q := ⟨i 0, i 1, eq_ix2 i⟩
  have ht : p.val / 512 < cfg0.N := by show _ < 64; omega
  refine ⟨⟨p.val / 512, ht⟩, flush0_22 _, ?_⟩
  have h := ((cfg0.win 22).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb22 ⟨p.val / 512, ht⟩ ⟨p.val % 512, by omega⟩ q
  rw [e] at h2
  exact h2 ▸ h

theorem final22 (c : Dev nD) : (dats m 0 c).arrAt 22 cfg0.N = res22 m c :=
  (dats m 0 c).arrAt_eq_of_cover 22 (res22 m c) (fun t _ => flushed22 m c t) covered22

/-- The reference's array for window 23, on the memory the run starts from. -/
abbrev res23 (c : Dev nD) : FVec Ideal S32768x128 .f32 := Cert.RefInIdeal.Vals.val_main_v88 (F := Ideal) (arg0 m c) (arg1 m c) (arg2 m c) (arg3 m c)

theorem flushed23 (c : Dev nD) (h0 : ∀ i, Real? ((arg0 m c) i)) (h1 : ∀ i, Real? ((arg1 m c) i)) (h2 : ∀ i, Real? ((arg2 m c) i)) (t : Fin cfg0.N) : (dats m 0 c).flushed 23 t = ((cfg0.win 23).blk t).view.read (Elt Ideal) (res23 m c) := by
  rw [Cert.InIdeal.Value.flushed23]
  funext j
  obtain ⟨r, q, rfl⟩ : ∃ (r : Fin 512) (q : Fin 128), j = ix2 r q := ⟨j 0, j 1, eq_ix2 j⟩
  show (out0_23 (F := Ideal) (iblk m c 0 t) (iblk m c 2 t) (iblk m c 3 t) (iblk m c 4 t) (iblk m c 5 t) : FVec Ideal S512x128 .f32) (ix2 r q) = res23 m c (((cfg0.win 23).blk t).view.emb (ix2 r q))
  rw [emb23]
  refine (out23_apply (iblk m c 0 t) (iblk m c 2 t) (iblk m c 3 t) (iblk m c 4 t) (iblk m c 5 t) r q).trans ?_
  rw [lz_zl m c h0 h1 h2, lsig_eq]
  exact (Cert.RefInIdeal.Whole.la_apply (arg0 m c) (arg1 m c) (arg2 m c) (arg3 m c) (row t r) q).symm

theorem covered23 (i : S32768x128.Idx) : ∃ t : Fin cfg0.N, (cfg0.win 23).flush t = true ∧ i ∈ ((cfg0.win 23).blk t).view.set := by
  obtain ⟨p, q, rfl⟩ : ∃ (p : Fin 32768) (q : Fin 128), i = ix2 p q := ⟨i 0, i 1, eq_ix2 i⟩
  have ht : p.val / 512 < cfg0.N := by show _ < 64; omega
  refine ⟨⟨p.val / 512, ht⟩, flush0_23 _, ?_⟩
  have h := ((cfg0.win 23).blk ⟨p.val / 512, ht⟩).view.emb_mem_set (ix2 (⟨p.val % 512, by omega⟩ : Fin 512) q)
  have e : row ⟨p.val / 512, ht⟩ ⟨p.val % 512, by omega⟩ = p := Fin.ext (by show 512 * (p.val / 512) + p.val % 512 = p.val; omega)
  have h2 := emb23 ⟨p.val / 512, ht⟩ ⟨p.val % 512, by omega⟩ q
  rw [e] at h2
  exact h2 ▸ h

theorem final23 (c : Dev nD) (h0 : ∀ i, Real? ((arg0 m c) i)) (h1 : ∀ i, Real? ((arg1 m c) i)) (h2 : ∀ i, Real? ((arg2 m c) i)) : (dats m 0 c).arrAt 23 cfg0.N = res23 m c :=
  (dats m 0 c).arrAt_eq_of_cover 23 (res23 m c) (fun t _ => flushed23 m c h0 h1 h2 t) covered23

theorem fn_reads0 [Cert.Pre_in_finite.Facts] (b0 : FVec Ideal S32768x1024 .f32) (b1 : FVec Ideal S1024x4184 .f32) (b2 : FVec Ideal S16x128 .f32) (b3 : FVec Ideal S128 .f32) (b4 b5 : FVec Ideal S32768x32 .f32)
    (p : Fin 32768) (k : Fin 1024) : (Cert.Pre_in_finite.fn (F := Ideal) b0 b1 b2 b3 b4 b5).1 (ix2 p k) = BitVec.ofBool (decide (FloatOps.absf (F := Ideal) (φ := .f32) (b0 (ix2 p k)) < Ideal.ofBits .f32 0x7F800000#32)) := by
  pointwise [Cert.Pre_in_finite.fn]
theorem fn_reads1 [Cert.Pre_in_finite.Facts] (b0 : FVec Ideal S32768x1024 .f32) (b1 : FVec Ideal S1024x4184 .f32) (b2 : FVec Ideal S16x128 .f32) (b3 : FVec Ideal S128 .f32) (b4 b5 : FVec Ideal S32768x32 .f32)
    (p : Fin 1024) (k : Fin 4184) : (Cert.Pre_in_finite.fn (F := Ideal) b0 b1 b2 b3 b4 b5).2.1 (ix2 p k) = BitVec.ofBool (decide (FloatOps.absf (F := Ideal) (φ := .f32) (b1 (ix2 p k)) < Ideal.ofBits .f32 0x7F800000#32)) := by
  pointwise [Cert.Pre_in_finite.fn]
theorem fn_reads2 [Cert.Pre_in_finite.Facts] (b0 : FVec Ideal S32768x1024 .f32) (b1 : FVec Ideal S1024x4184 .f32) (b2 : FVec Ideal S16x128 .f32) (b3 : FVec Ideal S128 .f32) (b4 b5 : FVec Ideal S32768x32 .f32)
    (p : Fin 16) (k : Fin 128) : (Cert.Pre_in_finite.fn (F := Ideal) b0 b1 b2 b3 b4 b5).2.2 (ix2 p k) = BitVec.ofBool (decide (FloatOps.absf (F := Ideal) (φ := .f32) (b2 (ix2 p k)) < Ideal.ofBits .f32 0x7F800000#32)) := by
  pointwise [Cert.Pre_in_finite.fn]

theorem ofBool_one (p : Prop) [Decidable p] (e : BitVec.ofBool (decide p) = 1#1) : p := by
  by_contra hc
  rw [decide_eq_false hc] at e
  exact absurd e (by decide)

/-- The precondition says that the features, the projection's weights and the decay's weights are real numbers. -/
theorem finite [Cert.Pre_in_finite.Facts] (hp : Cert.Pre_InIdeal_in_finite m) (c : Dev nD) :
    (∀ i, Real? ((arg0 m c) i)) ∧ (∀ i, Real? ((arg1 m c) i)) ∧ (∀ i, Real? ((arg2 m c) i)) := by
  obtain ⟨p0, p1, p2⟩ := hp c
  refine ⟨fun i => ?_, fun i => ?_, fun i => ?_⟩
  · obtain ⟨p, k, rfl⟩ : ∃ (p : Fin 32768) (k : Fin 1024), i = ix2 p k := ⟨i 0, i 1, eq_ix2 i⟩
    exact Real?.of_lt (ofBool_one _ ((fn_reads0 _ _ _ _ _ _ p k).symm.trans (congrFun p0 (ix2 p k))))
  · obtain ⟨p, k, rfl⟩ : ∃ (p : Fin 1024) (k : Fin 4184), i = ix2 p k := ⟨i 0, i 1, eq_ix2 i⟩
    exact Real?.of_lt (ofBool_one _ ((fn_reads1 _ _ _ _ _ _ p k).symm.trans (congrFun p1 (ix2 p k))))
  · obtain ⟨p, k, rfl⟩ : ∃ (p : Fin 16) (k : Fin 128), i = ix2 p k := ⟨i 0, i 1, eq_ix2 i⟩
    exact Real?.of_lt (ofBool_one _ ((fn_reads2 _ _ _ _ _ _ p k).symm.trans (congrFun p2 (ix2 p k))))

set_option maxHeartbeats 4000000 in
theorem algebraic [Cert.Pre_in_finite.Facts] : Cert.algebraic_InIdeal_RefInIdeal_pre_in_finite := by
  intro m g m' g' hp he
  refine ⟨fun c => res10 m c, fun c => res11 m c, fun c => res12 m c, fun c => res13 m c, fun c => res14 m c, fun c => res15 m c, fun c => res16 m c, fun c => res17 m c, fun c => res18 m c, fun c => res19 m c, fun c => res20 m c, fun c => res21 m c, fun c => res22 m c, fun c => res23 m c, ?_, ?_⟩
  · refine (θ_run _ _ _).mono (fun r h c => ?_) (Cert.InIdeal.Value.run_blocks m g)
    obtain ⟨h10, h11, h12, h13, h14, h15, h16, h17, h18, h19, h20, h21, h22, h23, hk⟩ := h c
    obtain ⟨f0, f1, f2⟩ := finite m hp c
    exact ⟨h10.trans (final10 m c), h11.trans (final11 m c), h12.trans (final12 m c), h13.trans (final13 m c), h14.trans (final14 m c), h15.trans (final15 m c), h16.trans (final16 m c), h17.trans (final17 m c), h18.trans (final18 m c), h19.trans (final19 m c), h20.trans (final20 m c), h21.trans (final21 m c), h22.trans (final22 m c), h23.trans (final23 m c f0 f1 f2), hk⟩
  · refine (θ_run _ _ _).mono (fun r h c => ?_) (Cert.RefInIdeal.Vals.run m' g')
    obtain ⟨h10, h11, h12, h13, h14, h15, h16, h17, h18, h19, h20, h21, h22, h23, hk⟩ := h c
    obtain ⟨e0, e1, e2, e3, e4, e5⟩ := he c
    refine ⟨h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, hk⟩
    · rw [e0, e1, e4, e5]
    · rw [e0, e1, e4, e5]
    · rw [e0, e1]
    · rw [e0, e1]
    · rw [e0, e1, e4, e5]
    · rw [e0, e1, e4, e5]
    · rw [e0, e1]
    · rw [e0, e1]
    · rw [e0, e1]
    · rw [e0, e1]
    · rw [e0, e1]
    · rw [e0, e1]
    · rw [e0, e1]
    · rw [e0, e1, e2, e3]

end Cert.InIdeal.Whole
-- ==== Proof.ConvScratch.lean ====
module

public import proofs.«01_k».proof.Defs
public import proofs.«01_k».proof.Proof.Gen.ConvIdeal.Value
public import Idealize.ShloMosaic.Lib.Pointwise
public import Idealize.ShloMosaic.Lib.Pipeline.ReadBack

@[expose] public section

noncomputable section

namespace Cert.ConvIdeal.Whole

open Cert.ConvIdeal Cert.ConvIdeal.Gen Idealize.ShloMosaic Idealize.ShloMosaic.TcCoe Idealize.SL.Sem
open Idealize.ShloMosaic.Pipeline (Dat)

/-- The rows the convolution reads, from 32 rows before the block on: the rows before it (zero at the start of a
    sequence), then the block's own. -/
def row (i : grid0.Coords) (x0 : FVec Ideal S512x256 .f32) (x1 : FVec Ideal S32x256 .f32) (n : ℕ) (q : Fin 256) : EReal :=
  if h : n < 32 then (if (i 1).val = 0 then 0 else x1 (ix2 ⟨n, h⟩ q))
  else if h' : n - 32 < 512 then x0 (ix2 ⟨n - 32, h'⟩ q) else 0

section Scratch
variable (A : ℕ → Fin 256 → EReal)

/-- The scratch: plane `s` holds the rows moved up by `s`. -/
def lift : S8x544x256.Idx → Elt Ideal .f32 := fun y => A ((y 0).val + (y 1).val) (y 2)

/-- The rows from `s` on, as a plane is filled. -/
def plane (s : ℕ) : FVec Ideal S1x536x256 .f32 := fun y => A (s + (y 1).val) (y 2)
/-- The 32 rows before the block. -/
def before : FVec Ideal S1x32x256 .f32 := fun y => A (y 1).val (y 2)
/-- The block's rows. -/
def own : FVec Ideal S1x512x256 .f32 := fun y => A (32 + (y 1).val) (y 2)
/-- 64 rows from `n` on. -/
def rows (n : ℕ) : FVec Ideal S1x64x256 .f32 := fun y => A (n + (y 1).val) (y 2)

/-- A covered load of pieces that all hold the scratch reads the scratch. -/
theorem readCov_lift (v : View sig .tc .vmem S8x544x256 .f32) (L : List (View.Piece (Elt Ideal) S8x544x256 .f32))
    (hL : ∀ p ∈ L, ∀ x : p.1.shape.Idx, p.2 x = lift A (p.1.emb x)) (B : LoadRect S8x544x256)
    (hc : ∀ j, ∃ p ∈ L, B.idx j ∈ p.1.set) : v.readCov (Val := Elt Ideal) L B = fun j => lift A (B.idx j) := by
  rw [View.readCov_eq_canon']
  funext j
  exact View.canon_apply_of_pieces _ L hL _ (hc j)

theorem before_eq (x : S1x32x256.Idx) : before A x
    = lift A ((Rect.unit (s := S8x544x256) ![0, 0, 0] ![1, 32, 256] inb_S8x544x256_S1x32x256_0_0_0).emb x) := by
  have h0 : (x 0).val < 1 := (x 0).isLt
  show A (x 1).val (x 2) = A (0 + 1 * (x 0).val + (0 + 1 * (x 1).val)) ⟨0 + 1 * (x 2).val, _⟩
  congr 1
  · omega
  · apply Fin.ext; show (x 2).val = 0 + 1 * (x 2).val; omega

theorem own_eq (x : S1x512x256.Idx) : own A x
    = lift A ((Rect.unit (s := S8x544x256) ![0, 32, 0] ![1, 512, 256] inb_S8x544x256_S1x512x256_0_32_0).emb x) := by
  have h0 : (x 0).val < 1 := (x 0).isLt
  show A (32 + (x 1).val) (x 2) = A (0 + 1 * (x 0).val + (32 + 1 * (x 1).val)) ⟨0 + 1 * (x 2).val, _⟩
  congr 1
  · omega
  · apply Fin.ext; show (x 2).val = 0 + 1 * (x 2).val; omega

theorem plane_eq (s : ℕ) (h : ∀ a, (![s, 0, 0] : Fin 3 → ℕ) a + (![1, 536, 256] : Fin 3 → ℕ) a ≤ S8x544x256.size a) (x : S1x536x256.Idx) :
    plane A s x = lift A ((Rect.unit (s := S8x544x256) ![s, 0, 0] ![1, 536, 256] h).emb x) := by
  have h0 : (x 0).val < 1 := (x 0).isLt
  show A (s + (x 1).val) (x 2) = A (s + 1 * (x 0).val + (0 + 1 * (x 1).val)) ⟨0 + 1 * (x 2).val, _⟩
  congr 1
  · omega
  · apply Fin.ext; show (x 2).val = 0 + 1 * (x 2).val; omega

/-- The first plane's two pieces hold rows 0 to 543 of plane 0. -/
theorem first_mem (L : List (View.Piece (Elt Ideal) S8x544x256 .f32)) (y : S8x544x256.Idx) (h0 : (y 0).val = 0)
    (ho : ⟨(Rect.unit (s := S8x544x256) ![0, 32, 0] ![1, 512, 256] inb_S8x544x256_S1x512x256_0_32_0), own A⟩ ∈ L)
    (hb : ⟨(Rect.unit (s := S8x544x256) ![0, 0, 0] ![1, 32, 256] inb_S8x544x256_S1x32x256_0_0_0), before A⟩ ∈ L) :
    ∃ p ∈ L, y ∈ p.1.set := by
  have h1 : (y 1).val < 544 := (y 1).isLt
  have h2 : (y 2).val < 256 := (y 2).isLt
  by_cases h : (y 1).val < 32
  · refine ⟨_, hb, ?_⟩
    refine (Rect.mem_set_unit (inb := inb_S8x544x256_S1x32x256_0_0_0)).2 fun a => ?_
    match a with
    | ⟨0, _⟩ => exact ⟨Nat.zero_le _, by show (y 0).val < 0 + 1; omega⟩
    | ⟨1, _⟩ => exact ⟨Nat.zero_le _, by show (y 1).val < 0 + 32; omega⟩
    | ⟨2, _⟩ => exact ⟨Nat.zero_le _, by show (y 2).val < 0 + 256; omega⟩
  · refine ⟨_, ho, ?_⟩
    refine (Rect.mem_set_unit (inb := inb_S8x544x256_S1x512x256_0_32_0)).2 fun a => ?_
    match a with
    | ⟨0, _⟩ => exact ⟨Nat.zero_le _, by show (y 0).val < 0 + 1; omega⟩
    | ⟨1, _⟩ => exact ⟨by show 32 ≤ (y 1).val; omega, by show (y 1).val < 32 + 512; omega⟩
    | ⟨2, _⟩ => exact ⟨Nat.zero_le _, by show (y 2).val < 0 + 256; omega⟩

/-- Plane `s` holds rows 0 to 535. -/
theorem plane_mem (L : List (View.Piece (Elt Ideal) S8x544x256 .f32)) (y : S8x544x256.Idx) (s : ℕ) (hs : (y 0).val = s) (h1 : (y 1).val < 536)
    (h : ∀ a, (![s, 0, 0] : Fin 3 → ℕ) a + (![1, 536, 256] : Fin 3 → ℕ) a ≤ S8x544x256.size a)
    (hp : ⟨(Rect.unit (s := S8x544x256) ![s, 0, 0] ![1, 536, 256] h), plane A s⟩ ∈ L) : ∃ p ∈ L, y ∈ p.1.set := by
  have h2 : (y 2).val < 256 := (y 2).isLt
  refine ⟨_, hp, ?_⟩
  refine (Rect.mem_set_unit (inb := h)).2 fun a => ?_
  match a with
  | ⟨0, _⟩ => exact ⟨by show s ≤ (y 0).val; omega, by show (y 0).val < s + 1; omega⟩
  | ⟨1, _⟩ => exact ⟨Nat.zero_le _, by show (y 1).val < 0 + 536; omega⟩
  | ⟨2, _⟩ => exact ⟨Nat.zero_le _, by show (y 2).val < 0 + 256; omega⟩

theorem plane_load (s : ℕ) (h : ∀ a, (![0, s, 0] : Fin 3 → ℕ) a + (![1, 536, 256] : Fin 3 → ℕ) a ≤ S8x544x256.size a) (x : S1x536x256.Idx) :
    lift A ((Rect.unit (s := S8x544x256) ![0, s, 0] ![1, 536, 256] h).toLoadRect.idx x) = plane A s x := by
  have h0 : (x 0).val < 1 := (x 0).isLt
  show A (0 + 1 * (x 0).val + (s + 1 * (x 1).val)) ⟨0 + 1 * (x 2).val, _⟩ = A (s + (x 1).val) (x 2)
  congr 1
  · omega
  · apply Fin.ext; show 0 + 1 * (x 2).val = (x 2).val; omega

theorem rows_load (s n : ℕ) (h : ∀ a, (![s, n, 0] : Fin 3 → ℕ) a + (![1, 64, 256] : Fin 3 → ℕ) a ≤ S8x544x256.size a) (x : S1x64x256.Idx) :
    lift A ((Rect.unit (s := S8x544x256) ![s, n, 0] ![1, 64, 256] h).toLoadRect.idx x) = rows A (s + n) x := by
  have h0 : (x 0).val < 1 := (x 0).isLt
  show A (s + 1 * (x 0).val + (n + 1 * (x 1).val)) ⟨0 + 1 * (x 2).val, _⟩ = A (s + n + (x 1).val) (x 2)
  congr 1
  · omega
  · apply Fin.ext; show 0 + 1 * (x 2).val = (x 2).val; omega

theorem good0 : ∀ p ∈ ([⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨own_eq A, before_eq A, fun p hp => absurd hp List.not_mem_nil⟩

theorem good1 : ∀ p ∈ ([⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 1 _, own_eq A, before_eq A, fun p hp => absurd hp List.not_mem_nil⟩

theorem good2 : ∀ p ∈ ([⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 2 _, plane_eq A 1 _, own_eq A, before_eq A, fun p hp => absurd hp List.not_mem_nil⟩

theorem good3 : ∀ p ∈ ([⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 3 _, plane_eq A 2 _, plane_eq A 1 _, own_eq A, before_eq A, fun p hp => absurd hp List.not_mem_nil⟩

theorem good4 : ∀ p ∈ ([⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 4 _, plane_eq A 3 _, plane_eq A 2 _, plane_eq A 1 _, own_eq A, before_eq A, fun p hp => absurd hp List.not_mem_nil⟩

theorem good5 : ∀ p ∈ ([⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 5 _, plane_eq A 4 _, plane_eq A 3 _, plane_eq A 2 _, plane_eq A 1 _, own_eq A, before_eq A, fun p hp => absurd hp List.not_mem_nil⟩

theorem good6 : ∀ p ∈ ([⟨(Rect.unit (s := S8x544x256) ![6, 0, 0] ![1, 536, 256] inb_S8x544x256_S1x536x256_6_0_0), plane A 6⟩, ⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 6 _, plane_eq A 5 _, plane_eq A 4 _, plane_eq A 3 _, plane_eq A 2 _, plane_eq A 1 _, own_eq A, before_eq A, fun p hp => absurd hp List.not_mem_nil⟩

theorem good7 : ∀ p ∈ ([⟨(Rect.unit (s := S8x544x256) ![7, 0, 0] ![1, 536, 256] inb_S8x544x256_S1x536x256_7_0_0), plane A 7⟩, ⟨(Rect.unit (s := S8x544x256) ![6, 0, 0] ![1, 536, 256] inb_S8x544x256_S1x536x256_6_0_0), plane A 6⟩, ⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩] : List (View.Piece (Elt Ideal) S8x544x256 .f32)), ∀ x : p.1.shape.Idx, p.2 x = lift A (p.1.emb x) := by
  simp only [List.forall_mem_cons]
  exact ⟨plane_eq A 7 _, plane_eq A 6 _, plane_eq A 5 _, plane_eq A 4 _, plane_eq A 3 _, plane_eq A 2 _, plane_eq A 1 _, own_eq A, before_eq A, fun p hp => absurd hp List.not_mem_nil⟩

theorem cov1 (v : View sig .tc .vmem S8x544x256 .f32) : v.readCov (Val := Elt Ideal) [⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 1, 0] ![1, 536, 256] inb_S8x544x256_S1x536x256_0_1_0).toLoadRect = plane A 1 := by
  rw [readCov_lift A v _ (good0 A) _ fun j => first_mem A _ _ (by have := (j 0).isLt; show 0 + 1 * (j 0).val = 0; have h : (j 0).val < 1 := (j 0).isLt; omega) (by simp) (by simp)]
  exact funext fun x => plane_load A 1 _ x

theorem cov2 (v : View sig .tc .vmem S8x544x256 .f32) : v.readCov (Val := Elt Ideal) [⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 2, 0] ![1, 536, 256] inb_S8x544x256_S1x536x256_0_2_0).toLoadRect = plane A 2 := by
  rw [readCov_lift A v _ (good1 A) _ fun j => first_mem A _ _ (by have := (j 0).isLt; show 0 + 1 * (j 0).val = 0; have h : (j 0).val < 1 := (j 0).isLt; omega) (by simp) (by simp)]
  exact funext fun x => plane_load A 2 _ x

theorem cov3 (v : View sig .tc .vmem S8x544x256 .f32) : v.readCov (Val := Elt Ideal) [⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 3, 0] ![1, 536, 256] inb_S8x544x256_S1x536x256_0_3_0).toLoadRect = plane A 3 := by
  rw [readCov_lift A v _ (good2 A) _ fun j => first_mem A _ _ (by have := (j 0).isLt; show 0 + 1 * (j 0).val = 0; have h : (j 0).val < 1 := (j 0).isLt; omega) (by simp) (by simp)]
  exact funext fun x => plane_load A 3 _ x

theorem cov4 (v : View sig .tc .vmem S8x544x256 .f32) : v.readCov (Val := Elt Ideal) [⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 4, 0] ![1, 536, 256] inb_S8x544x256_S1x536x256_0_4_0).toLoadRect = plane A 4 := by
  rw [readCov_lift A v _ (good3 A) _ fun j => first_mem A _ _ (by have := (j 0).isLt; show 0 + 1 * (j 0).val = 0; have h : (j 0).val < 1 := (j 0).isLt; omega) (by simp) (by simp)]
  exact funext fun x => plane_load A 4 _ x

theorem cov5 (v : View sig .tc .vmem S8x544x256 .f32) : v.readCov (Val := Elt Ideal) [⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 5, 0] ![1, 536, 256] inb_S8x544x256_S1x536x256_0_5_0).toLoadRect = plane A 5 := by
  rw [readCov_lift A v _ (good4 A) _ fun j => first_mem A _ _ (by have := (j 0).isLt; show 0 + 1 * (j 0).val = 0; have h : (j 0).val < 1 := (j 0).isLt; omega) (by simp) (by simp)]
  exact funext fun x => plane_load A 5 _ x

theorem cov6 (v : View sig .tc .vmem S8x544x256 .f32) : v.readCov (Val := Elt Ideal) [⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 6, 0] ![1, 536, 256] inb_S8x544x256_S1x536x256_0_6_0).toLoadRect = plane A 6 := by
  rw [readCov_lift A v _ (good5 A) _ fun j => first_mem A _ _ (by have := (j 0).isLt; show 0 + 1 * (j 0).val = 0; have h : (j 0).val < 1 := (j 0).isLt; omega) (by simp) (by simp)]
  exact funext fun x => plane_load A 6 _ x

theorem cov7 (v : View sig .tc .vmem S8x544x256 .f32) : v.readCov (Val := Elt Ideal) [⟨(Rect.unit (s := S8x544x256) ![6, 0, 0] ![1, 536, 256] inb_S8x544x256_S1x536x256_6_0_0), plane A 6⟩, ⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![0, 7, 0] ![1, 536, 256] inb_S8x544x256_S1x536x256_0_7_0).toLoadRect = plane A 7 := by
  rw [readCov_lift A v _ (good6 A) _ fun j => first_mem A _ _ (by have := (j 0).isLt; show 0 + 1 * (j 0).val = 0; have h : (j 0).val < 1 := (j 0).isLt; omega) (by simp) (by simp)]
  exact funext fun x => plane_load A 7 _ x

theorem cov (v : View sig .tc .vmem S8x544x256 .f32) (s n : ℕ) (h : ∀ a, (![s, n, 0] : Fin 3 → ℕ) a + (![1, 64, 256] : Fin 3 → ℕ) a ≤ S8x544x256.size a)
    (hn : s = 0 ∨ n + 64 ≤ 536) : v.readCov (Val := Elt Ideal) [⟨(Rect.unit (s := S8x544x256) ![7, 0, 0] ![1, 536, 256] inb_S8x544x256_S1x536x256_7_0_0), plane A 7⟩, ⟨(Rect.unit (s := S8x544x256) ![6, 0, 0] ![1, 536, 256] inb_S8x544x256_S1x536x256_6_0_0), plane A 6⟩, ⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![s, n, 0] ![1, 64, 256] h).toLoadRect = rows A (s + n) := by
  rw [readCov_lift A v _ (good7 A) _ fun j => ?_]
  · exact funext fun x => rows_load A s n h x
  have j0 : (j 0).val < 1 := (j 0).isLt
  have j1 : (j 1).val < 64 := (j 1).isLt
  have e0 : (((Rect.unit (s := S8x544x256) ![s, n, 0] ![1, 64, 256] h).toLoadRect.idx j) 0).val = s + 1 * (j 0).val := rfl
  have e1 : (((Rect.unit (s := S8x544x256) ![s, n, 0] ![1, 64, 256] h).toLoadRect.idx j) 1).val = n + 1 * (j 1).val := rfl
  have hs : s + 1 ≤ 8 := h 0
  rcases hn with rfl | hn
  · exact first_mem A _ _ (by omega) (by simp) (by simp)
  · have h1 : (((Rect.unit (s := S8x544x256) ![s, n, 0] ![1, 64, 256] h).toLoadRect.idx j) 1).val < 536 := by omega
    have h0 : (((Rect.unit (s := S8x544x256) ![s, n, 0] ![1, 64, 256] h).toLoadRect.idx j) 0).val = s := by omega
    have hc : s = 0 ∨ s = 1 ∨ s = 2 ∨ s = 3 ∨ s = 4 ∨ s = 5 ∨ s = 6 ∨ s = 7 := by omega
    rcases hc with rfl | rfl | rfl | rfl | rfl | rfl | rfl | rfl
    · exact first_mem A _ _ h0 (by simp) (by simp)
    · exact plane_mem A _ _ 1 h0 h1 inb_S8x544x256_S1x536x256_1_0_0 (by simp)
    · exact plane_mem A _ _ 2 h0 h1 inb_S8x544x256_S1x536x256_2_0_0 (by simp)
    · exact plane_mem A _ _ 3 h0 h1 inb_S8x544x256_S1x536x256_3_0_0 (by simp)
    · exact plane_mem A _ _ 4 h0 h1 inb_S8x544x256_S1x536x256_4_0_0 (by simp)
    · exact plane_mem A _ _ 5 h0 h1 inb_S8x544x256_S1x536x256_5_0_0 (by simp)
    · exact plane_mem A _ _ 6 h0 h1 inb_S8x544x256_S1x536x256_6_0_0 (by simp)
    · exact plane_mem A _ _ 7 h0 h1 inb_S8x544x256_S1x536x256_7_0_0 (by simp)

theorem cov_at (v : View sig .tc .vmem S8x544x256 .f32) (s n : ℕ) (h : ∀ a, (![s, n, 0] : Fin 3 → ℕ) a + (![1, 64, 256] : Fin 3 → ℕ) a ≤ S8x544x256.size a)
    (hn : (decide (s = 0 ∨ n + 64 ≤ 536)) = true) : v.readCov (Val := Elt Ideal) [⟨(Rect.unit (s := S8x544x256) ![7, 0, 0] ![1, 536, 256] inb_S8x544x256_S1x536x256_7_0_0), plane A 7⟩, ⟨(Rect.unit (s := S8x544x256) ![6, 0, 0] ![1, 536, 256] inb_S8x544x256_S1x536x256_6_0_0), plane A 6⟩, ⟨(Rect.unit (s := S8x544x256) ![5, 0, 0] ![1, 536, 256] inb_S8x544x256_S1x536x256_5_0_0), plane A 5⟩, ⟨(Rect.unit (s := S8x544x256) ![4, 0, 0] ![1, 536, 256] inb_S8x544x256_S1x536x256_4_0_0), plane A 4⟩, ⟨(Rect.unit (s := S8x544x256) ![3, 0, 0] ![1, 536, 256] inb_S8x544x256_S1x536x256_3_0_0), plane A 3⟩, ⟨(Rect.unit (s := S8x544x256) ![2, 0, 0] ![1, 536, 256] inb_S8x544x256_S1x536x256_2_0_0), plane A 2⟩, ⟨(Rect.unit (s := S8x544x256) ![1, 0, 0] ![1, 536, 256] inb_S8x544x256_S1x536x256_1_0_0), plane A 1⟩, ⟨(Rect.unit (s := S8x544x256) ![0, 32, 0] ![1, 512, 256] inb_S8x544x256_S1x512x256_0_32_0), own A⟩, ⟨(Rect.unit (s := S8x544x256) ![0, 0, 0] ![1, 32, 256] inb_S8x544x256_S1x32x256_0_0_0), before A⟩]
    (Rect.unit (s := S8x544x256) ![s, n, 0] ![1, 64, 256] h).toLoadRect = rows A (s + n) := cov A v s n h (of_decide_eq_true hn)

theorem pay4_plane (s : ℕ) : k0_pay4 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay4, plane]

theorem pay5_plane (s : ℕ) : k0_pay5 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay5, plane]

theorem pay8_plane (s : ℕ) : k0_pay8 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay8, plane]

theorem pay9_plane (s : ℕ) : k0_pay9 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay9, plane]

theorem pay10_plane (s : ℕ) : k0_pay10 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay10, plane]

theorem pay11_plane (s : ℕ) : k0_pay11 (F := Ideal) (plane A s) = plane A s := by
  funext y
  obtain ⟨a, r, q, rfl⟩ : ∃ (a : Fin 1) (r : Fin 536) (q : Fin 256), y = ix3 a r q := ⟨y 0, y 1, y 2, eq_ix3 y⟩
  pointwise [k0_pay11, plane]

theorem pay76_plane (s : ℕ) : k0_pay7 (F := Ideal) (k0_pay6 (F := Ideal) (plane A s)) = plane A s := by
  funext y
  obtain ⟨a, r, q, rfl⟩ : ∃ (a : Fin 1) (r : Fin 536) (q : Fin 256), y = ix3 a r q := ⟨y 0, y 1, y 2, eq_ix3 y⟩
  pointwise [k0_pay7, k0_pay6, plane]

end Scratch

theorem pay2_before (i : grid0.Coords) (x0 : FVec Ideal S512x256 .f32) (x1 : FVec Ideal S32x256 .f32) : k0_pay2 (F := Ideal) i x1 = before (row i x0 x1) := by
  funext y
  obtain ⟨a, r, q, rfl⟩ : ∃ (a : Fin 1) (r : Fin 32) (q : Fin 256), y = ix3 a r q := ⟨y 0, y 1, y 2, eq_ix3 y⟩
  pointwise [k0_pay2, before, row]
  have hi : (i 1).val < 16 := (i 1).isLt
  generalize (i 1).val = n at *
  interval_cases n <;> rfl

theorem pay3_own (i : grid0.Coords) (x0 : FVec Ideal S512x256 .f32) (x1 : FVec Ideal S32x256 .f32) : k0_pay3 (F := Ideal) x0 = own (row i x0 x1) := by
  funext y
  obtain ⟨a, r, q, rfl⟩ : ∃ (a : Fin 1) (r : Fin 512) (q : Fin 256), y = ix3 a r q := ⟨y 0, y 1, y 2, eq_ix3 y⟩
  pointwise [k0_pay3, own, row]

end Cert.ConvIdeal.Whole

end
-- ==== Proof.ConvBody.lean ====
module

public import proofs.«01_k».proof.Proof.ConvScratch

@[expose] public section

noncomputable section

namespace Cert.ConvIdeal.Whole

open Cert.ConvIdeal Cert.ConvIdeal.Gen Idealize.ShloMosaic Idealize.ShloMosaic.TcCoe Idealize.SL.Sem
open Idealize.ShloMosaic.Pipeline (Dat)

/-- The weights of tap `j`. -/
def tapw (x3 : FVec Ideal S31x256 .f32) (j : ℕ) (q : Fin 256) : EReal := if h : j < 31 then x3 (ix2 ⟨j, h⟩ q) else 0

/-- The first `j` taps at the row whose window starts two rows after `n`. -/
def conv (A : ℕ → Fin 256 → EReal) (x3 : FVec Ideal S31x256 .f32) (n : ℕ) (q : Fin 256) : ℕ → EReal
  | 0 => Ideal.ofBits .f32 0x00000000#32
  | j + 1 => conv A x3 n q j + A (n + 2 + j) q * tapw x3 j q

/-- The mean of a row. -/
def mean (f : Fin 256 → EReal) : EReal := Ideal.div (∑ k : Fin 256, f k) (Ideal.ofBits .f32 0x43800000#32)

/-- A row, normalised by its mean and variance, scaled and shifted. -/
def norm (f g b : Fin 256 → EReal) (q : Fin 256) : EReal :=
  (f q - mean f) * Ideal.rsqrt (mean (fun k => (f k - mean f) * (f k - mean f)) + Ideal.ofBits .f32 0x3727C5AC#32) * g q + b q

/-- `z` times its logistic. -/
def silu (z : EReal) : EReal := z * Ideal.div (Ideal.ofBits .f32 0x3F800000#32) (Ideal.ofBits .f32 0x3F800000#32 + Ideal.exp (Ideal.ofBits .f32 0x00000000#32 - z))

/-- A row of the module: normalised, through the logistic, multiplied by the pointwise weights, gated. -/
def rest (f g b : Fin 256 → EReal) (x7 : FVec Ideal S256x256 .bf16) (p : EReal) (s : EReal) (q : Fin 256) : EReal :=
  ((∑ k : Fin 256, silu (norm f g b k) * x7 (ix2 k q)) + p) * s

/-- What the body leaves in its output block. -/
def G (A : ℕ → Fin 256 → EReal) (x2 : FVec Ideal S512x256 .bf16) (x3 : FVec Ideal S31x256 .f32) (x4 x5 x6 : FVec Ideal S1x256 .f32)
    (x7 : FVec Ideal S256x256 .bf16) (x8 : FVec Ideal S1x256 .f32) : FVec Ideal S512x256 .bf16 :=
  fun y => rest (fun k => conv A x3 (y 0).val k 31 + x4 (ix2 0 k)) (fun k => x5 (ix2 0 k)) (fun k => x6 (ix2 0 k)) x7
    (x8 (ix2 0 (y 1))) (x2 (ix2 (y 0) (y 1))) (y 1)

/-- One tap added. -/
def tap (a : FVec Ideal S64x256 .f32) (b : FVec Ideal S1x64x256 .f32) (w : FVec Ideal S1x256 .f32) : FVec Ideal S64x256 .f32 :=
  addf a (mulf (shapeCast S64x256 b shapeCasts_S1x64x256_S64x256) (broadcastTo S64x256 w broadcasts_S1x256_S64x256))

/-- The weights of tap `j` as a row. -/
def wrow (x3 : FVec Ideal S31x256 .f32) (j : ℕ) : FVec Ideal S1x256 .f32 := fun y => tapw x3 j (y 1)

/-- The first `j` taps of 64 rows. -/
def taps (A : ℕ → Fin 256 → EReal) (x3 : FVec Ideal S31x256 .f32) (n : ℕ) : ℕ → FVec Ideal S64x256 .f32
  | 0 => broadcast S64x256 (Scalar.ofBits .f32 0x00000000#32)
  | j + 1 => tap (taps A x3 n j) (rows A (n + (2 + j))) (wrow x3 j)

/-- 64 rows of the gate. -/
def seg (x2 : FVec Ideal S512x256 .bf16) (n : ℕ) : FVec Ideal S64x256 .bf16 :=
  fun y => if h : n + (y 0).val < 512 then x2 (ix2 ⟨n + (y 0).val, h⟩ (y 1)) else 0

section Block
variable (acc : FVec Ideal S64x256 .f32) (x4 x5 x6 x8 : FVec Ideal S1x256 .f32) (x7 : FVec Ideal S256x256 .bf16) (s : FVec Ideal S64x256 .bf16)

def bhc : FVec Ideal S64x256 .f32 :=
  addf acc (broadcastTo S64x256 (shapeCast S1x256 x4 shapeCasts_S1x256_S1x256) broadcasts_S1x256_S64x256)
def bmean (f : FVec Ideal S64x256 .f32) : FVec Ideal S64x1 .f32 :=
  divf (shapeCast S64x1 (multiReduction .add [1] S64 f 0x00000000#32 reduces_S64x256_S64 (.inl rfl) rfl) shapeCasts_S64_S64x1)
    (broadcast S64x1 (Scalar.ofBits .f32 0x43800000#32))
def bdev (f : FVec Ideal S64x256 .f32) : FVec Ideal S64x256 .f32 := subf f (broadcastTo S64x256 (bmean f) broadcasts_S64x1_S64x256)
def bnorm (f : FVec Ideal S64x256 .f32) : FVec Ideal S64x256 .f32 :=
  addf (mulf (mulf (bdev f) (broadcastTo S64x256 (rsqrt (addf (bmean (mulf (bdev f) (bdev f))) (broadcast S64x1 (Scalar.ofBits .f32 0x3727C5AC#32))))
      broadcasts_S64x1_S64x256)) (broadcastTo S64x256 (shapeCast S1x256 x5 shapeCasts_S1x256_S1x256) broadcasts_S1x256_S64x256))
    (broadcastTo S64x256 (shapeCast S1x256 x6 shapeCasts_S1x256_S1x256) broadcasts_S1x256_S64x256)
def bact (z : FVec Ideal S64x256 .f32) : FVec Ideal S64x256 .bf16 :=
  truncf .bf16 (mulf z (divf (broadcast S64x256 (Scalar.ofBits .f32 0x3F800000#32)) (addf (broadcast S64x256 (Scalar.ofBits .f32 0x3F800000#32))
    (exp (subf (broadcast S64x256 (Scalar.ofBits .f32 0x00000000#32)) z))))) bitsLt_bf16_f32
/-- 64 rows of the output block, out of the rows' taps. -/
def blk : FVec Ideal S64x256 .bf16 :=
  truncf .bf16 (mulf (addf (matmul dot_S64x256_S256x256_S64x256_1_0_0_1_n_n none (bact (bnorm x5 x6 (bhc acc x4)))
      (shapeCast S256x256 x7 shapeCasts_S256x256_S256x256) (constant S64x256 .f32 0x00000000#32))
    (broadcastTo S64x256 (shapeCast S1x256 x8 shapeCasts_S1x256_S1x256) broadcasts_S1x256_S64x256)) (extf .f32 s bitsLt_bf16_f32)) bitsLt_bf16_f32

theorem bnorm_apply (f : FVec Ideal S64x256 .f32) (r : Fin 64) (q : Fin 256) :
    bnorm x5 x6 f (ix2 r q) = norm (fun k => f (ix2 r k)) (fun k => x5 (ix2 0 k)) (fun k => x6 (ix2 0 k)) q := by
  pointwise [bnorm, bmean, bdev, norm, mean]

theorem blk_apply (r : Fin 64) (q : Fin 256) : blk acc x4 x5 x6 x8 x7 s (ix2 r q)
    = rest (fun k => acc (ix2 r k) + x4 (ix2 0 k)) (fun k => x5 (ix2 0 k)) (fun k => x6 (ix2 0 k)) x7 (x8 (ix2 0 q)) (s (ix2 r q)) q := by
  have hn := fun k => bnorm_apply x5 x6 (bhc acc x4) r k
  have hh : (fun k => bhc acc x4 (ix2 r k)) = fun k => acc (ix2 r k) + x4 (ix2 0 k) := by
    funext k
    pointwise [bhc]
  rw [hh] at hn
  have ha : ∀ k, bact (bnorm x5 x6 (bhc acc x4)) (ix2 r k)
      = silu (norm (fun k => acc (ix2 r k) + x4 (ix2 0 k)) (fun k => x5 (ix2 0 k)) (fun k => x6 (ix2 0 k)) k) := by
    intro k
    rw [← hn k]
    pointwise [bact, silu]
  pointwise [blk, rest]
  simp only [ha]

end Block

theorem taps_apply (A : ℕ → Fin 256 → EReal) (x3 : FVec Ideal S31x256 .f32) (n j : ℕ) (r : Fin 64) (q : Fin 256) :
    taps A x3 n j (ix2 r q) = conv A x3 (n + r.val) q j := by
  induction j with
  | zero => rfl
  | succ j ih =>
    have e : A (n + (2 + j) + r.val) q = A (n + r.val + 2 + j) q := by congr 1; omega
    show tap (taps A x3 n j) (rows A (n + (2 + j))) (wrow x3 j) (ix2 r q) = conv A x3 (n + r.val) q j + A (n + r.val + 2 + j) q * tapw x3 j q
    rw [← ih, ← e]
    pointwise [tap, rows, wrow]

theorem ld_row (x3 : FVec Ideal S31x256 .f32) (j : ℕ) (h : ∀ a, (![j, 0] : Fin 2 → ℕ) a + (![1, 256] : Fin 2 → ℕ) a ≤ S31x256.size a) :
    View.ld (Val := Elt Ideal) (e' := .f32) x3 (Rect.unit (s := S31x256) ![j, 0] ![1, 256] h) = wrow x3 j := by
  have hj : j + 1 ≤ 31 := h 0
  funext y
  have y0 : (y 0).val < 1 := (y 0).isLt
  show x3 _ = tapw x3 j (y 1)
  unfold tapw
  rw [dif_pos (by omega)]
  congr 1
  funext a; apply Fin.ext
  match a with
  | ⟨0, _⟩ => show j + 1 * (y 0).val = j; omega
  | ⟨1, _⟩ => show 0 + 1 * (y 1).val = (y 1).val; omega

theorem ld_seg (x2 : FVec Ideal S512x256 .bf16) (n : ℕ) (h : ∀ a, (![n, 0] : Fin 2 → ℕ) a + (![64, 256] : Fin 2 → ℕ) a ≤ S512x256.size a) :
    View.ld (Val := Elt Ideal) (e' := .bf16) x2 (Rect.unit (s := S512x256) ![n, 0] ![64, 256] h) = seg x2 n := by
  have hn : n + 64 ≤ 512 := h 0
  funext y
  have y0 : (y 0).val < 64 := (y 0).isLt
  show x2 _ = seg x2 n y
  unfold seg
  rw [dif_pos (by omega)]
  congr 1
  funext a; apply Fin.ext
  match a with
  | ⟨0, _⟩ => show n + 1 * (y 0).val = n + (y 0).val; omega
  | ⟨1, _⟩ => show 0 + 1 * (y 1).val = (y 1).val; omega

theorem ld_vec (x : FVec Ideal S1x256 .f32) (h : ∀ a, (![0, 0] : Fin 2 → ℕ) a + (![1, 256] : Fin 2 → ℕ) a ≤ S1x256.size a) :
    View.ld (Val := Elt Ideal) (e' := .f32) x (Rect.unit (s := S1x256) ![0, 0] ![1, 256] h) = x := by
  funext y
  show x _ = x y
  congr 1
  funext a; apply Fin.ext
  match a with
  | ⟨0, _⟩ => show 0 + 1 * (y 0).val = (y 0).val; omega
  | ⟨1, _⟩ => show 0 + 1 * (y 1).val = (y 1).val; omega

theorem ld_mat (x : FVec Ideal S256x256 .bf16) (h : ∀ a, (![0, 0] : Fin 2 → ℕ) a + (![256, 256] : Fin 2 → ℕ) a ≤ S256x256.size a) :
    View.ld (Val := Elt Ideal) (e' := .bf16) x (Rect.unit (s := S256x256) ![0, 0] ![256, 256] h) = x := by
  funext y
  show x _ = x y
  congr 1
  funext a; apply Fin.ext
  match a with
  | ⟨0, _⟩ => show 0 + 1 * (y 0).val = (y 0).val; omega
  | ⟨1, _⟩ => show 0 + 1 * (y 1).val = (y 1).val; omega

theorem ld_halo (x : FVec Ideal S32x256 .f32) (h : ∀ a, (![0, 0] : Fin 2 → ℕ) a + (![32, 256] : Fin 2 → ℕ) a ≤ S32x256.size a) :
    View.ld (Val := Elt Ideal) (e' := .f32) x (Rect.unit (s := S32x256) ![0, 0] ![32, 256] h) = x := by
  funext y
  show x _ = x y
  congr 1
  funext a; apply Fin.ext
  match a with
  | ⟨0, _⟩ => show 0 + 1 * (y 0).val = (y 0).val; omega
  | ⟨1, _⟩ => show 0 + 1 * (y 1).val = (y 1).val; omega

theorem ld_cur (x : FVec Ideal S512x256 .f32) (h : ∀ a, (![0, 0] : Fin 2 → ℕ) a + (![512, 256] : Fin 2 → ℕ) a ≤ S512x256.size a) :
    View.ld (Val := Elt Ideal) (e' := .f32) x (Rect.unit (s := S512x256) ![0, 0] ![512, 256] h) = x := by
  funext y
  show x _ = x y
  congr 1
  funext a; apply Fin.ext
  match a with
  | ⟨0, _⟩ => show 0 + 1 * (y 0).val = (y 0).val; omega
  | ⟨1, _⟩ => show 0 + 1 * (y 1).val = (y 1).val; omega

section Rows
variable (A : ℕ → Fin 256 → EReal) (x2 : FVec Ideal S512x256 .bf16) (x3 : FVec Ideal S31x256 .f32) (x4 x5 x6 x8 : FVec Ideal S1x256 .f32)
  (x7 : FVec Ideal S256x256 .bf16)

/-- The 64 rows from `n` on are those of the whole block's value. -/
theorem blk_G (n : ℕ) (h : ∀ a, (![n, 0] : Fin 2 → ℕ) a + (![64, 256] : Fin 2 → ℕ) a ≤ S512x256.size a) (x : S64x256.Idx) :
    blk (taps A x3 n 31) x4 x5 x6 x8 x7 (seg x2 n) x
      = G A x2 x3 x4 x5 x6 x7 x8 ((Rect.unit (s := S512x256) ![n, 0] ![64, 256] h).emb x) := by
  have hn : n + 64 ≤ 512 := h 0
  obtain ⟨r, q, rfl⟩ : ∃ (r : Fin 64) (q : Fin 256), x = ix2 r q := ⟨x 0, x 1, eq_ix2 x⟩
  have e : (Rect.unit (s := S512x256) ![n, 0] ![64, 256] h).emb (ix2 r q) = (ix2 (⟨n + r.val, by omega⟩ : Fin 512) q : S512x256.Idx) := by
    funext a; apply Fin.ext
    match a with
    | ⟨0, _⟩ => show n + 1 * r.val = n + r.val; omega
    | ⟨1, _⟩ => show 0 + 1 * q.val = q.val; omega
  rw [e, blk_apply]
  have hs : seg x2 n (ix2 r q) = x2 (ix2 (⟨n + r.val, by omega⟩ : Fin 512) q) := by
    show (if h : n + r.val < 512 then x2 (ix2 ⟨n + r.val, h⟩ q) else 0) = _
    rw [dif_pos (by omega)]
  rw [hs]
  simp only [taps_apply]
  rfl

theorem canon8 (w0 w1 w2 w3 w4 w5 w6 w7 : FVec Ideal S64x256 .bf16)
    (h0 : w0 = blk (taps A x3 0 31) x4 x5 x6 x8 x7 (seg x2 0))
    (h1 : w1 = blk (taps A x3 64 31) x4 x5 x6 x8 x7 (seg x2 64))
    (h2 : w2 = blk (taps A x3 128 31) x4 x5 x6 x8 x7 (seg x2 128))
    (h3 : w3 = blk (taps A x3 192 31) x4 x5 x6 x8 x7 (seg x2 192))
    (h4 : w4 = blk (taps A x3 256 31) x4 x5 x6 x8 x7 (seg x2 256))
    (h5 : w5 = blk (taps A x3 320 31) x4 x5 x6 x8 x7 (seg x2 320))
    (h6 : w6 = blk (taps A x3 384 31) x4 x5 x6 x8 x7 (seg x2 384))
    (h7 : w7 = blk (taps A x3 448 31) x4 x5 x6 x8 x7 (seg x2 448))
    : View.canon (Val := Elt Ideal) ([⟨(Rect.unit (s := S512x256) ![448, 0] ![64, 256] inb_S512x256_S64x256_448_0), w7⟩, ⟨(Rect.unit (s := S512x256) ![384, 0] ![64, 256] inb_S512x256_S64x256_384_0), w6⟩, ⟨(Rect.unit (s := S512x256) ![320, 0] ![64, 256] inb_S512x256_S64x256_320_0), w5⟩, ⟨(Rect.unit (s := S512x256) ![256, 0] ![64, 256] inb_S512x256_S64x256_256_0), w4⟩, ⟨(Rect.unit (s := S512x256) ![192, 0] ![64, 256] inb_S512x256_S64x256_192_0), w3⟩, ⟨(Rect.unit (s := S512x256) ![128, 0] ![64, 256] inb_S512x256_S64x256_128_0), w2⟩, ⟨(Rect.unit (s := S512x256) ![64, 0] ![64, 256] inb_S512x256_S64x256_64_0), w1⟩, ⟨(Rect.unit (s := S512x256) ![0, 0] ![64, 256] inb_S512x256_S64x256_0_0), w0⟩] : List (View.Piece (Elt Ideal) S512x256 .bf16))
      = G A x2 x3 x4 x5 x6 x7 x8 := by
  funext y
  refine View.canon_apply_of_pieces _ _ ?_ y ?_
  · simp only [List.forall_mem_cons]
    subst h0 h1 h2 h3 h4 h5 h6 h7
    exact ⟨blk_G A x2 x3 x4 x5 x6 x8 x7 448 _, blk_G A x2 x3 x4 x5 x6 x8 x7 384 _, blk_G A x2 x3 x4 x5 x6 x8 x7 320 _, blk_G A x2 x3 x4 x5 x6 x8 x7 256 _, blk_G A x2 x3 x4 x5 x6 x8 x7 192 _, blk_G A x2 x3 x4 x5 x6 x8 x7 128 _, blk_G A x2 x3 x4 x5 x6 x8 x7 64 _, blk_G A x2 x3 x4 x5 x6 x8 x7 0 _, fun p hp => absurd hp List.not_mem_nil⟩
  · have y0 : (y 0).val < 512 := (y 0).isLt
    have y1 : (y 1).val < 256 := (y 1).isLt
    have hm : ∀ (n : ℕ) (h : ∀ a, (![n, 0] : Fin 2 → ℕ) a + (![64, 256] : Fin 2 → ℕ) a ≤ S512x256.size a), n ≤ (y 0).val → (y 0).val < n + 64 →
        y ∈ (Rect.unit (s := S512x256) ![n, 0] ![64, 256] h).set := fun n h a b => Rect.mem_set_unit.2 fun c => by
      match c with
      | ⟨0, _⟩ => exact ⟨a, b⟩
      | ⟨1, _⟩ => exact ⟨Nat.zero_le _, by show (y 1).val < 0 + 256; omega⟩
    simp only [List.exists_mem_cons_iff]
    have hc : (448 ≤ (y 0).val ∧ (y 0).val < 448 + 64) ∨ (384 ≤ (y 0).val ∧ (y 0).val < 384 + 64) ∨ (320 ≤ (y 0).val ∧ (y 0).val < 320 + 64) ∨ (256 ≤ (y 0).val ∧ (y 0).val < 256 + 64) ∨ (192 ≤ (y 0).val ∧ (y 0).val < 192 + 64) ∨ (128 ≤ (y 0).val ∧ (y 0).val < 128 + 64) ∨ (64 ≤ (y 0).val ∧ (y 0).val < 64 + 64) ∨ (0 ≤ (y 0).val ∧ (y 0).val < 0 + 64) := by omega
    rcases hc with h | h | h | h | h | h | h | h
    · exact Or.inl (hm 448 _ h.1 h.2)
    · exact Or.inr (Or.inl (hm 384 _ h.1 h.2))
    · exact Or.inr (Or.inr (Or.inl (hm 320 _ h.1 h.2)))
    · exact Or.inr (Or.inr (Or.inr (Or.inl (hm 256 _ h.1 h.2))))
    · exact Or.inr (Or.inr (Or.inr (Or.inr (Or.inl (hm 192 _ h.1 h.2)))))
    · exact Or.inr (Or.inr (Or.inr (Or.inr (Or.inr (Or.inl (hm 128 _ h.1 h.2))))))
    · exact Or.inr (Or.inr (Or.inr (Or.inr (Or.inr (Or.inr (Or.inl (hm 64 _ h.1 h.2)))))))
    · exact Or.inr (Or.inr (Or.inr (Or.inr (Or.inr (Or.inr (Or.inr (Or.inl (hm 0 _ h.1 h.2))))))))

end Rows

end Cert.ConvIdeal.Whole

end
-- ==== Proof.ConvRun.lean ====
module

public import proofs.«01_k».proof.Proof.ConvBody

@[expose] public section

noncomputable section

namespace Cert.ConvIdeal.Whole

open Cert.ConvIdeal Cert.ConvIdeal.Gen Idealize.ShloMosaic Idealize.ShloMosaic.TcCoe Idealize.SL.Sem
open Idealize.ShloMosaic.Pipeline (Dat)

set_option maxHeartbeats 8000000 in
set_option maxRecDepth 100000 in
/-- What the body leaves in its output block, of what its input blocks hold. -/
theorem out_eq (c : Dev nD) (i : grid0.Coords) (a1 : Memref sig .tc .vmem S512x256 .f32) (h1 : a1.IsWhole) (a2 : Memref sig .tc .vmem S32x256 .f32) (h2 : a2.IsWhole) (a3 : Memref sig .tc .vmem S512x256 .bf16) (h3 : a3.IsWhole) (a4 : Memref sig .tc .vmem S31x256 .f32) (h4 : a4.IsWhole) (a5 : Memref sig .tc .vmem S1x256 .f32) (h5 : a5.IsWhole) (a6 : Memref sig .tc .vmem S1x256 .f32) (h6 : a6.IsWhole) (a7 : Memref sig .tc .vmem S1x256 .f32) (h7 : a7.IsWhole) (a8 : Memref sig .tc .vmem S256x256 .bf16) (h8 : a8.IsWhole) (a9 : Memref sig .tc .vmem S1x256 .f32) (h9 : a9.IsWhole) (a10 : Memref sig .tc .vmem S512x256 .bf16) (h10 : a10.IsWhole) (a11 : Memref sig .tc .vmem S8x544x256 .f32) (h11 : a11.IsWhole)
    (x0 : Vec Ideal S512x256 .f32) (x1 : Vec Ideal S32x256 .f32) (x2 : Vec Ideal S512x256 .bf16) (x3 : Vec Ideal S31x256 .f32) (x4 : Vec Ideal S1x256 .f32) (x5 : Vec Ideal S1x256 .f32) (x6 : Vec Ideal S1x256 .f32) (x7 : Vec Ideal S256x256 .bf16) (x8 : Vec Ideal S1x256 .f32) :
    out0_A_9 c i a1 h1 a2 h2 a3 h3 a4 h4 a5 h5 a6 h6 a7 h7 a8 h8 a9 h9 a10 h10 a11 h11 x0 x1 x2 x3 x4 x5 x6 x7 x8 = G (row i x0 x1) x2 x3 x4 x5 x6 x7 x8 := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread]
  simp only [ld_halo, ld_cur, ld_vec, ld_mat, ld_row, ld_seg, pay2_before i x0 x1, pay3_own i x0 x1]
  simp only [cov1, pay4_plane]
  simp only [cov2, pay5_plane]
  simp only [cov3, pay76_plane]
  simp only [cov4, pay8_plane]
  simp only [cov5, pay9_plane]
  simp only [cov6, pay10_plane]
  simp only [cov7, pay11_plane]
  simp (discharger := decide) only [cov_at]
  exact canon8 _ x2 x3 x4 x5 x6 x8 x7 _ _ _ _ _ _ _ _ rfl rfl rfl rfl rfl rfl rfl rfl

end Cert.ConvIdeal.Whole

end
-- ==== Proof.ConvFinal.lean ====
module

public import proofs.«01_k».proof.Proof.ConvRun
public import proofs.«01_k».proof.Proof.Gen.RefConvIdeal.Read
public import Idealize.ShloMosaic.Lib.StableHlo.ReadAt

@[expose] public section

noncomputable section

namespace Cert.ConvIdeal.Whole

open Cert.ConvIdeal Cert.ConvIdeal.Gen Cert.ConvIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 16 * t.val - 1 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
/-- The block's place in its sequence. -/
theorem place : ∀ t : Fin cfg0.N, ((grid0.coords t) 1).val = t.val % 16 :=
  (by decide +kernel : ∀ t : Fin grid0.N, _)

/-- Row `r` of block `t`, as a row of the whole array. -/
def rowOf (t : Fin cfg0.N) (r : Fin 512) : Fin 32768 := ⟨512 * t.val + r.val, by
  have h : t.val < 64 := t.isLt
  omega⟩

/-- Row `r` of the 32 before block `t`. -/
def haloOf (t : Fin cfg0.N) (r : Fin 32) : Fin 32768 := ⟨32 * (16 * t.val - 1) + r.val, by
  have h : t.val < 64 := t.isLt
  omega⟩

theorem emb0 (t : Fin cfg0.N) (r : Fin 512) (k : Fin 256) : ((cfg0.win 0).blk t).view.emb (ix2 r k) = ix2 (rowOf t r) k := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 256 + 1 * k.val = k.val; omega
theorem emb2 (t : Fin cfg0.N) (r : Fin 512) (k : Fin 256) : ((cfg0.win 2).blk t).view.emb (ix2 r k) = ix2 (rowOf t r) k := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 256 + 1 * k.val = k.val; omega
theorem emb9 (t : Fin cfg0.N) (r : Fin 512) (k : Fin 256) : ((cfg0.win 9).blk t).view.emb (ix2 r k) = ix2 (rowOf t r) k := by
  obtain ⟨e0, e1⟩ := idx9 t
  funext a; apply Fin.ext
  match a with
  | ⟨0, _⟩ => show win0_9.index t (0 : Fin 2) * 512 + 1 * r.val = 512 * t.val + r.val; omega
  | ⟨1, _⟩ => show win0_9.index t (1 : Fin 2) * 256 + 1 * k.val = k.val; omega
theorem emb1 (t : Fin cfg0.N) (r : Fin 32) (k : Fin 256) : ((cfg0.win 1).blk t).view.emb (ix2 r k) = ix2 (haloOf t r) k := by
  obtain ⟨e0, e1⟩ := idx1 t
  funext a; apply Fin.ext
  match a with
  | ⟨0, _⟩ => show win0_1.index t (0 : Fin 2) * 32 + 1 * r.val = 32 * (16 * t.val - 1) + r.val; omega
  | ⟨1, _⟩ => show win0_1.index t (1 : Fin 2) * 256 + 1 * k.val = k.val; omega
theorem emb3 (t : Fin cfg0.N) (j : S31x256.Idx) : ((cfg0.win 3).blk t).view.emb j = j := by
  obtain ⟨e0, e1⟩ := idx3 t
  funext a; apply Fin.ext
  match a with
  | ⟨0, _⟩ => show win0_3.index t (0 : Fin 2) * 31 + 1 * (j 0).val = (j 0).val; omega
  | ⟨1, _⟩ => show win0_3.index t (1 : Fin 2) * 256 + 1 * (j 1).val = (j 1).val; omega
theorem emb4 (t : Fin cfg0.N) (j : S1x256.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega
theorem emb5 (t : Fin cfg0.N) (j : S1x256.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 256 + 1 * (j 1).val = (j 1).val; omega
theorem emb6 (t : Fin cfg0.N) (j : S1x256.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega
theorem emb7 (t : Fin cfg0.N) (j : S256x256.Idx) : ((cfg0.win 7).blk t).view.emb j = j := by
  obtain ⟨e0, e1⟩ := idx7 t
  funext a; apply Fin.ext
  match a with
  | ⟨0, _⟩ => show win0_7.index t (0 : Fin 2) * 256 + 1 * (j 0).val = (j 0).val; omega
  | ⟨1, _⟩ => show win0_7.index t (1 : Fin 2) * 256 + 1 * (j 1).val = (j 1).val; omega
theorem emb8 (t : Fin cfg0.N) (j : S1x256.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega
/-- The bias of the convolution as the launch finds it. -/
theorem V_0 (c : Dev nD) (q : Fin 256) : V m c main_v0 (ix2 0 q) = m ((c : Thread nD τ).loc main_arg3) (ix1 q) := by
  unfold V
  after_reads_at
/-- The scale of the normalisation as the launch finds it. -/
theorem V_1 (c : Dev nD) (q : Fin 256) : V m c main_v1 (ix2 0 q) = m ((c : Thread nD τ).loc main_arg4) (ix1 q) := by
  unfold V
  after_reads_at
/-- The shift of the normalisation as the launch finds it. -/
theorem V_2 (c : Dev nD) (q : Fin 256) : V m c main_v2 (ix2 0 q) = m ((c : Thread nD τ).loc main_arg5) (ix1 q) := by
  unfold V
  after_reads_at
/-- The bias of the pointwise product as the launch finds it. -/
theorem V_4 (c : Dev nD) (q : Fin 256) : V m c main_v4 (ix2 0 q) = m ((c : Thread nD τ).loc main_arg7) (ix1 q) := by
  unfold V
  after_reads_at
/-- The pointwise weights as the launch finds them: the argument, its cast being the identity. -/
theorem V_3 (c : Dev nD) : V m c main_v3 = (m ((c : Thread nD τ).loc main_arg6) : Vec Ideal S256x256 .f32) := by
  unfold V
  funext j
  after_reads_at

/-- Sequence `b` with 32 zero rows before it. -/
def padded (a0 : Vec Ideal S32768x256 .f32) (b : Fin 4) (n : ℕ) (q : Fin 256) : EReal :=
  if n < 32 then 0 else if h : n - 32 < 8192 then a0 (ix2 ⟨8192 * b.val + (n - 32), by omega⟩ q) else 0

/-- The result array as a function of the argument arrays. -/
def res (a0 : Vec Ideal S32768x256 .f32) (a1 : Vec Ideal S32768x256 .bf16) (a2 : Vec Ideal S31x256 .f32) (a3 a4 a5 : Vec Ideal S256 .f32)
    (a6 : Vec Ideal S256x256 .f32) (a7 : Vec Ideal S256 .f32) : Vec Ideal S32768x256 .bf16 :=
  fun y => rest (fun k => conv (padded a0 ⟨(y (0 : Fin 2)).val / 8192, by have h : (y (0 : Fin 2)).val < 32768 := (y (0 : Fin 2)).isLt; omega⟩) a2 ((y (0 : Fin 2)).val % 8192) k 31 + a3 (ix1 k))
    (fun k => a4 (ix1 k)) (fun k => a5 (ix1 k)) a6 (a7 (ix1 (y (1 : Fin 2)))) (a1 (ix2 (y (0 : Fin 2)) (y (1 : Fin 2)))) (y (1 : Fin 2))

/-- The result on the memory the run starts from. -/
abbrev resM (c : Dev nD) : Vec Ideal S32768x256 .bf16 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem iblk0 (c : Dev nD) (t : Fin cfg0.N) (r : Fin 512) (k : Fin 256) : iblk m c 0 t (ix2 r k) = m ((c : Thread nD τ).loc main_arg0) (ix2 (rowOf t r) k) := by
  show V m c main_arg0 (((cfg0.win 0).blk t).view.emb (ix2 r k)) = _
  rw [emb0, V_main_arg0]
theorem iblk1 (c : Dev nD) (t : Fin cfg0.N) (r : Fin 32) (k : Fin 256) : iblk m c 1 t (ix2 r k) = m ((c : Thread nD τ).loc main_arg0) (ix2 (haloOf t r) k) := by
  show V m c main_arg0 (((cfg0.win 1).blk t).view.emb (ix2 r k)) = _
  rw [emb1, V_main_arg0]
theorem iblk2 (c : Dev nD) (t : Fin cfg0.N) (r : Fin 512) (k : Fin 256) : iblk m c 2 t (ix2 r k) = m ((c : Thread nD τ).loc main_arg1) (ix2 (rowOf t r) k) := by
  show V m c main_arg1 (((cfg0.win 2).blk t).view.emb (ix2 r k)) = _
  rw [emb2, V_main_arg1]
theorem iblk3 (c : Dev nD) (t : Fin cfg0.N) : iblk m c 3 t = m ((c : Thread nD τ).loc main_arg2) := by
  funext j
  show V m c main_arg2 (((cfg0.win 3).blk t).view.emb j) = _
  rw [emb3, V_main_arg2]
theorem iblk7 (c : Dev nD) (t : Fin cfg0.N) : iblk m c 7 t = (m ((c : Thread nD τ).loc main_arg6) : Vec Ideal S256x256 .f32) := by
  funext j
  show V m c main_v3 (((cfg0.win 7).blk t).view.emb j) = _
  rw [emb7, V_3]
theorem iblk4 (c : Dev nD) (t : Fin cfg0.N) (q : Fin 256) : iblk m c 4 t (ix2 0 q) = m ((c : Thread nD τ).loc main_arg3) (ix1 q) := by
  show V m c main_v0 (((cfg0.win 4).blk t).view.emb (ix2 0 q)) = _
  rw [emb4, V_0]
theorem iblk5 (c : Dev nD) (t : Fin cfg0.N) (q : Fin 256) : iblk m c 5 t (ix2 0 q) = m ((c : Thread nD τ).loc main_arg4) (ix1 q) := by
  show V m c main_v1 (((cfg0.win 5).blk t).view.emb (ix2 0 q)) = _
  rw [emb5, V_1]
theorem iblk6 (c : Dev nD) (t : Fin cfg0.N) (q : Fin 256) : iblk m c 6 t (ix2 0 q) = m ((c : Thread nD τ).loc main_arg5) (ix1 q) := by
  show V m c main_v2 (((cfg0.win 6).blk t).view.emb (ix2 0 q)) = _
  rw [emb6, V_2]
theorem iblk8 (c : Dev nD) (t : Fin cfg0.N) (q : Fin 256) : iblk m c 8 t (ix2 0 q) = m ((c : Thread nD τ).loc main_arg7) (ix1 q) := by
  show V m c main_v4 (((cfg0.win 8).blk t).view.emb (ix2 0 q)) = _
  rw [emb8, V_4]

/-- The taps read only the rows of their window. -/
theorem conv_congr (A B : ℕ → Fin 256 → EReal) (w : FVec Ideal S31x256 .f32) (n n' : ℕ) (q : Fin 256) (j : ℕ)
    (h : ∀ k, k < j → A (n + 2 + k) q = B (n' + 2 + k) q) : conv A w n q j = conv B w n' q j := by
  induction j with
  | zero => rfl
  | succ j ih =>
    show conv A w n q j + A (n + 2 + j) q * tapw w j q = conv B w n' q j + B (n' + 2 + j) q * tapw w j q
    rw [ih fun k hk => h k (Nat.lt_succ_of_lt hk), h j (Nat.lt_succ_self j)]

/-- The rows a block's body reads are those of its sequence. -/
theorem row_eq (c : Dev nD) (t : Fin cfg0.N) (b : Fin 4) (hb : t.val / 16 = b.val) (n : ℕ) (hn : n < 544) (q : Fin 256) :
    row (grid0.coords t) (iblk m c 0 t) (iblk m c 1 t) n q = padded (m ((c : Thread nD τ).loc main_arg0)) b (512 * (t.val % 16) + n) q := by
  have ht : t.val < 64 := t.isLt
  unfold row padded
  rw [place t]
  by_cases h1 : n < 32
  · rw [dif_pos h1]
    by_cases h2 : t.val % 16 = 0
    · rw [if_pos h2, if_pos (by omega)]
    · rw [if_neg h2, if_neg (by omega), dif_pos (by omega), iblk1]
      congr 2
      apply Fin.ext
      show 32 * (16 * t.val - 1) + n = 8192 * b.val + (512 * (t.val % 16) + n - 32)
      omega
  · rw [dif_neg h1, dif_pos (by omega), if_neg (by omega), dif_pos (by omega), iblk0]
    congr 2
    apply Fin.ext
    show 512 * t.val + (n - 32) = 8192 * b.val + (512 * (t.val % 16) + n - 32)
    omega

/-- What a grid point writes back is its block of the result. -/
theorem flushed_eq (c : Dev nD) (t : Fin cfg0.N) :
    (dats m 0 c).flushed 9 t = ((cfg0.win 9).blk t).view.read (Elt Ideal) (resM m c) := by
  rw [flushed9_A, out_eq]
  funext j
  obtain ⟨r, q, rfl⟩ : ∃ (r : Fin 512) (q : Fin 256), j = ix2 r q := ⟨j 0, j 1, eq_ix2 j⟩
  show G _ _ _ _ _ _ _ _ (ix2 r q) = resM m c (((cfg0.win 9).blk t).view.emb (ix2 r q))
  rw [emb9]
  have ht : t.val < 64 := t.isLt
  have hr : 512 * t.val + r.val < 32768 := (rowOf t r).isLt
  have hc : (fun k => conv (row (grid0.coords t) (iblk m c 0 t) (iblk m c 1 t)) (iblk m c 3 t) r.val k 31 + iblk m c 4 t (ix2 0 k))
      = fun k => conv (padded (m ((c : Thread nD τ).loc main_arg0)) ⟨(rowOf t r).val / 8192, by omega⟩) (m ((c : Thread nD τ).loc main_arg2))
          ((rowOf t r).val % 8192) k 31 + m ((c : Thread nD τ).loc main_arg3) (ix1 k) := by
    funext k
    rw [iblk4, iblk3]
    refine congrArg (· + _) (conv_congr _ _ _ _ _ _ _ fun l hl => ?_)
    rw [row_eq m c t ⟨(rowOf t r).val / 8192, by omega⟩ (by show t.val / 16 = (512 * t.val + r.val) / 8192; omega) _ (by omega)]
    congr 1
    show 512 * (t.val % 16) + (r.val + 2 + l) = (512 * t.val + r.val) % 8192 + 2 + l
    omega
  show rest (fun k => conv (row (grid0.coords t) (iblk m c 0 t) (iblk m c 1 t)) (iblk m c 3 t) r.val k 31 + iblk m c 4 t (ix2 0 k))
      (fun k => iblk m c 5 t (ix2 0 k)) (fun k => iblk m c 6 t (ix2 0 k)) (iblk m c 7 t) (iblk m c 8 t (ix2 0 q)) (iblk m c 2 t (ix2 r q)) q = _
  rw [hc, funext (iblk5 m c t), funext (iblk6 m c t), iblk7, iblk8, iblk2]
  rfl

theorem covered (i : S32768x256.Idx) : ∃ t : Fin cfg0.N, (cfg0.win 9).flush t = true ∧ i ∈ ((cfg0.win 9).blk t).view.set := by
  obtain ⟨p, q, rfl⟩ : ∃ (p : Fin 32768) (q : Fin 256), i = ix2 p q := ⟨i 0, i 1, eq_ix2 i⟩
  have ht : p.val / 512 < cfg0.N := by show _ < 64; omega
  refine ⟨⟨p.val / 512, ht⟩, flush0_9 _, ?_⟩
  have h := ((cfg0.win 9).blk ⟨p.val / 512, ht⟩).view.emb_mem_set (ix2 (⟨p.val % 512, by omega⟩ : Fin 512) q)
  have e : rowOf ⟨p.val / 512, ht⟩ ⟨p.val % 512, by omega⟩ = p := Fin.ext (by show 512 * (p.val / 512) + p.val % 512 = p.val; omega)
  have h2 := emb9 ⟨p.val / 512, ht⟩ ⟨p.val % 512, by omega⟩ q
  rw [e] at h2
  exact h2 ▸ h

theorem final (c : Dev nD) : (dats m 0 c).arrAt 9 cfg0.N = resM m c :=
  (dats m 0 c).arrAt_eq_of_cover 9 (resM m c) (fun t _ => flushed_eq m c t) covered

end Cert.ConvIdeal.Whole

namespace Cert.RefConvIdeal.Whole

open Cert.RefConvIdeal Cert.RefConvIdeal.Gen Cert.RefConvIdeal.Read Idealize.ShloMosaic Idealize.ShloMosaic.TcCoe Idealize.SL.Sem
open Cert.ConvIdeal.Whole (tapw conv mean norm silu rest padded res)

variable (a0 : Vec Ideal S32768x256 .f32) (a1 : Vec Ideal S32768x256 .bf16) (a2 : Vec Ideal S31x256 .f32) (a3 a4 a5 : Vec Ideal S256 .f32)
    (a6 : Vec Ideal S256x256 .f32) (a7 : Vec Ideal S256 .f32)

/-- The padded sequences: 30 zero rows, then the sequence. -/
theorem pad_apply (b : Fin 4) (u : Fin 8222) (q : Fin 256) : val_main_v1 (F := Ideal) a0 (ix3 b u q) = padded a0 b (u.val + 2) q := by
  pointwise [val_main_v1, val_main_v0, val_main_call0_v0, val_main_c, padded]
  have h0 : (FloatOps.sitofp (F := Ideal) .f32 0#32 : EReal) = 0 := by
    show (((0#32 : BitVec 32).toInt : ℝ) : EReal) = 0
    simp
  have hu : u.val < 8222 := u.isLt
  by_cases h : 30 ≤ u.val
  · rw [dif_pos ⟨h, by omega⟩, if_neg (by omega), dif_pos (by omega)]
    congr 2
    apply Fin.ext
    show b.val * 8192 + (u.val - 30) = 8192 * b.val + (u.val + 2 - 32)
    omega
  · rw [dif_neg (fun h' => h h'.1), if_pos (by omega)]
    exact h0

/-- The taps, one more of them. -/
theorem conv_succ (A : ℕ → Fin 256 → EReal) (w : FVec Ideal S31x256 .f32) (n : ℕ) (q : Fin 256) (j : ℕ) (hj : j < 31) :
    conv A w n q (j + 1) = conv A w n q j + A (j + n + 2) q * w (ix2 ⟨j, hj⟩ q) := by
  show conv A w n q j + A (n + 2 + j) q * tapw w j q = _
  unfold tapw
  rw [dif_pos hj, show n + 2 + j = j + n + 2 by omega]

/-- The first tap. -/
theorem conv_first (A : ℕ → Fin 256 → EReal) (w : FVec Ideal S31x256 .f32) (n : ℕ) (q : Fin 256) :
    conv A w n q 1 = A (n + 2) q * w (ix2 0 q) := by
  have h0 : conv A w n q 0 = 0 := Ideal.ofBits_zero_f32
  rw [conv_succ A w n q 0 (by decide), h0, zero_add, show 0 + n + 2 = n + 2 by omega]
  rfl

theorem tap0 (b : Fin 4) (t : Fin 8192) (q : Fin 256) : val_main_v9 (F := Ideal) a0 a2 (ix3 b t q) = conv (padded a0 b) a2 t.val q 1 := by
  pointwise [val_main_v9, val_main_v8, val_main_v7, val_main_v6, val_main_v5, val_main_v4, val_main_v3, val_main_v2, val_main_cst]
  rw [pad_apply]
  exact (conv_first _ _ _ _).symm
theorem tap1 (b : Fin 4) (t : Fin 8192) (q : Fin 256) : val_main_v16 (F := Ideal) a0 a2 (ix3 b t q) = conv (padded a0 b) a2 t.val q 2 := by
  pointwise [val_main_v16, val_main_v15, val_main_v14, val_main_v13, val_main_v12, val_main_v11, val_main_v10]
  rw [tap0, pad_apply]
  exact (conv_succ _ _ _ _ 1 (by decide)).symm
theorem tap2 (b : Fin 4) (t : Fin 8192) (q : Fin 256) : val_main_v23 (F := Ideal) a0 a2 (ix3 b t q) = conv (padded a0 b) a2 t.val q 3 := by
  pointwise [val_main_v23, val_main_v22, val_main_v21, val_main_v20, val_main_v19, val_main_v18, val_main_v17]
  rw [tap1, pad_apply]
  exact (conv_succ _ _ _ _ 2 (by decide)).symm
theorem tap3 (b : Fin 4) (t : Fin 8192) (q : Fin 256) : val_main_v30 (F := Ideal) a0 a2 (ix3 b t q) = conv (padded a0 b) a2 t.val q 4 := by
  pointwise [val_main_v30, val_main_v29, val_main_v28, val_main_v27, val_main_v26, val_main_v25, val_main_v24]
  rw [tap2, pad_apply]
  exact (conv_succ _ _ _ _ 3 (by decide)).symm
theorem tap4 (b : Fin 4) (t : Fin 8192) (q : Fin 256) : val_main_v37 (F := Ideal) a0 a2 (ix3 b t q) = conv (padded a0 b) a2 t.val q 5 := by
  pointwise [val_main_v37, val_main_v36, val_main_v35, val_main_v34, val_main_v33, val_main_v32, val_main_v31]
  rw [tap3, pad_apply]
  exact (conv_succ _ _ _ _ 4 (by decide)).symm
theorem tap5 (b : Fin 4) (t : Fin 8192) (q : Fin 256) : val_main_v44 (F := Ideal) a0 a2 (ix3 b t q) = conv (padded a0 b) a2 t.val q 6 := by
  pointwise [val_main_v44, val_main_v43, val_main_v42, val_main_v41, val_main_v40, val_main_v39, val_main_v38]
  rw [tap4, pad_apply]
  exact (conv_succ _ _ _ _ 5 (by decide)).symm
theorem tap6 (b : Fin 4) (t : Fin 8192) (q : Fin 256) : val_main_v51 (F := Ideal) a0 a2 (ix3 b t q) = conv (padded a0 b) a2 t.val q 7 := by
  pointwise [val_main_v51, val_main_v50, val_main_v49, val_main_v48, val_main_v47, val_main_v46, val_main_v45]
  rw [tap5, pad_apply]
  exact (conv_succ _ _ _ _ 6 (by decide)).symm
theorem tap7 (b : Fin 4) (t : Fin 8192) (q : Fin 256) : val_main_v58 (F := Ideal) a0 a2 (ix3 b t q) = conv (padded a0 b) a2 t.val q 8 := by
  pointwise [val_main_v58, val_main_v57, val_main_v56, val_main_v55, val_main_v54, val_main_v53, val_main_v52]
  rw [tap6, pad_apply]
  exact (conv_succ _ _ _ _ 7 (by decide)).symm
theorem tap8 (b : Fin 4) (t : Fin 8192) (q : Fin 256) : val_main_v65 (F := Ideal) a0 a2 (ix3 b t q) = conv (padded a0 b) a2 t.val q 9 := by
  pointwise [val_main_v65, val_main_v64, val_main_v63, val_main_v62, val_main_v61, val_main_v60, val_main_v59]
  rw [tap7, pad_apply]
  exact (conv_succ _ _ _ _ 8 (by decide)).symm
theorem tap9 (b : Fin 4) (t : Fin 8192) (q : Fin 256) : val_main_v72 (F := Ideal) a0 a2 (ix3 b t q) = conv (padded a0 b) a2 t.val q 10 := by
  pointwise [val_main_v72, val_main_v71, val_main_v70, val_main_v69, val_main_v68, val_main_v67, val_main_v66]
  rw [tap8, pad_apply]
  exact (conv_succ _ _ _ _ 9 (by decide)).symm
theorem tap10 (b : Fin 4) (t : Fin 8192) (q : Fin 256) : val_main_v79 (F := Ideal) a0 a2 (ix3 b t q) = conv (padded a0 b) a2 t.val q 11 := by
  pointwise [val_main_v79, val_main_v78, val_main_v77, val_main_v76, val_main_v75, val_main_v74, val_main_v73]
  rw [tap9, pad_apply]
  exact (conv_succ _ _ _ _ 10 (by decide)).symm
theorem tap11 (b : Fin 4) (t : Fin 8192) (q : Fin 256) : val_main_v86 (F := Ideal) a0 a2 (ix3 b t q) = conv (padded a0 b) a2 t.val q 12 := by
  pointwise [val_main_v86, val_main_v85, val_main_v84, val_main_v83, val_main_v82, val_main_v81, val_main_v80]
  rw [tap10, pad_apply]
  exact (conv_succ _ _ _ _ 11 (by decide)).symm
theorem tap12 (b : Fin 4) (t : Fin 8192) (q : Fin 256) : val_main_v93 (F := Ideal) a0 a2 (ix3 b t q) = conv (padded a0 b) a2 t.val q 13 := by
  pointwise [val_main_v93, val_main_v92, val_main_v91, val_main_v90, val_main_v89, val_main_v88, val_main_v87]
  rw [tap11, pad_apply]
  exact (conv_succ _ _ _ _ 12 (by decide)).symm
theorem tap13 (b : Fin 4) (t : Fin 8192) (q : Fin 256) : val_main_v100 (F := Ideal) a0 a2 (ix3 b t q) = conv (padded a0 b) a2 t.val q 14 := by
  pointwise [val_main_v100, val_main_v99, val_main_v98, val_main_v97, val_main_v96, val_main_v95, val_main_v94]
  rw [tap12, pad_apply]
  exact (conv_succ _ _ _ _ 13 (by decide)).symm
theorem tap14 (b : Fin 4) (t : Fin 8192) (q : Fin 256) : val_main_v107 (F := Ideal) a0 a2 (ix3 b t q) = conv (padded a0 b) a2 t.val q 15 := by
  pointwise [val_main_v107, val_main_v106, val_main_v105, val_main_v104, val_main_v103, val_main_v102, val_main_v101]
  rw [tap13, pad_apply]
  exact (conv_succ _ _ _ _ 14 (by decide)).symm
theorem tap15 (b : Fin 4) (t : Fin 8192) (q : Fin 256) : val_main_v114 (F := Ideal) a0 a2 (ix3 b t q) = conv (padded a0 b) a2 t.val q 16 := by
  pointwise [val_main_v114, val_main_v113, val_main_v112, val_main_v111, val_main_v110, val_main_v109, val_main_v108]
  rw [tap14, pad_apply]
  exact (conv_succ _ _ _ _ 15 (by decide)).symm
theorem tap16 (b : Fin 4) (t : Fin 8192) (q : Fin 256) : val_main_v121 (F := Ideal) a0 a2 (ix3 b t q) = conv (padded a0 b) a2 t.val q 17 := by
  pointwise [val_main_v121, val_main_v120, val_main_v119, val_main_v118, val_main_v117, val_main_v116, val_main_v115]
  rw [tap15, pad_apply]
  exact (conv_succ _ _ _ _ 16 (by decide)).symm
theorem tap17 (b : Fin 4) (t : Fin 8192) (q : Fin 256) : val_main_v128 (F := Ideal) a0 a2 (ix3 b t q) = conv (padded a0 b) a2 t.val q 18 := by
  pointwise [val_main_v128, val_main_v127, val_main_v126, val_main_v125, val_main_v124, val_main_v123, val_main_v122]
  rw [tap16, pad_apply]
  exact (conv_succ _ _ _ _ 17 (by decide)).symm
theorem tap18 (b : Fin 4) (t : Fin 8192) (q : Fin 256) : val_main_v135 (F := Ideal) a0 a2 (ix3 b t q) = conv (padded a0 b) a2 t.val q 19 := by
  pointwise [val_main_v135, val_main_v134, val_main_v133, val_main_v132, val_main_v131, val_main_v130, val_main_v129]
  rw [tap17, pad_apply]
  exact (conv_succ _ _ _ _ 18 (by decide)).symm
theorem tap19 (b : Fin 4) (t : Fin 8192) (q : Fin 256) : val_main_v142 (F := Ideal) a0 a2 (ix3 b t q) = conv (padded a0 b) a2 t.val q 20 := by
  pointwise [val_main_v142, val_main_v141, val_main_v140, val_main_v139, val_main_v138, val_main_v137, val_main_v136]
  rw [tap18, pad_apply]
  exact (conv_succ _ _ _ _ 19 (by decide)).symm
theorem tap20 (b : Fin 4) (t : Fin 8192) (q : Fin 256) : val_main_v149 (F := Ideal) a0 a2 (ix3 b t q) = conv (padded a0 b) a2 t.val q 21 := by
  pointwise [val_main_v149, val_main_v148, val_main_v147, val_main_v146, val_main_v145, val_main_v144, val_main_v143]
  rw [tap19, pad_apply]
  exact (conv_succ _ _ _ _ 20 (by decide)).symm
theorem tap21 (b : Fin 4) (t : Fin 8192) (q : Fin 256) : val_main_v156 (F := Ideal) a0 a2 (ix3 b t q) = conv (padded a0 b) a2 t.val q 22 := by
  pointwise [val_main_v156, val_main_v155, val_main_v154, val_main_v153, val_main_v152, val_main_v151, val_main_v150]
  rw [tap20, pad_apply]
  exact (conv_succ _ _ _ _ 21 (by decide)).symm
theorem tap22 (b : Fin 4) (t : Fin 8192) (q : Fin 256) : val_main_v163 (F := Ideal) a0 a2 (ix3 b t q) = conv (padded a0 b) a2 t.val q 23 := by
  pointwise [val_main_v163, val_main_v162, val_main_v161, val_main_v160, val_main_v159, val_main_v158, val_main_v157]
  rw [tap21, pad_apply]
  exact (conv_succ _ _ _ _ 22 (by decide)).symm
theorem tap23 (b : Fin 4) (t : Fin 8192) (q : Fin 256) : val_main_v170 (F := Ideal) a0 a2 (ix3 b t q) = conv (padded a0 b) a2 t.val q 24 := by
  pointwise [val_main_v170, val_main_v169, val_main_v168, val_main_v167, val_main_v166, val_main_v165, val_main_v164]
  rw [tap22, pad_apply]
  exact (conv_succ _ _ _ _ 23 (by decide)).symm
theorem tap24 (b : Fin 4) (t : Fin 8192) (q : Fin 256) : val_main_v177 (F := Ideal) a0 a2 (ix3 b t q) = conv (padded a0 b) a2 t.val q 25 := by
  pointwise [val_main_v177, val_main_v176, val_main_v175, val_main_v174, val_main_v173, val_main_v172, val_main_v171]
  rw [tap23, pad_apply]
  exact (conv_succ _ _ _ _ 24 (by decide)).symm
theorem tap25 (b : Fin 4) (t : Fin 8192) (q : Fin 256) : val_main_v184 (F := Ideal) a0 a2 (ix3 b t q) = conv (padded a0 b) a2 t.val q 26 := by
  pointwise [val_main_v184, val_main_v183, val_main_v182, val_main_v181, val_main_v180, val_main_v179, val_main_v178]
  rw [tap24, pad_apply]
  exact (conv_succ _ _ _ _ 25 (by decide)).symm
theorem tap26 (b : Fin 4) (t : Fin 8192) (q : Fin 256) : val_main_v191 (F := Ideal) a0 a2 (ix3 b t q) = conv (padded a0 b) a2 t.val q 27 := by
  pointwise [val_main_v191, val_main_v190, val_main_v189, val_main_v188, val_main_v187, val_main_v186, val_main_v185]
  rw [tap25, pad_apply]
  exact (conv_succ _ _ _ _ 26 (by decide)).symm
theorem tap27 (b : Fin 4) (t : Fin 8192) (q : Fin 256) : val_main_v198 (F := Ideal) a0 a2 (ix3 b t q) = conv (padded a0 b) a2 t.val q 28 := by
  pointwise [val_main_v198, val_main_v197, val_main_v196, val_main_v195, val_main_v194, val_main_v193, val_main_v192]
  rw [tap26, pad_apply]
  exact (conv_succ _ _ _ _ 27 (by decide)).symm
theorem tap28 (b : Fin 4) (t : Fin 8192) (q : Fin 256) : val_main_v205 (F := Ideal) a0 a2 (ix3 b t q) = conv (padded a0 b) a2 t.val q 29 := by
  pointwise [val_main_v205, val_main_v204, val_main_v203, val_main_v202, val_main_v201, val_main_v200, val_main_v199]
  rw [tap27, pad_apply]
  exact (conv_succ _ _ _ _ 28 (by decide)).symm
theorem tap29 (b : Fin 4) (t : Fin 8192) (q : Fin 256) : val_main_v212 (F := Ideal) a0 a2 (ix3 b t q) = conv (padded a0 b) a2 t.val q 30 := by
  pointwise [val_main_v212, val_main_v211, val_main_v210, val_main_v209, val_main_v208, val_main_v207, val_main_v206]
  rw [tap28, pad_apply]
  exact (conv_succ _ _ _ _ 29 (by decide)).symm
theorem tap30 (b : Fin 4) (t : Fin 8192) (q : Fin 256) : val_main_v219 (F := Ideal) a0 a2 (ix3 b t q) = conv (padded a0 b) a2 t.val q 31 := by
  pointwise [val_main_v219, val_main_v218, val_main_v217, val_main_v216, val_main_v215, val_main_v214, val_main_v213]
  rw [tap29, pad_apply]
  exact (conv_succ _ _ _ _ 30 (by decide)).symm

/-- A row before it is normalised. -/
theorem z_apply (b : Fin 4) (t : Fin 8192) (q : Fin 256) :
    val_main_v222 (F := Ideal) a0 a2 a3 (ix3 b t q) = conv (padded a0 b) a2 t.val q 31 + a3 (ix1 q) := by
  pointwise [val_main_v222, val_main_v221, val_main_v220]
  rw [tap30]

theorem mean_apply (b : Fin 4) (t : Fin 8192) :
    val_main_v226 (F := Ideal) a0 a2 a3 (ix3 b t 0) = mean (fun k => conv (padded a0 b) a2 t.val k 31 + a3 (ix1 k)) := by
  pointwise [val_main_v226, val_main_v225, val_main_v224, val_main_v223, val_main_cst_1, val_main_cst_0]
  simp only [z_apply]
  rfl

theorem norm_apply (b : Fin 4) (t : Fin 8192) (q : Fin 256) : val_main_v246 (F := Ideal) a0 a2 a3 a4 a5 (ix3 b t q)
    = norm (fun k => conv (padded a0 b) a2 t.val k 31 + a3 (ix1 k)) (fun k => a4 (ix1 k)) (fun k => a5 (ix1 k)) q := by
  pointwise [val_main_v246, val_main_v245, val_main_v244, val_main_v243, val_main_v242, val_main_v241, val_main_v240, val_main_v239,
    val_main_v238, val_main_v237, val_main_v236, val_main_v235, val_main_v234, val_main_v233, val_main_v232, val_main_v231, val_main_v230,
    val_main_v229, val_main_v228, val_main_v227, val_main_cst_2, val_main_cst_3, val_main_cst_4]
  simp only [z_apply, mean_apply]
  rfl

theorem silu_apply (b : Fin 4) (t : Fin 8192) (q : Fin 256) : val_main_v247 (F := Ideal) a0 a2 a3 a4 a5 (ix3 b t q)
    = silu (norm (fun k => conv (padded a0 b) a2 t.val k 31 + a3 (ix1 k)) (fun k => a4 (ix1 k)) (fun k => a5 (ix1 k)) q) := by
  pointwise [val_main_v247, val_main_call1_v5, val_main_call1_v4, val_main_call1_v3, val_main_call1_v2, val_main_call1_v1, val_main_call1_v0,
    val_main_call1_cst, val_main_call1_cst_0]
  have h1 : Ideal.ofBits .f32 0x3F800000#32 = 1 := by
    have e : Ideal.ofBits .f32 0x3F800000#32 = ((1 : ℝ) : EReal) := by simp [Ideal.ofBits, Ideal.ieee, -EReal.coe_mul]; norm_num
    simpa using e
  simp only [norm_apply, silu, Ideal.ofBits_zero_f32, zero_sub, h1]

theorem res_apply (p : Fin 32768) (q : Fin 256) :
    val_main_v255 (F := Ideal) a0 a1 a2 a3 a4 a5 a6 a7 (ix2 p q) = res a0 a1 a2 a3 a4 a5 a6 a7 (ix2 p q) := by
  show _ = rest (fun k => conv (padded a0 ⟨p.val / 8192, by omega⟩) a2 (p.val % 8192) k 31 + a3 (ix1 k)) (fun k => a4 (ix1 k))
    (fun k => a5 (ix1 k)) a6 (a7 (ix1 q)) (a1 (ix2 p q)) q
  pointwise [val_main_v255, val_main_v254, val_main_v253, val_main_v252, val_main_v251, val_main_v250, val_main_v249, val_main_v248]
  simp only [silu_apply]
  rfl

theorem res_eq : val_main_v255 (F := Ideal) a0 a1 a2 a3 a4 a5 a6 a7 = res a0 a1 a2 a3 a4 a5 a6 a7 := by
  funext i
  obtain ⟨p, q, rfl⟩ : ∃ (p : Fin 32768) (q : Fin 256), i = ix2 p q := ⟨i 0, i 1, eq_ix2 i⟩
  exact res_apply a0 a1 a2 a3 a4 a5 a6 a7 p q

end Cert.RefConvIdeal.Whole

namespace Cert.ConvIdeal.Whole

open Idealize.ShloMosaic Idealize.ShloMosaic.TcCoe Idealize.SL.Sem

/-- The convolution module's kernel and its reference compute the same function. -/
theorem algebraic : Cert.algebraic_ConvIdeal_RefConvIdeal := by
  intro m g m' g' _ he
  refine ⟨fun c => resM m c, ?_, ?_⟩
  · exact (θ_run _ _ _).mono (fun r h c => ⟨(h c).1.trans (final m c), (h c).2⟩) (Cert.ConvIdeal.Value.run_blocks m g)
  · refine (θ_run _ _ _).mono (fun r h c => ⟨((h c).1.trans (Cert.RefConvIdeal.Read.val_main_v255_eq (Idealize.ShloMosaic.StableHlo.launchContents m' c))).trans ?_, (h c).2⟩) (Cert.RefConvIdeal.Value.run m' g')
    obtain ⟨e0, e1, e2, e3, e4, e5, e6, e7⟩ := he c
    show Cert.RefConvIdeal.Read.val_main_v255 (F := Ideal) (m' ((c.tc : Thread Cert.RefConvIdeal.nD Cert.RefConvIdeal.τ).loc Cert.RefConvIdeal.main_arg0)) (m' ((c.tc : Thread Cert.RefConvIdeal.nD Cert.RefConvIdeal.τ).loc Cert.RefConvIdeal.main_arg1))
      (m' ((c.tc : Thread Cert.RefConvIdeal.nD Cert.RefConvIdeal.τ).loc Cert.RefConvIdeal.main_arg2)) (m' ((c.tc : Thread Cert.RefConvIdeal.nD Cert.RefConvIdeal.τ).loc Cert.RefConvIdeal.main_arg3))
      (m' ((c.tc : Thread Cert.RefConvIdeal.nD Cert.RefConvIdeal.τ).loc Cert.RefConvIdeal.main_arg4)) (m' ((c.tc : Thread Cert.RefConvIdeal.nD Cert.RefConvIdeal.τ).loc Cert.RefConvIdeal.main_arg5))
      (m' ((c.tc : Thread Cert.RefConvIdeal.nD Cert.RefConvIdeal.τ).loc Cert.RefConvIdeal.main_arg6)) (m' ((c.tc : Thread Cert.RefConvIdeal.nD Cert.RefConvIdeal.τ).loc Cert.RefConvIdeal.main_arg7)) = _
    rw [e0, e1, e2, e3, e4, e5, e6, e7]
    exact Cert.RefConvIdeal.Whole.res_eq _ _ _ _ _ _ _ _

end Cert.ConvIdeal.Whole

end
-- ==== Proof.RopeFinal.lean ====
module

public import proofs.«01_k».proof.Defs
public import proofs.«01_k».proof.Proof.Gen.RopeIdeal.Value
public import proofs.«01_k».proof.Proof.Gen.RefRopeIdeal.Read
public import Idealize.ShloMosaic.Lib.Pointwise
public import Idealize.ShloMosaic.Lib.Pipeline.ReadBack
public import Idealize.ShloMosaic.Lib.StableHlo.ReadAt

@[expose] public section

noncomputable section

namespace Cert.RefRopeIdeal.Whole

open Cert.RefRopeIdeal Cert.RefRopeIdeal.Gen Cert.RefRopeIdeal.Read Idealize.ShloMosaic Idealize.ShloMosaic.TcCoe Idealize.SL.Sem

/-- The frequency of a rotated pair. -/
def freq (k : Fin 32) : EReal := val_main_v9 (F := Ideal) (ix1 k)

/-- The position of a token, the sequences one after the other. -/
def pos (a0 : Vec Ideal S4x8192 .i32) (p : Fin 32768) : EReal :=
  FloatOps.sitofp (F := Ideal) .f32 (a0 (ix2 ⟨p.val / 8192, by omega⟩ ⟨p.val % 8192, by omega⟩))

variable (a0 : Vec Ideal S4x8192 .i32)

theorem cos_apply (p : Fin 32768) (k : Fin 32) : val_main_v17 (F := Ideal) a0 (ix2 p k) = Ideal.cos (pos a0 p * freq k) := by
  pointwise [val_main_v17, val_main_v16, val_main_v15, val_main_v14, val_main_v13, val_main_v12, val_main_v11, val_main_v10]
  rfl
theorem sin_apply (p : Fin 32768) (k : Fin 32) : val_main_v19 (F := Ideal) a0 (ix2 p k) = Ideal.sin (pos a0 p * freq k) := by
  pointwise [val_main_v19, val_main_v18, val_main_v15, val_main_v14, val_main_v13, val_main_v12, val_main_v11, val_main_v10]
  rfl

/-- The cosines with the tokens along the lanes. -/
theorem cost_apply (k : Fin 32) (p : Fin 32768) : val_main_v20 (F := Ideal) a0 (ix2 k p) = Ideal.cos (pos a0 p * freq k) := by
  pointwise [val_main_v20]
  exact cos_apply a0 p k
/-- The sines with the tokens along the lanes. -/
theorem sint_apply (k : Fin 32) (p : Fin 32768) : val_main_v21 (F := Ideal) a0 (ix2 k p) = Ideal.sin (pos a0 p * freq k) := by
  pointwise [val_main_v21]
  exact sin_apply a0 p k
/-- The cosines repeated for two heads along the lanes. -/
theorem cosr_apply (p : Fin 32768) (q : Fin 128) : val_main_v22 (F := Ideal) a0 (ix2 p q) = Ideal.cos (pos a0 p * freq ⟨q.val % 32, by omega⟩) := by
  pointwise [val_main_v22]
  have hq : q.val < 128 := q.isLt
  have hs (k : Fin 32) (h : k.val = q.val % 32) : val_main_v17 (F := Ideal) a0 (ix2 p k) = Ideal.cos (pos a0 p * freq ⟨q.val % 32, by omega⟩) := by
    rw [cos_apply]
    exact congrArg (fun k => Ideal.cos (pos a0 p * freq k)) (Fin.ext h)
  split_ifs <;> exact hs _ (by dsimp only; omega)
/-- The sines with the rotation's signs, repeated for two heads along the lanes. -/
theorem sinr_apply (p : Fin 32768) (q : Fin 128) : val_main_v24 (F := Ideal) a0 (ix2 p q)
    = if q.val % 64 < 32 then -Ideal.sin (pos a0 p * freq ⟨q.val % 32, by omega⟩) else Ideal.sin (pos a0 p * freq ⟨q.val % 32, by omega⟩) := by
  pointwise [val_main_v24, val_main_v23]
  have hq : q.val < 128 := q.isLt
  have hs (k : Fin 32) (h : k.val = q.val % 32) : val_main_v19 (F := Ideal) a0 (ix2 p k) = Ideal.sin (pos a0 p * freq ⟨q.val % 32, by omega⟩) := by
    rw [sin_apply]
    exact congrArg (fun k => Ideal.sin (pos a0 p * freq k)) (Fin.ext h)
  by_cases h1 : q.val < 32
  · rw [dif_pos h1]
    exact (congrArg (fun x : EReal => -x) (hs _ (by dsimp only; omega))).trans (if_pos (by omega)).symm
  rw [dif_neg h1]
  by_cases h2 : q.val - 32 < 32
  · rw [dif_pos h2]
    exact (hs _ (by dsimp only; omega)).trans (if_neg (by omega)).symm
  rw [dif_neg h2]
  by_cases h3 : q.val - 32 - 32 < 32
  · rw [dif_pos h3]
    exact (congrArg (fun x : EReal => -x) (hs _ (by dsimp only; omega))).trans (if_pos (by omega)).symm
  rw [dif_neg h3]
  exact (hs _ (by dsimp only; omega)).trans (if_neg (by omega)).symm

end Cert.RefRopeIdeal.Whole

namespace Cert.RopeIdeal.Whole

open Cert.RopeIdeal Cert.RopeIdeal.Gen Cert.RopeIdeal.Value Idealize.ShloMosaic Idealize.ShloMosaic.TcCoe Idealize.SL.Sem
open Idealize.ShloMosaic.Pipeline (Dat)
open Cert.RefRopeIdeal.Whole (freq pos)

variable (m : (ℓ : Loc nD τ sig) → Buf (Elt Ideal) ℓ) (ρ : Dev nD → PrngReg)

/-- What the positions' row holds. -/
theorem V_17 (c : Dev nD) (p : Fin 32768) : V m c main_v17 (ix2 0 p) = pos (m ((c : Thread nD τ).loc main_arg0)) p := by
  unfold V
  after_reads_at
  rfl
/-- What the positions' column holds. -/
theorem V_18 (c : Dev nD) (p : Fin 32768) : V m c main_v18 (ix2 p 0) = pos (m ((c : Thread nD τ).loc main_arg0)) p := by
  unfold V
  after_reads_at
  rfl
theorem freq_eq (k : Fin 32) : freq k = Ideal.pow (Ideal.ofBits FTy.f32 1176256512#32)
    (Ideal.div (-(Ideal.ofBits FTy.f32 1073741824#32 * FloatOps.sitofp (F := Ideal) FTy.f32 (BitVec.ofNat 32 k.val))) (Ideal.ofBits FTy.f32 1115684864#32)) := by
  unfold freq
  pointwise [Cert.RefRopeIdeal.Read.val_main_v9, Cert.RefRopeIdeal.Read.val_main_v8, Cert.RefRopeIdeal.Read.val_main_v7, Cert.RefRopeIdeal.Read.val_main_v6,
    Cert.RefRopeIdeal.Read.val_main_v5, Cert.RefRopeIdeal.Read.val_main_v4, Cert.RefRopeIdeal.Read.val_main_v3, Cert.RefRopeIdeal.Read.val_main_v2,
    Cert.RefRopeIdeal.Read.val_main_v1, Cert.RefRopeIdeal.Read.val_main_v0, Cert.RefRopeIdeal.Read.val_main_cst, Cert.RefRopeIdeal.Read.val_main_cst_0,
    Cert.RefRopeIdeal.Read.val_main_cst_1, Cert.RefRopeIdeal.Read.val_main_cst_2]
/-- What the frequencies' column holds. -/
theorem V_19 (c : Dev nD) (k : Fin 32) : V m c main_v19 (ix2 k 0) = freq k := by
  unfold V
  after_reads_at
  exact (freq_eq k).symm
/-- What the frequencies' row holds. -/
theorem V_16 (c : Dev nD) (q : Fin 128) : V m c main_v16 (ix2 0 q) = freq ⟨q.val % 32, by omega⟩ := by
  unfold V
  after_reads_at
  exact (freq_eq ⟨q.val % 32, by omega⟩).symm
/-- What the signs' row holds. -/
theorem V_12 (c : Dev nD) (q : Fin 128) : V m c main_v12 (ix2 0 q) = FloatOps.ofBits (F := Ideal) .f32 (lit0 q) := by
  unfold V
  after_reads_at
  refine congrArg (fun x => FloatOps.ofBits (F := Ideal) .f32 (lit0 x)) (Fin.ext ?_)
  exact Shape.rowMajor_val_one (ix1 q)

theorem sign_bits : ∀ q : Fin 128, lit0 q = if q.val % 64 < 32 then 0xBF800000#32 else 0x3F800000#32 := by decide +kernel
theorem minus_one : FloatOps.ofBits (F := Ideal) .f32 0xBF800000#32 = (-1 : EReal) := by
  show Ideal.ofBits .f32 0xBF800000#32 = _
  simp [Ideal.ofBits, Ideal.ieee, -EReal.coe_mul]; norm_num
theorem plus_one : FloatOps.ofBits (F := Ideal) .f32 0x3F800000#32 = (1 : EReal) := by
  show Ideal.ofBits .f32 0x3F800000#32 = _
  simp [Ideal.ofBits, Ideal.ieee, -EReal.coe_mul]; norm_num

/-- A sine times its sign. -/
theorem sign (a : EReal) (q : Fin 128) : a * FloatOps.ofBits (F := Ideal) .f32 (lit0 q) = if q.val % 64 < 32 then -a else a := by
  rw [sign_bits]
  split
  · rw [minus_one, mul_neg, mul_one]
  · rw [plus_one, mul_one]

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- Token `r` of block `t`, as a token of the whole array. -/
def tok (t : Fin cfg0.N) (r : Fin 1024) : Fin 32768 := ⟨1024 * t.val + r.val, by
  have h : t.val < 32 := t.isLt
  omega⟩

theorem emb0 (t : Fin cfg0.N) (r : Fin 1024) (k : Fin 1) : ((cfg0.win 0).blk t).view.emb (ix2 k r) = ix2 k (tok t r) := by
  obtain ⟨e0, e1⟩ := idx0 t
  funext a; apply Fin.ext
  match a with
  | ⟨0, _⟩ => show win0_0.index t (0 : Fin 2) * 1 + 1 * k.val = k.val; omega
  | ⟨1, _⟩ => show win0_0.index t (1 : Fin 2) * 1024 + 1 * r.val = 1024 * t.val + r.val; omega
theorem emb1 (t : Fin cfg0.N) (r : Fin 1024) (k : Fin 1) : ((cfg0.win 1).blk t).view.emb (ix2 r k) = ix2 (tok t r) k := by
  obtain ⟨e0, e1⟩ := idx1 t
  funext a; apply Fin.ext
  match a with
  | ⟨0, _⟩ => show win0_1.index t (0 : Fin 2) * 1024 + 1 * r.val = 1024 * t.val + r.val; omega
  | ⟨1, _⟩ => show win0_1.index t (1 : Fin 2) * 1 + 1 * k.val = k.val; omega
theorem emb2 (t : Fin cfg0.N) (j : S32x1.Idx) : ((cfg0.win 2).blk t).view.emb j = j := by
  obtain ⟨e0, e1⟩ := idx2 t
  funext a; apply Fin.ext
  match a with
  | ⟨0, _⟩ => show win0_2.index t (0 : Fin 2) * 32 + 1 * (j 0).val = (j 0).val; omega
  | ⟨1, _⟩ => show win0_2.index t (1 : Fin 2) * 1 + 1 * (j 1).val = (j 1).val; omega
theorem emb3 (t : Fin cfg0.N) (j : S1x128.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega
theorem emb4 (t : Fin cfg0.N) (j : S1x128.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega
theorem emb5 (t : Fin cfg0.N) (r : Fin 1024) (k : Fin 32) : ((cfg0.win 5).blk t).view.emb (ix2 k r) = ix2 k (tok t r) := by
  obtain ⟨e0, e1⟩ := idx5 t
  funext a; apply Fin.ext
  match a with
  | ⟨0, _⟩ => show win0_5.index t (0 : Fin 2) * 32 + 1 * k.val = k.val; omega
  | ⟨1, _⟩ => show win0_5.index t (1 : Fin 2) * 1024 + 1 * r.val = 1024 * t.val + r.val; omega
theorem emb6 (t : Fin cfg0.N) (r : Fin 1024) (k : Fin 32) : ((cfg0.win 6).blk t).view.emb (ix2 k r) = ix2 k (tok t r) := by
  obtain ⟨e0, e1⟩ := idx6 t
  funext a; apply Fin.ext
  match a with
  | ⟨0, _⟩ => show win0_6.index t (0 : Fin 2) * 32 + 1 * k.val = k.val; omega
  | ⟨1, _⟩ => show win0_6.index t (1 : Fin 2) * 1024 + 1 * r.val = 1024 * t.val + r.val; omega
theorem emb7 (t : Fin cfg0.N) (r : Fin 1024) (k : Fin 128) : ((cfg0.win 7).blk t).view.emb (ix2 r k) = ix2 (tok t r) k := by
  obtain ⟨e0, e1⟩ := idx7 t
  funext a; apply Fin.ext
  match a with
  | ⟨0, _⟩ => show win0_7.index t (0 : Fin 2) * 1024 + 1 * r.val = 1024 * t.val + r.val; omega
  | ⟨1, _⟩ => show win0_7.index t (1 : Fin 2) * 128 + 1 * k.val = k.val; omega
theorem emb8 (t : Fin cfg0.N) (r : Fin 1024) (k : Fin 128) : ((cfg0.win 8).blk t).view.emb (ix2 r k) = ix2 (tok t r) k := by
  obtain ⟨e0, e1⟩ := idx8 t
  funext a; apply Fin.ext
  match a with
  | ⟨0, _⟩ => show win0_8.index t (0 : Fin 2) * 1024 + 1 * r.val = 1024 * t.val + r.val; omega
  | ⟨1, _⟩ => show win0_8.index t (1 : Fin 2) * 128 + 1 * k.val = k.val; omega

theorem iblk0 (c : Dev nD) (t : Fin cfg0.N) (r : Fin 1024) : iblk m c 0 t (ix2 0 r) = pos (m ((c : Thread nD τ).loc main_arg0)) (tok t r) := by
  show V m c main_v17 (((cfg0.win 0).blk t).view.emb (ix2 0 r)) = _
  rw [emb0, V_17]
theorem iblk1 (c : Dev nD) (t : Fin cfg0.N) (r : Fin 1024) : iblk m c 1 t (ix2 r 0) = pos (m ((c : Thread nD τ).loc main_arg0)) (tok t r) := by
  show V m c main_v18 (((cfg0.win 1).blk t).view.emb (ix2 r 0)) = _
  rw [emb1, V_18]
theorem iblk2 (c : Dev nD) (t : Fin cfg0.N) (k : Fin 32) : iblk m c 2 t (ix2 k 0) = freq k := by
  show V m c main_v19 (((cfg0.win 2).blk t).view.emb (ix2 k 0)) = _
  rw [emb2, V_19]
theorem iblk3 (c : Dev nD) (t : Fin cfg0.N) (q : Fin 128) : iblk m c 3 t (ix2 0 q) = freq ⟨q.val % 32, by omega⟩ := by
  show V m c main_v16 (((cfg0.win 3).blk t).view.emb (ix2 0 q)) = _
  rw [emb3, V_16]
theorem iblk4 (c : Dev nD) (t : Fin cfg0.N) (q : Fin 128) : iblk m c 4 t (ix2 0 q) = FloatOps.ofBits (F := Ideal) .f32 (lit0 q) := by
  show V m c main_v12 (((cfg0.win 4).blk t).view.emb (ix2 0 q)) = _
  rw [emb4, V_12]

section
variable (x0 : Vec Ideal S1x1024 .f32) (x1 : Vec Ideal S1024x1 .f32) (x2 : Vec Ideal S32x1 .f32) (x3 x4 : Vec Ideal S1x128 .f32)

theorem out5_apply (k : Fin 32) (r : Fin 1024) : out0_5 (F := Ideal) x0 x1 x2 x3 x4 (ix2 k r) = Ideal.cos (x2 (ix2 k 0) * x0 (ix2 0 r)) := by
  unfold out0_5
  refine (congrFun (View.canon_unit_zero (by funext a; fin_cases a <;> rfl) _ _) (ix2 k r)).trans ?_
  pointwise [k0_pay2, k0_pay1]
theorem out6_apply (k : Fin 32) (r : Fin 1024) : out0_6 (F := Ideal) x0 x1 x2 x3 x4 (ix2 k r) = Ideal.sin (x2 (ix2 k 0) * x0 (ix2 0 r)) := by
  unfold out0_6
  refine (congrFun (View.canon_unit_zero (by funext a; fin_cases a <;> rfl) _ _) (ix2 k r)).trans ?_
  pointwise [k0_pay3, k0_pay1]
theorem out7_apply (r : Fin 1024) (q : Fin 128) : out0_7 (F := Ideal) x0 x1 x2 x3 x4 (ix2 r q) = Ideal.cos (x1 (ix2 r 0) * x3 (ix2 0 q)) := by
  unfold out0_7
  refine (congrFun (View.canon_unit_zero (by funext a; fin_cases a <;> rfl) _ _) (ix2 r q)).trans ?_
  pointwise [k0_pay5, k0_pay4]
theorem out8_apply (r : Fin 1024) (q : Fin 128) : out0_8 (F := Ideal) x0 x1 x2 x3 x4 (ix2 r q) = Ideal.sin (x1 (ix2 r 0) * x3 (ix2 0 q)) * x4 (ix2 0 q) := by
  unfold out0_8
  refine (congrFun (View.canon_unit_zero (by funext a; fin_cases a <;> rfl) _ _) (ix2 r q)).trans ?_
  pointwise [k0_pay6, k0_pay4]

end

/-- The reference's array for window 5, on the memory the run starts from. -/
abbrev res5 (c : Dev nD) : Vec Ideal S32x32768 .f32 := Cert.RefRopeIdeal.Read.val_main_v20 (F := Ideal) (m ((c : Thread nD τ).loc main_arg0))

theorem flushed5 (c : Dev nD) (t : Fin cfg0.N) : (dats m 0 c).flushed 5 t = ((cfg0.win 5).blk t).view.read (Elt Ideal) (res5 m c) := by
  rw [Cert.RopeIdeal.Value.flushed5]
  funext j
  obtain ⟨k, r, rfl⟩ : ∃ (k : Fin 32) (r : Fin 1024), j = ix2 k r := ⟨j 0, j 1, eq_ix2 j⟩
  show (out0_5 (F := Ideal) (iblk m c 0 t) (iblk m c 1 t) (iblk m c 2 t) (iblk m c 3 t) (iblk m c 4 t) : Vec Ideal S32x1024 .f32) (ix2 k r) = res5 m c (((cfg0.win 5).blk t).view.emb (ix2 k r))
  rw [emb5]
  refine (out5_apply (iblk m c 0 t) (iblk m c 1 t) (iblk m c 2 t) (iblk m c 3 t) (iblk m c 4 t) k r).trans ?_
  rw [iblk2, iblk0, mul_comm]
  exact (Cert.RefRopeIdeal.Whole.cost_apply (m ((c : Thread nD τ).loc main_arg0)) k (tok t r)).symm

theorem covered5 (i : S32x32768.Idx) : ∃ t : Fin cfg0.N, (cfg0.win 5).flush t = true ∧ i ∈ ((cfg0.win 5).blk t).view.set := by
  obtain ⟨q, p, rfl⟩ : ∃ (q : Fin 32) (p : Fin 32768), i = ix2 q p := ⟨i 0, i 1, eq_ix2 i⟩
  have ht : p.val / 1024 < cfg0.N := by show _ < 32; omega
  refine ⟨⟨p.val / 1024, ht⟩, flush0_5 _, ?_⟩
  have h := ((cfg0.win 5).blk ⟨p.val / 1024, ht⟩).view.emb_mem_set (ix2 q (⟨p.val % 1024, by omega⟩ : Fin 1024))
  have e : tok ⟨p.val / 1024, ht⟩ ⟨p.val % 1024, by omega⟩ = p := Fin.ext (by show 1024 * (p.val / 1024) + p.val % 1024 = p.val; omega)
  have h2 := emb5 ⟨p.val / 1024, ht⟩ ⟨p.val % 1024, by omega⟩ q
  rw [e] at h2
  exact h2 ▸ h

theorem final5 (c : Dev nD) : (dats m 0 c).arrAt 5 cfg0.N = res5 m c :=
  (dats m 0 c).arrAt_eq_of_cover 5 (res5 m c) (fun t _ => flushed5 m c t) covered5

/-- The reference's array for window 6, on the memory the run starts from. -/
abbrev res6 (c : Dev nD) : Vec Ideal S32x32768 .f32 := Cert.RefRopeIdeal.Read.val_main_v21 (F := Ideal) (m ((c : Thread nD τ).loc main_arg0))

theorem flushed6 (c : Dev nD) (t : Fin cfg0.N) : (dats m 0 c).flushed 6 t = ((cfg0.win 6).blk t).view.read (Elt Ideal) (res6 m c) := by
  rw [Cert.RopeIdeal.Value.flushed6]
  funext j
  obtain ⟨k, r, rfl⟩ : ∃ (k : Fin 32) (r : Fin 1024), j = ix2 k r := ⟨j 0, j 1, eq_ix2 j⟩
  show (out0_6 (F := Ideal) (iblk m c 0 t) (iblk m c 1 t) (iblk m c 2 t) (iblk m c 3 t) (iblk m c 4 t) : Vec Ideal S32x1024 .f32) (ix2 k r) = res6 m c (((cfg0.win 6).blk t).view.emb (ix2 k r))
  rw [emb6]
  refine (out6_apply (iblk m c 0 t) (iblk m c 1 t) (iblk m c 2 t) (iblk m c 3 t) (iblk m c 4 t) k r).trans ?_
  rw [iblk2, iblk0, mul_comm]
  exact (Cert.RefRopeIdeal.Whole.sint_apply (m ((c : Thread nD τ).loc main_arg0)) k (tok t r)).symm

theorem covered6 (i : S32x32768.Idx) : ∃ t : Fin cfg0.N, (cfg0.win 6).flush t = true ∧ i ∈ ((cfg0.win 6).blk t).view.set := by
  obtain ⟨q, p, rfl⟩ : ∃ (q : Fin 32) (p : Fin 32768), i = ix2 q p := ⟨i 0, i 1, eq_ix2 i⟩
  have ht : p.val / 1024 < cfg0.N := by show _ < 32; omega
  refine ⟨⟨p.val / 1024, ht⟩, flush0_6 _, ?_⟩
  have h := ((cfg0.win 6).blk ⟨p.val / 1024, ht⟩).view.emb_mem_set (ix2 q (⟨p.val % 1024, by omega⟩ : Fin 1024))
  have e : tok ⟨p.val / 1024, ht⟩ ⟨p.val % 1024, by omega⟩ = p := Fin.ext (by show 1024 * (p.val / 1024) + p.val % 1024 = p.val; omega)
  have h2 := emb6 ⟨p.val / 1024, ht⟩ ⟨p.val % 1024, by omega⟩ q
  rw [e] at h2
  exact h2 ▸ h

theorem final6 (c : Dev nD) : (dats m 0 c).arrAt 6 cfg0.N = res6 m c :=
  (dats m 0 c).arrAt_eq_of_cover 6 (res6 m c) (fun t _ => flushed6 m c t) covered6

/-- The reference's array for window 7, on the memory the run starts from. -/
abbrev res7 (c : Dev nD) : Vec Ideal S32768x128 .f32 := Cert.RefRopeIdeal.Read.val_main_v22 (F := Ideal) (m ((c : Thread nD τ).loc main_arg0))

theorem flushed7 (c : Dev nD) (t : Fin cfg0.N) : (dats m 0 c).flushed 7 t = ((cfg0.win 7).blk t).view.read (Elt Ideal) (res7 m c) := by
  rw [Cert.RopeIdeal.Value.flushed7]
  funext j
  obtain ⟨r, q, rfl⟩ : ∃ (r : Fin 1024) (q : Fin 128), j = ix2 r q := ⟨j 0, j 1, eq_ix2 j⟩
  show (out0_7 (F := Ideal) (iblk m c 0 t) (iblk m c 1 t) (iblk m c 2 t) (iblk m c 3 t) (iblk m c 4 t) : Vec Ideal S1024x128 .f32) (ix2 r q) = res7 m c (((cfg0.win 7).blk t).view.emb (ix2 r q))
  rw [emb7]
  refine (out7_apply (iblk m c 0 t) (iblk m c 1 t) (iblk m c 2 t) (iblk m c 3 t) (iblk m c 4 t) r q).trans ?_
  rw [iblk1, iblk3]
  exact (Cert.RefRopeIdeal.Whole.cosr_apply (m ((c : Thread nD τ).loc main_arg0)) (tok t r) q).symm

theorem covered7 (i : S32768x128.Idx) : ∃ t : Fin cfg0.N, (cfg0.win 7).flush t = true ∧ i ∈ ((cfg0.win 7).blk t).view.set := by
  obtain ⟨p, q, rfl⟩ : ∃ (p : Fin 32768) (q : Fin 128), i = ix2 p q := ⟨i 0, i 1, eq_ix2 i⟩
  have ht : p.val / 1024 < cfg0.N := by show _ < 32; omega
  refine ⟨⟨p.val / 1024, ht⟩, flush0_7 _, ?_⟩
  have h := ((cfg0.win 7).blk ⟨p.val / 1024, ht⟩).view.emb_mem_set (ix2 (⟨p.val % 1024, by omega⟩ : Fin 1024) q)
  have e : tok ⟨p.val / 1024, ht⟩ ⟨p.val % 1024, by omega⟩ = p := Fin.ext (by show 1024 * (p.val / 1024) + p.val % 1024 = p.val; omega)
  have h2 := emb7 ⟨p.val / 1024, ht⟩ ⟨p.val % 1024, by omega⟩ q
  rw [e] at h2
  exact h2 ▸ h

theorem final7 (c : Dev nD) : (dats m 0 c).arrAt 7 cfg0.N = res7 m c :=
  (dats m 0 c).arrAt_eq_of_cover 7 (res7 m c) (fun t _ => flushed7 m c t) covered7

/-- The reference's array for window 8, on the memory the run starts from. -/
abbrev res8 (c : Dev nD) : Vec Ideal S32768x128 .f32 := Cert.RefRopeIdeal.Read.val_main_v24 (F := Ideal) (m ((c : Thread nD τ).loc main_arg0))

theorem flushed8 (c : Dev nD) (t : Fin cfg0.N) : (dats m 0 c).flushed 8 t = ((cfg0.win 8).blk t).view.read (Elt Ideal) (res8 m c) := by
  rw [Cert.RopeIdeal.Value.flushed8]
  funext j
  obtain ⟨r, q, rfl⟩ : ∃ (r : Fin 1024) (q : Fin 128), j = ix2 r q := ⟨j 0, j 1, eq_ix2 j⟩
  show (out0_8 (F := Ideal) (iblk m c 0 t) (iblk m c 1 t) (iblk m c 2 t) (iblk m c 3 t) (iblk m c 4 t) : Vec Ideal S1024x128 .f32) (ix2 r q) = res8 m c (((cfg0.win 8).blk t).view.emb (ix2 r q))
  rw [emb8]
  refine (out8_apply (iblk m c 0 t) (iblk m c 1 t) (iblk m c 2 t) (iblk m c 3 t) (iblk m c 4 t) r q).trans ?_
  rw [iblk1, iblk3, iblk4, sign]
  exact (Cert.RefRopeIdeal.Whole.sinr_apply (m ((c : Thread nD τ).loc main_arg0)) (tok t r) q).symm

theorem covered8 (i : S32768x128.Idx) : ∃ t : Fin cfg0.N, (cfg0.win 8).flush t = true ∧ i ∈ ((cfg0.win 8).blk t).view.set := by
  obtain ⟨p, q, rfl⟩ : ∃ (p : Fin 32768) (q : Fin 128), i = ix2 p q := ⟨i 0, i 1, eq_ix2 i⟩
  have ht : p.val / 1024 < cfg0.N := by show _ < 32; omega
  refine ⟨⟨p.val / 1024, ht⟩, flush0_8 _, ?_⟩
  have h := ((cfg0.win 8).blk ⟨p.val / 1024, ht⟩).view.emb_mem_set (ix2 (⟨p.val % 1024, by omega⟩ : Fin 1024) q)
  have e : tok ⟨p.val / 1024, ht⟩ ⟨p.val % 1024, by omega⟩ = p := Fin.ext (by show 1024 * (p.val / 1024) + p.val % 1024 = p.val; omega)
  have h2 := emb8 ⟨p.val / 1024, ht⟩ ⟨p.val % 1024, by omega⟩ q
  rw [e] at h2
  exact h2 ▸ h

theorem final8 (c : Dev nD) : (dats m 0 c).arrAt 8 cfg0.N = res8 m c :=
  (dats m 0 c).arrAt_eq_of_cover 8 (res8 m c) (fun t _ => flushed8 m c t) covered8

theorem algebraic : Cert.algebraic_RopeIdeal_RefRopeIdeal := by
  intro m g m' g' hp he
  refine ⟨fun c => res5 m c, fun c => res6 m c, fun c => res7 m c, fun c => res8 m c, ?_, ?_⟩
  · refine (θ_run _ _ _).mono (fun r h c => ?_) (Cert.RopeIdeal.Value.run_blocks m g)
    obtain ⟨h5, h6, h7, h8, hk⟩ := h c
    exact ⟨h5.trans (final5 m c), h6.trans (final6 m c), h7.trans (final7 m c), h8.trans (final8 m c), hk⟩
  · refine (θ_run _ _ _).mono (fun r h c => ?_) (Cert.RefRopeIdeal.Value.run m' g')
    obtain ⟨h5, h6, h7, h8, hk⟩ := h c
    have e0 := he c
    refine ⟨(h5.trans (Cert.RefRopeIdeal.Read.val_main_v20_eq _)).trans ?_, (h6.trans (Cert.RefRopeIdeal.Read.val_main_v21_eq _)).trans ?_,
      (h7.trans (Cert.RefRopeIdeal.Read.val_main_v22_eq _)).trans ?_, (h8.trans (Cert.RefRopeIdeal.Read.val_main_v24_eq _)).trans ?_, hk⟩
    · rw [e0]
    · rw [e0]
    · rw [e0]
    · rw [e0]

end Cert.RopeIdeal.Whole
-- ==== Proof.GlaIdealLoop.lean ====
/- The linear attention's loop over the chunks of a block: its run, for any masks, and what its trips do not depend on. -/
module

public import proofs.«01_k».proof.Proof.Gen.GlaIdeal.Frame.Runs

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x256 .f32) (harg3 : arg3.IsWhole) (arg4 : Memref sig .tc .vmem S4x512x128 .f32) (harg4 : arg4.IsWhole) (arg5 : Memref sig .tc .vmem S4x512x256 .bf16) (harg5 : arg5.IsWhole) (arg6 : Memref sig .tc .vmem S1x256 .f32) (harg6 : arg6.IsWhole) (arg7 : Memref sig .tc .vmem S4x512x256 .bf16) (harg7 : arg7.IsWhole) (arg8 : Memref sig .tc .vmem S4x256x128 .f32) (harg8 : arg8.IsWhole) (v9 : FVec F S64x64 .bf16) (v60 : IVec S256x128 1) (v61 : IVec S256x512 1) (v112 : IVec S256x256 1) (v116 : FVec F S256x256 .bf16) (v135 : IVec S64x256 1) (v136 : IVec S64x128 32) (c16_i32 : BitVec 32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty)

/-- The whole loop over the eight chunks of a block, whatever the masks it is given: it leaves what it reads as it
    was, and the pieces of the eight trips over what the result's buffer and the carried state held. -/
theorem loop_run
    (E : Set ℕ) (kk : Unit → Prog (TpuEff nD τ sig (Elt F) Λ₀ .tc) PUnit) (Q : PUnit → sProp 𝕄) :
    iprop(Trip_k0_t1 (F := F) c arg1 arg2 arg3 arg4 arg5 arg6 arg7 arg8 X1 X2 X3 X4 X5 X6 f7 f8
      ∗ (Trip_k0_t1 (F := F) c arg1 arg2 arg3 arg4 arg5 arg6 arg7 arg8 X1 X2 X3 X4 X5 X6 (arg7.view.writes (Elt F) f7 (pb_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7 f8 k0_t1_loop.trips).1) (arg8.view.writes (Elt F) f8 (pb_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7 f8 k0_t1_loop.trips).2) -∗ wp frame (wpE (defs₀ (F := F)) Variants.none (c : Thread nD τ) none) E (kk ()) Q))
    ⊢ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8 v9 v60 v61 v112 v116 v135 v136 c16_i32) >>= kk) Q := by
  iintro ⟨⟨H1, H2, H3, H4, H5, H6, H7, H8⟩, HK⟩
  have key : inv_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7 f8 0 ()
      ⊢ iprop((∀ acc, inv_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7 f8 k0_t1_loop.trips acc -∗ wp frame (wpE (defs₀ (F := F)) Variants.none (c : Thread nD τ) none) E (kk acc) Q)
        -∗ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8 v9 v60 v61 v112 v116 v135 v136 c16_i32) >>= kk) Q) :=
    exec_loop (Fr := Idealize.ShloMosaic.frame) (wpE := wpE (defs₀ (F := F)) Variants.none (c : Thread nD τ) none) (Es := E) k0_t1_loop.lb k0_t1_loop.ub k0_t1_loop.st k0_t1_ok () (k0_t1_body (F := F) i arg1 harg1 arg2 harg2 arg3 harg3 arg4 harg4 arg5 harg5 arg6 harg6 arg7 harg7 arg8 harg8 v9 v60 v61 v112 v116 v135 v136 c16_i32) (loopInv_k0_t1 (F := F) Variants.none c none E i arg1 harg1 arg2 harg2 arg3 harg3 arg4 harg4 arg5 harg5 arg6 harg6 arg7 harg7 arg8 harg8 v9 v60 v61 v112 v116 v135 v136 c16_i32 X1 X2 X3 X4 X5 X6 f7 f8)
  iapply key $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]
    · iexists f7; isplitl [H7]; · iexact H7
      ipureintro; rfl
    iexists f8; isplitl [H8]; · iexact H8
    ipureintro; rfl
  iintro %acc ⟨H1, H2, H3, H4, H5, H6, ⟨%g7, H7, %e7⟩, ⟨%g8, H8, %e8⟩⟩
  subst e7 e8
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What a trip writes does not depend on what the result's buffer held. -/
theorem trip_indep
    (f7' : BufTy.Contents (Elt F) arg7.view.ty) (k : Fin k0_t1_loop.trips) :
    tripL_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 k f7 f8
      = tripL_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 k f7' f8 := by
  unfold tripL_k0_t1 trip_k0_t1
  rfl

/-- Nor do the pieces of all the trips before one. -/
theorem pieces_indep
    (f7' : BufTy.Contents (Elt F) arg7.view.ty) (k : ℕ) :
    pb_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7 f8 k
      = pb_k0_t1 (F := F) Variants.none c none i arg1 harg1 arg2 harg2 arg3 harg3 arg4 harg4 arg5 harg5 arg6 harg6 arg7 harg7 arg8 harg8 v9 v60 v61 v112 v116 v135 v136 c16_i32 X1 X2 X3 X4 X5 X6 f7' f8 k := by
  induction k with
  | zero => rfl
  | succ k ih =>
    rw [pb_k0_t1.eq_2, pb_k0_t1.eq_2, ih]
    unfold pb_k0_t1Step
    split
    · rw [trip_indep c i arg1 harg1 arg2 harg2 arg3 harg3 arg4 harg4 arg5 harg5 arg6 harg6 arg7 harg7 arg8 harg8 v9 v60 v61 v112 v116 v135 v136 c16_i32 X1 X2 X3 X4 X5 X6 (arg7.view.writes (Elt F) f7 _) _ (arg7.view.writes (Elt F) f7' _)]
    · rfl

end Cert.GlaIdeal.Gen

end
-- ==== Proof.GlaIdealRun.lean ====
/- The body of the linear attention's kernel, run at one grid point: the first point fills the carried state with
   zeros, and every point runs the eight chunks of its block. -/
module

public import proofs.«01_k».proof.Proof.GlaIdealLoop

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state before the first chunk: zeros everywhere, as the first point's store leaves it. -/
def zeros : Vec F S4x256x128 .f32 :=
  VS0_0.read (Elt F) (VS0_0.writes (Elt F) VS0_0.junk [⟨Rect.unit (s := S4x256x128) ![0, 0, 0] S4x256x128.size inb_S4x256x128_S4x256x128_0_0_0, k0_pay106 (F := F)⟩])

variable (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x256 .f32) (harg3 : arg3.IsWhole) (arg4 : Memref sig .tc .vmem S4x512x128 .f32) (harg4 : arg4.IsWhole) (arg5 : Memref sig .tc .vmem S4x512x256 .bf16) (harg5 : arg5.IsWhole) (arg6 : Memref sig .tc .vmem S1x256 .f32) (harg6 : arg6.IsWhole) (arg7 : Memref sig .tc .vmem S4x512x256 .bf16) (harg7 : arg7.IsWhole) (arg8 : Memref sig .tc .vmem S4x256x128 .f32) (harg8 : arg8.IsWhole)
  (x0 : Vec F S4x512x128 .f32) (x1 : Vec F S4x512x128 .f32) (x2 : Vec F S4x512x256 .f32) (x3 : Vec F S4x512x128 .f32) (x4 : Vec F S4x512x256 .bf16) (x5 : Vec F S1x256 .f32) (xs : Vec F S4x256x128 .f32)

/-- The pieces the eight chunks of a block leave in the result's buffer and in the carried state, from the blocks of the
    six inputs and the state found. -/
def pieces
    : List (View.Piece (Elt F) S4x512x256 .bf16) × List (View.Piece (Elt F) S4x256x128 .f32) :=
  pb_k0_t1 (F := F) Variants.none c none i arg1 harg1 arg2 harg2 arg3 harg3 arg4 harg4 arg5 harg5 arg6 harg6 arg7 harg7 arg8 harg8 k0_pay107 (k0_pay112 (iota .tc S256x128 32 [1] iota_S256x128_d1_w32) k0_pay108 32#32 k0_pay109 k0_pay110 k0_pay111) (k0_pay113 (iota .tc S256x128 32 [1] iota_S256x128_d1_w32) k0_pay108 32#32 k0_pay109 k0_pay110 k0_pay111) (k0_pay117 (iota .tc S256x256 32 [1] iota_S256x256_d1_w32) k0_pay114 64#32 k0_pay115 k0_pay116) (k0_pay118 (iota .tc S256x256 32 [1] iota_S256x256_d1_w32) k0_pay114 64#32 k0_pay115 k0_pay116) k0_pay119 (iota .tc S64x128 32 [0] iota_S64x128_d0_w32) 16#32 (harg1.unread x0) (harg2.unread x1) (harg3.unread x2) (harg4.unread x3) (harg5.unread x4) (harg6.unread x5) arg7.view.junk (harg8.unread xs) k0_t1_loop.trips

/-- The loop of a grid point, from the state `xs`. -/
theorem chunks_run
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (pieces c i arg1 harg1 arg2 harg2 arg3 harg3 arg4 harg4 arg5 harg5 arg6 harg6 arg7 harg7 arg8 harg8 x0 x1 x2 x3 x4 x5 xs).1) ∗ (∃ f, arg8.view.loc (c : Thread nD τ) ↦[arg8.view.set]{fullShare} arg8.view.writes (Elt F) f (pieces c i arg1 harg1 arg2 harg2 arg3 harg3 arg4 harg4 arg5 harg5 arg6 harg6 arg7 harg7 arg8 harg8 x0 x1 x2 x3 x4 x5 xs).2)) -∗ K ⟨⟩))
    ⊢ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8 k0_pay107 (k0_pay112 (iota .tc S256x128 32 [1] iota_S256x128_d1_w32) k0_pay108 32#32 k0_pay109 k0_pay110 k0_pay111) (k0_pay113 (iota .tc S256x128 32 [1] iota_S256x128_d1_w32) k0_pay108 32#32 k0_pay109 k0_pay110 k0_pay111) (k0_pay117 (iota .tc S256x256 32 [1] iota_S256x256_d1_w32) k0_pay114 64#32 k0_pay115 k0_pay116) (k0_pay118 (iota .tc S256x256 32 [1] iota_S256x256_d1_w32) k0_pay114 64#32 k0_pay115 k0_pay116) k0_pay119 (iota .tc S64x128 32 [0] iota_S64x128_d0_w32) 16#32) >>= fun _ => pure ⟨⟩) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
  iapply (loop_run (F := F) c i arg1 harg1 arg2 harg2 arg3 harg3 arg4 harg4 arg5 harg5 arg6 harg6 arg7 harg7 arg8 harg8 _ _ _ _ _ _ _ _ (harg1.unread x0) (harg2.unread x1) (harg3.unread x2) (harg4.unread x3) (harg5.unread x4) (harg6.unread x5) f6 (harg8.unread xs) E (fun _ => pure ⟨⟩) K)
  isplitl [H0 H1 H2 H3 H4 H5 H6 HS0]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS0
  rw [pieces_indep c i arg1 harg1 arg2 harg2 arg3 harg3 arg4 harg4 arg5 harg5 arg6 harg6 arg7 harg7 arg8 harg8 _ _ _ _ _ _ _ _ (harg1.unread x0) (harg2.unread x1) (harg3.unread x2) (harg4.unread x3) (harg5.unread x4) (harg6.unread x5) f6 (harg8.unread xs) arg7.view.junk k0_t1_loop.trips]
  iintro ⟨H0, H1, H2, H3, H4, H5, H6, HS0⟩
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]; · iexists _; iexact H6
  iexists _; iexact HS0

/-- Every point but the first: the body runs the eight chunks from the state the point before left. -/
theorem kernelRun0_B (hc0 : ¬cond0_0 i)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (pieces c i arg1 harg1 arg2 harg2 arg3 harg3 arg4 harg4 arg5 harg5 arg6 harg6 arg7 harg7 arg8 harg8 x0 x1 x2 x3 x4 x5 xs).1) ∗ (∃ f, arg8.view.loc (c : Thread nD τ) ↦[arg8.view.set]{fullShare} arg8.view.writes (Elt F) f (pieces c i arg1 harg1 arg2 harg2 arg3 harg3 arg4 harg4 arg5 harg5 arg6 harg6 arg7 harg7 arg8 harg8 x0 x1 x2 x3 x4 x5 xs).2)) -∗ K ⟨⟩))
    ⊢ wp frame (wpE (defs₀ (F := F)) Variants.none (c : Thread nD τ) none) E (cc0_gla i arg1 harg1 arg2 harg2 arg3 harg3 arg4 harg4 arg5 harg5 arg6 harg6 arg7 harg7 arg8 harg8) K := by
  simp only [cc0_gla_eq_skeleton]; unfold cc0_gla_skel
  simp only [k0_part16_eq_skeleton, k0_part17_eq_skeleton, k0_part18_eq_skeleton]
  unfold k0_part16_skel k0_part17_skel k0_part18_skel
  simp only [dif_neg hc0, if_neg hc0, pure_bind, bind_assoc]
  exact chunks_run c i arg1 harg1 arg2 harg2 arg3 harg3 arg4 harg4 arg5 harg5 arg6 harg6 arg7 harg7 arg8 harg8 x0 x1 x2 x3 x4 x5 xs E K

/-- The filling of the carried state with zeros, before any continuation. -/
theorem fill_run (c : Dev nD) (arg8 : Memref sig .tc .vmem S4x256x128 .f32) (harg8 : arg8.IsWhole) (E : Set ℕ)
    (kk : Prog (TpuEff nD τ sig (Elt F) Λ₀ .tc) PUnit) (K : PUnit → sProp 𝕄) :
    iprop((∃ d, owns (c : Thread nD τ) arg8 fullShare d)
      ∗ (owns (c : Thread nD τ) arg8 fullShare (zeros (F := F)) -∗ wp frame (wpE (defs₀ (F := F)) Variants.none (c : Thread nD τ) none) E (kk) K))
    ⊢ wp frame (wpE (defs₀ (F := F)) Variants.none (c : Thread nD τ) none) E (do
        let _ : Vec F S4x256x128 .f32 ← Prog.lift (.load arg8 (Rect.unit (s := S4x256x128) ![0, 0, 0] S4x256x128.size inb_S4x256x128_S4x256x128_0_0_0).toLoadRect (View.loadsAt_vmem h_S4x256x128))
        Prog.lift (.store arg8 (Rect.unit (s := S4x256x128) ![0, 0, 0] S4x256x128.size inb_S4x256x128_S4x256x128_0_0_0) (k0_pay106 (F := F)) Finset.univ (View.stores_vmem_bits_univ h_S4x256x128 rfl) (.inl rfl))
        kk) K := by
  unfold owns
  iintro ⟨⟨%d, %f, -, H⟩, HK⟩
  sl_exec
  iapply HK
  iexists _
  isplitr
  swap; · iexact H
  ipureintro
  exact View.read_writes_of_cover _ _ _ _ _ (fun y => View.cover_of_wholeMem _ (by sl_whole_mem) y)

/-- The first point: the state is filled with zeros, and the body runs the eight chunks from it. -/
theorem kernelRun0_A (hc0 : cond0_0 i)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (pieces c i arg1 harg1 arg2 harg2 arg3 harg3 arg4 harg4 arg5 harg5 arg6 harg6 arg7 harg7 arg8 harg8 x0 x1 x2 x3 x4 x5 (zeros (F := F))).1) ∗ (∃ f, arg8.view.loc (c : Thread nD τ) ↦[arg8.view.set]{fullShare} arg8.view.writes (Elt F) f (pieces c i arg1 harg1 arg2 harg2 arg3 harg3 arg4 harg4 arg5 harg5 arg6 harg6 arg7 harg7 arg8 harg8 x0 x1 x2 x3 x4 x5 (zeros (F := F))).2)) -∗ K ⟨⟩))
    ⊢ wp frame (wpE (defs₀ (F := F)) Variants.none (c : Thread nD τ) none) E (cc0_gla i arg1 harg1 arg2 harg2 arg3 harg3 arg4 harg4 arg5 harg5 arg6 harg6 arg7 harg7 arg8 harg8) K := by
  simp only [cc0_gla_eq_skeleton]; unfold cc0_gla_skel
  simp only [k0_part16_eq_skeleton, k0_part17_eq_skeleton, k0_part18_eq_skeleton]
  unfold k0_part16_skel k0_part17_skel k0_part18_skel
  simp only [dif_pos hc0, if_pos hc0, pure_bind, bind_assoc]
  iintro ⟨H0, H1, H2, H3, H4, H5, H6, HS0, Hk⟩
  iapply (fill_run (F := F) c arg8 harg8 E _ K)
  isplitl [HS0]; · iexact HS0
  iintro HS0
  iapply (chunks_run c i arg1 harg1 arg2 harg2 arg3 harg3 arg4 harg4 arg5 harg5 arg6 harg6 arg7 harg7 arg8 harg8 x0 x1 x2 x3 x4 x5 (zeros (F := F)) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact Hk

end Cert.GlaIdeal.Gen

end
-- ==== Proof.GlaIdealFrame.lean ====
/- What the linear attention's kernel leaves at every grid point, and its frame: it ends, keeps its arguments, and
   leaves every semaphore at zero. -/
module

public import proofs.«01_k».proof.Proof.GlaIdealRun
public import Idealize.ShloMosaic.Lib.Claim

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Block

variable (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x256 .f32) (harg3 : arg3.IsWhole) (arg4 : Memref sig .tc .vmem S4x512x128 .f32) (harg4 : arg4.IsWhole) (arg5 : Memref sig .tc .vmem S4x512x256 .bf16) (harg5 : arg5.IsWhole) (arg6 : Memref sig .tc .vmem S1x256 .f32) (harg6 : arg6.IsWhole) (arg7 : Memref sig .tc .vmem S4x512x256 .bf16) (harg7 : arg7.IsWhole) (arg8 : Memref sig .tc .vmem S4x256x128 .f32) (harg8 : arg8.IsWhole)
  (x0 : Vec F S4x512x128 .f32) (x1 : Vec F S4x512x128 .f32) (x2 : Vec F S4x512x256 .f32) (x3 : Vec F S4x512x128 .f32) (x4 : Vec F S4x512x256 .bf16) (x5 : Vec F S1x256 .f32) (xs : Vec F S4x256x128 .f32)

/-- The pieces of the result tile its block: thirty-two of 64 rows of one batch. -/
theorem cover0_6
    (y : S4x512x256.Idx) :
    ∃ pc ∈ (pieces c i arg1 harg1 arg2 harg2 arg3 harg3 arg4 harg4 arg5 harg5 arg6 harg6 arg7 harg7 arg8 harg8 x0 x1 x2 x3 x4 x5 xs).1, y ∈ pc.1.set :=
  View.cover_of_tiledL (pieces c i arg1 harg1 arg2 harg2 arg3 harg3 arg4 harg4 arg5 harg5 arg6 harg6 arg7 harg7 arg8 harg8 x0 x1 x2 x3 x4 x5 xs).1 S1x64x256.size (by sl_kernel_rfl) y

/-- The pieces of the carried state cover it: each chunk writes the state of each batch whole. -/
theorem scover0_0
    (y : S4x256x128.Idx) :
    ∃ pc ∈ (pieces c i arg1 harg1 arg2 harg2 arg3 harg3 arg4 harg4 arg5 harg5 arg6 harg6 arg7 harg7 arg8 harg8 x0 x1 x2 x3 x4 x5 xs).2, y ∈ pc.1.set :=
  View.cover_of_tiledL (pieces c i arg1 harg1 arg2 harg2 arg3 harg3 arg4 harg4 arg5 harg5 arg6 harg6 arg7 harg7 arg8 harg8 x0 x1 x2 x3 x4 x5 xs).2 S1x256x128.size (by sl_kernel_rfl) y

/-- The block of the result a grid point leaves, from the state `xs`. -/
def out0_6
    : Vec F S4x512x256 .bf16 :=
  VO0_6.read (Elt F) (VO0_6.writes (Elt F) VO0_6.junk (pieces c i arg1 harg1 arg2 harg2 arg3 harg3 arg4 harg4 arg5 harg5 arg6 harg6 arg7 harg7 arg8 harg8 x0 x1 x2 x3 x4 x5 xs).1)

/-- The state a grid point leaves, from the state `xs`. -/
def sout0_0
    : Vec F S4x256x128 .f32 :=
  VS0_0.read (Elt F) (VS0_0.writes (Elt F) VS0_0.junk (pieces c i arg1 harg1 arg2 harg2 arg3 harg3 arg4 harg4 arg5 harg5 arg6 harg6 arg7 harg7 arg8 harg8 x0 x1 x2 x3 x4 x5 xs).2)

end Block

/-- The block of the result and the state a grid point leaves, from the state `xs`, at the point's own buffers. -/
def stepAt0 (c : Dev nD) (t : Fin cfg0.N) (xs : Vec F S4x256x128 .f32) : Vec F S4x512x256 .bf16 × Vec F S4x256x128 .f32 :=
  (out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) xs,
   sout0_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) xs)

/-- What the result's buffer and the carried state hold after each point: the first point starts from zeros, each other
    from the state the point before left. -/
def outsAt0 (c : Dev nD) : (n : ℕ) → n < cfg0.N → Vec F S4x512x256 .bf16 × Vec F S4x256x128 .f32
  | 0, hn => stepAt0 m c ⟨0, hn⟩ zeros
  | n + 1, hn => stepAt0 m c ⟨n + 1, hn⟩ (outsAt0 c n (Nat.lt_of_succ_lt hn)).2

theorem outsAt0_A (c : Dev nD) (t : Fin cfg0.N) (h : t.val = 0) : outsAt0 m c t.val t.isLt = stepAt0 m c t zeros := by
  obtain ⟨n, hn⟩ := t
  cases n with
  | zero => rfl
  | succ n => exact absurd h (Nat.succ_ne_zero n)

theorem outsAt0_B (c : Dev nD) (t : Fin cfg0.N) (h : t.val ≠ 0) :
    outsAt0 m c t.val t.isLt = stepAt0 m c t (outsAt0 m c (t.val - 1) (by have := t.isLt; omega)).2 := by
  obtain ⟨n, hn⟩ := t
  cases n with
  | zero => exact absurd rfl h
  | succ n => rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The arrays of the proof data are the contents the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' buffers hold their blocks, the first point starts from any state and fills it
    with zeros, each other from what the point before left; the run applies, and the pieces it leaves cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 16 := lt_of_lt_of_eq t.isLt (show cfg0.N = 16 from N_0)
  by_cases hz : t.val = 0
  · rw [PhiS_castSucc m c t, PhiS_zero m c _ _ hz, PhiA0_eq, outsAt0_A m c t hz]
    unfold stepAt0 out0_6 sout0_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_A (F := F) c (grid0.coords t) _ _ _ _ _ _ _ _ _ _ _ _ _ _ _ _ (iblk m c 0 t) (iblk m c 1 t) (iblk m c 2 t) (iblk m c 3 t) (iblk m c 4 t) (iblk m c 5 t) ((hcond0_0 t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_0 c _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_6 c _ _ _ _ _ _ _ _ _ _ _ _ _ _ _ _ _ _ _ _ _ _ _ _ )
  · rw [PhiS_castSucc m c t, PhiS_pos m c _ _ hz, outsAt0_B m c t hz]
    unfold stepAt0 out0_6 sout0_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_B (F := F) c (grid0.coords t) _ _ _ _ _ _ _ _ _ _ _ _ _ _ _ _ (iblk m c 0 t) (iblk m c 1 t) (iblk m c 2 t) (iblk m c 3 t) (iblk m c 4 t) (iblk m c 5 t) _ (fun h => by have := (hcond0_0 t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_0 c _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_6 c _ _ _ _ _ _ _ _ _ _ _ _ _ _ _ _ _ _ _ _ _ _ _ _ )

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program ends, keeps its arguments, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GlaIdeal.Gen

end
-- ==== Proof.GlaMasks.lean ====
/- The masks of the linear attention's kernel: which columns belong to which head, which rows lie before which. -/
module

public import proofs.«01_k».proof.Proof.Gen.GlaIdeal.Skeleton
public import Idealize.ShloMosaic.Lib.Pointwise

@[expose] public section

noncomputable section

namespace Cert.GlaIdeal.Chunk

open Cert.GlaIdeal Cert.GlaIdeal.Gen Idealize.ShloMosaic Idealize.ShloMosaic.TcCoe Idealize.SL.Sem

/-- A state row's head is the key column's. -/
def mKey : IVec S256x128 1 :=
  k0_pay112 (iota .tc S256x128 32 [1] iota_S256x128_d1_w32) k0_pay108 32#32 k0_pay109 k0_pay110 k0_pay111
/-- The same for the four strips of a chunk, side by side. -/
def mKey4 : IVec S256x512 1 :=
  k0_pay113 (iota .tc S256x128 32 [1] iota_S256x128_d1_w32) k0_pay108 32#32 k0_pay109 k0_pay110 k0_pay111
/-- Two value columns are of one head. -/
def mVal : IVec S256x256 1 :=
  k0_pay117 (iota .tc S256x256 32 [1] iota_S256x256_d1_w32) k0_pay114 64#32 k0_pay115 k0_pay116
/-- The same as a number. -/
def mOne : FVec Ideal S256x256 .bf16 :=
  k0_pay118 (iota .tc S256x256 32 [1] iota_S256x256_d1_w32) k0_pay114 64#32 k0_pay115 k0_pay116
/-- The strip of a row. -/
def strip : IVec S64x128 32 := k0_pay1 (iota .tc S64x128 32 [0] iota_S64x128_d0_w32) 16#32

theorem c_zero : Ideal.ofBits .f32 0x00000000#32 = 0 := by simp [Ideal.ofBits, Ideal.ieee]
theorem c_one : Ideal.ofBits .f32 0x3F800000#32 = 1 := by
  have e : Ideal.ofBits .f32 0x3F800000#32 = ((1 : ℝ) : EReal) := by simp [Ideal.ofBits, Ideal.ieee, -EReal.coe_mul]; norm_num
  simpa using e

/-- The head of a value column. -/
theorem head_e (e : Fin 256) (d : Fin 128) : k0_pay108 (ix2 e d) = BitVec.ofNat 32 (e.val / 64) := by
  have h : ∀ e : Fin 256, k0_pay108 (ix2 e 0) = BitVec.ofNat 32 (e.val / 64) := by decide +kernel
  exact h e

theorem mKey_apply (e : Fin 256) (d : Fin 128) : mKey (ix2 e d) = if e.val / 64 = d.val / 32 then 1#1 else 0#1 := by
  have k : ∀ d : Fin 128, ∀ x : Fin 4, mKey (ix2 ⟨64 * x.val, by omega⟩ d) = if x.val = d.val / 32 then 1#1 else 0#1 := by decide +kernel
  have kk := k d ⟨e.val / 64, by omega⟩
  refine Eq.trans (congrArg (fun z => IntOp.cmpi .eq z _) ((head_e e d).trans ?_)) kk
  rw [head_e]
  congr 1
  show e.val / 64 = 64 * (e.val / 64) / 64
  omega

/-- The head of a value column, as the rows of the square mask have it. -/
theorem head_p (e : Fin 256) (d : Fin 256) : k0_pay114 (ix2 e d) = BitVec.ofNat 32 (e.val / 64) := by
  have h : ∀ e : Fin 256, k0_pay114 (ix2 e 0) = BitVec.ofNat 32 (e.val / 64) := by decide +kernel
  exact h e

theorem mVal_apply (e : Fin 256) (d : Fin 256) : mVal (ix2 e d) = if e.val / 64 = d.val / 64 then 1#1 else 0#1 := by
  have k : ∀ d : Fin 256, ∀ x : Fin 4, mVal (ix2 ⟨64 * x.val, by omega⟩ d) = if x.val = d.val / 64 then 1#1 else 0#1 := by decide +kernel
  have kk := k d ⟨e.val / 64, by omega⟩
  refine Eq.trans (congrArg (fun z => IntOp.cmpi .eq z _) ((head_p e d).trans ?_)) kk
  rw [head_p]
  congr 1
  show e.val / 64 = 64 * (e.val / 64) / 64
  omega

theorem strip_apply (i : Fin 64) (d : Fin 128) : strip (ix2 i d) = BitVec.ofNat 32 (i.val / 16) := by
  have h : ∀ i : Fin 64, strip (ix2 i 0) = BitVec.ofNat 32 (i.val / 16) := by decide +kernel
  exact h i

theorem causal_apply (i : Fin 64) (p : Fin 256) : k0_pay119 (ix2 i p) = if p.val % 64 ≤ i.val then 1#1 else 0#1 := by
  have h : ∀ i : Fin 64, ∀ p : Fin 256, k0_pay119 (ix2 i p) = if p.val % 64 ≤ i.val then 1#1 else 0#1 := by decide +kernel
  exact h i p

theorem tri_apply (i j : Fin 64) : k0_pay107 (F := Ideal) (ix2 i j) = if j ≤ i then 1 else 0 := by
  have h : ∀ i j : Fin 64, IntOp.cmpi .sge (BitVec.ofNat 32 i.val) (BitVec.ofNat 32 j.val) = if j ≤ i then 1#1 else 0#1 := by decide +kernel
  pointwise [k0_pay107]
  rw [h]
  by_cases hh : j ≤ i <;> simp [hh, Scalar.select]

end Cert.GlaIdeal.Chunk
-- ==== Proof.GlaReal.lean ====
/- The gated linear attention over the real numbers: its states, its rows, and how a chunk of 64 rows carries one to the next. -/
module

public import proofs.«01_k».proof.Proof.GlaMasks

@[expose] public section

noncomputable section

namespace Cert.GlaIdeal.Chunk

/-- The sum of the logarithms of decays before row `t`. -/
def pre (g : ℕ → ℝ) (t : ℕ) : ℝ := ∑ s ∈ Finset.range t, g s

theorem pre_succ (g : ℕ → ℝ) (t : ℕ) : pre g (t + 1) = pre g t + g t := Finset.sum_range_succ g t

theorem pre_add (g : ℕ → ℝ) (n m : ℕ) : pre g (n + m) = pre g n + ∑ j ∈ Finset.range m, g (n + j) := by
  induction m with
  | zero => simp
  | succ m ih => rw [← Nat.add_assoc, pre_succ, ih, Finset.sum_range_succ, add_assoc]

/-- The running sum inside a chunk that begins at row `n`. -/
theorem chunk_sum (g : ℕ → ℝ) (n : ℕ) (i : Fin 64) :
    (∑ j : Fin 64, if j ≤ i then g (n + j.val) else 0) = pre g (n + i.val + 1) - pre g n := by
  have e : (∑ j : Fin 64, if j ≤ i then g (n + j.val) else 0) = ∑ j ∈ Finset.range 64, if j ≤ i.val then g (n + j) else 0 := by
    rw [Finset.sum_range]
    exact Finset.sum_congr rfl fun j _ => by simp only [Fin.le_def]
  have f : Finset.filter (fun j => j ≤ i.val) (Finset.range 64) = Finset.range (i.val + 1) := by
    ext j
    have := i.isLt
    simp only [Finset.mem_filter, Finset.mem_range]
    omega
  rw [e, ← Finset.sum_filter, f, add_assoc, pre_add]
  ring

theorem pre_anti (g : ℕ → ℝ) (h : ∀ s, g s ≤ 0) (n m : ℕ) : pre g (n + m) ≤ pre g n := by
  rw [pre_add]
  have := Finset.sum_nonpos (s := Finset.range m) (f := fun j => g (n + j)) fun j _ => h _
  linarith

theorem pre_slow (g : ℕ → ℝ) (h : ∀ s, -5 ≤ g s) (n m : ℕ) : pre g n - 5 * m ≤ pre g (n + m) := by
  induction m with
  | zero => simp
  | succ m ih =>
    rw [← Nat.add_assoc, pre_succ]
    have := h (n + m)
    push_cast
    linarith

/-- The exponents the kernel cuts off at eighty never reach it. -/
theorem cut (g : ℕ → ℝ) (h0 : ∀ s, g s ≤ 0) (h5 : ∀ s, -5 ≤ g s) (n j s : ℕ) (hj : j / 16 ≤ s) :
    pre g (n + 16 * s + 1) - pre g (n + j + 1) ≤ 80 := by
  by_cases hs : j ≤ 16 * s
  · have := pre_anti g h0 (n + j + 1) (16 * s - j)
    rw [show n + j + 1 + (16 * s - j) = n + 16 * s + 1 by omega] at this
    linarith
  · have := pre_slow g h5 (n + 16 * s + 1) (j - 16 * s)
    rw [show n + 16 * s + 1 + (j - 16 * s) = n + j + 1 by omega] at this
    have h15 : j - 16 * s ≤ 15 := by omega
    have : ((j - 16 * s : ℕ) : ℝ) ≤ 15 := by exact_mod_cast h15
    linarith

variable (q k g : ℕ → Fin 128 → ℝ) (v : ℕ → Fin 256 → ℝ)

/-- The state before row `n`. -/
def state (n : ℕ) (e : Fin 256) (d : Fin 128) : ℝ :=
  if e.val / 64 = d.val / 32 then ∑ s ∈ Finset.range n, v s e * k s d * Real.exp (pre (fun t => g t d) n - pre (fun t => g t d) (s + 1)) else 0

/-- The weight of row `s` for row `t` in head `h`. -/
def wt (h t s : ℕ) : ℝ :=
  ∑ d : Fin 128, if d.val / 32 = h then q t d * k s d * Real.exp (pre (fun t => g t d) (t + 1) - pre (fun t => g t d) (s + 1)) else 0

/-- The sum of row `t`. -/
def row (t : ℕ) (e : Fin 256) : ℝ := ∑ s ∈ Finset.range (t + 1), wt q k g (e.val / 64) t s * v s e

theorem state_zero (e : Fin 256) (d : Fin 128) : state k g v 0 e d = 0 := by simp [state]

theorem state_step (n : ℕ) (e : Fin 256) (d : Fin 128) :
    state k g v n e d * Real.exp (pre (fun t => g t d) (n + 63 + 1) - pre (fun t => g t d) n)
      + (if e.val / 64 = d.val / 32 then ∑ j : Fin 64, v (n + j.val) e * (k (n + j.val) d
          * Real.exp ((pre (fun t => g t d) (n + 63 + 1) - pre (fun t => g t d) n) - (pre (fun t => g t d) (n + j.val + 1) - pre (fun t => g t d) n))) else 0)
      = state k g v (n + 64) e d := by
  unfold state
  split
  · rw [Finset.sum_range_add, Finset.sum_mul]
    refine congrArg₂ (· + ·) (Finset.sum_congr rfl fun s _ => ?_) ?_
    · rw [mul_assoc, ← Real.exp_add]
      congr 2
      ring
    · rw [Finset.sum_range]
      refine Finset.sum_congr rfl fun s _ => ?_
      rw [mul_assoc]
      congr 3
      ring
  · simp

theorem row_split (n : ℕ) (i : Fin 64) (e : Fin 256) :
    (∑ j : Fin 64, (if j ≤ i then ∑ d : Fin 128, (if d.val / 32 = e.val / 64 then q (n + i.val) d * k (n + j.val) d
        * Real.exp ((pre (fun t => g t d) (n + i.val + 1) - pre (fun t => g t d) n) - (pre (fun t => g t d) (n + j.val + 1) - pre (fun t => g t d) n)) else 0) else 0) * v (n + j.val) e)
      + ∑ d : Fin 128, q (n + i.val) d * Real.exp (pre (fun t => g t d) (n + i.val + 1) - pre (fun t => g t d) n) * state k g v n e d
      = row q k g v (n + i.val) e := by
  have a : (∑ j : Fin 64, (if j ≤ i then ∑ d : Fin 128, (if d.val / 32 = e.val / 64 then q (n + i.val) d * k (n + j.val) d
        * Real.exp ((pre (fun t => g t d) (n + i.val + 1) - pre (fun t => g t d) n) - (pre (fun t => g t d) (n + j.val + 1) - pre (fun t => g t d) n)) else 0) else 0) * v (n + j.val) e)
      = ∑ j ∈ Finset.range (i.val + 1), wt q k g (e.val / 64) (n + i.val) (n + j) * v (n + j) e := by
    have f : Finset.filter (fun j => j ≤ i.val) (Finset.range 64) = Finset.range (i.val + 1) := by
      ext j
      have := i.isLt
      simp only [Finset.mem_filter, Finset.mem_range]
      omega
    rw [← f, Finset.sum_filter, Finset.sum_range]
    refine Finset.sum_congr rfl fun j _ => ?_
    simp only [Fin.le_def]
    split
    · unfold wt
      refine congrArg (· * _) (Finset.sum_congr rfl fun d _ => ?_)
      split
      · congr 2
        ring
      · rfl
    · rw [zero_mul]
  have b : (∑ d : Fin 128, q (n + i.val) d * Real.exp (pre (fun t => g t d) (n + i.val + 1) - pre (fun t => g t d) n) * state k g v n e d)
      = ∑ s ∈ Finset.range n, wt q k g (e.val / 64) (n + i.val) s * v s e := by
    unfold wt state
    simp only [Finset.sum_mul]
    rw [Finset.sum_comm]
    refine Finset.sum_congr rfl fun d _ => ?_
    by_cases h : e.val / 64 = d.val / 32
    · rw [if_pos h, Finset.mul_sum]
      refine Finset.sum_congr rfl fun s _ => ?_
      rw [if_pos h.symm, show pre (fun t => g t d) (n + i.val + 1) - pre (fun t => g t d) (s + 1)
        = (pre (fun t => g t d) (n + i.val + 1) - pre (fun t => g t d) n) + (pre (fun t => g t d) n - pre (fun t => g t d) (s + 1)) by ring, Real.exp_add]
      ring
    · rw [if_neg h, mul_zero]
      symm
      refine Finset.sum_eq_zero fun s _ => ?_
      rw [if_neg (fun h' => h h'.symm), zero_mul]
  rw [a, b, row, add_assoc n i.val 1, Finset.sum_range_add (fun s => wt q k g (e.val / 64) (n + i.val) s * v s e) n (i.val + 1), add_comm]

/-- A sum of reals, read as an extended real. -/
theorem coe_sum {n : ℕ} (f : Fin n → ℝ) : ((∑ i, f i : ℝ) : EReal) = ∑ i, (f i : EReal) := by
  classical
  refine Finset.induction_on Finset.univ (by simp) ?_
  intro a s ha ih
  rw [Finset.sum_insert ha, Finset.sum_insert ha, EReal.coe_add, ih]

/-- A sum over a product of ranges, split. -/
theorem sum_split {M : Type} [AddCommMonoid M] (m n : ℕ) (F : Fin (m * n) → M) :
    (∑ x, F x) = ∑ a : Fin m, ∑ b : Fin n, F ⟨n * a.val + b.val, by
      have := a.isLt
      have := b.isLt
      calc n * a.val + b.val < n * a.val + n := by omega
        _ = n * (a.val + 1) := by ring
        _ ≤ n * m := Nat.mul_le_mul_left _ (by omega)
        _ = m * n := Nat.mul_comm _ _⟩ := by
  have e : (∑ x, F x) = ∑ p : Fin m × Fin n, F (finProdFinEquiv p) := (Equiv.sum_comp finProdFinEquiv F).symm
  rw [e, Fintype.sum_prod_type]
  refine Finset.sum_congr rfl fun a _ => Finset.sum_congr rfl fun b _ => ?_
  refine congrArg F (Fin.ext ?_)
  simp [finProdFinEquiv, Nat.add_comm]

end Cert.GlaIdeal.Chunk

end
-- ==== Proof.GlaChunk.lean ====
/- One chunk of the linear attention's kernel for one sequence, at real arguments: its running sums, its rows, its state. -/
module

public import proofs.«01_k».proof.Proof.GlaReal

@[expose] public section

noncomputable section

namespace Cert.GlaIdeal.Chunk

open Cert.GlaIdeal Cert.GlaIdeal.Gen Idealize.ShloMosaic Idealize.ShloMosaic.TcCoe Idealize.SL.Sem

variable (q k g : Vec Ideal S1x64x128 .f32) (v : Vec Ideal S1x64x256 .f32) (st : Vec Ideal S1x256x128 .f32)
  (gn : Vec Ideal S1x256 .f32) (sc : Vec Ideal S1x64x256 .bf16)

/-- The running sums of a chunk's logarithms of decays. -/
def bT : FVec Ideal S64x128 .f32 := k0_pay7 k0_pay107 g
/-- The queries of the four strips, each against its strip's first row. -/
def qT (b : FVec Ideal S64x128 .f32) : FVec Ideal S64x512 .bf16 := k0_pay61 strip (k0_pay43 strip (k0_pay4 q) b)
/-- The keys against the first row of each strip. -/
def kT (b : FVec Ideal S64x128 .f32) : FVec Ideal S64x512 .f32 :=
  k0_pay64 strip (k0_pay5 k) b (k0_pay41 b) (k0_pay42 b) (k0_pay62 strip (k0_pay5 k) b (k0_pay39 b)) (k0_pay63 strip (k0_pay5 k) b (k0_pay40 b))
/-- The weights of a chunk's rows for its own rows. -/
def aT (b : FVec Ideal S64x128 .f32) : FVec Ideal S64x256 .f32 := k0_pay84 mKey4 k0_pay119 (qT q b) (kT k b)
/-- The chunk's sums. -/
def oT (b : FVec Ideal S64x128 .f32) : FVec Ideal S64x256 .f32 :=
  k0_pay88 mVal (k0_pay6 v) (k0_pay23 (k0_pay4 q) b) (k0_pay25 st) (aT q k b)
/-- The state after the chunk. -/
def sT (b : FVec Ideal S64x128 .f32) : FVec Ideal S1x256x128 .f32 :=
  k0_pay94 mKey (k0_pay92 (k0_pay6 v) (k0_pay24 (k0_pay5 k) b)) (k0_pay93 (k0_pay22 b) (k0_pay25 st)) (Scalar.ofBits .f32 0x00000000#32)
/-- The chunk's result. -/
def rT (o : FVec Ideal S64x256 .f32) : FVec Ideal S1x64x256 .bf16 := k0_pay103 o (k0_pay102 mOne o) gn sc

theorem bT_apply (G : Fin 64 → Fin 128 → ℝ) (hg : ∀ i d, g (ix3 0 i d) = (G i d : EReal)) (i : Fin 64) (d : Fin 128) :
    bT g (ix2 i d) = ((∑ j : Fin 64, if j ≤ i then G j d else 0 : ℝ) : EReal) := by
  pointwise [bT, k0_pay7]
  rw [coe_sum]
  simp only [hg, tri_apply]
  have z : ∀ r : ℝ, ((r : EReal) - (r : EReal)) = 0 := fun r => by rw [← EReal.coe_sub, sub_self, EReal.coe_zero]
  have z0 : (0 : EReal) - 0 = 0 := by simp
  simp only [z, z0, mul_zero, Finset.sum_const_zero, add_zero]
  refine Finset.sum_congr rfl fun j _ => ?_
  split <;> simp

theorem sel {α : Type} (p : Prop) [Decidable p] (x y : α) : Scalar.select (if p then 1#1 else 0#1) x y = if p then x else y := by
  by_cases h : p <;> simp [h, Scalar.select]

/-- Comparing the strip of a row with a strip's number. -/
theorem strip_ge (x : Fin 4) : IntOp.cmpi .sge (BitVec.ofNat 32 x.val) 1#32 = (if 1 ≤ x.val then 1#1 else 0#1)
    ∧ IntOp.cmpi .sge (BitVec.ofNat 32 x.val) 2#32 = (if 2 ≤ x.val then 1#1 else 0#1)
    ∧ IntOp.cmpi .sge (BitVec.ofNat 32 x.val) 3#32 = (if 3 ≤ x.val then 1#1 else 0#1) := by revert x; decide +kernel
theorem strip_eq (x : Fin 4) : IntOp.cmpi .eq (BitVec.ofNat 32 x.val) 0#32 = (if x.val = 0 then 1#1 else 0#1)
    ∧ IntOp.cmpi .eq (BitVec.ofNat 32 x.val) 1#32 = (if x.val = 1 then 1#1 else 0#1)
    ∧ IntOp.cmpi .eq (BitVec.ofNat 32 x.val) 2#32 = (if x.val = 2 then 1#1 else 0#1)
    ∧ IntOp.cmpi .eq (BitVec.ofNat 32 x.val) 3#32 = (if x.val = 3 then 1#1 else 0#1) := by revert x; decide +kernel
theorem strip_le (x : Fin 4) : IntOp.cmpi .sle (BitVec.ofNat 32 x.val) 0#32 = (if x.val ≤ 0 then 1#1 else 0#1)
    ∧ IntOp.cmpi .sle (BitVec.ofNat 32 x.val) 1#32 = (if x.val ≤ 1 then 1#1 else 0#1)
    ∧ IntOp.cmpi .sle (BitVec.ofNat 32 x.val) 2#32 = (if x.val ≤ 2 then 1#1 else 0#1)
    ∧ IntOp.cmpi .sle (BitVec.ofNat 32 x.val) 3#32 = (if x.val ≤ 3 then 1#1 else 0#1) := by revert x; decide +kernel

theorem qT_apply (b : FVec Ideal S64x128 .f32) (i : Fin 64) (s : Fin 4) (d : Fin 128) : qT q b (ix2 i ⟨128 * s.val + d.val, by omega⟩)
    = if i.val / 16 = s.val then q (ix3 0 i d) * Ideal.exp (b (ix2 i d) - b (ix2 ⟨16 * s.val, by omega⟩ d)) else 0 := by
  obtain ⟨g1, g2, g3⟩ := strip_ge ⟨i.val / 16, by omega⟩
  obtain ⟨e0, e1, e2, e3⟩ := strip_eq ⟨i.val / 16, by omega⟩
  dsimp only at g1 g2 g3 e0 e1 e2 e3
  have hd := d.isLt
  obtain ⟨s, hs⟩ := s
  pointwise [qT, k0_pay61, k0_pay43, k0_pay4, k0_pay39, k0_pay40, k0_pay41, k0_pay42]
  simp only [strip_apply, g1, g2, g3, e0, e1, e2, e3, sel]
  interval_cases s
  all_goals simp only [Nat.mul_zero, Nat.zero_add, show 128 * 1 + d.val - 128 = d.val by omega, show 128 * 2 + d.val - 128 - 128 = d.val by omega, show 128 * 3 + d.val - 128 - 128 - 128 = d.val by omega, Fin.eta]
  all_goals (split_ifs <;> first | (exfalso; omega) | rfl)

theorem kT_apply (b : FVec Ideal S64x128 .f32) (j : Fin 64) (s : Fin 4) (d : Fin 128) : kT k b (ix2 j ⟨128 * s.val + d.val, by omega⟩)
    = if j.val / 16 ≤ s.val then k (ix3 0 j d) * Ideal.exp (min (b (ix2 ⟨16 * s.val, by omega⟩ d) - b (ix2 j d)) (Ideal.ofBits .f32 0x42A00000#32)) else 0 := by
  obtain ⟨e0, e1, e2, e3⟩ := strip_le ⟨j.val / 16, by omega⟩
  dsimp only at e0 e1 e2 e3
  have hd := d.isLt
  obtain ⟨s, hs⟩ := s
  pointwise [kT, k0_pay64, k0_pay63, k0_pay62, k0_pay5, k0_pay39, k0_pay40, k0_pay41, k0_pay42]
  simp only [strip_apply, e0, e1, e2, e3, sel]
  interval_cases s
  all_goals simp only [Nat.mul_zero, Nat.zero_add, show 128 * 1 + d.val - 128 = d.val by omega, show 128 * 2 + d.val - 128 - 128 = d.val by omega, show 128 * 3 + d.val - 128 - 128 - 128 = d.val by omega, Fin.eta]
  all_goals (split_ifs <;> first | (exfalso; omega) | rfl)

theorem aT_apply (b : FVec Ideal S64x128 .f32) (i j : Fin 64) (h : Fin 4) : aT q k b (ix2 i ⟨64 * h.val + j.val, by omega⟩)
    = if j ≤ i then ∑ s : Fin 4, ∑ d : Fin 128, (if d.val / 32 = h.val then qT q b (ix2 i ⟨128 * s.val + d.val, by omega⟩) * kT k b (ix2 j ⟨128 * s.val + d.val, by omega⟩) else 0) else 0 := by
  have hm : ∀ e d, k0_pay112 (iota Kind.tc S256x128 32 [1] iota_S256x128_d1_w32) k0_pay108 (32#32) k0_pay109 k0_pay110 k0_pay111 (ix2 e d) = if e.val / 64 = d.val / 32 then 1#1 else 0#1 := mKey_apply
  pointwise [aT, k0_pay84, mKey4, k0_pay113]
  rw [causal_apply]
  have hc : (64 * h.val + j.val) % 64 = j.val := by omega
  simp only [hc, Fin.le_def, sel, hm]
  refine if_congr Iff.rfl ?_ rfl
  refine (sum_split 4 128 _).trans (Finset.sum_congr rfl fun s _ => Finset.sum_congr rfl fun d _ => ?_)
  dsimp only
  have hk : ∀ y : Fin 64, y.val = j.val → qT q b (ix2 i ⟨128 * s.val + d.val, by omega⟩) * kT k b (ix2 y ⟨128 * s.val + d.val, by omega⟩)
      = qT q b (ix2 i ⟨128 * s.val + d.val, by omega⟩) * kT k b (ix2 j ⟨128 * s.val + d.val, by omega⟩) := fun y hy => by rw [Fin.ext hy]
  have hd := d.isLt
  have hj := j.isLt
  have t1 : ∀ x y : EReal, Scalar.select 1#1 x y = x := fun _ _ => rfl
  have t0 : ∀ x y : EReal, Scalar.select 0#1 x y = y := fun _ _ => rfl
  by_cases h32 : d.val / 32 = h.val
  · rw [if_pos h32]
    split_ifs <;> first | (exfalso; omega) | (rw [t1]; exact hk ⟨_, _⟩ (by dsimp only; omega))
  · rw [if_neg h32]
    split_ifs <;> first | (exfalso; omega) | exact t0 _ _

theorem c_eighty : Ideal.ofBits .f32 0x42A00000#32 = ((80 : ℝ) : EReal) := by
  simp [Ideal.ofBits, Ideal.ieee, -EReal.coe_mul]; norm_num

section Real
variable (Q K B : Fin 64 → Fin 128 → ℝ) (V : Fin 64 → Fin 256 → ℝ) (S : Fin 256 → Fin 128 → ℝ) (b : FVec Ideal S64x128 .f32)
  (hq : ∀ i d, q (ix3 0 i d) = (Q i d : EReal)) (hk : ∀ i d, k (ix3 0 i d) = (K i d : EReal)) (hv : ∀ i e, v (ix3 0 i e) = (V i e : EReal))
  (hs : ∀ e d, st (ix3 0 e d) = (S e d : EReal)) (hb : ∀ i d, b (ix2 i d) = (B i d : EReal))
  (hcut : ∀ (s : Fin 4) (j : Fin 64) d, j.val / 16 ≤ s.val → B ⟨16 * s.val, by omega⟩ d - B j d ≤ 80)

include hq hk hb hcut in
/-- The weight of a chunk's row for an earlier row, or the same one, of the chunk. -/
theorem aT_real (i j : Fin 64) (h : Fin 4) : aT q k b (ix2 i ⟨64 * h.val + j.val, by omega⟩)
    = ((if j ≤ i then ∑ d : Fin 128, (if d.val / 32 = h.val then Q i d * K j d * Real.exp (B i d - B j d) else 0) else 0 : ℝ) : EReal) := by
  rw [aT_apply]
  split
  case isFalse => rw [EReal.coe_zero]
  case isTrue hij =>
    rw [Fin.le_def] at hij
    rw [Finset.sum_eq_single (⟨i.val / 16, by omega⟩ : Fin 4), coe_sum]
    · refine Finset.sum_congr rfl fun d _ => ?_
      split
      · rw [qT_apply, kT_apply, if_pos rfl, if_pos (by dsimp only; omega), hq, hk, hb, hb, hb, c_eighty]
        have hc := hcut ⟨i.val / 16, by omega⟩ j d (by dsimp only; omega)
        rw [← EReal.coe_sub, ← EReal.coe_sub, min_eq_left (EReal.coe_le_coe_iff.mpr hc), Ideal.exp_coe, Ideal.exp_coe, ← EReal.coe_mul, ← EReal.coe_mul, ← EReal.coe_mul]
        congr 1
        rw [show B i d - B j d = (B i d - B ⟨16 * (i.val / 16), by omega⟩ d) + (B ⟨16 * (i.val / 16), by omega⟩ d - B j d) by ring, Real.exp_add]
        ring
      · rw [EReal.coe_zero]
    · intro s _ hne
      refine Finset.sum_eq_zero fun d _ => ?_
      simp only [qT_apply, if_neg (show ¬ i.val / 16 = s.val from fun h' => hne (Fin.ext h'.symm)), zero_mul, ite_self]
    · intro hn
      exact absurd (Finset.mem_univ _) hn

include hq hk hv hs hb hcut in
/-- A chunk's sums. -/
theorem oT_real (i : Fin 64) (e : Fin 256) : oT q k v st b (ix2 i e)
    = (((∑ j : Fin 64, (if j ≤ i then ∑ d : Fin 128, (if d.val / 32 = e.val / 64 then Q i d * K j d * Real.exp (B i d - B j d) else 0) else 0) * V j e)
      + ∑ d : Fin 128, Q i d * Real.exp (B i d) * S e d : ℝ) : EReal) := by
  have ha := aT_real q k Q K B b hq hk hb hcut i
  pointwise [oT, k0_pay88, k0_pay6, k0_pay23, k0_pay25, k0_pay4]
  rw [EReal.coe_add]
  refine congrArg₂ (· + ·) ?_ ?_
  · refine (sum_split 4 64 _).trans ?_
    rw [Finset.sum_eq_single (⟨e.val / 64, by omega⟩ : Fin 4), coe_sum]
    · refine Finset.sum_congr rfl fun j _ => ?_
      dsimp only
      have ha' := ha j ⟨e.val / 64, by omega⟩
      dsimp only at ha'
      have hw : ∀ y : Fin 64, y.val = j.val → v (ix3 0 y e) = (V j e : EReal) := fun y hy => by rw [Fin.ext hy, hv]
      have hj := j.isLt
      rw [mVal_apply, sel, if_pos (by dsimp only; omega), ha', EReal.coe_mul]
      refine congrArg (_ * ·) ?_
      split_ifs <;> exact hw _ (by dsimp only; omega)
    · intro s _ hne
      refine Finset.sum_eq_zero fun j _ => ?_
      dsimp only
      have hj := j.isLt
      rw [mVal_apply, sel, if_neg]
      intro h'
      dsimp only at h'
      exact hne (Fin.ext (by dsimp only; omega))
    · intro hn
      exact absurd (Finset.mem_univ _) hn
  · rw [coe_sum]
    refine Finset.sum_congr rfl fun d _ => ?_
    rw [hq, hb, hs, Ideal.exp_coe, ← EReal.coe_mul, ← EReal.coe_mul]

include hk hv hs hb in
/-- The state after a chunk. -/
theorem sT_real (e : Fin 256) (d : Fin 128) : sT k v st b (ix3 0 e d)
    = ((S e d * Real.exp (B 63 d) + (if e.val / 64 = d.val / 32 then ∑ j : Fin 64, V j e * (K j d * Real.exp (B 63 d - B j d)) else 0) : ℝ) : EReal) := by
  pointwise [sT, k0_pay94, k0_pay93, k0_pay92, k0_pay6, k0_pay24, k0_pay22, k0_pay25, k0_pay5]
  rw [mKey_apply, sel, hs, hb, Ideal.exp_coe, EReal.coe_add, EReal.coe_mul]
  refine congrArg₂ (· + ·) rfl ?_
  split
  · rw [coe_sum]
    refine Finset.sum_congr rfl fun j _ => ?_
    rw [hv, hk, hb, ← EReal.coe_sub, Ideal.exp_coe, ← EReal.coe_mul, ← EReal.coe_mul]
  · rw [EReal.coe_zero]

end Real

/-- A row, normalised over each head, scaled and gated. -/
def nrm (f : Fin 256 → ℝ) (w s : EReal) (e : Fin 256) : EReal :=
  (f e : EReal) * Ideal.rsqrt (((∑ x : Fin 64, f ⟨64 * (e.val / 64) + x.val, by omega⟩ * f ⟨64 * (e.val / 64) + x.val, by omega⟩ : ℝ) : EReal)
    * Ideal.ofBits .f32 0x3C800000#32 + Ideal.ofBits .f32 0x3727C5AC#32) * w * s

theorem mOne_apply (x e : Fin 256) : mOne (ix2 x e) = if x.val / 64 = e.val / 64 then 1 else 0 := by
  have h : mOne (ix2 x e) = Scalar.select (mVal (ix2 x e)) 1 0 := by
    pointwise [mOne, k0_pay118]
    rfl
  rw [h, mVal_apply, sel]

theorem rT_real (o : FVec Ideal S64x256 .f32) (i : Fin 64) (f : Fin 256 → ℝ) (ho : ∀ e, o (ix2 i e) = (f e : EReal)) (e : Fin 256) :
    rT gn sc o (ix3 0 i e) = nrm f (gn (ix2 0 e)) (sc (ix3 0 i e)) e := by
  pointwise [rT, k0_pay103, k0_pay102]
  have z : ∀ r : ℝ, ((r : EReal) - (r : EReal)) = 0 := fun r => by rw [← EReal.coe_sub, sub_self, EReal.coe_zero]
  simp only [ho, mOne_apply, ← EReal.coe_mul, z, zero_mul, Finset.sum_const_zero, add_zero]
  unfold nrm
  have hsum : (∑ x : Fin 256, ((f x * f x : ℝ) : EReal) * (if x.val / 64 = e.val / 64 then 1 else 0))
      = ((∑ x : Fin 64, f ⟨64 * (e.val / 64) + x.val, by omega⟩ * f ⟨64 * (e.val / 64) + x.val, by omega⟩ : ℝ) : EReal) := by
    refine (sum_split 4 64 _).trans ?_
    rw [Finset.sum_eq_single (⟨e.val / 64, by omega⟩ : Fin 4), coe_sum]
    · refine Finset.sum_congr rfl fun j _ => ?_
      dsimp only
      have hj := j.isLt
      rw [if_pos (by omega), mul_one]
    · intro s _ hne
      refine Finset.sum_eq_zero fun j _ => ?_
      dsimp only
      have hj := j.isLt
      rw [if_neg, mul_zero]
      intro h'
      exact hne (Fin.ext (by dsimp only; omega))
    · intro hn
      exact absurd (Finset.mem_univ _) hn
  rw [hsum]

end Cert.GlaIdeal.Chunk

end
-- ==== Proof.GlaTrip.lean ====
/- The rectangles one chunk writes, as the chunk's rows and states of the four sequences. -/
module

public import proofs.«01_k».proof.Proof.GlaIdealRun
public import proofs.«01_k».proof.Proof.GlaChunk

@[expose] public section

noncomputable section

namespace Cert.GlaIdeal.Chunk

open Cert.GlaIdeal Cert.GlaIdeal.Gen Idealize.ShloMosaic Idealize.ShloMosaic.TcCoe Idealize.SL.Sem

variable (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x256 .f32) (harg3 : arg3.IsWhole) (arg4 : Memref sig .tc .vmem S4x512x128 .f32) (harg4 : arg4.IsWhole) (arg5 : Memref sig .tc .vmem S4x512x256 .bf16) (harg5 : arg5.IsWhole) (arg6 : Memref sig .tc .vmem S1x256 .f32) (harg6 : arg6.IsWhole) (arg7 : Memref sig .tc .vmem S4x512x256 .bf16) (harg7 : arg7.IsWhole) (arg8 : Memref sig .tc .vmem S4x256x128 .f32) (harg8 : arg8.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- What one chunk leaves, batch by batch: the rows of the result and the states. -/
theorem trip_eq (f7 : BufTy.Contents (Elt Ideal) arg7.view.ty) (f8 : BufTy.Contents (Elt Ideal) arg8.view.ty) (n : Fin k0_t1_loop.trips) :
    tripL_k0_t1 (F := Ideal) Variants.none c none i arg1 harg1 arg2 harg2 arg3 harg3 arg4 harg4 arg5 harg5 arg6 harg6 arg7 harg7 arg8 harg8 k0_pay107 (k0_pay112 (iota .tc S256x128 32 [1] iota_S256x128_d1_w32) k0_pay108 32#32 k0_pay109 k0_pay110 k0_pay111) (k0_pay113 (iota .tc S256x128 32 [1] iota_S256x128_d1_w32) k0_pay108 32#32 k0_pay109 k0_pay110 k0_pay111) (k0_pay117 (iota .tc S256x256 32 [1] iota_S256x256_d1_w32) k0_pay114 64#32 k0_pay115 k0_pay116) (k0_pay118 (iota .tc S256x256 32 [1] iota_S256x256_d1_w32) k0_pay114 64#32 k0_pay115 k0_pay116) k0_pay119 (iota .tc S64x128 32 [0] iota_S64x128_d0_w32) 16#32 X1 X2 X3 X4 X5 X6 n f7 f8
      = ([⟨(Rect.unit (s := S4x512x256) (k0_off8 n) S1x64x256.size (k0_off8_inb n)), rT (View.ld (arg6.view.read (Elt Ideal) X6) (Rect.unit (s := S1x256) ![0, 0] S1x256.size inb_S1x256_S1x256_0_0)) (View.ld (arg5.view.read (Elt Ideal) X5) (Rect.unit (s := S4x512x256) (k0_off8 n) S1x64x256.size (k0_off8_inb n))) (oT (View.ld (arg1.view.read (Elt Ideal) X1) (Rect.unit (s := S4x512x128) (k0_off7 n) S1x64x128.size (k0_off7_inb n))) (View.ld (arg2.view.read (Elt Ideal) X2) (Rect.unit (s := S4x512x128) (k0_off7 n) S1x64x128.size (k0_off7_inb n))) (View.ld (arg3.view.read (Elt Ideal) X3) (Rect.unit (s := S4x512x256) (k0_off8 n) S1x64x256.size (k0_off8_inb n))) (View.ld (arg8.view.read (Elt Ideal) f8) (Rect.unit (s := S4x256x128) ![3, 0, 0] S1x256x128.size inb_S4x256x128_S1x256x128_3_0_0)) (bT (View.ld (arg4.view.read (Elt Ideal) X4) (Rect.unit (s := S4x512x128) (k0_off7 n) S1x64x128.size (k0_off7_inb n)))))⟩,
        ⟨(Rect.unit (s := S4x512x256) (k0_off6 n) S1x64x256.size (k0_off6_inb n)), rT (View.ld (arg6.view.read (Elt Ideal) X6) (Rect.unit (s := S1x256) ![0, 0] S1x256.size inb_S1x256_S1x256_0_0)) (View.ld (arg5.view.read (Elt Ideal) X5) (Rect.unit (s := S4x512x256) (k0_off6 n) S1x64x256.size (k0_off6_inb n))) (oT (View.ld (arg1.view.read (Elt Ideal) X1) (Rect.unit (s := S4x512x128) (k0_off5 n) S1x64x128.size (k0_off5_inb n))) (View.ld (arg2.view.read (Elt Ideal) X2) (Rect.unit (s := S4x512x128) (k0_off5 n) S1x64x128.size (k0_off5_inb n))) (View.ld (arg3.view.read (Elt Ideal) X3) (Rect.unit (s := S4x512x256) (k0_off6 n) S1x64x256.size (k0_off6_inb n))) (View.ld (arg8.view.read (Elt Ideal) f8) (Rect.unit (s := S4x256x128) ![2, 0, 0] S1x256x128.size inb_S4x256x128_S1x256x128_2_0_0)) (bT (View.ld (arg4.view.read (Elt Ideal) X4) (Rect.unit (s := S4x512x128) (k0_off5 n) S1x64x128.size (k0_off5_inb n)))))⟩,
        ⟨(Rect.unit (s := S4x512x256) (k0_off4 n) S1x64x256.size (k0_off4_inb n)), rT (View.ld (arg6.view.read (Elt Ideal) X6) (Rect.unit (s := S1x256) ![0, 0] S1x256.size inb_S1x256_S1x256_0_0)) (View.ld (arg5.view.read (Elt Ideal) X5) (Rect.unit (s := S4x512x256) (k0_off4 n) S1x64x256.size (k0_off4_inb n))) (oT (View.ld (arg1.view.read (Elt Ideal) X1) (Rect.unit (s := S4x512x128) (k0_off3 n) S1x64x128.size (k0_off3_inb n))) (View.ld (arg2.view.read (Elt Ideal) X2) (Rect.unit (s := S4x512x128) (k0_off3 n) S1x64x128.size (k0_off3_inb n))) (View.ld (arg3.view.read (Elt Ideal) X3) (Rect.unit (s := S4x512x256) (k0_off4 n) S1x64x256.size (k0_off4_inb n))) (View.ld (arg8.view.read (Elt Ideal) f8) (Rect.unit (s := S4x256x128) ![1, 0, 0] S1x256x128.size inb_S4x256x128_S1x256x128_1_0_0)) (bT (View.ld (arg4.view.read (Elt Ideal) X4) (Rect.unit (s := S4x512x128) (k0_off3 n) S1x64x128.size (k0_off3_inb n)))))⟩,
        ⟨(Rect.unit (s := S4x512x256) (k0_off2 n) S1x64x256.size (k0_off2_inb n)), rT (View.ld (arg6.view.read (Elt Ideal) X6) (Rect.unit (s := S1x256) ![0, 0] S1x256.size inb_S1x256_S1x256_0_0)) (View.ld (arg5.view.read (Elt Ideal) X5) (Rect.unit (s := S4x512x256) (k0_off2 n) S1x64x256.size (k0_off2_inb n))) (oT (View.ld (arg1.view.read (Elt Ideal) X1) (Rect.unit (s := S4x512x128) (k0_off1 n) S1x64x128.size (k0_off1_inb n))) (View.ld (arg2.view.read (Elt Ideal) X2) (Rect.unit (s := S4x512x128) (k0_off1 n) S1x64x128.size (k0_off1_inb n))) (View.ld (arg3.view.read (Elt Ideal) X3) (Rect.unit (s := S4x512x256) (k0_off2 n) S1x64x256.size (k0_off2_inb n))) (View.ld (arg8.view.read (Elt Ideal) f8) (Rect.unit (s := S4x256x128) ![0, 0, 0] S1x256x128.size inb_S4x256x128_S1x256x128_0_0_0)) (bT (View.ld (arg4.view.read (Elt Ideal) X4) (Rect.unit (s := S4x512x128) (k0_off1 n) S1x64x128.size (k0_off1_inb n)))))⟩],
         [⟨(Rect.unit (s := S4x256x128) ![3, 0, 0] S1x256x128.size inb_S4x256x128_S1x256x128_3_0_0), sT (View.ld (arg2.view.read (Elt Ideal) X2) (Rect.unit (s := S4x512x128) (k0_off7 n) S1x64x128.size (k0_off7_inb n))) (View.ld (arg3.view.read (Elt Ideal) X3) (Rect.unit (s := S4x512x256) (k0_off8 n) S1x64x256.size (k0_off8_inb n))) (View.ld (arg8.view.read (Elt Ideal) f8) (Rect.unit (s := S4x256x128) ![3, 0, 0] S1x256x128.size inb_S4x256x128_S1x256x128_3_0_0)) (bT (View.ld (arg4.view.read (Elt Ideal) X4) (Rect.unit (s := S4x512x128) (k0_off7 n) S1x64x128.size (k0_off7_inb n))))⟩,
        ⟨(Rect.unit (s := S4x256x128) ![2, 0, 0] S1x256x128.size inb_S4x256x128_S1x256x128_2_0_0), sT (View.ld (arg2.view.read (Elt Ideal) X2) (Rect.unit (s := S4x512x128) (k0_off5 n) S1x64x128.size (k0_off5_inb n))) (View.ld (arg3.view.read (Elt Ideal) X3) (Rect.unit (s := S4x512x256) (k0_off6 n) S1x64x256.size (k0_off6_inb n))) (View.ld (arg8.view.read (Elt Ideal) f8) (Rect.unit (s := S4x256x128) ![2, 0, 0] S1x256x128.size inb_S4x256x128_S1x256x128_2_0_0)) (bT (View.ld (arg4.view.read (Elt Ideal) X4) (Rect.unit (s := S4x512x128) (k0_off5 n) S1x64x128.size (k0_off5_inb n))))⟩,
        ⟨(Rect.unit (s := S4x256x128) ![1, 0, 0] S1x256x128.size inb_S4x256x128_S1x256x128_1_0_0), sT (View.ld (arg2.view.read (Elt Ideal) X2) (Rect.unit (s := S4x512x128) (k0_off3 n) S1x64x128.size (k0_off3_inb n))) (View.ld (arg3.view.read (Elt Ideal) X3) (Rect.unit (s := S4x512x256) (k0_off4 n) S1x64x256.size (k0_off4_inb n))) (View.ld (arg8.view.read (Elt Ideal) f8) (Rect.unit (s := S4x256x128) ![1, 0, 0] S1x256x128.size inb_S4x256x128_S1x256x128_1_0_0)) (bT (View.ld (arg4.view.read (Elt Ideal) X4) (Rect.unit (s := S4x512x128) (k0_off3 n) S1x64x128.size (k0_off3_inb n))))⟩,
        ⟨(Rect.unit (s := S4x256x128) ![0, 0, 0] S1x256x128.size inb_S4x256x128_S1x256x128_0_0_0), sT (View.ld (arg2.view.read (Elt Ideal) X2) (Rect.unit (s := S4x512x128) (k0_off1 n) S1x64x128.size (k0_off1_inb n))) (View.ld (arg3.view.read (Elt Ideal) X3) (Rect.unit (s := S4x512x256) (k0_off2 n) S1x64x256.size (k0_off2_inb n))) (View.ld (arg8.view.read (Elt Ideal) f8) (Rect.unit (s := S4x256x128) ![0, 0, 0] S1x256x128.size inb_S4x256x128_S1x256x128_0_0_0)) (bT (View.ld (arg4.view.read (Elt Ideal) X4) (Rect.unit (s := S4x512x128) (k0_off1 n) S1x64x128.size (k0_off1_inb n))))⟩]) := by
  unfold tripL_k0_t1 trip_k0_t1
  rfl

end Cert.GlaIdeal.Chunk

end
-- ==== Proof.GlaBlock.lean ====
/- What a grid point of the linear attention leaves: eight chunks of 64 rows of each of the four sequences, the state
   carried from chunk to chunk. -/
module

public import proofs.«01_k».proof.Proof.GlaIdealFrame
public import proofs.«01_k».proof.Proof.GlaTrip

@[expose] public section

noncomputable section

namespace Cert.GlaIdeal.Chunk

open Cert.GlaIdeal Cert.GlaIdeal.Gen Idealize.ShloMosaic Idealize.ShloMosaic.TcCoe Idealize.SL.Sem

section Piece

variable (q k g : Vec Ideal S1x64x128 .f32) (v : Vec Ideal S1x64x256 .f32) (st : Vec Ideal S1x256x128 .f32)
  (gn : Vec Ideal S1x256 .f32) (sc : Vec Ideal S1x64x256 .bf16)
  (Q K G : ℕ → Fin 128 → ℝ) (V : ℕ → Fin 256 → ℝ) (n : ℕ)
  (h0 : ∀ s d, G s d ≤ 0) (h5 : ∀ s d, -5 ≤ G s d)
  (hq : ∀ i d, q (ix3 0 i d) = ((Q (n + i.val) d : ℝ) : EReal)) (hk : ∀ i d, k (ix3 0 i d) = ((K (n + i.val) d : ℝ) : EReal))
  (hg : ∀ i d, g (ix3 0 i d) = ((G (n + i.val) d : ℝ) : EReal)) (hv : ∀ i e, v (ix3 0 i e) = ((V (n + i.val) e : ℝ) : EReal))
  (hs : ∀ e d, st (ix3 0 e d) = ((state K G V n e d : ℝ) : EReal))

include hg in
/-- The running sums of a chunk are the differences of the sequence's. -/
theorem b_real (i : Fin 64) (d : Fin 128) :
    bT g (ix2 i d) = ((pre (fun t => G t d) (n + i.val + 1) - pre (fun t => G t d) n : ℝ) : EReal) := by
  rw [bT_apply g (fun i d => G (n + i.val) d) hg]
  exact congrArg _ (chunk_sum (fun t => G t d) n i)

include h0 h5 hq hk hg hv hs in
/-- A chunk's sums are the sequence's. -/
theorem o_real (i : Fin 64) (e : Fin 256) : oT q k v st (bT g) (ix2 i e) = ((row Q K G V (n + i.val) e : ℝ) : EReal) := by
  rw [oT_real q k v st (fun i d => Q (n + i.val) d) (fun i d => K (n + i.val) d)
    (fun i d => pre (fun t => G t d) (n + i.val + 1) - pre (fun t => G t d) n) (fun i e => V (n + i.val) e) (state K G V n) (bT g)
    hq hk hv hs (b_real g G n hg) ?_ i e]
  · exact congrArg _ (row_split Q K G V n i e)
  · intro s j d hj
    have := cut (fun t => G t d) (fun s => h0 s d) (fun s => h5 s d) n j.val s.val hj
    show (pre (fun t => G t d) (n + 16 * s.val + 1) - pre (fun t => G t d) n) - (pre (fun t => G t d) (n + j.val + 1) - pre (fun t => G t d) n) ≤ 80
    linarith

include hk hg hv hs in
/-- A chunk's state is the sequence's, 64 rows on. -/
theorem s_real (e : Fin 256) (d : Fin 128) : sT k v st (bT g) (ix3 0 e d) = ((state K G V (n + 64) e d : ℝ) : EReal) := by
  rw [sT_real k v st (fun i d => K (n + i.val) d)
    (fun i d => pre (fun t => G t d) (n + i.val + 1) - pre (fun t => G t d) n) (fun i e => V (n + i.val) e) (state K G V n) (bT g)
    hk hv hs (b_real g G n hg) e d]
  exact congrArg _ (state_step K G V n e d)

include h0 h5 hq hk hg hv hs in
/-- A chunk's rows of the result. -/
theorem r_real (i : Fin 64) (e : Fin 256) :
    rT gn sc (oT q k v st (bT g)) (ix3 0 i e) = nrm (row Q K G V (n + i.val)) (gn (ix2 0 e)) (sc (ix3 0 i e)) e :=
  rT_real gn sc _ i _ (fun e => o_real q k g v st Q K G V n h0 h5 hq hk hg hv hs i e) e

end Piece

theorem off1 : ∀ n : Fin k0_t1_loop.trips, k0_off1 n 0 = 0 ∧ k0_off1 n 1 = 64 * n.val ∧ k0_off1 n 2 = 0 := by decide +kernel
theorem off2 : ∀ n : Fin k0_t1_loop.trips, k0_off2 n 0 = 0 ∧ k0_off2 n 1 = 64 * n.val ∧ k0_off2 n 2 = 0 := by decide +kernel
theorem off3 : ∀ n : Fin k0_t1_loop.trips, k0_off3 n 0 = 1 ∧ k0_off3 n 1 = 64 * n.val ∧ k0_off3 n 2 = 0 := by decide +kernel
theorem off4 : ∀ n : Fin k0_t1_loop.trips, k0_off4 n 0 = 1 ∧ k0_off4 n 1 = 64 * n.val ∧ k0_off4 n 2 = 0 := by decide +kernel
theorem off5 : ∀ n : Fin k0_t1_loop.trips, k0_off5 n 0 = 2 ∧ k0_off5 n 1 = 64 * n.val ∧ k0_off5 n 2 = 0 := by decide +kernel
theorem off6 : ∀ n : Fin k0_t1_loop.trips, k0_off6 n 0 = 2 ∧ k0_off6 n 1 = 64 * n.val ∧ k0_off6 n 2 = 0 := by decide +kernel
theorem off7 : ∀ n : Fin k0_t1_loop.trips, k0_off7 n 0 = 3 ∧ k0_off7 n 1 = 64 * n.val ∧ k0_off7 n 2 = 0 := by decide +kernel
theorem off8 : ∀ n : Fin k0_t1_loop.trips, k0_off8 n 0 = 3 ∧ k0_off8 n 1 = 64 * n.val ∧ k0_off8 n 2 = 0 := by decide +kernel

/-- Row `r` of chunk `n` of a block. -/
def rowIn (n : ℕ) (hn : n < 8) (r : Fin 64) : Fin 512 := ⟨64 * n + r.val, by omega⟩

theorem idx_128 (off : Fin 3 → ℕ) (inb) (b : Fin 4) (n : ℕ) (hn : n < 8) (h : off 0 = b.val ∧ off 1 = 64 * n ∧ off 2 = 0) (r : Fin 64) (d : Fin 128) :
    (Rect.unit (s := S4x512x128) off S1x64x128.size inb).emb (ix3 0 r d) = ix3 b (rowIn n hn r) d := by
  obtain ⟨e0, e1, e2⟩ := h
  funext a; apply Fin.ext
  match a with
  | ⟨0, _⟩ => show off 0 + 1 * 0 = b.val; omega
  | ⟨1, _⟩ => show off 1 + 1 * r.val = 64 * n + r.val; omega
  | ⟨2, _⟩ => show off 2 + 1 * d.val = d.val; omega
theorem idx_256 (off : Fin 3 → ℕ) (inb) (b : Fin 4) (n : ℕ) (hn : n < 8) (h : off 0 = b.val ∧ off 1 = 64 * n ∧ off 2 = 0) (r : Fin 64) (d : Fin 256) :
    (Rect.unit (s := S4x512x256) off S1x64x256.size inb).emb (ix3 0 r d) = ix3 b (rowIn n hn r) d := by
  obtain ⟨e0, e1, e2⟩ := h
  funext a; apply Fin.ext
  match a with
  | ⟨0, _⟩ => show off 0 + 1 * 0 = b.val; omega
  | ⟨1, _⟩ => show off 1 + 1 * r.val = 64 * n + r.val; omega
  | ⟨2, _⟩ => show off 2 + 1 * d.val = d.val; omega
theorem idx_st (off : Fin 3 → ℕ) (inb) (b : Fin 4) (h : off 0 = b.val ∧ off 1 = 0 ∧ off 2 = 0) (e : Fin 256) (d : Fin 128) :
    (Rect.unit (s := S4x256x128) off S1x256x128.size inb).emb (ix3 0 e d) = ix3 b e d := by
  obtain ⟨e0, e1, e2⟩ := h
  funext a; apply Fin.ext
  match a with
  | ⟨0, _⟩ => show off 0 + 1 * 0 = b.val; omega
  | ⟨1, _⟩ => show off 1 + 1 * e.val = e.val; omega
  | ⟨2, _⟩ => show off 2 + 1 * d.val = d.val; omega
theorem idx_gn (inb) (e : Fin 256) : (Rect.unit (s := S1x256) ![0, 0] S1x256.size inb).emb (ix2 0 e) = ix2 0 e := by
  funext a; apply Fin.ext
  match a with
  | ⟨0, _⟩ => rfl
  | ⟨1, _⟩ => show 0 + 1 * e.val = e.val; omega

section Data

variable (q k g : Fin 4 → ℕ → Fin 128 → ℝ) (v : Fin 4 → ℕ → Fin 256 → ℝ) (N : ℕ)
  (x0 x1 x3 : Vec Ideal S4x512x128 .f32) (x2 : Vec Ideal S4x512x256 .f32) (x4 : Vec Ideal S4x512x256 .bf16) (x5 : Vec Ideal S1x256 .f32)
  (h0 : ∀ b s d, g b s d ≤ 0) (h5 : ∀ b s d, -5 ≤ g b s d)
  (hq : ∀ b i d, x0 (ix3 b i d) = ((q b (N + i.val) d : ℝ) : EReal)) (hk : ∀ b i d, x1 (ix3 b i d) = ((k b (N + i.val) d : ℝ) : EReal))
  (hv : ∀ b i e, x2 (ix3 b i e) = ((v b (N + i.val) e : ℝ) : EReal)) (hg : ∀ b i d, x3 (ix3 b i d) = ((g b (N + i.val) d : ℝ) : EReal))

/-- The block of the result. -/
def resB (y : S4x512x256.Idx) : EReal :=
  nrm (row (q (y 0)) (k (y 0)) (g (y 0)) (v (y 0)) (N + (y 1).val)) (x5 (ix2 0 (y 2))) (x4 y) (y 2)

/-- The states before row `n`. -/
def stB (n : ℕ) (y : S4x256x128.Idx) : EReal := ((state (k (y 0)) (g (y 0)) (v (y 0)) n (y 1) (y 2) : ℝ) : EReal)

variable (st : Vec Ideal S4x256x128 .f32) (n : ℕ) (hn : n < 8) (hs : st = stB k g v (N + 64 * n))
  (b : Fin 4) (o o' os : Fin 3 → ℕ) (ho : o 0 = b.val ∧ o 1 = 64 * n ∧ o 2 = 0) (ho' : o' 0 = b.val ∧ o' 1 = 64 * n ∧ o' 2 = 0)
  (hos : os 0 = b.val ∧ os 1 = 0 ∧ os 2 = 0)
  (inb) (inb') (inbs) (inbg)

include h0 h5 hq hk hv hg hs ho ho' hos hn in
/-- The rows a chunk leaves of sequence `b`. -/
theorem rows_eq (x : S1x64x256.Idx) :
    rT (View.ld x5 (Rect.unit (s := S1x256) ![0, 0] S1x256.size inbg)) (View.ld x4 (Rect.unit (s := S4x512x256) o' S1x64x256.size inb'))
      (oT (View.ld x0 (Rect.unit (s := S4x512x128) o S1x64x128.size inb)) (View.ld x1 (Rect.unit (s := S4x512x128) o S1x64x128.size inb))
        (View.ld x2 (Rect.unit (s := S4x512x256) o' S1x64x256.size inb')) (View.ld st (Rect.unit (s := S4x256x128) os S1x256x128.size inbs))
        (bT (View.ld x3 (Rect.unit (s := S4x512x128) o S1x64x128.size inb)))) x
      = resB q k g v N x4 x5 ((Rect.unit (s := S4x512x256) o' S1x64x256.size inb').emb x) := by
  obtain ⟨i, e, rfl⟩ : ∃ (i : Fin 64) (e : Fin 256), x = ix3 0 i e := ⟨x 1, x 2, (eq_ix3 x).trans (by congr 1; exact Subsingleton.elim (α := Fin 1) _ _)⟩
  have ea : ∀ r : Fin 64, N + (rowIn n hn r).val = N + 64 * n + r.val := fun r => (Nat.add_assoc _ _ _).symm
  rw [r_real _ _ _ _ _ _ _ (q b) (k b) (g b) (v b) (N + 64 * n) (h0 b) (h5 b) ?_ ?_ ?_ ?_ ?_ i e, idx_256 o' inb' b n hn ho' i e]
  · show nrm _ (x5 ((Rect.unit (s := S1x256) ![0, 0] S1x256.size inbg).emb (ix2 0 e)))
      (x4 ((Rect.unit (s := S4x512x256) o' S1x64x256.size inb').emb (ix3 0 i e))) e = _
    rw [idx_gn, idx_256 o' inb' b n hn ho' i e, ← ea]
    rfl
  · intro i d
    show x0 ((Rect.unit (s := S4x512x128) o S1x64x128.size inb).emb (ix3 0 i d)) = _
    rw [idx_128 o inb b n hn ho i d, hq, ea]
  · intro i d
    show x1 ((Rect.unit (s := S4x512x128) o S1x64x128.size inb).emb (ix3 0 i d)) = _
    rw [idx_128 o inb b n hn ho i d, hk, ea]
  · intro i d
    show x3 ((Rect.unit (s := S4x512x128) o S1x64x128.size inb).emb (ix3 0 i d)) = _
    rw [idx_128 o inb b n hn ho i d, hg, ea]
  · intro i d
    show x2 ((Rect.unit (s := S4x512x256) o' S1x64x256.size inb').emb (ix3 0 i d)) = _
    rw [idx_256 o' inb' b n hn ho' i d, hv, ea]
  · intro e d
    show st ((Rect.unit (s := S4x256x128) os S1x256x128.size inbs).emb (ix3 0 e d)) = _
    rw [idx_st os inbs b hos e d, hs]
    rfl

include hk hv hg hs ho ho' hos hn in
/-- The state a chunk leaves of sequence `b`. -/
theorem st_eq (x : S1x256x128.Idx) :
    sT (View.ld x1 (Rect.unit (s := S4x512x128) o S1x64x128.size inb))
        (View.ld x2 (Rect.unit (s := S4x512x256) o' S1x64x256.size inb')) (View.ld st (Rect.unit (s := S4x256x128) os S1x256x128.size inbs))
        (bT (View.ld x3 (Rect.unit (s := S4x512x128) o S1x64x128.size inb))) x
      = stB k g v (N + 64 * (n + 1)) ((Rect.unit (s := S4x256x128) os S1x256x128.size inbs).emb x) := by
  obtain ⟨e, d, rfl⟩ : ∃ (e : Fin 256) (d : Fin 128), x = ix3 0 e d := ⟨x 1, x 2, (eq_ix3 x).trans (by congr 1; exact Subsingleton.elim (α := Fin 1) _ _)⟩
  have ea : ∀ r : Fin 64, N + (rowIn n hn r).val = N + 64 * n + r.val := fun r => (Nat.add_assoc _ _ _).symm
  rw [s_real _ _ _ _ (k b) (g b) (v b) (N + 64 * n) ?_ ?_ ?_ ?_ e d, idx_st os inbs b hos e d]
  · rfl
  · intro i d
    show x1 ((Rect.unit (s := S4x512x128) o S1x64x128.size inb).emb (ix3 0 i d)) = _
    rw [idx_128 o inb b n hn ho i d, hk, ea]
  · intro i d
    show x3 ((Rect.unit (s := S4x512x128) o S1x64x128.size inb).emb (ix3 0 i d)) = _
    rw [idx_128 o inb b n hn ho i d, hg, ea]
  · intro i d
    show x2 ((Rect.unit (s := S4x512x256) o' S1x64x256.size inb').emb (ix3 0 i d)) = _
    rw [idx_256 o' inb' b n hn ho' i d, hv, ea]
  · intro e d
    show st ((Rect.unit (s := S4x256x128) os S1x256x128.size inbs).emb (ix3 0 e d)) = _
    rw [idx_st os inbs b hos e d, hs]
    rfl

end Data

variable (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x256 .f32) (harg3 : arg3.IsWhole) (arg4 : Memref sig .tc .vmem S4x512x128 .f32) (harg4 : arg4.IsWhole) (arg5 : Memref sig .tc .vmem S4x512x256 .bf16) (harg5 : arg5.IsWhole) (arg6 : Memref sig .tc .vmem S1x256 .f32) (harg6 : arg6.IsWhole) (arg7 : Memref sig .tc .vmem S4x512x256 .bf16) (harg7 : arg7.IsWhole) (arg8 : Memref sig .tc .vmem S4x256x128 .f32) (harg8 : arg8.IsWhole)
  (x0 : Vec Ideal S4x512x128 .f32) (x1 : Vec Ideal S4x512x128 .f32) (x2 : Vec Ideal S4x512x256 .f32) (x3 : Vec Ideal S4x512x128 .f32) (x4 : Vec Ideal S4x512x256 .bf16) (x5 : Vec Ideal S1x256 .f32) (xs : Vec Ideal S4x256x128 .f32)

/-- The pieces of the first `n` chunks. -/
def upto (n : ℕ) : List (View.Piece (Elt Ideal) S4x512x256 .bf16) × List (View.Piece (Elt Ideal) S4x256x128 .f32) :=
  pb_k0_t1 (F := Ideal) Variants.none c none i arg1 harg1 arg2 harg2 arg3 harg3 arg4 harg4 arg5 harg5 arg6 harg6 arg7 harg7 arg8 harg8 k0_pay107 (k0_pay112 (iota .tc S256x128 32 [1] iota_S256x128_d1_w32) k0_pay108 32#32 k0_pay109 k0_pay110 k0_pay111) (k0_pay113 (iota .tc S256x128 32 [1] iota_S256x128_d1_w32) k0_pay108 32#32 k0_pay109 k0_pay110 k0_pay111) (k0_pay117 (iota .tc S256x256 32 [1] iota_S256x256_d1_w32) k0_pay114 64#32 k0_pay115 k0_pay116) (k0_pay118 (iota .tc S256x256 32 [1] iota_S256x256_d1_w32) k0_pay114 64#32 k0_pay115 k0_pay116) k0_pay119 (iota .tc S64x128 32 [0] iota_S64x128_d0_w32) 16#32 (harg1.unread x0) (harg2.unread x1) (harg3.unread x2) (harg4.unread x3) (harg5.unread x4) (harg6.unread x5) arg7.view.junk (harg8.unread xs) n

variable (q k g : Fin 4 → ℕ → Fin 128 → ℝ) (v : Fin 4 → ℕ → Fin 256 → ℝ) (N : ℕ)
  (h0 : ∀ b s d, g b s d ≤ 0) (h5 : ∀ b s d, -5 ≤ g b s d)
  (hq : ∀ b i d, x0 (ix3 b i d) = ((q b (N + i.val) d : ℝ) : EReal)) (hk : ∀ b i d, x1 (ix3 b i d) = ((k b (N + i.val) d : ℝ) : EReal))
  (hv : ∀ b i e, x2 (ix3 b i e) = ((v b (N + i.val) e : ℝ) : EReal)) (hg : ∀ b i d, x3 (ix3 b i d) = ((g b (N + i.val) d : ℝ) : EReal))
  (hs : xs = stB k g v N)

include h0 h5 hq hk hv hg hs in
/-- After `n` chunks every piece of the result holds its rows, and the states are those `64 n` rows on. -/
theorem upto_ok : ∀ n : ℕ, n ≤ 8 →
    (∀ p ∈ (upto c i arg1 harg1 arg2 harg2 arg3 harg3 arg4 harg4 arg5 harg5 arg6 harg6 arg7 harg7 arg8 harg8 x0 x1 x2 x3 x4 x5 xs n).1, ∀ x : p.1.shape.Idx, p.2 x = resB q k g v N x4 x5 (p.1.emb x))
    ∧ arg8.view.read (Elt Ideal) (arg8.view.writes (Elt Ideal) (harg8.unread xs) (upto c i arg1 harg1 arg2 harg2 arg3 harg3 arg4 harg4 arg5 harg5 arg6 harg6 arg7 harg7 arg8 harg8 x0 x1 x2 x3 x4 x5 xs n).2) = stB k g v (N + 64 * n)
  | 0, _ => ⟨fun p hp => absurd hp (List.not_mem_nil), (harg8.read_unread xs).trans hs⟩
  | n + 1, hn => by
    obtain ⟨ihA, ihB⟩ := upto_ok n (by omega)
    have hn' : n < 8 := hn
    let kn : Fin k0_t1_loop.trips := ⟨n, hn'⟩
    have eq := (pb_k0_t1_succ (F := Ideal) Variants.none c none i arg1 harg1 arg2 harg2 arg3 harg3 arg4 harg4 arg5 harg5 arg6 harg6 arg7 harg7 arg8 harg8 k0_pay107 (k0_pay112 (iota .tc S256x128 32 [1] iota_S256x128_d1_w32) k0_pay108 32#32 k0_pay109 k0_pay110 k0_pay111) (k0_pay113 (iota .tc S256x128 32 [1] iota_S256x128_d1_w32) k0_pay108 32#32 k0_pay109 k0_pay110 k0_pay111) (k0_pay117 (iota .tc S256x256 32 [1] iota_S256x256_d1_w32) k0_pay114 64#32 k0_pay115 k0_pay116) (k0_pay118 (iota .tc S256x256 32 [1] iota_S256x256_d1_w32) k0_pay114 64#32 k0_pay115 k0_pay116) k0_pay119 (iota .tc S64x128 32 [0] iota_S64x128_d0_w32) 16#32 (harg1.unread x0) (harg2.unread x1) (harg3.unread x2) (harg4.unread x3) (harg5.unread x4) (harg6.unread x5) arg7.view.junk (harg8.unread xs) kn)
    rw [trip_eq] at eq
    have eq' : upto c i arg1 harg1 arg2 harg2 arg3 harg3 arg4 harg4 arg5 harg5 arg6 harg6 arg7 harg7 arg8 harg8 x0 x1 x2 x3 x4 x5 xs (n + 1) = _ := eq
    rw [eq']
    have B1 := ihB
    constructor
    · intro p hp
      rcases List.mem_append.1 hp with hp | hp
      · simp only [List.mem_cons, List.not_mem_nil, or_false] at hp
        rcases hp with rfl | rfl | rfl | rfl
        all_goals simp only [harg1.read_unread, harg2.read_unread, harg3.read_unread, harg4.read_unread, harg5.read_unread, harg6.read_unread]
        · exact fun x => rows_eq q k g v N x0 x1 x3 x2 x4 x5 h0 h5 hq hk hv hg _ n hn' ihB 3 _ _ _ (off7 kn) (off8 kn) ⟨rfl, rfl, rfl⟩ _ _ _ _ x
        · exact fun x => rows_eq q k g v N x0 x1 x3 x2 x4 x5 h0 h5 hq hk hv hg _ n hn' ihB 2 _ _ _ (off5 kn) (off6 kn) ⟨rfl, rfl, rfl⟩ _ _ _ _ x
        · exact fun x => rows_eq q k g v N x0 x1 x3 x2 x4 x5 h0 h5 hq hk hv hg _ n hn' ihB 1 _ _ _ (off3 kn) (off4 kn) ⟨rfl, rfl, rfl⟩ _ _ _ _ x
        · exact fun x => rows_eq q k g v N x0 x1 x3 x2 x4 x5 h0 h5 hq hk hv hg _ n hn' ihB 0 _ _ _ (off1 kn) (off2 kn) ⟨rfl, rfl, rfl⟩ _ _ _ _ x
      · exact ihA p hp
    · rw [View.writes_append]
      funext y
      refine View.read_writes_apply_of_pieces (Val := Elt Ideal) arg8.view _ (stB k g v (N + 64 * (n + 1))) _ (fun p hp => ?_) y ?cov
      case cov => exact View.cover_of_tiledL (s := S4x256x128) _ S1x256x128.size (by sl_kernel_rfl) y
      simp only [List.mem_cons, List.not_mem_nil, or_false] at hp
      rcases hp with rfl | rfl | rfl | rfl
      all_goals simp only [harg1.read_unread, harg2.read_unread, harg3.read_unread, harg4.read_unread, harg5.read_unread, harg6.read_unread]
      · exact fun x => st_eq k g v N x1 x3 x2 hk hv hg _ n hn' ihB 3 _ _ _ (off7 kn) (off8 kn) ⟨rfl, rfl, rfl⟩ _ _ _ x
      · exact fun x => st_eq k g v N x1 x3 x2 hk hv hg _ n hn' ihB 2 _ _ _ (off5 kn) (off6 kn) ⟨rfl, rfl, rfl⟩ _ _ _ x
      · exact fun x => st_eq k g v N x1 x3 x2 hk hv hg _ n hn' ihB 1 _ _ _ (off3 kn) (off4 kn) ⟨rfl, rfl, rfl⟩ _ _ _ x
      · exact fun x => st_eq k g v N x1 x3 x2 hk hv hg _ n hn' ihB 0 _ _ _ (off1 kn) (off2 kn) ⟨rfl, rfl, rfl⟩ _ _ _ x

include h0 h5 hq hk hv hg hs in
/-- The block of the result a grid point leaves. -/
theorem out_eq : out0_6 c i arg1 harg1 arg2 harg2 arg3 harg3 arg4 harg4 arg5 harg5 arg6 harg6 arg7 harg7 arg8 harg8 x0 x1 x2 x3 x4 x5 xs = resB q k g v N x4 x5 := by
  funext y
  exact View.read_writes_apply_of_pieces (Val := Elt Ideal) VO0_6 _ (resB q k g v N x4 x5) _ (upto_ok c i arg1 harg1 arg2 harg2 arg3 harg3 arg4 harg4 arg5 harg5 arg6 harg6 arg7 harg7 arg8 harg8 x0 x1 x2 x3 x4 x5 xs q k g v N h0 h5 hq hk hv hg hs 8 (le_refl 8)).1 y (cover0_6 c i arg1 harg1 arg2 harg2 arg3 harg3 arg4 harg4 arg5 harg5 arg6 harg6 arg7 harg7 arg8 harg8 x0 x1 x2 x3 x4 x5 xs y)

include h0 h5 hq hk hv hg hs in
/-- The states a grid point leaves. -/
theorem sout_eq : sout0_0 c i arg1 harg1 arg2 harg2 arg3 harg3 arg4 harg4 arg5 harg5 arg6 harg6 arg7 harg7 arg8 harg8 x0 x1 x2 x3 x4 x5 xs = stB k g v (N + 512) :=
  (View.read_writes_of_cover _ _ _ _ _ (scover0_0 c i arg1 harg1 arg2 harg2 arg3 harg3 arg4 harg4 arg5 harg5 arg6 harg6 arg7 harg7 arg8 harg8 x0 x1 x2 x3 x4 x5 xs)).trans (upto_ok c i arg1 harg1 arg2 harg2 arg3 harg3 arg4 harg4 arg5 harg5 arg6 harg6 arg7 harg7 arg8 harg8 x0 x1 x2 x3 x4 x5 xs q k g v N h0 h5 hq hk hv hg hs 8 (le_refl 8)).2

end Cert.GlaIdeal.Chunk

end
-- ==== Proof.GlaRef.lean ====
/- The reference of the linear attention, at real arguments: for every row the sum over the rows before it, and its norm. -/
module

public import proofs.«01_k».proof.Proof.Gen.RefGlaIdeal.Read
public import proofs.«01_k».proof.Proof.GlaChunk
public import Idealize.ShloMosaic.Lib.WordCmp

@[expose] public section

noncomputable section

namespace Cert.RefGlaIdeal.Whole

open Cert.RefGlaIdeal Cert.RefGlaIdeal.Read Idealize.ShloMosaic Idealize.ShloMosaic.TcCoe Idealize.SL.Sem
open Cert.GlaIdeal.Chunk (pre wt row nrm coe_sum sum_split)

variable (x0 x1 x3 : FVec Ideal S4x8192x128 .f32) (x2 : FVec Ideal S4x8192x256 .f32) (x4 : FVec Ideal S4x8192x256 .bf16) (x5 : FVec Ideal S1x256 .f32)
  (q k g : ℕ → Fin 128 → ℝ) (v : ℕ → Fin 256 → ℝ) (b : Fin 4)
  (hq : ∀ i d, x0 (ix3 b i d) = ((q i.val d : ℝ) : EReal)) (hk : ∀ i d, x1 (ix3 b i d) = ((k i.val d : ℝ) : EReal))
  (hv : ∀ i e, x2 (ix3 b i e) = ((v i.val e : ℝ) : EReal)) (hg : ∀ i d, x3 (ix3 b i d) = ((g i.val d : ℝ) : EReal))

/-- The comparison of two rows. -/
theorem sge (t s : Fin 8192) : IntOp.cmpi .sge (BitVec.ofNat 32 t.val) (BitVec.ofNat 32 s.val) = BitVec.ofBool (decide (s.val ≤ t.val)) :=
  WordCmp.cmpi_sge_ofNat (by have := t.isLt; omega) (by have := s.isLt; omega)

theorem bit_one : FloatOps.uitofp (F := Ideal) .f32 (1#1 : BitVec 1) = (1 : EReal) := by
  show (((1#1 : BitVec 1).toNat : ℝ) : EReal) = 1
  simp
theorem bit_zero : FloatOps.uitofp (F := Ideal) .f32 (0#1 : BitVec 1) = (0 : EReal) := by
  show (((0#1 : BitVec 1).toNat : ℝ) : EReal) = 0
  simp

/-- A sum over the rows up to `t`. -/
theorem sum_upto (f : ℕ → ℝ) (t : Fin 8192) : (∑ s : Fin 8192, if s.val ≤ t.val then f s.val else 0) = ∑ s ∈ Finset.range (t.val + 1), f s := by
  have ht := t.isLt
  rw [Fin.sum_univ_eq_sum_range (fun s => if s ≤ t.val then f s else 0) 8192, ← Finset.sum_filter]
  refine Finset.sum_congr ?_ fun _ _ => rfl
  ext s
  simp only [Finset.mem_filter, Finset.mem_range]
  omega

/-- Column `d` of head `h`. -/
def colK (h : Fin 4) (d : Fin 32) : Fin 128 := ⟨h.val * 32 + d.val, by omega⟩

include hg in
theorem b_apply (t : Fin 8192) (h : Fin 4) (d : Fin 32) :
    val_main_v13 (F := Ideal) x3 (ix4 b t h d) = ((pre (fun s => g s (colK h d)) (t.val + 1) : ℝ) : EReal) := by
  pointwise [val_main_v13, val_main_v12, val_main_v11, val_main_v10, val_main_v9, val_main_v8, val_main_v7, val_main_v6, val_main_v5, val_main_v4, val_main_v2]
  unfold pre
  rw [← sum_upto (fun s => g s (colK h d)) t, coe_sum]
  refine Finset.sum_congr rfl fun s _ => ?_
  rw [sge, hg]
  by_cases c : s.val ≤ t.val
  · rw [decide_eq_true c, if_pos c]
    show _ * FloatOps.uitofp (F := Ideal) .f32 (1#1 : BitVec 1) = _
    rw [bit_one, mul_one]
    rfl
  · rw [decide_eq_false c, if_neg c]
    show _ * FloatOps.uitofp (F := Ideal) .f32 (0#1 : BitVec 1) = _
    rw [bit_zero, mul_zero, EReal.coe_zero]

theorem inf_bits : Ideal.ofBits .f32 4286578688#32 = ⊥ := by simp [Ideal.ofBits, Ideal.ieee]

include hq hk hg in
theorem w_apply (t s : Fin 8192) (h : Fin 4) (d : Fin 32) : val_main_v27 (F := Ideal) x0 x1 x3 (ix5 b t s h d)
    = ((if s.val ≤ t.val then q t.val (colK h d) * k s.val (colK h d) * Real.exp (pre (fun u => g u (colK h d)) (t.val + 1) - pre (fun u => g u (colK h d)) (s.val + 1)) else 0 : ℝ) : EReal) := by
  have hb := fun t => b_apply x3 g b hg t h d
  pointwise [val_main_v27, val_main_v26, val_main_v25, val_main_v24, val_main_v23, val_main_v22, val_main_v21, val_main_v20, val_main_v19, val_main_v18, val_main_v17, val_main_v16, val_main_v15, val_main_v14, val_main_call0_v0, val_main_call0_v1, val_main_call0_v2, val_main_cst, val_main_v10, val_main_v9, val_main_v8, val_main_v7, val_main_v6, val_main_v5, val_main_v4, val_main_v0, val_main_v1]
  rw [sge, hq, hk, hb, hb]
  by_cases c : s.val ≤ t.val
  · rw [decide_eq_true c, if_pos c]
    show _ * Ideal.exp (((_ : ℝ) : EReal) - ((_ : ℝ) : EReal)) = _
    rw [← EReal.coe_sub, Ideal.exp_coe, ← EReal.coe_mul, ← EReal.coe_mul]
    rfl
  · rw [decide_eq_false c, if_neg c]
    show _ * Ideal.exp (Ideal.ofBits .f32 4286578688#32) = _
    rw [inf_bits, Ideal.exp_bot, mul_zero, EReal.coe_zero]

/-- A head's columns are the columns of that head. -/
theorem head_sum (F : Fin 128 → ℝ) (h : Fin 4) : (∑ d : Fin 128, if d.val / 32 = h.val then F d else 0) = ∑ d : Fin 32, F (colK h d) := by
  refine (sum_split 4 32 _).trans ?_
  rw [Finset.sum_eq_single h]
  · refine Finset.sum_congr rfl fun d _ => ?_
    have hd := d.isLt
    rw [if_pos (by show (32 * h.val + d.val) / 32 = h.val; omega)]
    exact congrArg F (Fin.ext (by show 32 * h.val + d.val = h.val * 32 + d.val; omega))
  · intro a _ ha
    refine Finset.sum_eq_zero fun d _ => if_neg ?_
    have hd := d.isLt
    have : a.val ≠ h.val := fun e => ha (Fin.ext e)
    show ¬ (32 * a.val + d.val) / 32 = h.val
    omega
  · exact fun hh => absurd (Finset.mem_univ _) hh

/-- Column `e` of head `h`, of the values. -/
def colV (h : Fin 4) (e : Fin 64) : Fin 256 := ⟨h.val * 64 + e.val, by omega⟩

include hq hk hv hg in
theorem o_apply (t : Fin 8192) (h : Fin 4) (e : Fin 64) :
    val_main_v30 (F := Ideal) x0 x1 x2 x3 (ix4 b t h e) = ((row q k g v t.val (colV h e) : ℝ) : EReal) := by
  have hw := fun s d => w_apply x0 x1 x3 q k g b hq hk hg t s h d
  pointwise [val_main_v30, val_main_v29, val_main_v28, val_main_v3, val_main_cst_0]
  have he := e.isLt
  have hh : (colV h e).val / 64 = h.val := by show (h.val * 64 + e.val) / 64 = h.val; omega
  unfold row
  rw [hh, ← sum_upto (fun s => wt q k g h.val t.val s * v s (colV h e)) t, coe_sum]
  refine Finset.sum_congr rfl fun s _ => ?_
  simp only [hw]
  rw [hv, ← coe_sum, ← EReal.coe_mul]
  refine congrArg _ ?_
  by_cases c : s.val ≤ t.val
  · simp only [if_pos c]
    unfold wt
    rw [head_sum, mul_comm]
    rfl
  · simp only [if_neg c, Finset.sum_const_zero, mul_zero]

theorem w_zero : Ideal.ofBits .f32 0#32 = 0 := Ideal.ofBits_zero_f32
theorem sixty_four (x : EReal) : Ideal.div x (Ideal.ofBits .f32 1115684864#32) = x * Ideal.ofBits .f32 0x3C800000#32 := by
  have e : Ideal.ofBits .f32 1115684864#32 = ((64 : ℝ) : EReal) := by
    simp [Ideal.ofBits, Ideal.ieee]
    rw [← EReal.coe_mul]
    congr 1
    norm_num
  have e' : Ideal.ofBits .f32 0x3C800000#32 = ((1 / 64 : ℝ) : EReal) := by
    simp [Ideal.ofBits, Ideal.ieee]
    rw [← EReal.coe_mul]
    congr 1
    norm_num
  rw [e, e', Ideal.div_coe (by norm_num)]

include hq hk hv hg in
/-- A row of the reference's result. -/
theorem res_apply (t : Fin 8192) (e : Fin 256) :
    val_main_v48 (F := Ideal) x0 x1 x2 x3 x4 x5 (ix3 b t e) = nrm (row q k g v t.val) (x5 (ix2 0 e)) (x4 (ix3 b t e)) e := by
  have ho := fun h e => o_apply x0 x1 x3 x2 q k g v b hq hk hv hg t h e
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_1, val_main_cst_2, val_main_cst_3]
  simp only [ho]
  have he := e.isLt
  have e1 : colV ⟨e.val / 64, by omega⟩ ⟨e.val % 64, by omega⟩ = e := Fin.ext (by show e.val / 64 * 64 + e.val % 64 = e.val; omega)
  have e2 : ∀ x : Fin 64, colV ⟨e.val / 64, by omega⟩ x = ⟨64 * (e.val / 64) + x.val, by omega⟩ := fun x => Fin.ext (by show e.val / 64 * 64 + x.val = 64 * (e.val / 64) + x.val; omega)
  rw [e1, sixty_four]
  simp only [e2]
  unfold nrm
  rw [coe_sum]
  simp only [EReal.coe_mul]

end Cert.RefGlaIdeal.Whole

end
-- ==== Proof.GlaFinal.lean ====
/- The linear attention: the array the kernel leaves is the reference's, for real arguments with decays' logarithms
   between minus five and zero. -/
module

public import proofs.«01_k».proof.Proof.GlaBlock
public import proofs.«01_k».proof.Proof.GlaRef
public import proofs.«01_k».proof.Proof.InFinal
public import proofs.«01_k».proof.Proof.Gen.RefGlaIdeal.Run
public import proofs.«01_k».proof.Proof.Gen.Pre_gla_in_range

@[expose] public section

noncomputable section

namespace Cert.GlaIdeal.Whole

open Cert.GlaIdeal Cert.GlaIdeal.Gen Cert.GlaIdeal.Chunk Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx3 : ∀ t : Fin cfg0.N, win0_3.index t (0 : Fin 3) = 0 ∧ win0_3.index t (1 : Fin 3) = t.val ∧ win0_3.index t (2 : Fin 3) = 0 :=
  (by decide +kernel : ∀ t : Fin grid0.N, _)
theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Row `r` of block `t`, as a row of the whole array. -/
def rowOf (t : Fin cfg0.N) (r : Fin 512) : Fin 8192 := ⟨512 * t.val + r.val, by
  have h : t.val < 16 := t.isLt
  omega⟩

theorem emb0 (t : Fin cfg0.N) (b : Fin 4) (r : Fin 512) (k : Fin 128) : ((cfg0.win 0).blk t).view.emb (ix3 b r k) = ix3 b (rowOf t r) k := by
  obtain ⟨e0, e1, e2⟩ := idx0 t
  funext a; apply Fin.ext
  match a with
  | ⟨0, _⟩ => show win0_0.index t (0 : Fin 3) * 4 + 1 * b.val = b.val; omega
  | ⟨1, _⟩ => show win0_0.index t (1 : Fin 3) * 512 + 1 * r.val = 512 * t.val + r.val; omega
  | ⟨2, _⟩ => show win0_0.index t (2 : Fin 3) * 128 + 1 * k.val = k.val; omega
theorem emb1 (t : Fin cfg0.N) (b : Fin 4) (r : Fin 512) (k : Fin 128) : ((cfg0.win 1).blk t).view.emb (ix3 b r k) = ix3 b (rowOf t r) k := by
  obtain ⟨e0, e1, e2⟩ := idx1 t
  funext a; apply Fin.ext
  match a with
  | ⟨0, _⟩ => show win0_1.index t (0 : Fin 3) * 4 + 1 * b.val = b.val; omega
  | ⟨1, _⟩ => show win0_1.index t (1 : Fin 3) * 512 + 1 * r.val = 512 * t.val + r.val; omega
  | ⟨2, _⟩ => show win0_1.index t (2 : Fin 3) * 128 + 1 * k.val = k.val; omega
theorem emb2 (t : Fin cfg0.N) (b : Fin 4) (r : Fin 512) (k : Fin 256) : ((cfg0.win 2).blk t).view.emb (ix3 b r k) = ix3 b (rowOf t r) k := by
  obtain ⟨e0, e1, e2⟩ := idx2 t
  funext a; apply Fin.ext
  match a with
  | ⟨0, _⟩ => show win0_2.index t (0 : Fin 3) * 4 + 1 * b.val = b.val; omega
  | ⟨1, _⟩ => show win0_2.index t (1 : Fin 3) * 512 + 1 * r.val = 512 * t.val + r.val; omega
  | ⟨2, _⟩ => show win0_2.index t (2 : Fin 3) * 256 + 1 * k.val = k.val; omega
theorem emb3 (t : Fin cfg0.N) (b : Fin 4) (r : Fin 512) (k : Fin 128) : ((cfg0.win 3).blk t).view.emb (ix3 b r k) = ix3 b (rowOf t r) k := by
  obtain ⟨e0, e1, e2⟩ := idx3 t
  funext a; apply Fin.ext
  match a with
  | ⟨0, _⟩ => show win0_3.index t (0 : Fin 3) * 4 + 1 * b.val = b.val; omega
  | ⟨1, _⟩ => show win0_3.index t (1 : Fin 3) * 512 + 1 * r.val = 512 * t.val + r.val; omega
  | ⟨2, _⟩ => show win0_3.index t (2 : Fin 3) * 128 + 1 * k.val = k.val; omega
theorem emb4 (t : Fin cfg0.N) (b : Fin 4) (r : Fin 512) (k : Fin 256) : ((cfg0.win 4).blk t).view.emb (ix3 b r k) = ix3 b (rowOf t r) k := by
  obtain ⟨e0, e1, e2⟩ := idx4 t
  funext a; apply Fin.ext
  match a with
  | ⟨0, _⟩ => show win0_4.index t (0 : Fin 3) * 4 + 1 * b.val = b.val; omega
  | ⟨1, _⟩ => show win0_4.index t (1 : Fin 3) * 512 + 1 * r.val = 512 * t.val + r.val; omega
  | ⟨2, _⟩ => show win0_4.index t (2 : Fin 3) * 256 + 1 * k.val = k.val; omega
theorem emb6 (t : Fin cfg0.N) (b : Fin 4) (r : Fin 512) (k : Fin 256) : ((cfg0.win 6).blk t).view.emb (ix3 b r k) = ix3 b (rowOf t r) k := by
  obtain ⟨e0, e1, e2⟩ := idx6 t
  funext a; apply Fin.ext
  match a with
  | ⟨0, _⟩ => show win0_6.index t (0 : Fin 3) * 4 + 1 * b.val = b.val; omega
  | ⟨1, _⟩ => show win0_6.index t (1 : Fin 3) * 512 + 1 * r.val = 512 * t.val + r.val; omega
  | ⟨2, _⟩ => show win0_6.index t (2 : Fin 3) * 256 + 1 * k.val = k.val; omega
theorem emb5 (t : Fin cfg0.N) (j : S1x256.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 256 + 1 * (j 1).val = (j 1).val; omega

theorem iblk0 (c : Dev nD) (t : Fin cfg0.N) (b : Fin 4) (r : Fin 512) (k : Fin 128) : iblk m c 0 t (ix3 b r k) = m ((c : Thread nD τ).loc main_arg0) (ix3 b (rowOf t r) k) := by
  show V m c main_arg0 (((cfg0.win 0).blk t).view.emb (ix3 b r k)) = _
  rw [emb0, V_main_arg0]
theorem iblk1 (c : Dev nD) (t : Fin cfg0.N) (b : Fin 4) (r : Fin 512) (k : Fin 128) : iblk m c 1 t (ix3 b r k) = m ((c : Thread nD τ).loc main_arg1) (ix3 b (rowOf t r) k) := by
  show V m c main_arg1 (((cfg0.win 1).blk t).view.emb (ix3 b r k)) = _
  rw [emb1, V_main_arg1]
theorem iblk2 (c : Dev nD) (t : Fin cfg0.N) (b : Fin 4) (r : Fin 512) (k : Fin 256) : iblk m c 2 t (ix3 b r k) = m ((c : Thread nD τ).loc main_arg2) (ix3 b (rowOf t r) k) := by
  show V m c main_arg2 (((cfg0.win 2).blk t).view.emb (ix3 b r k)) = _
  rw [emb2, V_main_arg2]
theorem iblk3 (c : Dev nD) (t : Fin cfg0.N) (b : Fin 4) (r : Fin 512) (k : Fin 128) : iblk m c 3 t (ix3 b r k) = m ((c : Thread nD τ).loc main_arg3) (ix3 b (rowOf t r) k) := by
  show V m c main_arg3 (((cfg0.win 3).blk t).view.emb (ix3 b r k)) = _
  rw [emb3, V_main_arg3]
theorem iblk4 (c : Dev nD) (t : Fin cfg0.N) (b : Fin 4) (r : Fin 512) (k : Fin 256) : iblk m c 4 t (ix3 b r k) = m ((c : Thread nD τ).loc main_arg4) (ix3 b (rowOf t r) k) := by
  show V m c main_arg4 (((cfg0.win 4).blk t).view.emb (ix3 b r k)) = _
  rw [emb4, V_main_arg4]
theorem iblk5 (c : Dev nD) (t : Fin cfg0.N) : iblk m c 5 t = m ((c : Thread nD τ).loc main_arg5) := by
  funext j
  show V m c main_arg5 (((cfg0.win 5).blk t).view.emb j) = _
  rw [emb5, V_main_arg5]

section Real

variable (c : Dev nD) (q k g : Fin 4 → ℕ → Fin 128 → ℝ) (v : Fin 4 → ℕ → Fin 256 → ℝ)
  (h0 : ∀ b s d, g b s d ≤ 0) (h5 : ∀ b s d, -5 ≤ g b s d)
  (hq : ∀ b (i : Fin 8192) d, m ((c : Thread nD τ).loc main_arg0) (ix3 b i d) = ((q b i.val d : ℝ) : EReal))
  (hk : ∀ b (i : Fin 8192) d, m ((c : Thread nD τ).loc main_arg1) (ix3 b i d) = ((k b i.val d : ℝ) : EReal))
  (hv : ∀ b (i : Fin 8192) e, m ((c : Thread nD τ).loc main_arg2) (ix3 b i e) = ((v b i.val e : ℝ) : EReal))
  (hg : ∀ b (i : Fin 8192) d, m ((c : Thread nD τ).loc main_arg3) (ix3 b i d) = ((g b i.val d : ℝ) : EReal))

/-- Before the first row the states are zero. -/
theorem zeros_eq : (zeros : Vec Ideal S4x256x128 .f32) = stB k g v 0 := by
  funext y
  refine View.read_writes_apply_of_pieces (Val := Elt Ideal) VS0_0 _ (stB k g v 0) _ (fun p hp => ?_) y ?cov
  case cov => exact View.cover_of_tiledL (s := S4x256x128) _ S4x256x128.size (by sl_kernel_rfl) y
  simp only [List.mem_cons, List.not_mem_nil, or_false] at hp
  subst hp
  intro x
  show k0_pay106 (F := Ideal) x = ((state _ _ _ 0 _ _ : ℝ) : EReal)
  exact Ideal.ofBits_zero_f32.trans (EReal.coe_zero.symm.trans (congrArg Real.toEReal (state_zero _ _ _ _ _).symm))

include h0 h5 hq hk hv hg in
/-- One grid point, from the states before its rows. -/
theorem step_eq (t : Fin cfg0.N) (xs : Vec Ideal S4x256x128 .f32) (hs : xs = stB k g v (512 * t.val)) :
    stepAt0 m c t xs = (resB q k g v (512 * t.val) (iblk m c 4 t) (iblk m c 5 t), stB k g v (512 * t.val + 512)) := by
  have a0 : ∀ b (i : Fin 512) d, iblk m c 0 t (ix3 b i d) = ((q b (512 * t.val + i.val) d : ℝ) : EReal) := fun b i d => (iblk0 m c t b i d).trans (hq b (rowOf t i) d)
  have a1 : ∀ b (i : Fin 512) d, iblk m c 1 t (ix3 b i d) = ((k b (512 * t.val + i.val) d : ℝ) : EReal) := fun b i d => (iblk1 m c t b i d).trans (hk b (rowOf t i) d)
  have a2 : ∀ b (i : Fin 512) d, iblk m c 2 t (ix3 b i d) = ((v b (512 * t.val + i.val) d : ℝ) : EReal) := fun b i d => (iblk2 m c t b i d).trans (hv b (rowOf t i) d)
  have a3 : ∀ b (i : Fin 512) d, iblk m c 3 t (ix3 b i d) = ((g b (512 * t.val + i.val) d : ℝ) : EReal) := fun b i d => (iblk3 m c t b i d).trans (hg b (rowOf t i) d)
  exact Prod.ext (out_eq _ _ _ _ _ _ _ _ _ _ _ _ _ _ _ _ _ _ _ _ _ _ _ _ _ q k g v _ h0 h5 a0 a1 a2 a3 hs)
    (sout_eq _ _ _ _ _ _ _ _ _ _ _ _ _ _ _ _ _ _ _ _ _ _ _ _ _ q k g v _ h0 h5 a0 a1 a2 a3 hs)

include h0 h5 hq hk hv hg in
/-- Every grid point, in order. -/
theorem outs_eq : ∀ (n : ℕ) (hn : n < cfg0.N), outsAt0 m c n hn
    = (resB q k g v (512 * n) (iblk m c 4 ⟨n, hn⟩) (iblk m c 5 ⟨n, hn⟩), stB k g v (512 * n + 512))
  | 0, hn => step_eq m c q k g v h0 h5 hq hk hv hg ⟨0, hn⟩ zeros (zeros_eq k g v)
  | n + 1, hn => step_eq m c q k g v h0 h5 hq hk hv hg ⟨n + 1, hn⟩ _ (by
      rw [outs_eq n (Nat.lt_of_succ_lt hn)]
      rfl)

/-- The result. -/
def resM (y : S4x8192x256.Idx) : EReal :=
  nrm (row (q (y 0)) (k (y 0)) (g (y 0)) (v (y 0)) (y 1).val) ((m ((c : Thread nD τ).loc main_arg5) : Vec Ideal S1x256 .f32) (ix2 0 (y 2)))
    ((m ((c : Thread nD τ).loc main_arg4) : Vec Ideal S4x8192x256 .bf16) y) (y 2)

include h0 h5 hq hk hv hg in
theorem flushed_eq (t : Fin cfg0.N) :
    (dats m 0 c).flushed 6 t = ((cfg0.win 6).blk t).view.read (Elt Ideal) (resM m c q k g v) := by
  show (cfg0.win 6).cut (grid0.coords t) ((dats m 0 c).after 6 t) = _
  rw [after0_6, outs_eq m c q k g v h0 h5 hq hk hv hg t.val t.isLt]
  funext j
  obtain ⟨b, r, e, rfl⟩ : ∃ (b : Fin 4) (r : Fin 512) (e : Fin 256), j = ix3 b r e := ⟨j 0, j 1, j 2, eq_ix3 j⟩
  show resB q k g v (512 * t.val) (iblk m c 4 t) (iblk m c 5 t) (ix3 b r e) = resM m c q k g v (((cfg0.win 6).blk t).view.emb (ix3 b r e))
  rw [emb6]
  show nrm _ (iblk m c 5 t (ix2 0 e)) (iblk m c 4 t (ix3 b r e)) e = _
  rw [iblk5, iblk4]
  rfl

theorem covered (i : S4x8192x256.Idx) : ∃ t : Fin cfg0.N, (cfg0.win 6).flush t = true ∧ i ∈ ((cfg0.win 6).blk t).view.set := by
  obtain ⟨b, p, e, rfl⟩ : ∃ (b : Fin 4) (p : Fin 8192) (e : Fin 256), i = ix3 b p e := ⟨i 0, i 1, i 2, eq_ix3 i⟩
  have ht : p.val / 512 < cfg0.N := by show _ < 16; omega
  refine ⟨⟨p.val / 512, ht⟩, flush0_6 _, ?_⟩
  have h := ((cfg0.win 6).blk ⟨p.val / 512, ht⟩).view.emb_mem_set (ix3 b (⟨p.val % 512, by omega⟩ : Fin 512) e)
  have e' : rowOf ⟨p.val / 512, ht⟩ ⟨p.val % 512, by omega⟩ = p := Fin.ext (by show 512 * (p.val / 512) + p.val % 512 = p.val; omega)
  have h2 := emb6 ⟨p.val / 512, ht⟩ b ⟨p.val % 512, by omega⟩ e
  rw [e'] at h2
  exact h2 ▸ h

include h0 h5 hq hk hv hg in
theorem final : (dats m 0 c).arrAt 6 cfg0.N = resM m c q k g v :=
  (dats m 0 c).arrAt_eq_of_cover 6 (resM m c q k g v) (fun t _ => flushed_eq m c q k g v h0 h5 hq hk hv hg t) covered

end Real

/-! ## The precondition -/

open Cert.InIdeal.Whole (ofBool_one Real?)

section Reads
variable [Cert.Pre_gla_in_range.Facts] (b0 b1 b3 : FVec Ideal S4x8192x128 .f32) (b2 : FVec Ideal S4x8192x256 .f32) (b4 : FVec Ideal S4x8192x256 .bf16) (b5 : FVec Ideal S1x256 .f32)

theorem reads0 (b : Fin 4) (t : Fin 8192) (d : Fin 128) : (Cert.Pre_gla_in_range.fn (F := Ideal) b0 b1 b2 b3 b4 b5).1 (ix3 b t d)
    = BitVec.ofBool (decide (FloatOps.absf (F := Ideal) (φ := .f32) (b0 (ix3 b t d)) < Ideal.ofBits .f32 0x7F800000#32)) := by
  pointwise [Cert.Pre_gla_in_range.fn]
theorem reads1 (b : Fin 4) (t : Fin 8192) (d : Fin 128) : (Cert.Pre_gla_in_range.fn (F := Ideal) b0 b1 b2 b3 b4 b5).2.1 (ix3 b t d)
    = BitVec.ofBool (decide (FloatOps.absf (F := Ideal) (φ := .f32) (b1 (ix3 b t d)) < Ideal.ofBits .f32 0x7F800000#32)) := by
  pointwise [Cert.Pre_gla_in_range.fn]
theorem reads2 (b : Fin 4) (t : Fin 8192) (d : Fin 256) : (Cert.Pre_gla_in_range.fn (F := Ideal) b0 b1 b2 b3 b4 b5).2.2.1 (ix3 b t d)
    = BitVec.ofBool (decide (FloatOps.absf (F := Ideal) (φ := .f32) (b2 (ix3 b t d)) < Ideal.ofBits .f32 0x7F800000#32)) := by
  pointwise [Cert.Pre_gla_in_range.fn]
theorem reads3 (b : Fin 4) (t : Fin 8192) (d : Fin 128) : (Cert.Pre_gla_in_range.fn (F := Ideal) b0 b1 b2 b3 b4 b5).2.2.2 (ix3 b t d)
    = IntOp.andi (BitVec.ofBool (decide (Ideal.ofBits .f32 0xC0A00000#32 ≤ b3 (ix3 b t d)))) (BitVec.ofBool (decide (b3 (ix3 b t d) ≤ 0))) := by
  pointwise [Cert.Pre_gla_in_range.fn]

end Reads

theorem minus_five : Ideal.ofBits .f32 0xC0A00000#32 = ((-5 : ℝ) : EReal) := by
  simp [Ideal.ofBits, Ideal.ieee]
  rw [← EReal.coe_mul]
  congr 1
  norm_num

theorem both_one (p q : Prop) [Decidable p] [Decidable q] (e : IntOp.andi (BitVec.ofBool (decide p)) (BitVec.ofBool (decide q)) = 1#1) : p ∧ q := by
  by_cases hp : p <;> by_cases hq : q
  · exact ⟨hp, hq⟩
  all_goals
    simp only [hp, hq, decide_true, decide_false] at e
    exact absurd e (by decide)

/-- A table of numbers, continued by zero. -/
def ext {n : ℕ} (a : (⟨3, ![4, 8192, n]⟩ : Shape).Idx → EReal) (b : Fin 4) (s : ℕ) (d : Fin n) : ℝ :=
  if h : s < 8192 then (a (ix3 b ⟨s, h⟩ d)).toReal else 0

theorem ext_eq {n : ℕ} (a : (⟨3, ![4, 8192, n]⟩ : Shape).Idx → EReal) (b : Fin 4) (i : Fin 8192) (d : Fin n) (h : Real? (a (ix3 b i d))) :
    a (ix3 b i d) = ((ext a b i.val d : ℝ) : EReal) := by
  obtain ⟨r, hr⟩ := h
  unfold ext
  rw [dif_pos i.isLt]
  show a (ix3 b i d) = ((a (ix3 b i d)).toReal : EReal)
  rw [hr]
  rfl

/-- The precondition: the arguments are real, and the decays' logarithms lie between minus five and zero. -/
theorem in_range [Cert.Pre_gla_in_range.Facts] (hp : Cert.Pre_GlaIdeal_gla_in_range m) (c : Dev nD) :
    (∀ b i d, Real? ((m ((c : Thread nD τ).loc main_arg0) : Vec Ideal S4x8192x128 .f32) (ix3 b i d)))
    ∧ (∀ b i d, Real? ((m ((c : Thread nD τ).loc main_arg1) : Vec Ideal S4x8192x128 .f32) (ix3 b i d)))
    ∧ (∀ b i d, Real? ((m ((c : Thread nD τ).loc main_arg2) : Vec Ideal S4x8192x256 .f32) (ix3 b i d)))
    ∧ (∀ b i d, ∃ r : ℝ, (m ((c : Thread nD τ).loc main_arg3) : Vec Ideal S4x8192x128 .f32) (ix3 b i d) = (r : EReal) ∧ -5 ≤ r ∧ r ≤ 0) := by
  obtain ⟨p0, p1, p2, p3⟩ := hp c
  refine ⟨fun b i d => ?_, fun b i d => ?_, fun b i d => ?_, fun b i d => ?_⟩
  · exact Real?.of_lt (ofBool_one _ ((reads0 _ _ _ _ _ _ b i d).symm.trans (congrFun p0 (ix3 b i d))))
  · exact Real?.of_lt (ofBool_one _ ((reads1 _ _ _ _ _ _ b i d).symm.trans (congrFun p1 (ix3 b i d))))
  · exact Real?.of_lt (ofBool_one _ ((reads2 _ _ _ _ _ _ b i d).symm.trans (congrFun p2 (ix3 b i d))))
  · obtain ⟨l, u⟩ := both_one _ _ ((reads3 _ _ _ _ _ _ b i d).symm.trans (congrFun p3 (ix3 b i d)))
    rw [minus_five] at l
    generalize (m ((c : Thread nD τ).loc main_arg3) : Vec Ideal S4x8192x128 .f32) (ix3 b i d) = x at l u
    induction x using EReal.rec with
    | bot => exact absurd l (by simp)
    | top => exact absurd u (by simp)
    | coe r => exact ⟨r, rfl, EReal.coe_le_coe_iff.mp l, by exact_mod_cast u⟩

theorem ext_le (a : (⟨3, ![4, 8192, 128]⟩ : Shape).Idx → EReal) (h : ∀ b i d, ∃ r : ℝ, a (ix3 b i d) = (r : EReal) ∧ -5 ≤ r ∧ r ≤ 0)
    (b : Fin 4) (s : ℕ) (d : Fin 128) : ext a b s d ≤ 0 ∧ -5 ≤ ext a b s d := by
  unfold ext
  split
  · rename_i hs
    obtain ⟨r, hr, l, u⟩ := h b ⟨s, hs⟩ d
    rw [hr]
    exact ⟨u, l⟩
  · constructor <;> norm_num

/-- The result, from the arguments. -/
def resA (c : Dev nD) : Vec Ideal S4x8192x256 .bf16 :=
  resM m c (ext (m ((c : Thread nD τ).loc main_arg0) : Vec Ideal S4x8192x128 .f32)) (ext (m ((c : Thread nD τ).loc main_arg1) : Vec Ideal S4x8192x128 .f32))
    (ext (m ((c : Thread nD τ).loc main_arg3) : Vec Ideal S4x8192x128 .f32)) (ext (m ((c : Thread nD τ).loc main_arg2) : Vec Ideal S4x8192x256 .f32))

/-- The linear attention's kernel and its reference compute the same function. -/
theorem algebraic [Cert.Pre_gla_in_range.Facts] : Cert.algebraic_GlaIdeal_RefGlaIdeal_pre_gla_in_range := by
  intro m g m' g' hp he
  refine ⟨fun c => resA m c, ?_, ?_⟩
  · refine (θ_run _ _ _).mono (fun r h c => ?_) (θ_run_and (run_main m g) (unchanged m g))
    obtain ⟨r0, r1, r2, r3⟩ := in_range m hp c
    refine ⟨((h.1 c).1 6).trans (final m c _ _ _ _ (fun b s d => (ext_le _ r3 b s d).1) (fun b s d => (ext_le _ r3 b s d).2)
      (fun b i d => ext_eq _ b i d (r0 b i d)) (fun b i d => ext_eq _ b i d (r1 b i d)) (fun b i d => ext_eq _ b i d (r2 b i d))
      (fun b i d => ext_eq _ b i d ((r3 b i d).imp fun _ h => h.1))), h.2 c⟩
  · refine (θ_run _ _ _).mono (fun r h c => ⟨((h c).1.trans (Cert.RefGlaIdeal.Read.val_main_v48_eq _ _)).trans ?_, (h c).2⟩) (Cert.RefGlaIdeal.Value.run m' g')
    obtain ⟨e0, e1, e2, e3, e4, e5⟩ := he c
    obtain ⟨r0, r1, r2, r3⟩ := in_range m hp c
    show Cert.RefGlaIdeal.Read.val_main_v48 (F := Ideal) (m' ((c.tc : Thread Cert.RefGlaIdeal.nD Cert.RefGlaIdeal.τ).loc Cert.RefGlaIdeal.main_arg0)) (m' ((c.tc : Thread Cert.RefGlaIdeal.nD Cert.RefGlaIdeal.τ).loc Cert.RefGlaIdeal.main_arg1))
      (m' ((c.tc : Thread Cert.RefGlaIdeal.nD Cert.RefGlaIdeal.τ).loc Cert.RefGlaIdeal.main_arg2)) (m' ((c.tc : Thread Cert.RefGlaIdeal.nD Cert.RefGlaIdeal.τ).loc Cert.RefGlaIdeal.main_arg3))
      (m' ((c.tc : Thread Cert.RefGlaIdeal.nD Cert.RefGlaIdeal.τ).loc Cert.RefGlaIdeal.main_arg4)) (m' ((c.tc : Thread Cert.RefGlaIdeal.nD Cert.RefGlaIdeal.τ).loc Cert.RefGlaIdeal.main_arg5)) = _
    rw [e0, e1, e2, e3, e4, e5]
    funext y
    obtain ⟨b, t, e, rfl⟩ : ∃ (b : Fin 4) (t : Fin 8192) (e : Fin 256), y = ix3 b t e := ⟨y 0, y 1, y 2, eq_ix3 y⟩
    exact Cert.RefGlaIdeal.Whole.res_apply _ _ _ _ _ _ _ _ _ _ b (fun i d => ext_eq _ b i d (r0 b i d)) (fun i d => ext_eq _ b i d (r1 b i d))
      (fun i d => ext_eq _ b i d (r2 b i d)) (fun i d => ext_eq _ b i d ((r3 b i d).imp fun _ h => h.1)) t e

end Cert.GlaIdeal.Whole

end
-- ==== Proof.lean ====
module

public import proofs.«01_k».proof.Defs
public import proofs.«01_k».proof.Proof.Gen.Out.Frame
public import proofs.«01_k».proof.Proof.Gen.Pre_in_finite
public import proofs.«01_k».proof.Proof.OutFinal
public import proofs.«01_k».proof.Proof.InFrame
public import proofs.«01_k».proof.Proof.InFinal
public import proofs.«01_k».proof.Proof.Gen.Conv.Frame
public import proofs.«01_k».proof.Proof.ConvFinal
public import proofs.«01_k».proof.Proof.Gen.Rope.Frame
public import proofs.«01_k».proof.Proof.RopeFinal
public import proofs.«01_k».proof.Proof.GlaFrame
public import proofs.«01_k».proof.Proof.GlaIdealFrame
public import proofs.«01_k».proof.Proof.GlaFinal
public import proofs.«01_k».proof.Proof.Gen.RefGlaIdeal.Run
public import proofs.«01_k».proof.Proof.Gen.RefGlaIdeal.Read
public import proofs.«01_k».proof.Proof.Gen.Pre_gla_in_range

@[expose] public section

noncomputable section

namespace Cert.Proof

open Idealize.ShloMosaic Idealize.SL.Sem

/-- The reference of the output projection keeps its arguments; it declares no semaphore. -/
theorem frame_refOut : Cert.quiescent_RefOutIdeal := fun m ρ _ =>
  (θ_run _ _ _).mono (fun r h => ⟨fun c => (h c).2, sem_eq_zero_of_no_sems (by decide) r.2⟩) (Cert.RefOutIdeal.Value.run m ρ)

/-- The reference of the input projection keeps its arguments; it declares no semaphore. -/
theorem frame_refIn : Cert.quiescent_RefInIdeal := fun m ρ _ =>
  (θ_run _ _ _).mono (fun r h => ⟨fun c => (h c).2.2.2.2.2.2.2.2.2.2.2.2.2.2, sem_eq_zero_of_no_sems (by decide) r.2⟩)
    (Cert.RefInIdeal.Vals.run m ρ)

/-- The reference of the convolution module keeps its arguments; it declares no semaphore. -/
theorem frame_refConv : Cert.quiescent_RefConvIdeal := fun m ρ _ =>
  (θ_run _ _ _).mono (fun r h => ⟨fun c => (h c).2, sem_eq_zero_of_no_sems (by decide) r.2⟩) (Cert.RefConvIdeal.Value.run m ρ)

/-- The reference of the rotary tables keeps its argument; it declares no semaphore. -/
theorem frame_refRope : Cert.quiescent_RefRopeIdeal := fun m ρ _ =>
  (θ_run _ _ _).mono (fun r h => ⟨fun c => (h c).2.2.2.2, sem_eq_zero_of_no_sems (by decide) r.2⟩) (Cert.RefRopeIdeal.Value.run m ρ)

/-- The reference of the linear attention keeps its arguments; it declares no semaphore. -/
theorem frame_refGla : Cert.quiescent_RefGlaIdeal := fun m ρ _ =>
  (θ_run _ _ _).mono (fun r h => ⟨fun c => (h c).2, sem_eq_zero_of_no_sems (by decide) r.2⟩) (Cert.RefGlaIdeal.Value.run m ρ)

theorem claim : Cert.Claim :=
  ⟨Cert.Out.Gen.facts, Cert.OutIdeal.Gen.facts, Cert.RefOutIdeal.Gen.facts,
    Cert.In.Gen.facts, Cert.InIdeal.Gen.facts, Cert.RefInIdeal.Gen.facts,
    Cert.Conv.Gen.facts, Cert.ConvIdeal.Gen.facts, Cert.RefConvIdeal.Gen.facts,
    Cert.Rope.Gen.facts, Cert.RopeIdeal.Gen.facts, Cert.RefRopeIdeal.Gen.facts,
    Cert.Gla.Gen.facts, Cert.GlaIdeal.Gen.facts, Cert.RefGlaIdeal.Gen.facts, Cert.Pre_in_finite.Gen.facts, Cert.Pre_gla_in_range.Gen.facts,
    fun m ρ _ => Cert.Out.Gen.frame m ρ, fun m ρ _ => Cert.OutIdeal.Gen.frame m ρ, frame_refOut,
    fun m ρ _ => Cert.In.Gen.frame m ρ, fun m ρ _ => Cert.InIdeal.Gen.frame m ρ, fun m ρ _ => Cert.InIdeal.Gen.frame m ρ,
    frame_refIn, fun m ρ _ => frame_refIn m ρ trivial,
    fun m ρ _ => Cert.Conv.Gen.frame m ρ, fun m ρ _ => Cert.ConvIdeal.Gen.frame m ρ, frame_refConv,
    fun m ρ _ => Cert.Rope.Gen.frame m ρ, fun m ρ _ => Cert.RopeIdeal.Gen.frame m ρ, frame_refRope,
    fun m ρ _ => Cert.Gla.Gen.frame m ρ, fun m ρ _ => Cert.GlaIdeal.Gen.frame m ρ, fun m ρ _ => Cert.GlaIdeal.Gen.frame m ρ,
    frame_refGla, fun m ρ _ => frame_refGla m ρ trivial,
    trivial, Cert.OutIdeal.Whole.algebraic, trivial, Cert.InIdeal.Whole.algebraic, trivial, Cert.ConvIdeal.Whole.algebraic,
    trivial, Cert.RopeIdeal.Whole.algebraic, trivial, Cert.GlaIdeal.Whole.algebraic⟩

end Cert.Proof

end
